-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)) (v2 : (c : Dev Cert.KernelIdeal.nD) → Buf (Elt Ideal) ((c.tc : Thread Cert.KernelIdeal.nD Cert.KernelIdeal.τ).loc Cert.KernelIdeal.main_v73_2)) (v3 : (c : Dev Cert.KernelIdeal.nD) → Buf (Elt Ideal) ((c.tc : Thread Cert.KernelIdeal.nD Cert.KernelIdeal.τ).loc Cert.KernelIdeal.main_v73_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_v73_2) = v2 c
          ∧ r.2.mem ((c.tc : Thread Cert.KernelIdeal.nD Cert.KernelIdeal.τ).loc Cert.KernelIdeal.main_v73_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_v8) = v2 c
          ∧ r.2.mem ((c.tc : Thread Cert.Reference11Ideal.nD Cert.Reference11Ideal.τ).loc Cert.Reference11Ideal.main_v14) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v14) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v47) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v49) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v54) = v0 c
          ∧ r.2.mem ((c.tc : Thread Cert.Reference16Ideal.nD Cert.Reference16Ideal.τ).loc Cert.Reference16Ideal.main_v55) = v1 c
          ∧ r.2.mem ((c.tc : Thread Cert.Reference16Ideal.nD Cert.Reference16Ideal.τ).loc Cert.Reference16Ideal.main_v38) = v2 c
          ∧ r.2.mem ((c.tc : Thread Cert.Reference16Ideal.nD Cert.Reference16Ideal.τ).loc Cert.Reference16Ideal.main_v56) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8448x7168 : Shape := ⟨2, ![8448, 7168]⟩
abbrev S8448x128 : Shape := ⟨2, ![8448, 128]⟩
abbrev S128x512 : Shape := ⟨2, ![128, 512]⟩
abbrev S1x512 : Shape := ⟨2, ![1, 512]⟩
abbrev S1x1024 : Shape := ⟨2, ![1, 1024]⟩
abbrev S8448x1024 : Shape := ⟨2, ![8448, 1024]⟩
abbrev S8448x8192 : Shape := ⟨2, ![8448, 8192]⟩
abbrev S_ : Shape := ⟨0, ![]⟩

class Facts : Prop where
  bitsLt_bf16_f32 : FTy.bits .bf16 < FTy.bits .f32
  bcast_S_S8448x7168 : S_.BroadcastsInDim S8448x7168 (![] : Fin 0 → Fin S8448x7168.rank)
  bcast_S_S8448x128 : S_.BroadcastsInDim S8448x128 (![] : Fin 0 → Fin S8448x128.rank)
  bcast_S_S128x512 : S_.BroadcastsInDim S128x512 (![] : Fin 0 → Fin S128x512.rank)
  bcast_S_S1x512 : S_.BroadcastsInDim S1x512 (![] : Fin 0 → Fin S1x512.rank)
  bcast_S_S1x1024 : S_.BroadcastsInDim S1x1024 (![] : Fin 0 → Fin S1x1024.rank)
  bcast_S_S8448x1024 : S_.BroadcastsInDim S8448x1024 (![] : Fin 0 → Fin S8448x1024.rank)

variable [Facts]

def fn_part1 {F : FTy → Type} [FloatOps F] (main_v3 : IVec S8448x7168 1) (main_v6 : IVec S8448x128 1) (main_v9 : IVec S128x512 1) (main_v12 : IVec S1x512 1) (main_v15 : IVec S1x1024 1) (main_v17 : FVec F S8448x1024 .f32) (main_cst_4 : FVec F S_ .f32) : IVec S8448x7168 1 × IVec S8448x128 1 × IVec S128x512 1 × IVec S1x512 1 × IVec S1x1024 1 × IVec S8448x1024 1 :=
  let main_v18 : FVec F S8448x1024 .f32 := broadcastInDim S8448x1024 ![] bcast_S_S8448x1024 main_cst_4
  let main_v19 : IVec S8448x1024 1 := cmpf .olt main_v17 main_v18
  (main_v3, main_v6, main_v9, main_v12, main_v15, main_v19)

def fn {F : FTy → Type} [FloatOps F] (main_arg0 : FVec F S8448x7168 .bf16) (main_arg1 : FVec F S8448x128 .f32) (main_arg2 : FVec F S128x512 .f32) (main_arg3 : FVec F S1x512 .f32) (main_arg4 : FVec F S1x1024 .f32) (main_arg5 : FVec F S8448x1024 .bf16) (main_arg6 : FVec F S8448x8192 .bf16) : IVec S8448x7168 1 × IVec S8448x128 1 × IVec S128x512 1 × IVec S1x512 1 × IVec S1x1024 1 × IVec S8448x1024 1 :=
  let main_v0 : FVec F S8448x7168 .f32 := (extf .f32 · bitsLt_bf16_f32) main_arg0
  let main_v1 : FVec F S8448x7168 .f32 := Host.absf main_v0
  let main_cst : FVec F S_ .f32 := constant S_ .f32 0x7F800000#32
  let main_v2 : FVec F S8448x7168 .f32 := broadcastInDim S8448x7168 ![] bcast_S_S8448x7168 main_cst
  let main_v3 : IVec S8448x7168 1 := cmpf .olt main_v1 main_v2
  let main_v4 : FVec F S8448x128 .f32 := Host.absf main_arg1
  let main_cst_0 : FVec F S_ .f32 := constant S_ .f32 0x7F800000#32
  let main_v5 : FVec F S8448x128 .f32 := broadcastInDim S8448x128 ![] bcast_S_S8448x128 main_cst_0
  let main_v6 : IVec S8448x128 1 := cmpf .olt main_v4 main_v5
  let main_v7 : FVec F S128x512 .f32 := Host.absf main_arg2
  let main_cst_1 : FVec F S_ .f32 := constant S_ .f32 0x7F800000#32
  let main_v8 : FVec F S128x512 .f32 := broadcastInDim S128x512 ![] bcast_S_S128x512 main_cst_1
  let main_v9 : IVec S128x512 1 := cmpf .olt main_v7 main_v8
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S8448x1024 .f32 := (extf .f32 · bitsLt_bf16_f32) main_arg5
  let main_v17 : FVec F S8448x1024 .f32 := Host.absf main_v16
  let main_cst_4 : FVec F S_ .f32 := constant S_ .f32 0x7F800000#32
  fn_part1 (F := F) main_v3 main_v6 main_v9 main_v12 main_v15 main_v17 main_cst_4
-- ==== Kernel.lean ====
abbrev S8448x7168 : Shape := ⟨2, ![8448, 7168]⟩
abbrev S8448x128 : Shape := ⟨2, ![8448, 128]⟩
abbrev S128x512 : Shape := ⟨2, ![128, 512]⟩
abbrev S1x512 : Shape := ⟨2, ![1, 512]⟩
abbrev S1x1024 : Shape := ⟨2, ![1, 1024]⟩
abbrev S8448x1024 : Shape := ⟨2, ![8448, 1024]⟩
abbrev S8448x8192 : Shape := ⟨2, ![8448, 8192]⟩
abbrev S8448x512 : Shape := ⟨2, ![8448, 512]⟩
abbrev S_ : Shape := ⟨0, ![]⟩
abbrev S8448x1 : Shape := ⟨2, ![8448, 1]⟩
abbrev S8448x4x128 : Shape := ⟨3, ![8448, 4, 128]⟩
abbrev S8448x4x256 : Shape := ⟨3, ![8448, 4, 256]⟩
abbrev S8448x1x4x128 : Shape := ⟨4, ![8448, 1, 4, 128]⟩
abbrev S1x8448x4x128 : Shape := ⟨4, ![1, 8448, 4, 128]⟩
abbrev S8448x8448x4x128 : Shape := ⟨4, ![8448, 8448, 4, 128]⟩
abbrev S8448x8448 : Shape := ⟨2, ![8448, 8448]⟩
abbrev S8448x8448x1x1 : Shape := ⟨4, ![8448, 8448, 1, 1]⟩
abbrev S8448x8448x4 : Shape := ⟨3, ![8448, 8448, 4]⟩
abbrev S4x256x8448 : Shape := ⟨3, ![4, 256, 8448]⟩
abbrev S132x8448 : Shape := ⟨2, ![132, 8448]⟩
abbrev S132x8448x1x1 : Shape := ⟨4, ![132, 8448, 1, 1]⟩
abbrev S1x4x128 : Shape := ⟨3, ![1, 4, 128]⟩
abbrev S131x4x128 : Shape := ⟨3, ![131, 4, 128]⟩
abbrev S132x4x128 : Shape := ⟨3, ![132, 4, 128]⟩
abbrev S132x1x4x128 : Shape := ⟨4, ![132, 1, 4, 128]⟩
abbrev S132x8448x4x128 : Shape := ⟨4, ![132, 8448, 4, 128]⟩
abbrev S4x256x132x128 : Shape := ⟨4, ![4, 256, 132, 128]⟩
abbrev S132x4x256x128 : Shape := ⟨4, ![132, 4, 256, 128]⟩
abbrev S256x1024 : Shape := ⟨2, ![256, 1024]⟩
abbrev S256x512 : Shape := ⟨2, ![256, 512]⟩
abbrev S256x128 : Shape := ⟨2, ![256, 128]⟩
abbrev S4x4x256x128 : Shape := ⟨4, ![4, 4, 256, 128]⟩
abbrev S256x4096 : Shape := ⟨2, ![256, 4096]⟩
abbrev S4x256x128 : Shape := ⟨3, ![4, 256, 128]⟩
abbrev S64x64 : Shape := ⟨2, ![64, 64]⟩
abbrev S64x512 : Shape := ⟨2, ![64, 512]⟩
abbrev S64x128 : Shape := ⟨2, ![64, 128]⟩
abbrev S64x256 : Shape := ⟨2, ![64, 256]⟩
abbrev S1x128 : Shape := ⟨2, ![1, 128]⟩
abbrev S64 : Shape := ⟨1, ![64]⟩
abbrev S64x1 : Shape := ⟨2, ![64, 1]⟩
abbrev S1x256 : Shape := ⟨2, ![1, 256]⟩
abbrev S256 : Shape := ⟨1, ![256]⟩
abbrev S1x1x256x128 : Shape := ⟨4, ![1, 1, 256, 128]⟩
abbrev S1x256x128 : Shape := ⟨3, ![1, 256, 128]⟩
abbrev S128 : Shape := ⟨1, ![128]⟩
abbrev S256x1 : Shape := ⟨2, ![256, 1]⟩
abbrev S512 : Shape := ⟨1, ![512]⟩

abbrev nBuf : Space → Nat
  | .hbm => 125
  | .vmem => 27
  | .smem => 0
  | _ => 0

abbrev bufTy : (tb : Table) → Fin (tcTables nBuf tb) → BufTy
  | .hbm, ⟨0, _⟩ => ⟨S8448x7168, .bf16⟩
  | .hbm, ⟨1, _⟩ => ⟨S8448x128, .f32⟩
  | .hbm, ⟨2, _⟩ => ⟨S128x512, .f32⟩
  | .hbm, ⟨3, _⟩ => ⟨S1x512, .f32⟩
  | .hbm, ⟨4, _⟩ => ⟨S1x1024, .f32⟩
  | .hbm, ⟨5, _⟩ => ⟨S8448x1024, .bf16⟩
  | .hbm, ⟨6, _⟩ => ⟨S8448x8192, .bf16⟩
  | .hbm, ⟨7, _⟩ => ⟨S8448x512, .bf16⟩
  | .hbm, ⟨8, _⟩ => ⟨S8448x512, .f32⟩
  | .hbm, ⟨9, _⟩ => ⟨S8448x512, .bf16⟩
  | .hbm, ⟨10, _⟩ => ⟨S8448x512, .f32⟩
  | .hbm, ⟨11, _⟩ => ⟨S8448x1024, .bf16⟩
  | .hbm, ⟨12, _⟩ => ⟨S8448x1024, .f32⟩
  | .hbm, ⟨13, _⟩ => ⟨S8448x512, .f32⟩
  | .hbm, ⟨14, _⟩ => ⟨S8448x512, .f32⟩
  | .hbm, ⟨15, _⟩ => ⟨S8448x512, .f32⟩
  | .hbm, ⟨16, _⟩ => ⟨S8448x512, .f32⟩
  | .hbm, ⟨17, _⟩ => ⟨S_, .f32⟩
  | .hbm, ⟨18, _⟩ => ⟨S8448x512, .f32⟩
  | .hbm, ⟨19, _⟩ => ⟨S8448x512, .f32⟩
  | .hbm, ⟨20, _⟩ => ⟨S8448x512, .f32⟩
  | .hbm, ⟨21, _⟩ => ⟨S8448x512, .f32⟩
  | .hbm, ⟨22, _⟩ => ⟨S8448x512, .i1⟩
  | .hbm, ⟨23, _⟩ => ⟨S8448x512, .f32⟩
  | .hbm, ⟨24, _⟩ => ⟨S8448x512, .f32⟩
  | .hbm, ⟨25, _⟩ => ⟨S8448x512, .f32⟩
  | .hbm, ⟨26, _⟩ => ⟨S8448x512, .f32⟩
  | .hbm, ⟨27, _⟩ => ⟨S8448x512, .f32⟩
  | .hbm, ⟨28, _⟩ => ⟨S8448x512, .f32⟩
  | .hbm, ⟨29, _⟩ => ⟨S8448x512, .f32⟩
  | .hbm, ⟨30, _⟩ => ⟨S8448x512, .f32⟩
  | .hbm, ⟨31, _⟩ => ⟨S8448x512, .f32⟩
  | .hbm, ⟨32, _⟩ => ⟨S_, .f32⟩
  | .hbm, ⟨33, _⟩ => ⟨S8448x512, .f32⟩
  | .hbm, ⟨34, _⟩ => ⟨S8448x512, .f32⟩
  | .hbm, ⟨35, _⟩ => ⟨S8448x1, .i32⟩
  | .hbm, ⟨36, _⟩ => ⟨S_, .i32⟩
  | .hbm, ⟨37, _⟩ => ⟨S8448x1, .i32⟩
  | .hbm, ⟨38, _⟩ => ⟨S8448x1, .i1⟩
  | .hbm, ⟨39, _⟩ => ⟨S8448x1, .f32⟩
  | .hbm, ⟨40, _⟩ => ⟨S8448x512, .f32⟩
  | .hbm, ⟨41, _⟩ => ⟨S8448x512, .f32⟩
  | .hbm, ⟨42, _⟩ => ⟨S8448x4x128, .f32⟩
  | .hbm, ⟨43, _⟩ => ⟨S_, .f32⟩
  | .hbm, ⟨44, _⟩ => ⟨S8448x4x128, .f32⟩
  | .hbm, ⟨45, _⟩ => ⟨S8448x4x128, .f32⟩
  | .hbm, ⟨46, _⟩ => ⟨S8448x4x128, .f32⟩
  | .hbm, ⟨47, _⟩ => ⟨S8448x4x256, .f32⟩
  | .hbm, ⟨48, _⟩ => ⟨S8448x1x4x128, .f32⟩
  | .hbm, ⟨49, _⟩ => ⟨S1x8448x4x128, .f32⟩
  | .hbm, ⟨50, _⟩ => ⟨S8448x8448x4x128, .f32⟩
  | .hbm, ⟨51, _⟩ => ⟨S8448x8448x4x128, .f32⟩
  | .hbm, ⟨52, _⟩ => ⟨S8448x8448x4x128, .f32⟩
  | .hbm, ⟨53, _⟩ => ⟨S_, .f32⟩
  | .hbm, ⟨54, _⟩ => ⟨S_, .f32⟩
  | .hbm, ⟨55, _⟩ => ⟨S8448x512, .f32⟩
  | .hbm, ⟨56, _⟩ => ⟨S8448x4x128, .f32⟩
  | .hbm, ⟨57, _⟩ => ⟨S8448x8448, .i32⟩
  | .hbm, ⟨58, _⟩ => ⟨S8448x8448, .i32⟩
  | .hbm, ⟨59, _⟩ => ⟨S8448x8448, .i1⟩
  | .hbm, ⟨60, _⟩ => ⟨S8448x8448x1x1, .i1⟩
  | .hbm, ⟨61, _⟩ => ⟨S8448x1x4x128, .f32⟩
  | .hbm, ⟨62, _⟩ => ⟨S1x8448x4x128, .f32⟩
  | .hbm, ⟨63, _⟩ => ⟨S8448x8448x4x128, .f32⟩
  | .hbm, ⟨64, _⟩ => ⟨S8448x8448x4x128, .f32⟩
  | .hbm, ⟨65, _⟩ => ⟨S8448x8448x4x128, .f32⟩
  | .hbm, ⟨66, _⟩ => ⟨S_, .f32⟩
  | .hbm, ⟨67, _⟩ => ⟨S_, .f32⟩
  | .hbm, ⟨68, _⟩ => ⟨S8448x8448x4x128, .i1⟩
  | .hbm, ⟨69, _⟩ => ⟨S8448x8448x4x128, .f32⟩
  | .hbm, ⟨70, _⟩ => ⟨S8448x8448x4x128, .f32⟩
  | .hbm, ⟨71, _⟩ => ⟨S8448x8448x4x128, .f32⟩
  | .hbm, ⟨72, _⟩ => ⟨S_, .f32⟩
  | .hbm, ⟨73, _⟩ => ⟨S_, .f32⟩
  | .hbm, ⟨74, _⟩ => ⟨S8448x8448x4x128, .i1⟩
  | .hbm, ⟨75, _⟩ => ⟨S8448x8448x4x128, .f32⟩
  | .hbm, ⟨76, _⟩ => ⟨S8448x8448x4x128, .f32⟩
  | .hbm, ⟨77, _⟩ => ⟨S8448x8448x4x128, .f32⟩
  | .hbm, ⟨78, _⟩ => ⟨S_, .f32⟩
  | .hbm, ⟨79, _⟩ => ⟨S8448x8448x4, .f32⟩
  | .hbm, ⟨80, _⟩ => ⟨S4x256x8448, .f32⟩
  | .hbm, ⟨81, _⟩ => ⟨S8448x4x256, .f32⟩
  | .hbm, ⟨82, _⟩ => ⟨S8448x1024, .f32⟩
  | .hbm, ⟨83, _⟩ => ⟨S_, .f32⟩
  | .hbm, ⟨84, _⟩ => ⟨S_, .f32⟩
  | .hbm, ⟨85, _⟩ => ⟨S8448x512, .f32⟩
  | .hbm, ⟨86, _⟩ => ⟨S8448x4x128, .f32⟩
  | .hbm, ⟨87, _⟩ => ⟨S132x8448, .i32⟩
  | .hbm, ⟨88, _⟩ => ⟨S_, .i32⟩
  | .hbm, ⟨89, _⟩ => ⟨S132x8448, .i32⟩
  | .hbm, ⟨90, _⟩ => ⟨S132x8448, .i32⟩
  | .hbm, ⟨91, _⟩ => ⟨S132x8448, .i32⟩
  | .hbm, ⟨92, _⟩ => ⟨S132x8448, .i1⟩
  | .hbm, ⟨93, _⟩ => ⟨S132x8448x1x1, .i1⟩
  | .hbm, ⟨94, _⟩ => ⟨S_, .f32⟩
  | .hbm, ⟨95, _⟩ => ⟨S1x4x128, .f32⟩
  | .hbm, ⟨96, _⟩ => ⟨S131x4x128, .f32⟩
  | .hbm, ⟨97, _⟩ => ⟨S132x4x128, .f32⟩
  | .hbm, ⟨98, _⟩ => ⟨S132x1x4x128, .f32⟩
  | .hbm, ⟨99, _⟩ => ⟨S1x8448x4x128, .f32⟩
  | .hbm, ⟨100, _⟩ => ⟨S132x8448x4x128, .f32⟩
  | .hbm, ⟨101, _⟩ => ⟨S132x8448x4x128, .f32⟩
  | .hbm, ⟨102, _⟩ => ⟨S132x8448x4x128, .f32⟩
  | .hbm, ⟨103, _⟩ => ⟨S_, .f32⟩
  | .hbm, ⟨104, _⟩ => ⟨S_, .f32⟩
  | .hbm, ⟨105, _⟩ => ⟨S132x8448x4x128, .i1⟩
  | .hbm, ⟨106, _⟩ => ⟨S132x8448x4x128, .f32⟩
  | .hbm, ⟨107, _⟩ => ⟨S132x8448x4x128, .f32⟩
  | .hbm, ⟨108, _⟩ => ⟨S132x8448x4x128, .f32⟩
  | .hbm, ⟨109, _⟩ => ⟨S_, .f32⟩
  | .hbm, ⟨110, _⟩ => ⟨S_, .f32⟩
  | .hbm, ⟨111, _⟩ => ⟨S132x8448x4x128, .i1⟩
  | .hbm, ⟨112, _⟩ => ⟨S132x8448x4x128, .f32⟩
  | .hbm, ⟨113, _⟩ => ⟨S132x8448x4x128, .f32⟩
  | .hbm, ⟨114, _⟩ => ⟨S1x8448x4x128, .f32⟩
  | .hbm, ⟨115, _⟩ => ⟨S132x8448x4x128, .f32⟩
  | .hbm, ⟨116, _⟩ => ⟨S132x8448x4x128, .f32⟩
  | .hbm, ⟨117, _⟩ => ⟨S8448x4x256, .f32⟩
  | .hbm, ⟨118, _⟩ => ⟨S4x256x132x128, .f32⟩
  | .hbm, ⟨119, _⟩ => ⟨S132x4x256x128, .f32⟩
  | .hbm, ⟨120, _⟩ => ⟨S132x4x256x128, .bf16⟩
  | .hbm, ⟨121, _⟩ => ⟨S8448x8192, .bf16⟩
  | .hbm, ⟨122, _⟩ => ⟨S8448x512, .bf16⟩
  | .hbm, ⟨123, _⟩ => ⟨S1x1024, .f32⟩
  | .hbm, ⟨124, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S128x512, .f32⟩
  | .local _ .vmem, ⟨11, _⟩ => ⟨S1x512, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S4x4x256x128, .bf16⟩
  | .local _ .vmem, ⟨16, _⟩ => ⟨S4x4x256x128, .bf16⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x512, .bf16⟩
  | .local _ .vmem, ⟨22, _⟩ => ⟨S256x512, .bf16⟩
  | .local _ .vmem, ⟨23, _⟩ => ⟨S1x1024, .f32⟩
  | .local _ .vmem, ⟨24, _⟩ => ⟨S1x512, .f32⟩
  | .local _ .vmem, ⟨25, _⟩ => ⟨S4x256x128, .f32⟩
  | .local _ .vmem, ⟨26, _⟩ => ⟨S256x512, .f32⟩
  | _, _ => ⟨S8448x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_call0_cst : Ref sig .tc := ⟨.hbm, 53, rfl⟩
abbrev main_call1_call0_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_1 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v39 : Ref sig .tc := ⟨.hbm, 70, rfl⟩
abbrev main_v40 : Ref sig .tc := ⟨.hbm, 71, rfl⟩
abbrev main_cst_2 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v41 : Ref sig .tc := ⟨.hbm, 76, rfl⟩
abbrev main_v42 : Ref sig .tc := ⟨.hbm, 77, rfl⟩
abbrev main_cst_3 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call4_call0_cst : Ref sig .tc := ⟨.hbm, 83, rfl⟩
abbrev main_call4_call0_v0 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_4 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_5 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_6 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_v63 : Ref sig .tc := ⟨.hbm, 107, rfl⟩
abbrev main_v64 : Ref sig .tc := ⟨.hbm, 108, rfl⟩
abbrev main_cst_7 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73_0 : Ref sig .tc := ⟨.hbm, 121, rfl⟩
abbrev main_v73_1 : Ref sig .tc := ⟨.hbm, 122, rfl⟩
abbrev main_v73_2 : Ref sig .tc := ⟨.hbm, 123, rfl⟩
abbrev main_v73_3 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let c0_i32 : BitVec 32 := 0#32
  ![v0.toNat, c1_i32.toNat]

def cc0_transform_13 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8448x7168 : Shape := ⟨2, ![8448, 7168]⟩
abbrev S8448x128 : Shape := ⟨2, ![8448, 128]⟩
abbrev S128x512 : Shape := ⟨2, ![128, 512]⟩
abbrev S1x512 : Shape := ⟨2, ![1, 512]⟩
abbrev S1x1024 : Shape := ⟨2, ![1, 1024]⟩
abbrev S8448x1024 : Shape := ⟨2, ![8448, 1024]⟩
abbrev S8448x8192 : Shape := ⟨2, ![8448, 8192]⟩
abbrev S8448x512 : Shape := ⟨2, ![8448, 512]⟩
abbrev S_ : Shape := ⟨0, ![]⟩
abbrev S8448x1 : Shape := ⟨2, ![8448, 1]⟩
abbrev S8448x4x128 : Shape := ⟨3, ![8448, 4, 128]⟩
abbrev S8448x4x256 : Shape := ⟨3, ![8448, 4, 256]⟩
abbrev S8448x1x4x128 : Shape := ⟨4, ![8448, 1, 4, 128]⟩
abbrev S1x8448x4x128 : Shape := ⟨4, ![1, 8448, 4, 128]⟩
abbrev S8448x8448x4x128 : Shape := ⟨4, ![8448, 8448, 4, 128]⟩
abbrev S8448x8448 : Shape := ⟨2, ![8448, 8448]⟩
abbrev S8448x8448x1x1 : Shape := ⟨4, ![8448, 8448, 1, 1]⟩
abbrev S8448x8448x4 : Shape := ⟨3, ![8448, 8448, 4]⟩
abbrev S4x256x8448 : Shape := ⟨3, ![4, 256, 8448]⟩
abbrev S4x256 : Shape := ⟨2, ![4, 256]⟩
abbrev S8448x4 : Shape := ⟨2, ![8448, 4]⟩
abbrev S8448x4x1 : Shape := ⟨3, ![8448, 4, 1]⟩
abbrev S1x4x256 : Shape := ⟨3, ![1, 4, 256]⟩
abbrev S4x8448x8448 : Shape := ⟨3, ![4, 8448, 8448]⟩
abbrev S512 : Shape := ⟨1, ![512]⟩
abbrev S8448x4096 : Shape := ⟨2, ![8448, 4096]⟩

abbrev nBuf : Space → Nat
  | .hbm => 259
  | .vmem => 0
  | .smem => 0
  | _ => 0

abbrev hbmTy0_0 (i : Nat) : BufTy := match i % 128 with
  | 0 => ⟨S8448x7168, .bf16⟩
  | 1 => ⟨S8448x128, .f32⟩
  | 2 => ⟨S128x512, .f32⟩
  | 3 => ⟨S1x512, .f32⟩
  | 4 => ⟨S1x1024, .f32⟩
  | 5 => ⟨S8448x1024, .bf16⟩
  | 6 => ⟨S8448x8192, .bf16⟩
  | 7 => ⟨S8448x512, .bf16⟩
  | 8 => ⟨S8448x512, .f32⟩
  | 9 => ⟨S8448x512, .bf16⟩
  | 10 => ⟨S8448x512, .f32⟩
  | 11 => ⟨S8448x1024, .bf16⟩
  | 12 => ⟨S8448x1024, .f32⟩
  | 13 => ⟨S8448x1024, .bf16⟩
  | 14 => ⟨S8448x1024, .f32⟩
  | 15 => ⟨S8448x512, .f32⟩
  | 16 => ⟨S8448x512, .f32⟩
  | 17 => ⟨S8448x512, .f32⟩
  | 18 => ⟨S8448x512, .f32⟩
  | 19 => ⟨S_, .f32⟩
  | 20 => ⟨S8448x512, .f32⟩
  | 21 => ⟨S8448x512, .f32⟩
  | 22 => ⟨S8448x512, .f32⟩
  | 23 => ⟨S8448x512, .f32⟩
  | 24 => ⟨S8448x512, .i1⟩
  | 25 => ⟨S8448x512, .f32⟩
  | 26 => ⟨S8448x512, .f32⟩
  | 27 => ⟨S8448x512, .f32⟩
  | 28 => ⟨S8448x512, .f32⟩
  | 29 => ⟨S8448x512, .f32⟩
  | 30 => ⟨S8448x512, .f32⟩
  | 31 => ⟨S8448x512, .f32⟩
  | 32 => ⟨S8448x512, .f32⟩
  | 33 => ⟨S_, .f32⟩
  | 34 => ⟨S8448x512, .f32⟩
  | 35 => ⟨S8448x512, .i1⟩
  | 36 => ⟨S_, .f32⟩
  | 37 => ⟨S8448x512, .f32⟩
  | 38 => ⟨S8448x512, .f32⟩
  | 39 => ⟨S_, .f32⟩
  | 40 => ⟨S8448x512, .f32⟩
  | 41 => ⟨S8448x512, .i1⟩
  | 42 => ⟨S_, .f32⟩
  | 43 => ⟨S8448x512, .f32⟩
  | 44 => ⟨S8448x512, .f32⟩
  | 45 => ⟨S8448x512, .f32⟩
  | 46 => ⟨S8448x512, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8448x512, .f32⟩
  | 55 => ⟨S8448x512, .i1⟩
  | 56 => ⟨S_, .f32⟩
  | 57 => ⟨S8448x512, .f32⟩
  | 58 => ⟨S8448x512, .f32⟩
  | 59 => ⟨S8448x512, .f32⟩
  | 60 => ⟨S8448x512, .f32⟩
  | 61 => ⟨S8448x512, .f32⟩
  | 62 => ⟨S_, .f32⟩
  | 63 => ⟨S8448x512, .f32⟩
  | 64 => ⟨S8448x512, .f32⟩
  | 65 => ⟨S8448x512, .f32⟩
  | 66 => ⟨S_, .f32⟩
  | 67 => ⟨S8448x512, .f32⟩
  | 68 => ⟨S8448x512, .f32⟩
  | 69 => ⟨S8448x1, .i32⟩
  | 70 => ⟨S_, .i32⟩
  | 71 => ⟨S8448x1, .i32⟩
  | 72 => ⟨S8448x1, .i1⟩
  | 73 => ⟨S8448x1, .f32⟩
  | 74 => ⟨S8448x512, .f32⟩
  | 75 => ⟨S8448x512, .f32⟩
  | 76 => ⟨S8448x4x128, .f32⟩
  | 77 => ⟨S_, .f32⟩
  | 78 => ⟨S8448x4x128, .f32⟩
  | 79 => ⟨S8448x4x128, .f32⟩
  | 80 => ⟨S8448x4x128, .f32⟩
  | 81 => ⟨S8448x4x256, .f32⟩
  | 82 => ⟨S8448x1x4x128, .f32⟩
  | 83 => ⟨S1x8448x4x128, .f32⟩
  | 84 => ⟨S8448x8448x4x128, .f32⟩
  | 85 => ⟨S8448x8448x4x128, .f32⟩
  | 86 => ⟨S8448x8448x4x128, .f32⟩
  | 87 => ⟨S_, .f32⟩
  | 88 => ⟨S_, .f32⟩
  | 89 => ⟨S8448x512, .f32⟩
  | 90 => ⟨S8448x4x128, .f32⟩
  | 91 => ⟨S8448x8448, .i32⟩
  | 92 => ⟨S8448x8448, .i32⟩
  | 93 => ⟨S8448x8448, .i1⟩
  | 94 => ⟨S8448x8448x1x1, .i1⟩
  | 95 => ⟨S8448x1x4x128, .f32⟩
  | 96 => ⟨S1x8448x4x128, .f32⟩
  | 97 => ⟨S8448x8448x4x128, .f32⟩
  | 98 => ⟨S8448x8448x4x128, .f32⟩
  | 99 => ⟨S8448x8448x4x128, .f32⟩
  | 100 => ⟨S_, .f32⟩
  | 101 => ⟨S_, .f32⟩
  | 102 => ⟨S8448x8448x4x128, .i1⟩
  | 103 => ⟨S8448x8448x4x128, .f32⟩
  | 104 => ⟨S8448x8448x4x128, .f32⟩
  | 105 => ⟨S_, .f32⟩
  | 106 => ⟨S8448x8448x4x128, .f32⟩
  | 107 => ⟨S8448x8448x4x128, .f32⟩
  | 108 => ⟨S_, .f32⟩
  | 109 => ⟨S_, .f32⟩
  | 110 => ⟨S8448x8448x4x128, .i1⟩
  | 111 => ⟨S8448x8448x4x128, .f32⟩
  | 112 => ⟨S8448x8448x4x128, .f32⟩
  | 113 => ⟨S_, .f32⟩
  | 114 => ⟨S8448x8448x4x128, .f32⟩
  | 115 => ⟨S8448x8448x4x128, .f32⟩
  | 116 => ⟨S_, .f32⟩
  | 117 => ⟨S8448x8448x4, .f32⟩
  | 118 => ⟨S4x256x8448, .f32⟩
  | 119 => ⟨S8448x4x256, .f32⟩
  | 120 => ⟨S4x256, .f32⟩
  | 121 => ⟨S8448x4x256, .f32⟩
  | 122 => ⟨S_, .f32⟩
  | 123 => ⟨S8448x4, .f32⟩
  | 124 => ⟨S8448x4x1, .f32⟩
  | 125 => ⟨S_, .f32⟩
  | 126 => ⟨S8448x4x1, .f32⟩
  | 127 => ⟨S8448x4x1, .f32⟩
  | _ => ⟨S8448x7168, .bf16⟩

abbrev hbmTy0_1 (i : Nat) : BufTy := match i % 128 with
  | 0 => ⟨S_, .f32⟩
  | 1 => ⟨S8448x4x1, .f32⟩
  | 2 => ⟨S8448x4x1, .f32⟩
  | 3 => ⟨S8448x4x1, .f32⟩
  | 4 => ⟨S8448x4x1, .f32⟩
  | 5 => ⟨S_, .f32⟩
  | 6 => ⟨S8448x4x1, .f32⟩
  | 7 => ⟨S8448x4x1, .f32⟩
  | 8 => ⟨S8448x4x256, .f32⟩
  | 9 => ⟨S8448x4x256, .f32⟩
  | 10 => ⟨S1x4x256, .f32⟩
  | 11 => ⟨S8448x4x256, .f32⟩
  | 12 => ⟨S8448x4x256, .f32⟩
  | 13 => ⟨S8448x1024, .f32⟩
  | 14 => ⟨S8448x1024, .f32⟩
  | 15 => ⟨S8448x1024, .f32⟩
  | 16 => ⟨S_, .f32⟩
  | 17 => ⟨S8448x1024, .f32⟩
  | 18 => ⟨S8448x1024, .f32⟩
  | 19 => ⟨S_, .f32⟩
  | 20 => ⟨S8448x1024, .f32⟩
  | 21 => ⟨S8448x1024, .f32⟩
  | 22 => ⟨S_, .f32⟩
  | 23 => ⟨S8448x1024, .f32⟩
  | 24 => ⟨S8448x1024, .f32⟩
  | 25 => ⟨S8448x1024, .f32⟩
  | 26 => ⟨S8448x1024, .f32⟩
  | 27 => ⟨S8448x1024, .f32⟩
  | 28 => ⟨S8448x1024, .f32⟩
  | 29 => ⟨S8448x1024, .f32⟩
  | 30 => ⟨S8448x1024, .f32⟩
  | 31 => ⟨S8448x1024, .f32⟩
  | 32 => ⟨S8448x1024, .f32⟩
  | 33 => ⟨S8448x1024, .f32⟩
  | 34 => ⟨S8448x1024, .f32⟩
  | 35 => ⟨S8448x4x256, .f32⟩
  | 36 => ⟨S8448x4x256, .f32⟩
  | 37 => ⟨S_, .f32⟩
  | 38 => ⟨S4x256, .f32⟩
  | 39 => ⟨S1x4x256, .f32⟩
  | 40 => ⟨S8448x4x256, .f32⟩
  | 41 => ⟨S8448x4x256, .f32⟩
  | 42 => ⟨S_, .f32⟩
  | 43 => ⟨S4x256, .f32⟩
  | 44 => ⟨S8448x4x256, .f32⟩
  | 45 => ⟨S_, .f32⟩
  | 46 => ⟨S8448x4, .f32⟩
  | 47 => ⟨S8448x4x1, .f32⟩
  | 48 => ⟨S8448x4x256, .f32⟩
  | 49 => ⟨S8448x4x256, .f32⟩
  | 50 => ⟨S8448x4x1, .f32⟩
  | 51 => ⟨S_, .f32⟩
  | 52 => ⟨S8448x4x1, .f32⟩
  | 53 => ⟨S8448x4x1, .f32⟩
  | 54 => ⟨S_, .f32⟩
  | 55 => ⟨S8448x4, .f32⟩
  | 56 => ⟨S8448x4x256, .f32⟩
  | 57 => ⟨S8448x4x256, .f32⟩
  | 58 => ⟨S8448x4x256, .f32⟩
  | 59 => ⟨S8448x4x256, .f32⟩
  | 60 => ⟨S8448x4x256, .f32⟩
  | 61 => ⟨S1x1024, .f32⟩
  | 62 => ⟨S4x256x8448, .f32⟩
  | 63 => ⟨S4x8448x8448, .f32⟩
  | 64 => ⟨S8448x8448x4, .f32⟩
  | 65 => ⟨S4x256x8448, .f32⟩
  | 66 => ⟨S8448x4x256, .f32⟩
  | 67 => ⟨S8448x8448x4x128, .f32⟩
  | 68 => ⟨S8448x8448x4x128, .f32⟩
  | 69 => ⟨S8448x8448x4x128, .f32⟩
  | 70 => ⟨S_, .f32⟩
  | 71 => ⟨S8448x8448x4x128, .f32⟩
  | 72 => ⟨S8448x8448x4x128, .f32⟩
  | 73 => ⟨S8448x8448x4x128, .f32⟩
  | 74 => ⟨S_, .f32⟩
  | 75 => ⟨S8448x8448x4x128, .f32⟩
  | 76 => ⟨S8448x8448x4x128, .f32⟩
  | 77 => ⟨S_, .f32⟩
  | 78 => ⟨S8448x4x128, .f32⟩
  | 79 => ⟨S8448x1x4x128, .f32⟩
  | 80 => ⟨S8448x8448x4x128, .f32⟩
  | 81 => ⟨S_, .f32⟩
  | 82 => ⟨S8448x4x128, .f32⟩
  | 83 => ⟨S1x8448x4x128, .f32⟩
  | 84 => ⟨S_, .f32⟩
  | 85 => ⟨S8448x4x128, .f32⟩
  | 86 => ⟨S_, .f32⟩
  | 87 => ⟨S8448x4x128, .f32⟩
  | 88 => ⟨S8448x4x128, .f32⟩
  | 89 => ⟨S8448x512, .f32⟩
  | 90 => ⟨S_, .f32⟩
  | 91 => ⟨S_, .f32⟩
  | 92 => ⟨S8448x512, .f32⟩
  | 93 => ⟨S8448x8448x4x128, .f32⟩
  | 94 => ⟨S8448x8448x4x128, .f32⟩
  | 95 => ⟨S_, .f32⟩
  | 96 => ⟨S8448x4x128, .f32⟩
  | 97 => ⟨S1x8448x4x128, .f32⟩
  | 98 => ⟨S8448x8448x4x128, .f32⟩
  | 99 => ⟨S8448x8448x4x128, .f32⟩
  | 100 => ⟨S_, .f32⟩
  | 101 => ⟨S8448x4x128, .f32⟩
  | 102 => ⟨S8448x1x4x128, .f32⟩
  | 103 => ⟨S_, .f32⟩
  | 104 => ⟨S8448x4x128, .f32⟩
  | 105 => ⟨S_, .f32⟩
  | 106 => ⟨S8448x4x128, .f32⟩
  | 107 => ⟨S8448x1024, .f32⟩
  | 108 => ⟨S8448x512, .f32⟩
  | 109 => ⟨S_, .f32⟩
  | 110 => ⟨S8448x4x128, .f32⟩
  | 111 => ⟨S8448x4x128, .f32⟩
  | 112 => ⟨S8448x512, .f32⟩
  | 113 => ⟨S8448x512, .f32⟩
  | 114 => ⟨S8448x512, .f32⟩
  | 115 => ⟨S_, .f32⟩
  | 116 => ⟨S8448x512, .f32⟩
  | 117 => ⟨S8448x512, .f32⟩
  | 118 => ⟨S8448x512, .f32⟩
  | 119 => ⟨S8448x512, .f32⟩
  | 120 => ⟨S8448x512, .f32⟩
  | 121 => ⟨S_, .f32⟩
  | 122 => ⟨S512, .f32⟩
  | 123 => ⟨S1x512, .f32⟩
  | 124 => ⟨S_, .f32⟩
  | 125 => ⟨S8448x1024, .f32⟩
  | 126 => ⟨S8448x4096, .f32⟩
  | 127 => ⟨S8448x4096, .bf16⟩
  | _ => ⟨S8448x7168, .bf16⟩

abbrev hbmTy0_2 (i : Nat) : BufTy := match i % 128 with
  | 0 => ⟨S8448x4096, .bf16⟩
  | 1 => ⟨S8448x8192, .bf16⟩
  | 2 => ⟨S8448x512, .bf16⟩
  | _ => ⟨S8448x7168, .bf16⟩

abbrev hbmTy (i : Nat) : BufTy := match i / 128 with
  | 0 => hbmTy0_0 i
  | 1 => hbmTy0_1 i
  | 2 => hbmTy0_2 i
  | _ => ⟨S8448x7168, .bf16⟩

abbrev bufTy : (tb : Table) → Fin (tcTables nBuf tb) → BufTy
  | .hbm, ⟨i, _⟩ => hbmTy i
  | _, _ => ⟨S8448x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v11_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v11_2 : Ref sig .tc := ⟨.hbm, 64, rfl⟩
abbrev main_v11_0 : Ref sig .tc := ⟨.hbm, 65, rfl⟩
abbrev main_cst : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_c : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_0 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_call1_call0_cst : Ref sig .tc := ⟨.hbm, 87, rfl⟩
abbrev main_call1_call0_v0 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_cst_1 : Ref sig .tc := ⟨.hbm, 100, rfl⟩
abbrev main_call2_v0 : Ref sig .tc := ⟨.hbm, 101, rfl⟩
abbrev main_v41_1 : Ref sig .tc := ⟨.hbm, 102, rfl⟩
abbrev main_call2_v2 : Ref sig .tc := ⟨.hbm, 103, rfl⟩
abbrev main_v41_0 : Ref sig .tc := ⟨.hbm, 104, rfl⟩
abbrev main_call2_cst : Ref sig .tc := ⟨.hbm, 105, rfl⟩
abbrev main_v41_2 : Ref sig .tc := ⟨.hbm, 106, rfl⟩
abbrev main_v42 : Ref sig .tc := ⟨.hbm, 107, rfl⟩
abbrev main_cst_2 : Ref sig .tc := ⟨.hbm, 108, rfl⟩
abbrev main_call3_v0 : Ref sig .tc := ⟨.hbm, 109, rfl⟩
abbrev main_v43_1 : Ref sig .tc := ⟨.hbm, 110, rfl⟩
abbrev main_call3_v2 : Ref sig .tc := ⟨.hbm, 111, rfl⟩
abbrev main_v43_0 : Ref sig .tc := ⟨.hbm, 112, rfl⟩
abbrev main_call3_cst : Ref sig .tc := ⟨.hbm, 113, rfl⟩
abbrev main_v43_2 : Ref sig .tc := ⟨.hbm, 114, rfl⟩
abbrev main_v44 : Ref sig .tc := ⟨.hbm, 115, rfl⟩
abbrev main_cst_3 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_cst_4 : Ref sig .tc := ⟨.hbm, 122, rfl⟩
abbrev main_v50 : Ref sig .tc := ⟨.hbm, 123, rfl⟩
abbrev main_v51 : Ref sig .tc := ⟨.hbm, 124, rfl⟩
abbrev main_cst_5 : Ref sig .tc := ⟨.hbm, 125, rfl⟩
abbrev main_v52 : Ref sig .tc := ⟨.hbm, 126, rfl⟩
abbrev main_v53 : Ref sig .tc := ⟨.hbm, 127, rfl⟩
abbrev main_cst_6 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_cst_7 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_call4_v0 : Ref sig .tc := ⟨.hbm, 142, rfl⟩
abbrev main_call4_v1 : Ref sig .tc := ⟨.hbm, 143, rfl⟩
abbrev main_call4_cst : Ref sig .tc := ⟨.hbm, 144, rfl⟩
abbrev main_call4_v2 : Ref sig .tc := ⟨.hbm, 145, rfl⟩
abbrev main_call4_v3 : Ref sig .tc := ⟨.hbm, 146, rfl⟩
abbrev main_call4_cst_0 : Ref sig .tc := ⟨.hbm, 147, rfl⟩
abbrev main_call4_v4 : Ref sig .tc := ⟨.hbm, 148, rfl⟩
abbrev main_v66_2 : Ref sig .tc := ⟨.hbm, 149, rfl⟩
abbrev main_call4_cst_1 : Ref sig .tc := ⟨.hbm, 150, rfl⟩
abbrev main_call4_v6 : Ref sig .tc := ⟨.hbm, 151, rfl⟩
abbrev main_call4_v7 : Ref sig .tc := ⟨.hbm, 152, rfl⟩
abbrev main_v66_1 : Ref sig .tc := ⟨.hbm, 153, rfl⟩
abbrev main_v66_0 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_cst_8 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_cst_9 : Ref sig .tc := ⟨.hbm, 170, rfl⟩
abbrev main_v78 : Ref sig .tc := ⟨.hbm, 171, rfl⟩
abbrev main_v79 : Ref sig .tc := ⟨.hbm, 172, rfl⟩
abbrev main_cst_10 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_cst_11 : Ref sig .tc := ⟨.hbm, 179, rfl⟩
abbrev main_v85 : Ref sig .tc := ⟨.hbm, 180, rfl⟩
abbrev main_v86 : Ref sig .tc := ⟨.hbm, 181, rfl⟩
abbrev main_cst_12 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_call6_cst : Ref sig .tc := ⟨.hbm, 198, rfl⟩
abbrev main_call6_v0 : Ref sig .tc := ⟨.hbm, 199, rfl⟩
abbrev main_v102 : Ref sig .tc := ⟨.hbm, 200, rfl⟩
abbrev main_v103 : Ref sig .tc := ⟨.hbm, 201, rfl⟩
abbrev main_call7_cst : Ref sig .tc := ⟨.hbm, 202, rfl⟩
abbrev main_call7_v0 : Ref sig .tc := ⟨.hbm, 203, rfl⟩
abbrev main_v104 : Ref sig .tc := ⟨.hbm, 204, rfl⟩
abbrev main_cst_13 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_cst_14 : Ref sig .tc := ⟨.hbm, 209, rfl⟩
abbrev main_v108 : Ref sig .tc := ⟨.hbm, 210, rfl⟩
abbrev main_v109 : Ref sig .tc := ⟨.hbm, 211, rfl⟩
abbrev main_cst_15 : Ref sig .tc := ⟨.hbm, 212, rfl⟩
abbrev main_v110 : Ref sig .tc := ⟨.hbm, 213, rfl⟩
abbrev main_cst_16 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_call8_call0_cst : Ref sig .tc := ⟨.hbm, 218, rfl⟩
abbrev main_call8_call0_v0 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_cst_17 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_cst_18 : Ref sig .tc := ⟨.hbm, 228, rfl⟩
abbrev main_v121 : Ref sig .tc := ⟨.hbm, 229, rfl⟩
abbrev main_v122 : Ref sig .tc := ⟨.hbm, 230, rfl⟩
abbrev main_cst_19 : Ref sig .tc := ⟨.hbm, 231, rfl⟩
abbrev main_v123 : Ref sig .tc := ⟨.hbm, 232, rfl⟩
abbrev main_cst_20 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_cst_21 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_cst_22 : Ref sig .tc := ⟨.hbm, 243, rfl⟩
abbrev main_v132 : Ref sig .tc := ⟨.hbm, 244, rfl⟩
abbrev main_v133 : Ref sig .tc := ⟨.hbm, 245, rfl⟩
abbrev main_call9_v0 : Ref sig .tc := ⟨.hbm, 246, rfl⟩
abbrev main_call9_v1 : Ref sig .tc := ⟨.hbm, 247, rfl⟩
abbrev main_v134 : Ref sig .tc := ⟨.hbm, 248, rfl⟩
abbrev main_cst_23 : Ref sig .tc := ⟨.hbm, 249, rfl⟩
abbrev main_v135 : Ref sig .tc := ⟨.hbm, 250, rfl⟩
abbrev main_v136 : Ref sig .tc := ⟨.hbm, 251, rfl⟩
abbrev main_cst_24 : Ref sig .tc := ⟨.hbm, 252, rfl⟩
abbrev main_v137 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩

abbrev nD : Nat := 1
abbrev τ : Topo := Topo.v7x

variable {F : FTy → Type} [FloatOps F]
-- ==== Kernel2.lean ====
abbrev S8448x1024 : Shape := ⟨2, ![8448, 1024]⟩
abbrev S8448x5632 : Shape := ⟨2, ![8448, 5632]⟩
abbrev S4x1024x1408 : Shape := ⟨3, ![4, 1024, 1408]⟩
abbrev S1408x1024 : Shape := ⟨2, ![1408, 1024]⟩
abbrev S1408x1408 : Shape := ⟨2, ![1408, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S4x1024x1408, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference2Ideal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | .hbm, ⟨18, _⟩ => ⟨S4x1024x1408, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel3.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8448x1024 : Shape := ⟨2, ![8448, 1024]⟩
abbrev S2816x1024 : Shape := ⟨2, ![2816, 1024]⟩
abbrev S8448x2816 : Shape := ⟨2, ![8448, 2816]⟩
abbrev S1408x1024 : Shape := ⟨2, ![1408, 1024]⟩
abbrev S1408x1408 : Shape := ⟨2, ![1408, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1408, .bf16⟩
  | .local _ .vmem, ⟨5, _⟩ => ⟨S1408x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S_, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x1024, .f32⟩
  | .hbm, ⟨7, _⟩ => ⟨S8448x2816, .f32⟩
  | .hbm, ⟨8, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8448x1024 : Shape := ⟨2, ![8448, 1024]⟩
abbrev S4x1024x1408 : Shape := ⟨3, ![4, 1024, 1408]⟩
abbrev S8448x5632 : Shape := ⟨2, ![8448, 5632]⟩
abbrev S1408x1024 : Shape := ⟨2, ![1408, 1024]⟩
abbrev S1x1024x1408 : Shape := ⟨3, ![1, 1024, 1408]⟩
abbrev S1408x1408 : Shape := ⟨2, ![1408, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S8448x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1408x1408, .bf16⟩
  | .local _ .vmem, ⟨5, _⟩ => ⟨S1408x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8448x5632 : Shape := ⟨2, ![8448, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S8448x1024, .f32⟩
  | .hbm, ⟨12, _⟩ => ⟨S1024x5632, .f32⟩
  | .hbm, ⟨13, _⟩ => ⟨S8448x5632, .f32⟩
  | .hbm, ⟨14, _⟩ => ⟨S8448x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel8.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8448x128 : Shape := ⟨2, ![8448, 128]⟩
abbrev S8448x512 : Shape := ⟨2, ![8448, 512]⟩
abbrev S128x512 : Shape := ⟨2, ![128, 512]⟩
abbrev S768x128 : Shape := ⟨2, ![768, 128]⟩
abbrev S768x512 : Shape := ⟨2, ![768, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x128, .f32⟩
  | .hbm, ⟨1, _⟩ => ⟨S8448x512, .bf16⟩
  | .hbm, ⟨2, _⟩ => ⟨S128x512, .f32⟩
  | .local _ .vmem, ⟨0, _⟩ => ⟨S768x128, .f32⟩
  | .local _ .vmem, ⟨1, _⟩ => ⟨S768x128, .f32⟩
  | .local _ .vmem, ⟨2, _⟩ => ⟨S768x512, .bf16⟩
  | .local _ .vmem, ⟨3, _⟩ => ⟨S768x512, .bf16⟩
  | .local _ .vmem, ⟨4, _⟩ => ⟨S128x512, .f32⟩
  | .local _ .vmem, ⟨5, _⟩ => ⟨S128x512, .f32⟩
  | _, _ => ⟨S8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond3 (i : grid0.Coords) : BitVec 1 :=
  let arg2 : BitVec 32 := BitVec.ofNat 32 (i 2).val
  let c10_i32_6 : BitVec 32 := 10#32
  let v12 : BitVec 1 := Scalar.cmpi .eq arg2 c10_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8448x128 : Shape := ⟨2, ![8448, 128]⟩
abbrev S8448x512 : Shape := ⟨2, ![8448, 512]⟩
abbrev S_ : Shape := ⟨0, ![]⟩
abbrev S128x512 : Shape := ⟨2, ![128, 512]⟩
abbrev S512x128 : Shape := ⟨2, ![512, 128]⟩

abbrev nBuf : Space → Nat
  | .hbm => 8
  | .vmem => 0
  | .smem => 0
  | _ => 0

abbrev bufTy : (tb : Table) → Fin (tcTables nBuf tb) → BufTy
  | .hbm, ⟨0, _⟩ => ⟨S8448x128, .f32⟩
  | .hbm, ⟨1, _⟩ => ⟨S8448x512, .bf16⟩
  | .hbm, ⟨2, _⟩ => ⟨S_, .f32⟩
  | .hbm, ⟨3, _⟩ => ⟨S128x512, .f32⟩
  | .hbm, ⟨4, _⟩ => ⟨S8448x512, .f32⟩
  | .hbm, ⟨5, _⟩ => ⟨S8448x512, .f32⟩
  | .hbm, ⟨6, _⟩ => ⟨S512x128, .f32⟩
  | .hbm, ⟨7, _⟩ => ⟨S128x512, .f32⟩
  | _, _ => ⟨S8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S216x128 : Shape := ⟨2, ![216, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S216x128, .f32⟩
  | .hbm, ⟨1, _⟩ => ⟨S216x128, .f32⟩
  | .hbm, ⟨2, _⟩ => ⟨S216x128, .f32⟩
  | .hbm, ⟨3, _⟩ => ⟨S216x128, .f32⟩
  | .hbm, ⟨4, _⟩ => ⟨S216x128, .f32⟩
  | .hbm, ⟨5, _⟩ => ⟨S216x128, .f32⟩
  | .hbm, ⟨6, _⟩ => ⟨S216x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S216x128 : Shape := ⟨2, ![216, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S216x128, .f32⟩
  | .hbm, ⟨1, _⟩ => ⟨S216x128, .f32⟩
  | .hbm, ⟨2, _⟩ => ⟨S216x128, .f32⟩
  | .hbm, ⟨3, _⟩ => ⟨S216x128, .f32⟩
  | .hbm, ⟨4, _⟩ => ⟨S_, .f32⟩
  | .hbm, ⟨5, _⟩ => ⟨S216x128, .f32⟩
  | .hbm, ⟨6, _⟩ => ⟨S216x128, .f32⟩
  | .hbm, ⟨7, _⟩ => ⟨S_, .f32⟩
  | .hbm, ⟨8, _⟩ => ⟨S216x128, .f32⟩
  | .hbm, ⟨9, _⟩ => ⟨S216x128, .f32⟩
  | .hbm, ⟨10, _⟩ => ⟨S216x128, .f32⟩
  | .hbm, ⟨11, _⟩ => ⟨S_, .f32⟩
  | .hbm, ⟨12, _⟩ => ⟨S216x128, .f32⟩
  | .hbm, ⟨13, _⟩ => ⟨S216x128, .f32⟩
  | .hbm, ⟨14, _⟩ => ⟨S216x128, .f32⟩
  | .hbm, ⟨15, _⟩ => ⟨S_, .f32⟩
  | .hbm, ⟨16, _⟩ => ⟨S216x128, .f32⟩
  | .hbm, ⟨17, _⟩ => ⟨S216x128, .f32⟩
  | .hbm, ⟨18, _⟩ => ⟨S216x128, .f32⟩
  | .hbm, ⟨19, _⟩ => ⟨S_, .f32⟩
  | .hbm, ⟨20, _⟩ => ⟨S216x128, .f32⟩
  | .hbm, ⟨21, _⟩ => ⟨S216x128, .f32⟩
  | .hbm, ⟨22, _⟩ => ⟨S_, .f32⟩
  | .hbm, ⟨23, _⟩ => ⟨S216x128, .f32⟩
  | .hbm, ⟨24, _⟩ => ⟨S216x128, .f32⟩
  | .hbm, ⟨25, _⟩ => ⟨S216x128, .f32⟩
  | .hbm, ⟨26, _⟩ => ⟨S_, .f32⟩
  | .hbm, ⟨27, _⟩ => ⟨S216x128, .f32⟩
  | .hbm, ⟨28, _⟩ => ⟨S216x128, .f32⟩
  | .hbm, ⟨29, _⟩ => ⟨S216x128, .f32⟩
  | .hbm, ⟨30, _⟩ => ⟨S_, .f32⟩
  | .hbm, ⟨31, _⟩ => ⟨S216x128, .f32⟩
  | .hbm, ⟨32, _⟩ => ⟨S216x128, .f32⟩
  | .hbm, ⟨33, _⟩ => ⟨S216x128, .f32⟩
  | .hbm, ⟨34, _⟩ => ⟨S_, .f32⟩
  | .hbm, ⟨35, _⟩ => ⟨S216x128, .f32⟩
  | .hbm, ⟨36, _⟩ => ⟨S216x128, .f32⟩
  | _, _ => ⟨S216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1024x1796 : Shape := ⟨2, ![1024, 1796]⟩
abbrev S3x1024x1796 : Shape := ⟨3, ![3, 1024, 1796]⟩
abbrev S256x1796 : Shape := ⟨2, ![256, 1796]⟩
abbrev S3x256x1796 : Shape := ⟨3, ![3, 256, 1796]⟩
abbrev S1x256x1796 : Shape := ⟨3, ![1, 256, 1796]⟩

abbrev nBuf : Space → Nat
  | .hbm => 9
  | .vmem => 18
  | .smem => 0
  | _ => 0

abbrev bufTy : (tb : Table) → Fin (tcTables nBuf tb) → BufTy
  | .hbm, ⟨0, _⟩ => ⟨S1024x1796, .bf16⟩
  | .hbm, ⟨1, _⟩ => ⟨S3x1024x1796, .bf16⟩
  | .hbm, ⟨2, _⟩ => ⟨S1024x1796, .f32⟩
  | .hbm, ⟨3, _⟩ => ⟨S1024x1796, .f32⟩
  | .hbm, ⟨4, _⟩ => ⟨S1024x1796, .f32⟩
  | .hbm, ⟨5, _⟩ => ⟨S1024x1796, .f32⟩
  | .hbm, ⟨6, _⟩ => ⟨S1024x1796, .f32⟩
  | .hbm, ⟨7, _⟩ => ⟨S1024x1796, .f32⟩
  | .hbm, ⟨8, _⟩ => ⟨S1024x1796, .f32⟩
  | .local _ .vmem, ⟨0, _⟩ => ⟨S256x1796, .bf16⟩
  | .local _ .vmem, ⟨1, _⟩ => ⟨S256x1796, .bf16⟩
  | .local _ .vmem, ⟨2, _⟩ => ⟨S3x256x1796, .bf16⟩
  | .local _ .vmem, ⟨3, _⟩ => ⟨S3x256x1796, .bf16⟩
  | .local _ .vmem, ⟨4, _⟩ => ⟨S256x1796, .f32⟩
  | .local _ .vmem, ⟨5, _⟩ => ⟨S256x1796, .f32⟩
  | .local _ .vmem, ⟨6, _⟩ => ⟨S256x1796, .f32⟩
  | .local _ .vmem, ⟨7, _⟩ => ⟨S256x1796, .f32⟩
  | .local _ .vmem, ⟨8, _⟩ => ⟨S256x1796, .f32⟩
  | .local _ .vmem, ⟨9, _⟩ => ⟨S256x1796, .f32⟩
  | .local _ .vmem, ⟨10, _⟩ => ⟨S256x1796, .f32⟩
  | .local _ .vmem, ⟨11, _⟩ => ⟨S256x1796, .f32⟩
  | .local _ .vmem, ⟨12, _⟩ => ⟨S256x1796, .f32⟩
  | .local _ .vmem, ⟨13, _⟩ => ⟨S256x1796, .f32⟩
  | .local _ .vmem, ⟨14, _⟩ => ⟨S256x1796, .f32⟩
  | .local _ .vmem, ⟨15, _⟩ => ⟨S256x1796, .f32⟩
  | .local _ .vmem, ⟨16, _⟩ => ⟨S256x1796, .f32⟩
  | .local _ .vmem, ⟨17, _⟩ => ⟨S256x1796, .f32⟩
  | _, _ => ⟨S1024x1796, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1796 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1796 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1796 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1796 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1796 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1796 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1796 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1796 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1796 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S1024x1796 : Shape := ⟨2, ![1024, 1796]⟩
abbrev S3x1024x1796 : Shape := ⟨3, ![3, 1024, 1796]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x1796, .bf16⟩
  | .hbm, ⟨1, _⟩ => ⟨S3x1024x1796, .bf16⟩
  | .hbm, ⟨2, _⟩ => ⟨S1024x1796, .f32⟩
  | .hbm, ⟨3, _⟩ => ⟨S1024x1796, .f32⟩
  | .hbm, ⟨4, _⟩ => ⟨S1024x1796, .f32⟩
  | .hbm, ⟨5, _⟩ => ⟨S1024x1796, .f32⟩
  | .hbm, ⟨6, _⟩ => ⟨S3x1024x1796, .f32⟩
  | .hbm, ⟨7, _⟩ => ⟨S_, .f32⟩
  | .hbm, ⟨8, _⟩ => ⟨S1024x1796, .f32⟩
  | .hbm, ⟨9, _⟩ => ⟨S1024x1796, .f32⟩
  | .hbm, ⟨10, _⟩ => ⟨S_, .f32⟩
  | .hbm, ⟨11, _⟩ => ⟨S1024x1796, .f32⟩
  | .hbm, ⟨12, _⟩ => ⟨S1024x1796, .f32⟩
  | .hbm, ⟨13, _⟩ => ⟨S_, .f32⟩
  | .hbm, ⟨14, _⟩ => ⟨S1024x1796, .f32⟩
  | .hbm, ⟨15, _⟩ => ⟨S1024x1796, .f32⟩
  | .hbm, ⟨16, _⟩ => ⟨S1024x1796, .f32⟩
  | .hbm, ⟨17, _⟩ => ⟨S_, .f32⟩
  | .hbm, ⟨18, _⟩ => ⟨S1024x1796, .f32⟩
  | .hbm, ⟨19, _⟩ => ⟨S1024x1796, .f32⟩
  | .hbm, ⟨20, _⟩ => ⟨S1024x1796, .f32⟩
  | .hbm, ⟨21, _⟩ => ⟨S_, .f32⟩
  | .hbm, ⟨22, _⟩ => ⟨S1024x1796, .f32⟩
  | .hbm, ⟨23, _⟩ => ⟨S1024x1796, .f32⟩
  | .hbm, ⟨24, _⟩ => ⟨S1024x1796, .f32⟩
  | .hbm, ⟨25, _⟩ => ⟨S_, .f32⟩
  | .hbm, ⟨26, _⟩ => ⟨S1024x1796, .f32⟩
  | .hbm, ⟨27, _⟩ => ⟨S1024x1796, .f32⟩
  | .hbm, ⟨28, _⟩ => ⟨S_, .f32⟩
  | .hbm, ⟨29, _⟩ => ⟨S1024x1796, .f32⟩
  | .hbm, ⟨30, _⟩ => ⟨S1024x1796, .f32⟩
  | .hbm, ⟨31, _⟩ => ⟨S1024x1796, .f32⟩
  | .hbm, ⟨32, _⟩ => ⟨S_, .f32⟩
  | .hbm, ⟨33, _⟩ => ⟨S1024x1796, .f32⟩
  | .hbm, ⟨34, _⟩ => ⟨S1024x1796, .f32⟩
  | .hbm, ⟨35, _⟩ => ⟨S1024x1796, .f32⟩
  | .hbm, ⟨36, _⟩ => ⟨S_, .f32⟩
  | .hbm, ⟨37, _⟩ => ⟨S1024x1796, .f32⟩
  | .hbm, ⟨38, _⟩ => ⟨S1024x1796, .f32⟩
  | .hbm, ⟨39, _⟩ => ⟨S1024x1796, .f32⟩
  | .hbm, ⟨40, _⟩ => ⟨S_, .f32⟩
  | .hbm, ⟨41, _⟩ => ⟨S1024x1796, .f32⟩
  | .hbm, ⟨42, _⟩ => ⟨S1024x1796, .f32⟩
  | _, _ => ⟨S1024x1796, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel12.lean ====
abbrev S1024x1408 : Shape := ⟨2, ![1024, 1408]⟩
abbrev S3x1024x1408 : Shape := ⟨3, ![3, 1024, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .bf16⟩
  | .hbm, ⟨1, _⟩ => ⟨S3x1024x1408, .bf16⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .bf16⟩
  | .local _ .vmem, ⟨1, _⟩ => ⟨S256x1408, .bf16⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S1024x1408 : Shape := ⟨2, ![1024, 1408]⟩
abbrev S3x1024x1408 : Shape := ⟨3, ![3, 1024, 1408]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x1408, .bf16⟩
  | .hbm, ⟨1, _⟩ => ⟨S3x1024x1408, .bf16⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S3x1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S_, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S1024x1408, .f32⟩
  | .hbm, ⟨25, _⟩ => ⟨S_, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | .hbm, ⟨39, _⟩ => ⟨S1024x1408, .f32⟩
  | .hbm, ⟨40, _⟩ => ⟨S_, .f32⟩
  | .hbm, ⟨41, _⟩ => ⟨S1024x1408, .f32⟩
  | .hbm, ⟨42, _⟩ => ⟨S1024x1408, .f32⟩
  | _, _ => ⟨S1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel13.lean ====
abbrev S704x1024 : Shape := ⟨2, ![704, 1024]⟩
abbrev S3x704x1024 : Shape := ⟨3, ![3, 704, 1024]⟩
abbrev S64x1024 : Shape := ⟨2, ![64, 1024]⟩
abbrev S3x64x1024 : Shape := ⟨3, ![3, 64, 1024]⟩
abbrev S1x64x1024 : Shape := ⟨3, ![1, 64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .bf16⟩
  | .hbm, ⟨1, _⟩ => ⟨S3x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S64x1024, .bf16⟩
  | .local _ .vmem, ⟨1, _⟩ => ⟨S64x1024, .bf16⟩
  | .local _ .vmem, ⟨2, _⟩ => ⟨S3x64x1024, .bf16⟩
  | .local _ .vmem, ⟨3, _⟩ => ⟨S3x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S704x1024 : Shape := ⟨2, ![704, 1024]⟩
abbrev S3x704x1024 : Shape := ⟨3, ![3, 704, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S704x1024, .bf16⟩
  | .hbm, ⟨1, _⟩ => ⟨S3x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S3x704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | _, _ => ⟨S704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel14.lean ====
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .bf16⟩
  | .hbm, ⟨1, _⟩ => ⟨S3x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .bf16⟩
  | .local _ .vmem, ⟨1, _⟩ => ⟨S3x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference14Ideal.lean ====
abbrev S256x1024 : Shape := ⟨2, ![256, 1024]⟩
abbrev S3x256x1024 : Shape := ⟨3, ![3, 256, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S3x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S3x256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel15.lean ====
abbrev S8448x5632 : Shape := ⟨2, ![8448, 5632]⟩
abbrev S4x1024x1408 : Shape := ⟨3, ![4, 1024, 1408]⟩
abbrev S8448x1024 : Shape := ⟨2, ![8448, 1024]⟩
abbrev S1x1024 : Shape := ⟨2, ![1, 1024]⟩
abbrev S768x1408 : Shape := ⟨2, ![768, 1408]⟩
abbrev S1x1024x1408 : Shape := ⟨3, ![1, 1024, 1408]⟩
abbrev S768x1024 : Shape := ⟨2, ![768, 1024]⟩
abbrev S1024x1408 : Shape := ⟨2, ![1024, 1408]⟩
abbrev S768 : Shape := ⟨1, ![768]⟩
abbrev S768x1 : Shape := ⟨2, ![768, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S8448x5632, .bf16⟩
  | .hbm, ⟨1, _⟩ => ⟨S4x1024x1408, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S1x1024, .f32⟩
  | .hbm, ⟨7, _⟩ => ⟨S8448x1024, .bf16⟩
  | .local _ .vmem, ⟨0, _⟩ => ⟨S768x1408, .bf16⟩
  | .local _ .vmem, ⟨1, _⟩ => ⟨S768x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S1x1024, .f32⟩
  | .local _ .vmem, ⟨9, _⟩ => ⟨S768x1024, .f32⟩
  | .local _ .vmem, ⟨10, _⟩ => ⟨S768x1024, .f32⟩
  | .local _ .vmem, ⟨11, _⟩ => ⟨S1x1024, .f32⟩
  | .local _ .vmem, ⟨12, _⟩ => ⟨S768x1024, .bf16⟩
  | .local _ .vmem, ⟨13, _⟩ => ⟨S768x1024, .bf16⟩
  | .local _ .vmem, ⟨14, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![11, 1, 4], ![false, false, false]⟩

def k0_cond4 (i : grid0.Coords) : BitVec 1 :=
  let arg2 : BitVec 32 := BitVec.ofNat 32 (i 2).val
  let c3_i32_11 : BitVec 32 := 3#32
  let v19 : BitVec 1 := Scalar.cmpi .eq arg2 c3_i32_11
  let v20 : BitVec 32 := Scalar.extui v19
  let c0_i32_12 : BitVec 32 := 0#32
  let v21 : BitVec 1 := Scalar.cmpi .ne v20 c0_i32_12
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference15Ideal.lean ====
abbrev S8448x5632 : Shape := ⟨2, ![8448, 5632]⟩
abbrev S4x1024x1408 : Shape := ⟨3, ![4, 1024, 1408]⟩
abbrev S8448x1024 : Shape := ⟨2, ![8448, 1024]⟩
abbrev S1x1024 : Shape := ⟨2, ![1, 1024]⟩
abbrev S1x1024x1408 : Shape := ⟨3, ![1, 1024, 1408]⟩
abbrev S1024x1408 : Shape := ⟨2, ![1024, 1408]⟩
abbrev S1024x5632 : Shape := ⟨2, ![1024, 5632]⟩
abbrev S5632x1024 : Shape := ⟨2, ![5632, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S4x1024x1408, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S1x1024x1408, .bf16⟩
  | .hbm, ⟨6, _⟩ => ⟨S1024x1408, .bf16⟩
  | .hbm, ⟨7, _⟩ => ⟨S1x1024x1408, .bf16⟩
  | .hbm, ⟨8, _⟩ => ⟨S1024x1408, .bf16⟩
  | .hbm, ⟨9, _⟩ => ⟨S1x1024x1408, .bf16⟩
  | .hbm, ⟨10, _⟩ => ⟨S1024x1408, .bf16⟩
  | .hbm, ⟨11, _⟩ => ⟨S1x1024x1408, .bf16⟩
  | .hbm, ⟨12, _⟩ => ⟨S1024x1408, .bf16⟩
  | .hbm, ⟨13, _⟩ => ⟨S1024x5632, .bf16⟩
  | .hbm, ⟨14, _⟩ => ⟨S8448x5632, .f32⟩
  | .hbm, ⟨15, _⟩ => ⟨S1024x5632, .f32⟩
  | .hbm, ⟨16, _⟩ => ⟨S5632x1024, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S_, .f32⟩
  | .hbm, ⟨45, _⟩ => ⟨S8448, .f32⟩
  | .hbm, ⟨46, _⟩ => ⟨S8448x1, .f32⟩
  | .hbm, ⟨47, _⟩ => ⟨S8448x1024, .f32⟩
  | .hbm, ⟨48, _⟩ => ⟨S8448x1024, .f32⟩
  | .hbm, ⟨49, _⟩ => ⟨S8448x1, .f32⟩
  | .hbm, ⟨50, _⟩ => ⟨S_, .f32⟩
  | .hbm, ⟨51, _⟩ => ⟨S8448x1, .f32⟩
  | .hbm, ⟨52, _⟩ => ⟨S8448x1, .f32⟩
  | .hbm, ⟨53, _⟩ => ⟨S_, .f32⟩
  | .hbm, ⟨54, _⟩ => ⟨S8448, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel16.lean ====
abbrev S8448x2816 : Shape := ⟨2, ![8448, 2816]⟩
abbrev S2816x1024 : Shape := ⟨2, ![2816, 1024]⟩
abbrev S8448x1024 : Shape := ⟨2, ![8448, 1024]⟩
abbrev S8192x1024 : Shape := ⟨2, ![8192, 1024]⟩
abbrev S1x1024 : Shape := ⟨2, ![1, 1024]⟩
abbrev S1x1 : Shape := ⟨2, ![1, 1]⟩
abbrev S768x2816 : Shape := ⟨2, ![768, 2816]⟩
abbrev S768x1024 : Shape := ⟨2, ![768, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8192x1024, .f32⟩
  | .hbm, ⟨4, _⟩ => ⟨S1x1024, .f32⟩
  | .hbm, ⟨5, _⟩ => ⟨S8448x1024, .f32⟩
  | .hbm, ⟨6, _⟩ => ⟨S1x1, .f32⟩
  | .hbm, ⟨7, _⟩ => ⟨S1x1024, .f32⟩
  | .hbm, ⟨8, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S768x1024, .f32⟩
  | .local _ .vmem, ⟨13, _⟩ => ⟨S768x1024, .f32⟩
  | .local _ .vmem, ⟨14, _⟩ => ⟨S1x1, .f32⟩
  | .local _ .vmem, ⟨15, _⟩ => ⟨S1x1024, .f32⟩
  | .local _ .vmem, ⟨16, _⟩ => ⟨S768x1024, .bf16⟩
  | .local _ .vmem, ⟨17, _⟩ => ⟨S768x1024, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== Reference16Ideal.lean ====
abbrev S8448x2816 : Shape := ⟨2, ![8448, 2816]⟩
abbrev S2816x1024 : Shape := ⟨2, ![2816, 1024]⟩
abbrev S8448x1024 : Shape := ⟨2, ![8448, 1024]⟩
abbrev S8192x1024 : Shape := ⟨2, ![8192, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S8192 : Shape := ⟨1, ![8192]⟩
abbrev S1024 : Shape := ⟨1, ![1024]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8192x1024, .f32⟩
  | .hbm, ⟨4, _⟩ => ⟨S1x1024, .f32⟩
  | .hbm, ⟨5, _⟩ => ⟨S8448x2816, .f32⟩
  | .hbm, ⟨6, _⟩ => ⟨S2816x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S_, .f32⟩
  | .hbm, ⟨61, _⟩ => ⟨S8448, .f32⟩
  | .hbm, ⟨62, _⟩ => ⟨S8448x1, .f32⟩
  | .hbm, ⟨63, _⟩ => ⟨S8448x1024, .f32⟩
  | .hbm, ⟨64, _⟩ => ⟨S8448x1024, .f32⟩
  | .hbm, ⟨65, _⟩ => ⟨S8448x1, .f32⟩
  | .hbm, ⟨66, _⟩ => ⟨S_, .f32⟩
  | .hbm, ⟨67, _⟩ => ⟨S8448x1, .f32⟩
  | .hbm, ⟨68, _⟩ => ⟨S8448x1, .f32⟩
  | .hbm, ⟨69, _⟩ => ⟨S_, .f32⟩
  | .hbm, ⟨70, _⟩ => ⟨S8448, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S1x1, .f32⟩
  | .hbm, ⟨77, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Proof.Base.lean ====
module

public import Idealize.ShloMosaic.Lib.Pointwise
public import Idealize.ShloMosaic.Lib.IdealHost

/-!
Extended reals that are reals: sums, quotients and the constants of the two programs.
-/

@[expose] public section

noncomputable section

namespace Gla

open Idealize.ShloMosaic

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_ite (c : Prop) [Decidable c] (x y : ℝ) : (if c then ((x : ℝ) : EReal) else (y : EReal)) = ((if c then x else y : ℝ) : EReal) := by
  split_ifs <;> rfl

theorem div_coe' {y : ℝ} (h : y ≠ 0) (x : ℝ) : Ideal.div ((x : ℝ) : EReal) ((y : ℝ) : EReal) = ((x / y : ℝ) : EReal) := by
  rw [Ideal.div_coe h, ← EReal.coe_mul, one_div, div_eq_mul_inv]

theorem rsqrt_pos {x : ℝ} (h : 0 < x) : Ideal.rsqrt ((x : ℝ) : EReal) = (((Real.sqrt x)⁻¹ : ℝ) : EReal) := by
  rw [Ideal.rsqrt_coe, if_neg (not_lt.mpr h.le), if_neg h.ne']

/-- The epsilon under the square root of the group norm. -/
def eps : ℝ := 8796093 * (2 ^ 43)⁻¹

/-- The factor on the queries. -/
def scl : ℝ := 11863283 * (2 ^ 27)⁻¹

theorem eps_pos : 0 < eps := by unfold eps; norm_num

theorem ofBits_eps : Ideal.ofBits .f32 0x358637BD#32 = ((eps : ℝ) : EReal) := by
  unfold eps; rw [EReal.coe_mul]; simp [Ideal.ofBits, Ideal.ieee]

theorem ofBits_scl : Ideal.ofBits .f32 0x3DB504F3#32 = ((scl : ℝ) : EReal) := by
  unfold scl; rw [EReal.coe_mul]; simp [Ideal.ofBits, Ideal.ieee]

theorem ofBits_256 : Ideal.ofBits .f32 0x43800000#32 = (((256 : ℝ)) : EReal) := by
  rw [show (256 : ℝ) = 8388608 * (1 / 32768) by norm_num, EReal.coe_mul]; simp [Ideal.ofBits, Ideal.ieee]; norm_num

theorem ofBits_16 : Ideal.ofBits .f32 0x41800000#32 = (((16 : ℝ)) : EReal) := by
  rw [show (16 : ℝ) = 8388608 * (1 / 524288) by norm_num, EReal.coe_mul]; simp [Ideal.ofBits, Ideal.ieee]; norm_num

theorem ofBits_sixteenth : Ideal.ofBits .f32 0x3D800000#32 = (((1 / 16 : ℝ)) : EReal) := by
  rw [show (1 / 16 : ℝ) = 8388608 * (1 / 134217728) by norm_num, EReal.coe_mul]; simp [Ideal.ofBits, Ideal.ieee]; norm_num

theorem ofBits_neg_half : Ideal.ofBits .f32 0xBF000000#32 = (((-(1 / 2) : ℝ)) : EReal) := by
  rw [show (-(1 / 2) : ℝ) = -(8388608 * (1 / 16777216)) by norm_num, EReal.coe_neg, EReal.coe_mul]; simp [Ideal.ofBits, Ideal.ieee]; norm_num

theorem ofBits_inf : Ideal.ofBits .f32 0x7F800000#32 = (⊤ : EReal) := by
  simp [Ideal.ofBits, Ideal.ieee]

theorem one_coe : (1 : EReal) = ((1 : ℝ) : EReal) := rfl

theorem zero_coe : (0 : EReal) = ((0 : ℝ) : EReal) := rfl

end Gla

end
-- ==== Proof.RealChunk.lean ====
module

public import Mathlib.Analysis.SpecialFunctions.Exp
public import Mathlib.Algebra.BigOperators.Intervals
public import Mathlib.Algebra.BigOperators.Fin
public import Mathlib.Tactic.Ring
public import Mathlib.Tactic.Linarith

/-!
The gated linear attention of one head and one key channel over the reals, and its gradient in two
forms: over all pairs of rows, and chunk by chunk with a state carried from the end of the sequence.
-/

@[expose] public section

namespace Gla

open Finset

/-- The running sum of the log decays before row `n`. -/
noncomputable def P (a : ℕ → ℝ) (n : ℕ) : ℝ := ∑ i ∈ range n, a i

/-- The decay from row `s` to row `t`. -/
noncomputable def ex (a : ℕ → ℝ) (t s : ℕ) : ℝ := Real.exp (P a (t + 1) - P a (s + 1))

/-- The gradient of the query at row `t`: `D t s` is the product of the output gradient of row `t` with the value of row `s`. -/
noncomputable def DQ (a k : ℕ → ℝ) (D : ℕ → ℕ → ℝ) (t : ℕ) : ℝ := ∑ s ∈ range (t + 1), k s * ex a t s * D t s

/-- The gradient of the key at row `s`, of `N` rows. -/
noncomputable def DK (a q : ℕ → ℝ) (D : ℕ → ℕ → ℝ) (N s : ℕ) : ℝ := ∑ t ∈ Ico s N, q t * ex a t s * D t s

/-- The gradient of the running sum of the log decays at row `t`. -/
noncomputable def DB (a q k : ℕ → ℝ) (D : ℕ → ℕ → ℝ) (N t : ℕ) : ℝ := q t * DQ a k D t - k t * DK a q D N t

/-- The gradient of the log decay at row `t`. -/
noncomputable def DLA (a q k : ℕ → ℝ) (D : ℕ → ℕ → ℝ) (N t : ℕ) : ℝ := ∑ u ∈ Ico t N, DB a q k D N u

/-- One entry of the state before row `n`. -/
noncomputable def St (a k v : ℕ → ℝ) (n : ℕ) : ℝ := ∑ s ∈ range n, v s * (k s * Real.exp (P a n - P a (s + 1)))

/-- One entry of the gradient of the state before row `n`. -/
noncomputable def Tt (a q d : ℕ → ℝ) (N n : ℕ) : ℝ := ∑ t ∈ Ico n N, d t * (q t * Real.exp (P a (t + 1) - P a n))

theorem P_add (a : ℕ → ℝ) (n i : ℕ) : P a (n + i) - P a n = ∑ j ∈ range i, a (n + j) := by
  unfold P; rw [sum_range_add_sub_sum_range]

variable {C : ℕ}

theorem sum_fin_le (f : ℕ → ℝ) (i : Fin C) : (∑ j : Fin C, if j ≤ i then f j else 0) = ∑ j ∈ range (i + 1), f j := by
  have h := Fin.sum_univ_eq_sum_range (fun j => if j ≤ (i : ℕ) then f j else 0) C
  simp only [Fin.val_fin_le] at h
  rw [h, ← sum_filter]
  refine sum_congr (Finset.ext fun j => ?_) fun _ _ => rfl
  have := i.isLt
  simp only [mem_filter, mem_range]; omega

theorem sum_fin_ge (f : ℕ → ℝ) (i : Fin C) : (∑ j : Fin C, if i ≤ j then f j else 0) = ∑ j ∈ Ico (i : ℕ) C, f j := by
  have h := Fin.sum_univ_eq_sum_range (fun j => if (i : ℕ) ≤ j then f j else 0) C
  simp only [Fin.val_fin_le] at h
  rw [h, ← sum_filter]
  refine sum_congr (Finset.ext fun j => ?_) fun _ _ => rfl
  simp only [mem_filter, mem_range, mem_Ico]; omega

theorem b_eq (a : ℕ → ℝ) (n : ℕ) (i : Fin C) :
    (∑ j : Fin C, if j ≤ i then a (n + j) else 0) = P a (n + i + 1) - P a n := by
  rw [sum_fin_le (fun j => a (n + j)), ← P_add, add_assoc]

section Chunk

variable (a q k : ℕ → ℝ) (D : ℕ → ℕ → ℝ) (N n : ℕ)

/-- The local decay factors of a chunk multiply to the decay between two of its rows. -/
theorem ex_local (i j : ℕ) :
    Real.exp (P a (n + i + 1) - P a n) * Real.exp (-(P a (n + C) - P a n)) * Real.exp (P a (n + C) - P a n - (P a (n + j + 1) - P a n))
      = ex a (n + i) (n + j) := by
  unfold ex; rw [← Real.exp_add, ← Real.exp_add]; congr 1; ring

theorem dq_eq (i : Fin C) (X : ℝ) (hX : X = ∑ s ∈ range n, D (n + i) s * (k s * Real.exp (P a n - P a (s + 1)))) :
    X * Real.exp (P a (n + i + 1) - P a n)
      + (∑ j : Fin C, (if j ≤ i then D (n + i) (n + j) else 0) * (k (n + j) * Real.exp (P a (n + C) - P a n - (P a (n + j + 1) - P a n))))
        * (Real.exp (P a (n + i + 1) - P a n) * Real.exp (-(P a (n + C) - P a n)))
      = DQ a k D (n + i) := by
  have h1 : X * Real.exp (P a (n + i + 1) - P a n) = ∑ s ∈ range n, k s * ex a (n + i) s * D (n + i) s := by
    rw [hX, sum_mul]; refine sum_congr rfl fun s _ => ?_
    unfold ex
    rw [show P a (n + ↑i + 1) - P a (s + 1) = (P a n - P a (s + 1)) + (P a (n + ↑i + 1) - P a n) by ring, Real.exp_add]; ring
  have h2 : (∑ j : Fin C, (if j ≤ i then D (n + i) (n + j) else 0) * (k (n + j) * Real.exp (P a (n + C) - P a n - (P a (n + j + 1) - P a n))))
        * (Real.exp (P a (n + i + 1) - P a n) * Real.exp (-(P a (n + C) - P a n)))
      = ∑ j ∈ range (i + 1), k (n + j) * ex a (n + i) (n + j) * D (n + i) (n + j) := by
    rw [← sum_fin_le (fun j => k (n + j) * ex a (n + i) (n + j) * D (n + i) (n + j)), sum_mul]
    refine sum_congr rfl fun j _ => ?_
    split_ifs
    · rw [← ex_local (C := C)]; ring
    · ring
  rw [h1, h2]; unfold DQ
  rw [add_assoc n (i : ℕ) 1]; exact (sum_range_add _ n (i + 1)).symm

theorem dk_eq (hN : n + C ≤ N) (j : Fin C) (X : ℝ)
    (hX : X = ∑ t ∈ Ico (n + C) N, D t (n + j) * (q t * Real.exp (P a (t + 1) - P a (n + C)))) :
    ((∑ i : Fin C, (if j ≤ i then D (n + i) (n + j) else 0)
        * (q (n + i) * Real.exp (P a (n + i + 1) - P a n) * Real.exp (-(P a (n + C) - P a n)))) + X)
      * Real.exp (P a (n + C) - P a n - (P a (n + j + 1) - P a n)) = DK a q D N (n + j) := by
  have h1 : X * Real.exp (P a (n + C) - P a n - (P a (n + j + 1) - P a n)) = ∑ t ∈ Ico (n + C) N, q t * ex a t (n + j) * D t (n + j) := by
    rw [hX, sum_mul]; refine sum_congr rfl fun t _ => ?_
    unfold ex
    rw [show P a (t + 1) - P a (n + ↑j + 1) = (P a (t + 1) - P a (n + C)) + (P a (n + C) - P a n - (P a (n + j + 1) - P a n)) by ring, Real.exp_add]; ring
  have h2 : (∑ i : Fin C, (if j ≤ i then D (n + i) (n + j) else 0)
        * (q (n + i) * Real.exp (P a (n + i + 1) - P a n) * Real.exp (-(P a (n + C) - P a n))))
          * Real.exp (P a (n + C) - P a n - (P a (n + j + 1) - P a n))
      = ∑ i ∈ Ico (j : ℕ) C, q (n + i) * ex a (n + i) (n + j) * D (n + i) (n + j) := by
    rw [← sum_fin_ge (fun i => q (n + i) * ex a (n + i) (n + j) * D (n + i) (n + j)), sum_mul]
    refine sum_congr rfl fun i _ => ?_
    split_ifs
    · rw [← ex_local (C := C)]; ring
    · ring
  rw [add_mul, h1, h2]; unfold DK
  have hj := j.isLt
  rw [← sum_Ico_consecutive _ (show n + (j : ℕ) ≤ n + C by omega) hN, sum_Ico_add (fun x => q x * ex a x (n + j) * D x (n + j)) (j : ℕ) C n,
    add_comm (j : ℕ) n, add_comm C n]

/-- The gradient of the state before a chunk, from the one after it. -/
theorem tt_step (d : ℕ → ℝ) (hN : n + C ≤ N) :
    Tt a q d N (n + C) * Real.exp (P a (n + C) - P a n)
      + ∑ i : Fin C, d (n + i) * (q (n + i) * Real.exp (P a (n + i + 1) - P a n)) = Tt a q d N n := by
  unfold Tt
  rw [← sum_Ico_consecutive _ (show n ≤ n + C by omega) hN, add_comm]
  congr 1
  · rw [Fin.sum_univ_eq_sum_range (fun i => d (n + i) * (q (n + i) * Real.exp (P a (n + i + 1) - P a n))) C,
      range_eq_Ico, sum_Ico_add (fun x => d x * (q x * Real.exp (P a (x + 1) - P a n))) 0 C n]
    simp only [zero_add, add_comm C n]
  · rw [sum_mul]; refine sum_congr rfl fun t _ => ?_
    rw [show P a (t + 1) - P a n = (P a (t + 1) - P a (n + C)) + (P a (n + C) - P a n) by ring, Real.exp_add]; ring

/-- What the rows after row `M` add to the gradient of the running sum telescopes to the pairs across `M`. -/
theorem db_after (M : ℕ) (hM : M ≤ N) :
    ∑ u ∈ Ico M N, DB a q k D N u = ∑ t ∈ Ico M N, ∑ s ∈ range M, q t * k s * ex a t s * D t s := by
  have h1 : ∑ t ∈ Ico M N, q t * DQ a k D t
      = ∑ t ∈ Ico M N, ∑ s ∈ range M, q t * k s * ex a t s * D t s + ∑ t ∈ Ico M N, ∑ s ∈ Ico M (t + 1), q t * k s * ex a t s * D t s := by
    rw [← sum_add_distrib]; refine sum_congr rfl fun t ht => ?_
    have := (mem_Ico.mp ht).1
    unfold DQ
    rw [range_eq_Ico, range_eq_Ico, sum_Ico_consecutive _ (Nat.zero_le M) (by omega), mul_sum]
    exact sum_congr rfl fun s _ => by ring
  have h2 : ∑ s ∈ Ico M N, k s * DK a q D N s = ∑ t ∈ Ico M N, ∑ s ∈ Ico M (t + 1), q t * k s * ex a t s * D t s := by
    unfold DK
    simp only [mul_sum]
    rw [sum_Ico_Ico_comm]
    exact sum_congr rfl fun t _ => sum_congr rfl fun s _ => by ring
  unfold DB
  rw [sum_sub_distrib, h1, h2, add_sub_cancel_right]

theorem dla_eq (hN : n + C ≤ N) (i : Fin C) (qq kk db : Fin C → ℝ) (W : ℝ)
    (hq : ∀ i, qq i = q (n + i) * ∑ s ∈ Ico n (n + i + 1), k s * ex a (n + i) s * D (n + i) s)
    (hk : ∀ i, kk i = k (n + i) * DK a q D N (n + i))
    (hd : ∀ i, db i = DB a q k D N (n + i))
    (hW : W = ∑ t ∈ Ico (n + C) N, ∑ s ∈ range n, q t * k s * ex a t s * D t s) :
    (∑ j : Fin C, if i ≤ j then db j else 0) + ((∑ j : Fin C, (kk j - qq j)) + W) = DLA a q k D N (n + i) := by
  have hi := i.isLt
  have h1 : (∑ j : Fin C, if i ≤ j then db j else 0) = ∑ u ∈ Ico (n + i) (n + C), DB a q k D N u := by
    simp only [hd]
    rw [sum_fin_ge (fun j => DB a q k D N (n + j)), sum_Ico_add (fun x => DB a q k D N x) (i : ℕ) C n, add_comm (i : ℕ) n, add_comm C n]
  have hkk : ∑ j : Fin C, kk j = ∑ s ∈ Ico n (n + C), k s * DK a q D N s := by
    simp only [hk]
    rw [Fin.sum_univ_eq_sum_range (fun j => k (n + j) * DK a q D N (n + j)) C, range_eq_Ico,
      sum_Ico_add (fun x => k x * DK a q D N x) 0 C n, zero_add, add_comm C n]
  have hqq : ∑ j : Fin C, qq j = ∑ t ∈ Ico n (n + C), q t * ∑ s ∈ Ico n (t + 1), k s * ex a t s * D t s := by
    simp only [hq]
    rw [Fin.sum_univ_eq_sum_range (fun j => q (n + j) * ∑ s ∈ Ico n (n + j + 1), k s * ex a (n + j) s * D (n + j) s) C, range_eq_Ico,
      sum_Ico_add (fun x => q x * ∑ s ∈ Ico n (x + 1), k s * ex a x s * D x s) 0 C n, zero_add, add_comm C n]
  have hkq : ∑ s ∈ Ico n (n + C), k s * DK a q D N s
      = ∑ t ∈ Ico n (n + C), q t * (∑ s ∈ Ico n (t + 1), k s * ex a t s * D t s)
        + ∑ t ∈ Ico (n + C) N, ∑ s ∈ Ico n (n + C), q t * k s * ex a t s * D t s := by
    have e1 : ∀ s ∈ Ico n (n + C), k s * DK a q D N s = ∑ t ∈ Ico s (n + C), q t * k s * ex a t s * D t s
        + ∑ t ∈ Ico (n + C) N, q t * k s * ex a t s * D t s := fun s hs => by
      have := (mem_Ico.mp hs).2
      unfold DK
      rw [sum_Ico_consecutive _ (by omega) hN, mul_sum]
      exact sum_congr rfl fun s _ => by ring
    rw [sum_congr rfl e1, sum_add_distrib, sum_comm (s := Ico n (n + C)) (t := Ico (n + C) N)]
    congr 1
    rw [sum_Ico_Ico_comm]
    refine sum_congr rfl fun t _ => ?_
    rw [mul_sum]; exact sum_congr rfl fun s _ => by ring
  rw [h1, sum_sub_distrib, hkk, hqq, hkq, hW]
  unfold DLA
  rw [← sum_Ico_consecutive _ (show n + (i : ℕ) ≤ n + C by omega) hN, db_after a q k D N (n + C) hN, add_sub_cancel_left,
    ← sum_add_distrib]
  congr 1
  refine sum_congr rfl fun t _ => ?_
  rw [add_comm, range_eq_Ico, range_eq_Ico, sum_Ico_consecutive _ (Nat.zero_le n) (by omega)]

/-- The products of the output gradients with the values. -/
noncomputable def Dt {m : ℕ} (d v : Fin m → ℕ → ℝ) (t s : ℕ) : ℝ := ∑ x, d x t * v x s

/-- The gradient of one entry of the value at row `s`. -/
noncomputable def DV {m : ℕ} (a q k : Fin m → ℕ → ℝ) (d : ℕ → ℝ) (N s : ℕ) : ℝ :=
  ∑ t ∈ Ico s N, (∑ x, q x t * k x s * ex (a x) t s) * d t

theorem dot_St {m : ℕ} (d v : Fin m → ℕ → ℝ) (t : ℕ) :
    ∑ x, d x t * St a k (v x) n = ∑ s ∈ range n, Dt d v t s * (k s * Real.exp (P a n - P a (s + 1))) := by
  unfold St Dt
  simp only [mul_sum, sum_mul]
  rw [sum_comm]
  exact sum_congr rfl fun _ _ => sum_congr rfl fun _ _ => by ring

theorem dot_Tt {m : ℕ} (d v : Fin m → ℕ → ℝ) (M s : ℕ) :
    ∑ x, v x s * Tt a q (d x) N M = ∑ t ∈ Ico M N, Dt d v t s * (q t * Real.exp (P a (t + 1) - P a M)) := by
  unfold Tt Dt
  simp only [mul_sum, sum_mul]
  rw [sum_comm]
  exact sum_congr rfl fun _ _ => sum_congr rfl fun _ _ => by ring

theorem dot_St_Tt {m : ℕ} (d v : Fin m → ℕ → ℝ) (M : ℕ) :
    (∑ x, St a k (v x) n * Tt a q (d x) N M) * Real.exp (P a M - P a n)
      = ∑ t ∈ Ico M N, ∑ s ∈ range n, q t * k s * ex a t s * Dt d v t s := by
  have e : ∀ t s, q t * k s * ex a t s = (q t * Real.exp (P a (t + 1) - P a M)) * (k s * Real.exp (P a n - P a (s + 1))) * Real.exp (P a M - P a n) := by
    intro t s
    unfold ex
    rw [show P a (t + 1) - P a (s + 1) = (P a (t + 1) - P a M) + (P a n - P a (s + 1)) + (P a M - P a n) by ring, Real.exp_add, Real.exp_add]
    ring
  simp only [e]
  unfold St Tt Dt
  simp only [sum_mul, mul_sum]
  rw [sum_comm' (t' := Ico M N) (s' := fun _ => (univ : Finset (Fin m))) (by simp)]
  refine sum_congr rfl fun t _ => ?_
  rw [sum_comm' (t' := range n) (s' := fun _ => (univ : Finset (Fin m))) (by simp)]
  exact sum_congr rfl fun _ _ => sum_congr rfl fun _ _ => by ring

theorem dv_eq {m : ℕ} (a q k : Fin m → ℕ → ℝ) (d : ℕ → ℝ) (hN : n + C ≤ N) (j : Fin C) :
    (∑ i : Fin C, (if j ≤ i then ∑ x, (q x (n + i) * Real.exp (P (a x) (n + i + 1) - P (a x) n) * Real.exp (-(P (a x) (n + C) - P (a x) n)))
          * (k x (n + j) * Real.exp (P (a x) (n + C) - P (a x) n - (P (a x) (n + j + 1) - P (a x) n))) else 0) * d (n + i))
      + ∑ x, (k x (n + j) * Real.exp (P (a x) (n + C) - P (a x) n - (P (a x) (n + j + 1) - P (a x) n))) * Tt (a x) (q x) d N (n + C)
      = DV a q k d N (n + j) := by
  have hj := j.isLt
  have h1 : ∀ i : Fin C, (if j ≤ i then ∑ x, (q x (n + i) * Real.exp (P (a x) (n + i + 1) - P (a x) n) * Real.exp (-(P (a x) (n + C) - P (a x) n)))
          * (k x (n + j) * Real.exp (P (a x) (n + C) - P (a x) n - (P (a x) (n + j + 1) - P (a x) n))) else 0) * d (n + i)
      = if j ≤ i then (∑ x, q x (n + i) * k x (n + j) * ex (a x) (n + i) (n + j)) * d (n + i) else 0 := by
    intro i
    split_ifs
    · congr 1
      refine sum_congr rfl fun x _ => ?_
      rw [← ex_local (C := C)]; ring
    · ring
  have h2 : ∑ x, (k x (n + j) * Real.exp (P (a x) (n + C) - P (a x) n - (P (a x) (n + j + 1) - P (a x) n))) * Tt (a x) (q x) d N (n + C)
      = ∑ t ∈ Ico (n + C) N, (∑ x, q x t * k x (n + j) * ex (a x) t (n + j)) * d t := by
    unfold Tt
    simp only [mul_sum, sum_mul]
    rw [sum_comm]
    refine sum_congr rfl fun t _ => sum_congr rfl fun x _ => ?_
    unfold ex
    rw [show P (a x) (t + 1) - P (a x) (n + ↑j + 1) = (P (a x) (t + 1) - P (a x) (n + C)) + (P (a x) (n + C) - P (a x) n - (P (a x) (n + j + 1) - P (a x) n)) by ring, Real.exp_add]
    ring
  simp only [h1]
  rw [h2, sum_fin_ge (fun i => (∑ x, q x (n + i) * k x (n + j) * ex (a x) (n + i) (n + j)) * d (n + i)),
    sum_Ico_add (fun t => (∑ x, q x t * k x (n + j) * ex (a x) t (n + j)) * d t) (j : ℕ) C n, add_comm (j : ℕ) n, add_comm C n]
  unfold DV
  rw [← sum_Ico_consecutive _ (show n + (j : ℕ) ≤ n + C by omega) hN]

end Chunk

end Gla
-- ==== Proof.Tile.lean ====
module

public import proofs.«01_k».proof.Proof.Base
public import proofs.«01_k».proof.Proof.RealChunk
public import proofs.«01_k».proof.Proof.Gen.KernelIdeal.Skeleton

/-!
What the values of one chunk and one head are, when what the kernel reads for them are reals.
-/

@[expose] public section

set_option maxRecDepth 16384

noncomputable section

namespace Gla

open Idealize.ShloMosaic Cert.KernelIdeal Cert.KernelIdeal.Gen Finset

theorem select_ite {α : Type} (p : Prop) [Decidable p] (x y : α) :
    Scalar.select (if p then 1#1 else 0#1) x y = if p then x else y := by split_ifs <;> rfl

theorem mask8 (i k : Fin 64) : k0_pay8 (ix2 i k) = if k ≤ i then 1#1 else 0#1 := by
  pointwise [Gen.k0_pay8]
  revert i k; decide +kernel

theorem tri9 (i k : Fin 64) : k0_pay9 (F := Ideal) (ix2 i k) = ((if k ≤ i then (1 : ℝ) else 0 : ℝ) : EReal) := by
  pointwise [Gen.k0_pay9, Gen.k0_pay8]
  rw [show IntOp.cmpi CmpIPredicate.sge (BitVec.ofNat 32 (i : ℕ)) (BitVec.ofNat 32 (k : ℕ)) = if k ≤ i then 1#1 else 0#1 by
    revert i k; decide +kernel]
  split_ifs <;> simp [FloatOps.sitofp]

theorem tri10 (i k : Fin 64) : k0_pay10 (F := Ideal) (ix2 i k) = ((if i ≤ k then (1 : ℝ) else 0 : ℝ) : EReal) := by
  pointwise [Gen.k0_pay10]
  rw [show IntOp.cmpi CmpIPredicate.sle (BitVec.ofNat 32 (i : ℕ)) (BitVec.ofNat 32 (k : ℕ)) = if i ≤ k then 1#1 else 0#1 by
    revert i k; decide +kernel]
  split_ifs <;> simp [FloatOps.sitofp]

/-! ### The decay factors of a chunk that starts at row `n` -/

section Decay

variable (n : ℕ) (A : ℕ → ℕ → ℝ) (la : Vec Ideal S64x512 .f32)

/-- One channel of the log decays. -/
def col (A : ℕ → ℕ → ℝ) (j : ℕ) : ℕ → ℝ := fun t => A t j

/-- The sum of the log decays from row `n` to row `m`, not including it. -/
def PP (a : ℕ → ℝ) (n m : ℕ) : ℝ := P a m - P a n

variable (hla : ∀ (i : Fin 64) (j : Fin 512), la (ix2 i j) = ((A (n + i) j : ℝ) : EReal))
include hla

theorem p11 (i : Fin 64) (j : Fin 512) : k0_pay11 (F := Ideal) la (ix2 i j) = ((PP (col A j) n (n + i + 1) : ℝ) : EReal) := by
  pointwise [Gen.k0_pay11]
  simp only [tri9, hla, ← EReal.coe_mul, coe_sum, ite_mul, one_mul, zero_mul]
  exact congrArg _ (b_eq (col A j) n i)

theorem p12 (j : Fin 512) : k0_pay12 (F := Ideal) la (ix2 0 j) = ((PP (col A j) n (n + 64) : ℝ) : EReal) := by
  pointwise [Gen.k0_pay12]
  exact p11 n A la hla 63 j

theorem p13 (i : Fin 64) (j : Fin 512) : k0_pay13 (F := Ideal) la (ix2 i j) = ((Real.exp (PP (col A j) n (n + i + 1)) : ℝ) : EReal) := by
  pointwise [Gen.k0_pay13]
  rw [p11 n A la hla, Ideal.exp_coe]

theorem p14 (i : Fin 64) (j : Fin 512) : k0_pay14 (F := Ideal) la (ix2 i j)
    = ((Real.exp (PP (col A j) n (n + 64) - PP (col A j) n (n + i + 1)) : ℝ) : EReal) := by
  pointwise [Gen.k0_pay14]
  rw [p11 n A la hla, p12 n A la hla, ← EReal.coe_sub, Ideal.exp_coe]

theorem p15 (j : Fin 512) : k0_pay15 (F := Ideal) la (ix2 0 j) = ((Real.exp (-(PP (col A j) n (n + 64))) : ℝ) : EReal) := by
  pointwise [Gen.k0_pay15]
  rw [p12 n A la hla]
  simp only [zero_sub, ← EReal.coe_neg, Ideal.exp_coe]

theorem p16 (j : Fin 512) : k0_pay16 (F := Ideal) la (ix2 0 j) = ((Real.exp (PP (col A j) n (n + 64)) : ℝ) : EReal) := by
  pointwise [Gen.k0_pay16]
  rw [p12 n A la hla, Ideal.exp_coe]

end Decay

/-! ### One head -/

/-- The scaled queries times their decay. -/
def tQb (q : Vec Ideal S64x128 .bf16) (eb : FVec Ideal S64x128 .f32) : FVec Ideal S64x128 .f32 :=
  mulf (mulf (extf .f32 q bitsLt_bf16_f32) (broadcast S64x128 (Scalar.ofBits .f32 0x3DB504F3#32))) eb

section Head

variable (n N : ℕ) (a q k : Fin 128 → ℕ → ℝ) (v d : Fin 256 → ℕ → ℝ)
variable (eb ekl : FVec Ideal S64x128 .f32) (eih gam : FVec Ideal S1x128 .f32)
variable (heb : ∀ i x, eb (ix2 i x) = ((Real.exp (PP (a x) n (n + (i : Fin 64) + 1)) : ℝ) : EReal))
variable (hekl : ∀ i x, ekl (ix2 i x) = ((Real.exp (PP (a x) n (n + 64) - PP (a x) n (n + (i : Fin 64) + 1)) : ℝ) : EReal))
variable (heih : ∀ x, eih (ix2 0 x) = ((Real.exp (-(PP (a x) n (n + 64))) : ℝ) : EReal))
variable (hgam : ∀ x, gam (ix2 0 x) = ((Real.exp (PP (a x) n (n + 64)) : ℝ) : EReal))

section
variable (tq tk : Vec Ideal S64x128 .bf16)

include heb in
theorem pQb (Q : Fin 128 → ℕ → ℝ) (hq : ∀ (i : Fin 64) x, tq (ix2 i x) = ((Q x (n + i) : ℝ) : EReal)) (i : Fin 64) (x : Fin 128) :
    tQb tq eb (ix2 i x) = ((Q x (n + i) * scl * Real.exp (PP (a x) n (n + i + 1)) : ℝ) : EReal) := by
  pointwise [tQb]
  rw [hq, heb, ofBits_scl]
  simp only [← EReal.coe_mul]

include hekl in
theorem p23 (v33 : FVec Ideal S64x128 .f32) (hk : ∀ (i : Fin 64) x, v33 (ix2 i x) = ((k x (n + i) : ℝ) : EReal)) (i : Fin 64) (x : Fin 128) :
    k0_pay23 (F := Ideal) v33 ekl (ix2 i x) = ((k x (n + i) * Real.exp (PP (a x) n (n + 64) - PP (a x) n (n + i + 1)) : ℝ) : EReal) := by
  pointwise [Gen.k0_pay23]
  rw [hk, hekl]
  simp only [← EReal.coe_mul]

include heih in
theorem p24 (qb : FVec Ideal S64x128 .f32)
    (hqb : ∀ (i : Fin 64) x, qb (ix2 i x) = ((q x (n + i) * Real.exp (PP (a x) n (n + i + 1)) : ℝ) : EReal)) (i : Fin 64) (x : Fin 128) :
    k0_pay24 (F := Ideal) eih qb (ix2 i x)
      = ((q x (n + i) * Real.exp (PP (a x) n (n + i + 1)) * Real.exp (-(PP (a x) n (n + 64))) : ℝ) : EReal) := by
  pointwise [Gen.k0_pay24]
  rw [hqb, heih]
  simp only [← EReal.coe_mul]
end

/- The tiles of the head: `qb`, `kh`, `qc` as above, in both formats. -/
variable {φ : FTy} (qb kh qc : FVec Ideal S64x128 φ)
variable (hqb : ∀ i x, qb (ix2 i x) = ((q x (n + (i : Fin 64)) * Real.exp (PP (a x) n (n + i + 1)) : ℝ) : EReal))
variable (hkh : ∀ i x, kh (ix2 i x) = ((k x (n + (i : Fin 64)) * Real.exp (PP (a x) n (n + 64) - PP (a x) n (n + i + 1)) : ℝ) : EReal))
variable (hqc : ∀ i x, qc (ix2 i x)
  = ((q x (n + (i : Fin 64)) * Real.exp (PP (a x) n (n + i + 1)) * Real.exp (-(PP (a x) n (n + 64))) : ℝ) : EReal))

/-- The masked products of output gradients and values, at two rows of the chunk. -/
def DD (i j : Fin 64) : ℝ := if j ≤ i then Dt d v (n + i) (n + j) else 0

theorem p39 (v34 : Vec Ideal S64x256 .bf16) (hv : ∀ (i : Fin 64) x, v34 (ix2 i x) = ((v x (n + i) : ℝ) : EReal))
    (v49 v51 v58 : FVec Ideal S64x256 .f32) (v66 : FVec Ideal S64x1 .f32) (v68 : FVec Ideal S64x256 .f32) (v69 : Vec Ideal S1x256 .f32)
    (hd : ∀ (i : Fin 64) x, k0_pay37 (F := Ideal) v49 v51 v58 v66 v68 v69 (ix2 i x) = ((d x (n + i) : ℝ) : EReal)) (i j : Fin 64) :
    k0_pay39 (F := Ideal) k0_pay8 v34 v49 v51 v58 v66 v68 v69 (ix2 i j) = ((DD n v d i j : ℝ) : EReal) := by
  pointwise [Gen.k0_pay39]
  simp only [mask8, select_ite, hv, hd, ← EReal.coe_mul, coe_sum, zero_coe, coe_ite]
  rfl

theorem p42 (v44 v45 : FVec Ideal S64x128 .bf16)
    (hkh : ∀ (i : Fin 64) x, v44 (ix2 i x) = ((k x (n + i) * Real.exp (PP (a x) n (n + 64) - PP (a x) n (n + i + 1)) : ℝ) : EReal))
    (hqc : ∀ (i : Fin 64) x, v45 (ix2 i x) = ((q x (n + i) * Real.exp (PP (a x) n (n + i + 1)) * Real.exp (-(PP (a x) n (n + 64))) : ℝ) : EReal))
    (v49 v51 v58 : FVec Ideal S64x256 .f32) (v66 : FVec Ideal S64x1 .f32) (v68 : FVec Ideal S64x256 .f32) (v69 : Vec Ideal S1x256 .f32)
    (hd : ∀ (i : Fin 64) x, k0_pay37 (F := Ideal) v49 v51 v58 v66 v68 v69 (ix2 i x) = ((d x (n + i) : ℝ) : EReal))
    (v114 : Vec Ideal S1x256x128 .f32) (hN : n + 64 ≤ N)
    (hT : ∀ y x, v114 (ix3 0 y x) = ((Tt (a x) (q x) (d y) N (n + 64) : ℝ) : EReal)) (i : Fin 64) (y : Fin 256) :
    k0_pay42 (F := Ideal) k0_pay8 v44 v45 v49 v51 v58 v66 v68 v69 v114 (ix2 i y) = ((DV a q k (d y) N (n + i) : ℝ) : EReal) := by
  pointwise [Gen.k0_pay42, Gen.k0_pay41, Gen.k0_pay40]
  simp only [mask8, select_ite, hkh, hqc, hd, hT, ← EReal.coe_mul, coe_sum, zero_coe, coe_ite, ← EReal.coe_add]
  have h := dv_eq N n a q k (d y) hN i
  simp only [ite_mul, zero_mul] at h
  exact congrArg _ h

theorem p44 (v103 : FVec Ideal S64x256 .bf16) (v105 : FVec Ideal S256x128 .bf16)
    (hd : ∀ (i : Fin 64) x, v103 (ix2 i x) = ((d x (n + i) : ℝ) : EReal))
    (hS : ∀ y x, v105 (ix2 y x) = ((St (a x) (k x) (v y) n : ℝ) : EReal)) (i : Fin 64) (x : Fin 128) :
    k0_pay44 (F := Ideal) v103 v105 (ix2 i x)
      = ((∑ s ∈ range n, Dt d v (n + i) s * (k x s * Real.exp (P (a x) n - P (a x) (s + 1))) : ℝ) : EReal) := by
  pointwise [Gen.k0_pay44]
  simp only [hd, hS, ← EReal.coe_mul, coe_sum, dot_St]

theorem p45 (v44 : FVec Ideal S64x128 .bf16)
    (hkh : ∀ (i : Fin 64) x, v44 (ix2 i x) = ((k x (n + i) * Real.exp (PP (a x) n (n + 64) - PP (a x) n (n + i + 1)) : ℝ) : EReal))
    (v113 : FVec Ideal S64x64 .bf16) (hda : ∀ i j, v113 (ix2 i j) = ((DD n v d i j : ℝ) : EReal)) (i : Fin 64) (x : Fin 128) :
    k0_pay45 (F := Ideal) v44 v113 (ix2 i x)
      = ((∑ j : Fin 64, DD n v d i j * (k x (n + j) * Real.exp (PP (a x) n (n + 64) - PP (a x) n (n + j + 1))) : ℝ) : EReal) := by
  pointwise [Gen.k0_pay45]
  simp only [hkh, hda, ← EReal.coe_mul, coe_sum]

theorem p46 (v34 : Vec Ideal S64x256 .bf16) (hv : ∀ (i : Fin 64) x, v34 (ix2 i x) = ((v x (n + i) : ℝ) : EReal))
    (v45 : FVec Ideal S64x128 .bf16)
    (hqc : ∀ (i : Fin 64) x, v45 (ix2 i x) = ((q x (n + i) * Real.exp (PP (a x) n (n + i + 1)) * Real.exp (-(PP (a x) n (n + 64))) : ℝ) : EReal))
    (v113 : FVec Ideal S64x64 .bf16) (hda : ∀ i j, v113 (ix2 i j) = ((DD n v d i j : ℝ) : EReal))
    (v116 : FVec Ideal S256x128 .bf16) (hT : ∀ y x, v116 (ix2 y x) = ((Tt (a x) (q x) (d y) N (n + 64) : ℝ) : EReal))
    (j : Fin 64) (x : Fin 128) :
    k0_pay46 (F := Ideal) v34 v45 v113 v116 (ix2 j x)
      = (((∑ i : Fin 64, DD n v d i j * (q x (n + i) * Real.exp (PP (a x) n (n + i + 1)) * Real.exp (-(PP (a x) n (n + 64)))))
          + ∑ t ∈ Ico (n + 64) N, Dt d v t (n + j) * (q x t * Real.exp (P (a x) (t + 1) - P (a x) (n + 64))) : ℝ) : EReal) := by
  pointwise [Gen.k0_pay46]
  simp only [hv, hqc, hda, hT, ← EReal.coe_mul, coe_sum, ← EReal.coe_add, dot_Tt]

theorem p47 (v43 : FVec Ideal S64x128 .bf16) (hN : n + 64 ≤ N)
    (hqb : ∀ (i : Fin 64) x, v43 (ix2 i x) = ((q x (n + i) * Real.exp (PP (a x) n (n + i + 1)) : ℝ) : EReal))
    (v103 : FVec Ideal S64x256 .bf16) (hd : ∀ (i : Fin 64) x, v103 (ix2 i x) = ((d x (n + i) : ℝ) : EReal))
    (v115 : FVec Ideal S256x128 .f32) (hT : ∀ y x, v115 (ix2 y x) = ((Tt (a x) (q x) (d y) N (n + 64) : ℝ) : EReal))
    (hgam : ∀ x, gam (ix2 0 x) = ((Real.exp (PP (a x) n (n + 64)) : ℝ) : EReal))
    (z : Fin 1) (y : Fin 256) (x : Fin 128) :
    k0_pay47 (F := Ideal) gam v43 v103 v115 (ix3 z y x) = ((Tt (a x) (q x) (d y) N n : ℝ) : EReal) := by
  pointwise [Gen.k0_pay47]
  simp only [hqb, hd, hT, hgam, ← EReal.coe_mul, coe_sum, ← EReal.coe_add]
  exact congrArg _ (tt_step (C := 64) (a x) (q x) N n (d y) hN)

theorem p48 (v44 : FVec Ideal S64x128 .bf16)
    (hkh : ∀ (i : Fin 64) x, v44 (ix2 i x) = ((k x (n + i) * Real.exp (PP (a x) n (n + 64) - PP (a x) n (n + i + 1)) : ℝ) : EReal))
    (v103 : FVec Ideal S64x256 .bf16) (v105 : FVec Ideal S256x128 .bf16)
    (hd : ∀ (i : Fin 64) x, v103 (ix2 i x) = ((d x (n + i) : ℝ) : EReal))
    (hS : ∀ y x, v105 (ix2 y x) = ((St (a x) (k x) (v y) n : ℝ) : EReal))
    (v113 : FVec Ideal S64x64 .bf16) (hda : ∀ i j, v113 (ix2 i j) = ((DD n v d i j : ℝ) : EReal))
    (heb : ∀ i x, eb (ix2 i x) = ((Real.exp (PP (a x) n (n + (i : Fin 64) + 1)) : ℝ) : EReal))
    (heih : ∀ x, eih (ix2 0 x) = ((Real.exp (-(PP (a x) n (n + 64))) : ℝ) : EReal)) (i : Fin 64) (x : Fin 128) :
    k0_pay48 (F := Ideal) eb eih v44 v103 v105 v113 (ix2 i x) = ((DQ (a x) (k x) (Dt d v) (n + i) * scl : ℝ) : EReal) := by
  pointwise [Gen.k0_pay48]
  simp only [p44 n a k v d v103 v105 hd hS, p45 n a k v d v44 hkh v113 hda, heb, heih, ofBits_scl, ← EReal.coe_mul, ← EReal.coe_add]
  rw [← dq_eq (C := 64) (a x) (k x) (Dt d v) n i _ rfl]
  rfl

theorem p49 (v34 : Vec Ideal S64x256 .bf16) (hv : ∀ (i : Fin 64) x, v34 (ix2 i x) = ((v x (n + i) : ℝ) : EReal))
    (v45 : FVec Ideal S64x128 .bf16) (hN : n + 64 ≤ N)
    (hqc : ∀ (i : Fin 64) x, v45 (ix2 i x) = ((q x (n + i) * Real.exp (PP (a x) n (n + i + 1)) * Real.exp (-(PP (a x) n (n + 64))) : ℝ) : EReal))
    (v113 : FVec Ideal S64x64 .bf16) (hda : ∀ i j, v113 (ix2 i j) = ((DD n v d i j : ℝ) : EReal))
    (v116 : FVec Ideal S256x128 .bf16) (hT : ∀ y x, v116 (ix2 y x) = ((Tt (a x) (q x) (d y) N (n + 64) : ℝ) : EReal))
    (hekl : ∀ i x, ekl (ix2 i x) = ((Real.exp (PP (a x) n (n + 64) - PP (a x) n (n + (i : Fin 64) + 1)) : ℝ) : EReal))
    (j : Fin 64) (x : Fin 128) :
    k0_pay49 (F := Ideal) v34 ekl v45 v113 v116 (ix2 j x) = ((DK (a x) (q x) (Dt d v) N (n + j) : ℝ) : EReal) := by
  pointwise [Gen.k0_pay49]
  simp only [p46 n N a q v d v34 hv v45 hqc v113 hda v116 hT, hekl, ← EReal.coe_mul]
  rw [← dk_eq (C := 64) (a x) (q x) (Dt d v) N n hN j _ rfl]
  rfl

section Pair

variable (v34 : Vec Ideal S64x256 .bf16) (hv : ∀ (i : Fin 64) x, v34 (ix2 i x) = ((v x (n + i) : ℝ) : EReal))
    (v39 v40 v42 : FVec Ideal S64x128 .f32) (v44 v45 : FVec Ideal S64x128 .bf16) (hN : n + 64 ≤ N)
    (h39 : ∀ (i : Fin 64) x, v39 (ix2 i x) = ((q x (n + i) * Real.exp (PP (a x) n (n + i + 1)) : ℝ) : EReal))
    (h40 : ∀ (i : Fin 64) x, v40 (ix2 i x) = ((k x (n + i) * Real.exp (PP (a x) n (n + 64) - PP (a x) n (n + i + 1)) : ℝ) : EReal))
    (h42 : ∀ (i : Fin 64) x, v42 (ix2 i x) = ((q x (n + i) * Real.exp (PP (a x) n (n + i + 1)) * Real.exp (-(PP (a x) n (n + 64))) : ℝ) : EReal))
    (h44 : ∀ (i : Fin 64) x, v44 (ix2 i x) = ((k x (n + i) * Real.exp (PP (a x) n (n + 64) - PP (a x) n (n + i + 1)) : ℝ) : EReal))
    (h45 : ∀ (i : Fin 64) x, v45 (ix2 i x) = ((q x (n + i) * Real.exp (PP (a x) n (n + i + 1)) * Real.exp (-(PP (a x) n (n + 64))) : ℝ) : EReal))
    (v103 : FVec Ideal S64x256 .bf16) (v105 : FVec Ideal S256x128 .bf16)
    (hd : ∀ (i : Fin 64) x, v103 (ix2 i x) = ((d x (n + i) : ℝ) : EReal))
    (hS : ∀ y x, v105 (ix2 y x) = ((St (a x) (k x) (v y) n : ℝ) : EReal))
    (v113 : FVec Ideal S64x64 .bf16) (hda : ∀ i j, v113 (ix2 i j) = ((DD n v d i j : ℝ) : EReal))
    (v116 : FVec Ideal S256x128 .bf16) (hT : ∀ y x, v116 (ix2 y x) = ((Tt (a x) (q x) (d y) N (n + 64) : ℝ) : EReal))

/-- The part of the query's gradient that comes from the rows of its own chunk, times the query. -/
def QQ (i : Fin 64) (x : Fin 128) : ℝ := q x (n + i) * ∑ s ∈ Ico n (n + i + 1), k x s * ex (a x) (n + i) s * Dt d v (n + i) s

include h42 h44 hda in
theorem p50 (i : Fin 64) (x : Fin 128) :
    k0_pay50 (F := Ideal) v42 v44 v113 (ix2 i x) = ((QQ n a q k v d i x : ℝ) : EReal) := by
  pointwise [Gen.k0_pay50]
  simp only [p45 n a k v d v44 h44 v113 hda, h42, ← EReal.coe_mul]
  congr 1
  unfold QQ DD
  rw [show (∑ s ∈ Ico n (n + i + 1), k x s * ex (a x) (n + i) s * Dt d v (n + i) s)
      = ∑ j ∈ range ((i : ℕ) + 1), k x (n + j) * ex (a x) (n + i) (n + j) * Dt d v (n + i) (n + j) by
    rw [range_eq_Ico, sum_Ico_add (fun s => k x s * ex (a x) (n + i) s * Dt d v (n + i) s) 0 (i + 1) n, zero_add, add_comm (i + 1 : ℕ) n, add_assoc],
    ← sum_fin_le (fun j => k x (n + j) * ex (a x) (n + i) (n + j) * Dt d v (n + i) (n + j)), sum_mul, mul_sum]
  refine sum_congr rfl fun j _ => ?_
  split_ifs
  · rw [← ex_local (C := 64)]; unfold PP; ring
  · ring

include hv hN h40 h45 hda hT in
theorem p51 (j : Fin 64) (x : Fin 128) :
    k0_pay51 (F := Ideal) v34 v40 v45 v113 v116 (ix2 j x) = ((k x (n + j) * DK (a x) (q x) (Dt d v) N (n + j) : ℝ) : EReal) := by
  pointwise [Gen.k0_pay51]
  simp only [p46 n N a q v d v34 hv v45 h45 v113 hda v116 hT, h40, ← EReal.coe_mul]
  rw [← dk_eq (C := 64) (a x) (q x) (Dt d v) N n hN j _ rfl]
  congr 1
  unfold PP DD
  ring

include hv hN h39 h40 h42 h44 h45 hda hT hd hS in
theorem p52 (i : Fin 64) (x : Fin 128) :
    k0_pay52 (F := Ideal) v34 v39 v40 v42 v44 v45 v103 v105 v113 v116 (ix2 i x) = ((DB (a x) (q x) (k x) (Dt d v) N (n + i) : ℝ) : EReal) := by
  pointwise [Gen.k0_pay52, Gen.k0_pay50]
  simp only [p51 n N a q k v d v34 hv v40 v45 hN h40 h45 v113 hda v116 hT, p44 n a k v d v103 v105 hd hS, p45 n a k v d v44 h44 v113 hda, h39, h42,
    ← EReal.coe_mul, ← EReal.coe_add, ← EReal.coe_sub]
  unfold DB
  rw [← dq_eq (C := 64) (a x) (k x) (Dt d v) n i _ rfl]
  congr 2
  unfold PP DD
  ring

include hv hN h40 h42 h44 h45 hda hT in
theorem p53 (x : Fin 128) :
    k0_pay53 (F := Ideal) v34 v40 v42 v44 v45 v113 v116 (ix2 0 x)
      = ((∑ j : Fin 64, (k x (n + j) * DK (a x) (q x) (Dt d v) N (n + j) - QQ n a q k v d j x) : ℝ) : EReal) := by
  pointwise [Gen.k0_pay53]
  simp only [p51 n N a q k v d v34 hv v40 v45 hN h40 h45 v113 hda v116 hT, p50 n a q k v d v42 v44 h42 h44 v113 hda, ← EReal.coe_sub, coe_sum]

theorem p54 (gam : FVec Ideal S1x128 .f32) (hgam : ∀ x, gam (ix2 0 x) = ((Real.exp (PP (a x) n (n + 64)) : ℝ) : EReal))
    (v105 : FVec Ideal S256x128 .bf16) (hS : ∀ y x, v105 (ix2 y x) = ((St (a x) (k x) (v y) n : ℝ) : EReal))
    (v115 : FVec Ideal S256x128 .f32) (hT : ∀ y x, v115 (ix2 y x) = ((Tt (a x) (q x) (d y) N (n + 64) : ℝ) : EReal)) (x : Fin 128) :
    k0_pay54 (F := Ideal) gam v105 v115 (ix2 0 x)
      = ((∑ t ∈ Ico (n + 64) N, ∑ s ∈ range n, q x t * k x s * ex (a x) t s * Dt d v t s : ℝ) : EReal) := by
  pointwise [Gen.k0_pay54]
  simp only [hgam, hS, hT, ← EReal.coe_mul, coe_sum]
  exact congrArg _ (dot_St_Tt (a x) (q x) (k x) N n d v (n + 64))

theorem p55 (hN : n + 64 ≤ N) (v154 : FVec Ideal S64x128 .f32) (v157 v158 : FVec Ideal S1x128 .f32)
    (h154 : ∀ (i : Fin 64) x, v154 (ix2 i x) = ((DB (a x) (q x) (k x) (Dt d v) N (n + i) : ℝ) : EReal))
    (h157 : ∀ x, v157 (ix2 0 x) = ((∑ j : Fin 64, (k x (n + j) * DK (a x) (q x) (Dt d v) N (n + j) - QQ n a q k v d j x) : ℝ) : EReal))
    (h158 : ∀ x, v158 (ix2 0 x) = ((∑ t ∈ Ico (n + 64) N, ∑ s ∈ range n, q x t * k x s * ex (a x) t s * Dt d v t s : ℝ) : EReal))
    (i : Fin 64) (x : Fin 128) :
    k0_pay55 (F := Ideal) k0_pay10 v154 v157 v158 (ix2 i x) = ((DLA (a x) (q x) (k x) (Dt d v) N (n + i) : ℝ) : EReal) := by
  pointwise [Gen.k0_pay55]
  simp only [tri10, h154, h157, h158, ← EReal.coe_mul, coe_sum, ← EReal.coe_add, ite_mul, one_mul, zero_mul]
  exact congrArg _ (dla_eq (C := 64) (a x) (q x) (k x) (Dt d v) N n hN i (fun j => QQ n a q k v d j x)
    (fun j => k x (n + j) * DK (a x) (q x) (Dt d v) N (n + j)) (fun j => DB (a x) (q x) (k x) (Dt d v) N (n + j)) _
    (fun _ => rfl) (fun _ => rfl) (fun _ => rfl) rfl)

end Pair

end Head

end Gla

end
-- ==== Proof.Row.lean ====
module

public import proofs.«01_k».proof.Proof.Tile

/-!
What the values of one row and one head are: the gate, the norm, and their gradients.
-/

@[expose] public section

set_option maxRecDepth 16384

noncomputable section

namespace Gla

open Idealize.ShloMosaic Cert.KernelIdeal Cert.KernelIdeal.Gen Finset

/-- The logistic function. -/
def sg (x : ℝ) : ℝ := 1 / (1 + Real.exp (-x))

/-- The mean square of a row, with epsilon. -/
def ms (o : Fin 256 → ℝ) : ℝ := (∑ x, o x * o x) / 256 + eps

/-- The reciprocal of the norm of a row. -/
def rr (o : Fin 256 → ℝ) : ℝ := (Real.sqrt (ms o))⁻¹

/-- The row after the norm. -/
def nn (o : Fin 256 → ℝ) (x : Fin 256) : ℝ := o x * rr o

/-- The gradient of the row after norm and gain, from that of the output. -/
def donv (y r : ℝ) : ℝ := y * (r * sg r)

/-- The gradient of the attention's output. -/
def dov (o y r g : Fin 256 → ℝ) (x : Fin 256) : ℝ :=
  rr o * (donv (y x) (r x) * g x - nn o x * ((∑ w, donv (y w) (r w) * g w * nn o w) / 256))

/-- The gradient of the gate's argument. -/
def drv (o y r g : Fin 256 → ℝ) (x : Fin 256) : ℝ :=
  y x * nn o x * g x * (sg (r x) * (1 + r x * (1 - sg (r x))))

theorem ms_pos (o : Fin 256 → ℝ) : 0 < ms o := by
  unfold ms
  have h : 0 ≤ ∑ x, o x * o x := sum_nonneg fun x _ => mul_self_nonneg _
  have := eps_pos
  positivity

theorem sg_den (x : ℝ) : (1 : ℝ) + Real.exp (-x) ≠ 0 := by positivity

section Rows

variable (O Y R : Fin 64 → Fin 256 → ℝ) (G : Fin 256 → ℝ)

theorem p28 (v46 : Vec Ideal S64x256 .f32) (h : ∀ i x, v46 (ix2 i x) = ((O i x : ℝ) : EReal)) (i : Fin 64) (x : Fin 256) :
    k0_pay28 (F := Ideal) v46 (ix2 i x) = ((O i x : ℝ) : EReal) := by
  pointwise [Gen.k0_pay28]
  exact h i x

theorem p29 (v48 : Vec Ideal S64x256 .bf16) (h : ∀ i x, v48 (ix2 i x) = ((R i x : ℝ) : EReal)) (i : Fin 64) (x : Fin 256) :
    k0_pay29 (F := Ideal) v48 (ix2 i x) = ((R i x : ℝ) : EReal) := by
  pointwise [Gen.k0_pay29]
  exact h i x

theorem p30 (v50 : Vec Ideal S64x256 .bf16) (h : ∀ i x, v50 (ix2 i x) = ((Y i x : ℝ) : EReal)) (i : Fin 64) (x : Fin 256) :
    k0_pay30 (F := Ideal) v50 (ix2 i x) = ((Y i x : ℝ) : EReal) := by
  pointwise [Gen.k0_pay30]
  exact h i x

theorem p31 (v48 : Vec Ideal S64x256 .bf16) (h : ∀ i x, v48 (ix2 i x) = ((R i x : ℝ) : EReal)) (i : Fin 64) (x : Fin 256) :
    k0_pay31 (F := Ideal) v48 (ix2 i x) = ((sg (R i x) : ℝ) : EReal) := by
  pointwise [Gen.k0_pay31]
  rw [p29 R v48 h]
  simp only [zero_sub, ← EReal.coe_neg, Ideal.exp_coe, one_coe, ← EReal.coe_add, div_coe' (sg_den _)]
  rfl

theorem p32 (v46 : Vec Ideal S64x256 .f32) (h : ∀ i x, v46 (ix2 i x) = ((O i x : ℝ) : EReal)) (i : Fin 64) :
    k0_pay32 (F := Ideal) v46 (ix2 i 0) = ((rr (O i) : ℝ) : EReal) := by
  pointwise [Gen.k0_pay32]
  simp only [p28 O v46 h, ← EReal.coe_mul, coe_sum, ofBits_256, ofBits_eps]
  rw [div_coe' (by norm_num), ← EReal.coe_add]
  exact rsqrt_pos (ms_pos (O i))

theorem p33 (v46 : Vec Ideal S64x256 .f32) (h : ∀ i x, v46 (ix2 i x) = ((O i x : ℝ) : EReal)) (i : Fin 64) (x : Fin 256) :
    k0_pay33 (F := Ideal) v46 (ix2 i x) = ((nn (O i) x : ℝ) : EReal) := by
  pointwise [Gen.k0_pay33]
  rw [p28 O v46 h, p32 O v46 h, ← EReal.coe_mul]; rfl

theorem p34 (v46 : Vec Ideal S64x256 .f32) (h46 : ∀ i x, v46 (ix2 i x) = ((O i x : ℝ) : EReal))
    (v48 : Vec Ideal S64x256 .bf16) (h48 : ∀ i x, v48 (ix2 i x) = ((R i x : ℝ) : EReal))
    (v50 : Vec Ideal S64x256 .bf16) (h50 : ∀ i x, v50 (ix2 i x) = ((Y i x : ℝ) : EReal))
    (v69 : Vec Ideal S1x256 .f32) (h69 : ∀ x, v69 (ix2 0 x) = ((G x : ℝ) : EReal)) (i : Fin 64) (x : Fin 256) :
    k0_pay34 (F := Ideal) v46 v48 v50 v69 (ix2 i x) = ((drv (O i) (Y i) (R i) G x : ℝ) : EReal) := by
  pointwise [Gen.k0_pay34]
  simp only [p33 O v46 h46, p30 Y v50 h50, p29 R v48 h48, p31 R v48 h48, h69, one_coe, ← EReal.coe_mul, ← EReal.coe_add, ← EReal.coe_sub]
  rfl

variable (v49 v51 v58 : FVec Ideal S64x256 .f32) (h49 : ∀ i x, v49 (ix2 i x) = ((R i x : ℝ) : EReal))
  (h51 : ∀ i x, v51 (ix2 i x) = ((Y i x : ℝ) : EReal)) (h58 : ∀ i x, v58 (ix2 i x) = ((sg (R i x) : ℝ) : EReal))
include h49 h51 h58

theorem p35 (i : Fin 64) (x : Fin 256) :
    k0_pay35 (F := Ideal) v49 v51 v58 (ix2 i x) = ((donv (Y i x) (R i x) : ℝ) : EReal) := by
  pointwise [Gen.k0_pay35]
  simp only [h49, h51, h58, ← EReal.coe_mul]
  rfl

theorem p36 (v68 : FVec Ideal S64x256 .f32) (h68 : ∀ i x, v68 (ix2 i x) = ((nn (O i) x : ℝ) : EReal))
    (v84 : Vec Ideal S1x256 .f32) (x : Fin 256) (B : ℝ) (hB : v84 (ix2 0 x) = ((B : ℝ) : EReal)) :
    k0_pay36 (F := Ideal) v49 v51 v58 v68 v84 (ix2 0 x) = ((B + ∑ i, donv (Y i x) (R i x) * nn (O i) x : ℝ) : EReal) := by
  pointwise [Gen.k0_pay36]
  simp only [p35 Y R v49 v51 v58 h49 h51 h58, h68, hB, ← EReal.coe_mul, coe_sum, ← EReal.coe_add]

theorem p37 (v66 : FVec Ideal S64x1 .f32) (h66 : ∀ i, v66 (ix2 i 0) = ((rr (O i) : ℝ) : EReal))
    (v68 : FVec Ideal S64x256 .f32) (h68 : ∀ i x, v68 (ix2 i x) = ((nn (O i) x : ℝ) : EReal))
    (v69 : Vec Ideal S1x256 .f32) (h69 : ∀ x, v69 (ix2 0 x) = ((G x : ℝ) : EReal)) (i : Fin 64) (x : Fin 256) :
    k0_pay37 (F := Ideal) v49 v51 v58 v66 v68 v69 (ix2 i x) = ((dov (O i) (Y i) (R i) G x : ℝ) : EReal) := by
  pointwise [Gen.k0_pay37]
  simp only [p35 Y R v49 v51 v58 h49 h51 h58, h66, h68, h69, ← EReal.coe_mul, coe_sum, ofBits_256, div_coe' (show (256 : ℝ) ≠ 0 by norm_num),
    ← EReal.coe_sub]
  rfl

end Rows

end Gla

end
-- ==== Proof.Head.lean ====
module

public import proofs.«01_k».proof.Proof.Row

/-!
One chunk of 64 rows of one head: what the kernel computes from its tiles, and what the numbers are.
-/

@[expose] public section

set_option maxRecDepth 16384

noncomputable section

namespace Gla

open Idealize.ShloMosaic Cert.KernelIdeal Cert.KernelIdeal.Gen Finset

/-- The tiles that one chunk of one head reads. -/
structure Tl where
  eb : FVec Ideal S64x128 .f32
  ekl : FVec Ideal S64x128 .f32
  eih : FVec Ideal S1x128 .f32
  gam : FVec Ideal S1x128 .f32
  q : Vec Ideal S64x128 .bf16
  k : Vec Ideal S64x128 .bf16
  v : Vec Ideal S64x256 .bf16
  o : Vec Ideal S64x256 .f32
  r : Vec Ideal S64x256 .bf16
  y : Vec Ideal S64x256 .bf16
  g : Vec Ideal S1x256 .f32
  st : Vec Ideal S1x1x256x128 .bf16
  dst : Vec Ideal S1x256x128 .f32

namespace Tl

variable (X : Tl)

def qb := tQb X.q X.eb
def kf := k0_pay17 (F := Ideal) X.k
def khf := k0_pay23 (F := Ideal) X.kf X.ekl
def qcf := k0_pay24 (F := Ideal) X.eih X.qb
def qbt := k0_pay25 (F := Ideal) X.qb
def kh := k0_pay26 (F := Ideal) X.kf X.ekl
def qc := k0_pay27 (F := Ideal) X.eih X.qb
def rf := k0_pay29 (F := Ideal) X.r
def yf := k0_pay30 (F := Ideal) X.y
def sf := k0_pay31 (F := Ideal) X.r
def mf := k0_pay32 (F := Ideal) X.o
def nf := k0_pay33 (F := Ideal) X.o
def dr := k0_pay34 (F := Ideal) X.o X.r X.y X.g
def dg (old : Vec Ideal S1x256 .f32) := k0_pay36 (F := Ideal) X.rf X.yf X.sf X.nf old
def dd := k0_pay37 (F := Ideal) X.rf X.yf X.sf X.mf X.nf X.g
def sth := k0_pay38 (F := Ideal) X.st
def da := k0_pay39 (F := Ideal) k0_pay8 X.v X.rf X.yf X.sf X.mf X.nf X.g
def t40 := k0_pay40 (F := Ideal) X.dst
def t41 := k0_pay41 (F := Ideal) X.dst
def dv := k0_pay43 (F := Ideal) (k0_pay42 k0_pay8 X.kh X.qc X.rf X.yf X.sf X.mf X.nf X.g X.dst)
def dq := k0_pay48 (F := Ideal) X.eb X.eih X.kh X.dd X.sth X.da
def dk := k0_pay49 (F := Ideal) X.v X.ekl X.qc X.da X.t41
def nxt := k0_pay47 (F := Ideal) X.gam X.qbt X.dd X.t40
def dla := k0_pay55 (F := Ideal) k0_pay10
  (k0_pay52 X.v X.qb X.khf X.qcf X.kh X.qc X.dd X.sth X.da X.t41)
  (k0_pay53 X.v X.khf X.qcf X.kh X.qc X.da X.t41) (k0_pay54 X.gam X.sth X.t40)

end Tl

/-- The gradient of the attention's output at row `t`. -/
def dO (o y r : Fin 256 → ℕ → ℝ) (g : Fin 256 → ℝ) (w : Fin 256) (t : ℕ) : ℝ :=
  dov (fun z => o z t) (fun z => y z t) (fun z => r z t) g w

/-- The query times its scale. -/
def sq (q : Fin 128 → ℕ → ℝ) (x : Fin 128) (t : ℕ) : ℝ := q x t * scl

/-- The tiles hold the rows from `n` on of real arrays. -/
structure Ok (X : Tl) (n N : ℕ) (a q k : Fin 128 → ℕ → ℝ) (v o y r : Fin 256 → ℕ → ℝ) (g : Fin 256 → ℝ) : Prop where
  hN : n + 64 ≤ N
  eb : ∀ (i : Fin 64) x, X.eb (ix2 i x) = ((Real.exp (PP (a x) n (n + i + 1)) : ℝ) : EReal)
  ekl : ∀ (i : Fin 64) x, X.ekl (ix2 i x) = ((Real.exp (PP (a x) n (n + 64) - PP (a x) n (n + i + 1)) : ℝ) : EReal)
  eih : ∀ x, X.eih (ix2 0 x) = ((Real.exp (-(PP (a x) n (n + 64))) : ℝ) : EReal)
  gam : ∀ x, X.gam (ix2 0 x) = ((Real.exp (PP (a x) n (n + 64)) : ℝ) : EReal)
  hq : ∀ (i : Fin 64) x, X.q (ix2 i x) = ((q x (n + i) : ℝ) : EReal)
  hk : ∀ (i : Fin 64) x, X.k (ix2 i x) = ((k x (n + i) : ℝ) : EReal)
  hv : ∀ (i : Fin 64) x, X.v (ix2 i x) = ((v x (n + i) : ℝ) : EReal)
  ho : ∀ (i : Fin 64) x, X.o (ix2 i x) = ((o x (n + i) : ℝ) : EReal)
  hr : ∀ (i : Fin 64) x, X.r (ix2 i x) = ((r x (n + i) : ℝ) : EReal)
  hy : ∀ (i : Fin 64) x, X.y (ix2 i x) = ((y x (n + i) : ℝ) : EReal)
  hg : ∀ x, X.g (ix2 0 x) = ((g x : ℝ) : EReal)
  st : ∀ y x, X.st (ix4 0 0 y x) = ((St (a x) (k x) (v y) n : ℝ) : EReal)
  dst : ∀ z x, X.dst (ix3 0 z x) = ((Tt (a x) (sq q x) (dO o y r g z) N (n + 64) : ℝ) : EReal)

namespace Ok

variable {X : Tl} {n N : ℕ} {a q k : Fin 128 → ℕ → ℝ} {v o y r : Fin 256 → ℕ → ℝ} {g : Fin 256 → ℝ}
variable (H : Ok X n N a q k v o y r g)
include H

theorem qb (i : Fin 64) (x : Fin 128) : X.qb (ix2 i x) = ((sq q x (n + i) * Real.exp (PP (a x) n (n + i + 1)) : ℝ) : EReal) :=
  pQb n a X.eb H.eb X.q q H.hq i x

theorem kf (i : Fin 64) (x : Fin 128) : X.kf (ix2 i x) = ((k x (n + i) : ℝ) : EReal) := by
  pointwise [Tl.kf, Gen.k0_pay17]
  exact H.hk i x

theorem khf (i : Fin 64) (x : Fin 128) :
    X.khf (ix2 i x) = ((k x (n + i) * Real.exp (PP (a x) n (n + 64) - PP (a x) n (n + i + 1)) : ℝ) : EReal) :=
  p23 n a k X.ekl H.ekl X.kf H.kf i x

theorem qcf (i : Fin 64) (x : Fin 128) :
    X.qcf (ix2 i x) = ((sq q x (n + i) * Real.exp (PP (a x) n (n + i + 1)) * Real.exp (-(PP (a x) n (n + 64))) : ℝ) : EReal) :=
  p24 n a (sq q) X.eih H.eih X.qb H.qb i x

theorem qbt (i : Fin 64) (x : Fin 128) : X.qbt (ix2 i x) = ((sq q x (n + i) * Real.exp (PP (a x) n (n + i + 1)) : ℝ) : EReal) := by
  pointwise [Tl.qbt, Gen.k0_pay25]
  exact H.qb i x

theorem kh (i : Fin 64) (x : Fin 128) :
    X.kh (ix2 i x) = ((k x (n + i) * Real.exp (PP (a x) n (n + 64) - PP (a x) n (n + i + 1)) : ℝ) : EReal) := by
  pointwise [Tl.kh, Gen.k0_pay26]
  exact H.khf i x

theorem qc (i : Fin 64) (x : Fin 128) :
    X.qc (ix2 i x) = ((sq q x (n + i) * Real.exp (PP (a x) n (n + i + 1)) * Real.exp (-(PP (a x) n (n + 64))) : ℝ) : EReal) := by
  pointwise [Tl.qc, Gen.k0_pay27]
  exact H.qcf i x

theorem rf (i : Fin 64) (x : Fin 256) : X.rf (ix2 i x) = ((r x (n + i) : ℝ) : EReal) := p29 (fun i x => r x (n + i)) X.r H.hr i x
theorem yf (i : Fin 64) (x : Fin 256) : X.yf (ix2 i x) = ((y x (n + i) : ℝ) : EReal) := p30 (fun i x => y x (n + i)) X.y H.hy i x
theorem sf (i : Fin 64) (x : Fin 256) : X.sf (ix2 i x) = ((sg (r x (n + i)) : ℝ) : EReal) := p31 (fun i x => r x (n + i)) X.r H.hr i x
theorem mf (i : Fin 64) : X.mf (ix2 i 0) = ((rr (fun z => o z (n + i)) : ℝ) : EReal) := p32 (fun i x => o x (n + i)) X.o H.ho i
theorem nf (i : Fin 64) (x : Fin 256) : X.nf (ix2 i x) = ((nn (fun z => o z (n + i)) x : ℝ) : EReal) := p33 (fun i x => o x (n + i)) X.o H.ho i x

theorem dr (i : Fin 64) (x : Fin 256) :
    X.dr (ix2 i x) = ((drv (fun z => o z (n + i)) (fun z => y z (n + i)) (fun z => r z (n + i)) g x : ℝ) : EReal) :=
  p34 (fun i x => o x (n + i)) (fun i x => y x (n + i)) (fun i x => r x (n + i)) g X.o H.ho X.r H.hr X.y H.hy X.g H.hg i x

theorem dg (old : Vec Ideal S1x256 .f32) (x : Fin 256) (B : ℝ) (hB : old (ix2 0 x) = ((B : ℝ) : EReal)) :
    X.dg old (ix2 0 x) = ((B + ∑ i : Fin 64, donv (y x (n + i)) (r x (n + i)) * nn (fun z => o z (n + i)) x : ℝ) : EReal) :=
  p36 (fun i x => o x (n + i)) (fun i x => y x (n + i)) (fun i x => r x (n + i)) X.rf X.yf X.sf H.rf H.yf H.sf X.nf H.nf old x B hB

theorem dd (i : Fin 64) (x : Fin 256) : X.dd (ix2 i x) = ((dO o y r g x (n + i) : ℝ) : EReal) :=
  p37 (fun i x => o x (n + i)) (fun i x => y x (n + i)) (fun i x => r x (n + i)) g X.rf X.yf X.sf H.rf H.yf H.sf X.mf H.mf X.nf H.nf X.g H.hg i x

theorem sth (z : Fin 256) (x : Fin 128) : X.sth (ix2 z x) = ((St (a x) (k x) (v z) n : ℝ) : EReal) := by
  pointwise [Tl.sth, Gen.k0_pay38]
  exact H.st z x

theorem da (i j : Fin 64) : X.da (ix2 i j) = ((DD n v (dO o y r g) i j : ℝ) : EReal) :=
  p39 n v (dO o y r g) X.v H.hv X.rf X.yf X.sf X.mf X.nf X.g H.dd i j

theorem t40 (z : Fin 256) (x : Fin 128) : X.t40 (ix2 z x) = ((Tt (a x) (sq q x) (dO o y r g z) N (n + 64) : ℝ) : EReal) := by
  pointwise [Tl.t40, Gen.k0_pay40]
  exact H.dst z x

theorem t41 (z : Fin 256) (x : Fin 128) : X.t41 (ix2 z x) = ((Tt (a x) (sq q x) (dO o y r g z) N (n + 64) : ℝ) : EReal) := by
  pointwise [Tl.t41, Gen.k0_pay41]
  exact H.t40 z x

theorem dv (i : Fin 64) (x : Fin 256) : X.dv (ix2 i x) = ((DV a (sq q) k (dO o y r g x) N (n + i) : ℝ) : EReal) := by
  pointwise [Tl.dv, Gen.k0_pay43]
  exact p42 n N a (sq q) k (dO o y r g) X.kh X.qc H.kh H.qc X.rf X.yf X.sf X.mf X.nf X.g H.dd X.dst H.hN H.dst i x

theorem dq (i : Fin 64) (x : Fin 128) : X.dq (ix2 i x) = ((DQ (a x) (k x) (Dt (dO o y r g) v) (n + i) * scl : ℝ) : EReal) :=
  p48 n a k v (dO o y r g) X.eb X.eih X.kh H.kh X.dd X.sth H.dd H.sth X.da H.da H.eb H.eih i x

theorem dk (i : Fin 64) (x : Fin 128) : X.dk (ix2 i x) = ((DK (a x) (sq q x) (Dt (dO o y r g) v) N (n + i) : ℝ) : EReal) :=
  p49 n N a (sq q) v (dO o y r g) X.ekl X.v H.hv X.qc H.hN H.qc X.da H.da X.t41 H.t41 H.ekl i x

theorem nxt (z : Fin 256) (x : Fin 128) : X.nxt (ix3 0 z x) = ((Tt (a x) (sq q x) (dO o y r g z) N n : ℝ) : EReal) :=
  p47 n N a (sq q) (dO o y r g) X.gam X.qbt H.hN H.qbt X.dd H.dd X.t40 H.t40 H.gam 0 z x

theorem dla (i : Fin 64) (x : Fin 128) : X.dla (ix2 i x) = ((DLA (a x) (sq q x) (k x) (Dt (dO o y r g) v) N (n + i) : ℝ) : EReal) :=
  p55 n N a (sq q) k v (dO o y r g) H.hN _ _ _
    (p52 n N a (sq q) k v (dO o y r g) X.v H.hv X.qb X.khf X.qcf X.kh X.qc H.hN H.qb H.khf H.qcf H.kh H.qc X.dd X.sth H.dd H.sth X.da H.da X.t41 H.t41)
    (p53 n N a (sq q) k v (dO o y r g) X.v H.hv X.khf X.qcf X.kh X.qc H.hN H.khf H.qcf H.kh H.qc X.da H.da X.t41 H.t41)
    (p54 n N a (sq q) k v (dO o y r g) X.gam H.gam X.sth H.sth X.t40 H.t40) i x

end Ok

end Gla

end
-- ==== Proof.Blk.lean ====
module

public import proofs.«01_k».proof.Proof.Head

/-!
The blocks that one grid point reads, the tiles of one chunk and one head in them, and the carried gradient of the state.
-/

@[expose] public section

set_option maxRecDepth 16384

noncomputable section

namespace Gla

open Idealize.ShloMosaic Cert.KernelIdeal Cert.KernelIdeal.Gen Finset

/-- The blocks of one grid point that the chunks read. -/
structure Blk where
  x0 : Vec Ideal S256x1024 .bf16
  x1 : Vec Ideal S256x1024 .bf16
  x2 : Vec Ideal S256x1024 .bf16
  x3 : Vec Ideal S256x512 .f32
  x7 : Vec Ideal S1x1024 .f32
  x8 : Vec Ideal S256x1024 .f32
  x9 : Vec Ideal S4x4x256x128 .bf16
  x10 : Vec Ideal S256x1024 .bf16

theorem inb2 {s0 s1 a0 a1 o0 o1 : ℕ} (h0 : o0 + a0 ≤ s0) (h1 : o1 + a1 ≤ s1) :
    ∀ i : Fin 2, (![o0, o1] : Fin 2 → ℕ) i + (![a0, a1] : Fin 2 → ℕ) i ≤ (![s0, s1] : Fin 2 → ℕ) i := by
  intro i; fin_cases i
  · exact h0
  · exact h1

/-- The log decays of chunk `c`. -/
def laOf (B : Blk) (c : Fin 4) : Vec Ideal S64x512 .f32 :=
  View.ld B.x3 (Rect.unit (s := S256x512) ![64 * (c : ℕ), 0] S64x512.size (inb2 (by omega) (by omega)))

/-- The tiles of chunk `c` and head `h`. -/
def tileOf (B : Blk) (c h : Fin 4) (dst : Vec Ideal S1x256x128 .f32) : Tl where
  eb := extractStridedSlice S64x128 ![0, 128 * (h : ℕ)] (k0_pay13 (F := Ideal) (laOf B c)) (by revert h; decide)
  ekl := extractStridedSlice S64x128 ![0, 128 * (h : ℕ)] (k0_pay14 (F := Ideal) (laOf B c)) (by revert h; decide)
  eih := extractStridedSlice S1x128 ![0, 128 * (h : ℕ)] (k0_pay15 (F := Ideal) (laOf B c)) (by revert h; decide)
  gam := extractStridedSlice S1x128 ![0, 128 * (h : ℕ)] (k0_pay16 (F := Ideal) (laOf B c)) (by revert h; decide)
  q := View.ld B.x0 (Rect.unit (s := S256x1024) ![64 * (c : ℕ), 128 * (h : ℕ)] S64x128.size (inb2 (by omega) (by omega)))
  k := View.ld B.x0 (Rect.unit (s := S256x1024) ![64 * (c : ℕ), 512 + 128 * (h : ℕ)] S64x128.size (inb2 (by omega) (by omega)))
  v := View.ld B.x1 (Rect.unit (s := S256x1024) ![64 * (c : ℕ), 256 * (h : ℕ)] S64x256.size (inb2 (by omega) (by omega)))
  o := View.ld B.x8 (Rect.unit (s := S256x1024) ![64 * (c : ℕ), 256 * (h : ℕ)] S64x256.size (inb2 (by omega) (by omega)))
  r := View.ld B.x2 (Rect.unit (s := S256x1024) ![64 * (c : ℕ), 256 * (h : ℕ)] S64x256.size (inb2 (by omega) (by omega)))
  y := View.ld B.x10 (Rect.unit (s := S256x1024) ![64 * (c : ℕ), 256 * (h : ℕ)] S64x256.size (inb2 (by omega) (by omega)))
  g := View.ld B.x7 (Rect.unit (s := S1x1024) ![0, 256 * (h : ℕ)] S1x256.size (inb2 (by omega) (by omega)))
  st := View.ld B.x9 (Rect.unit (s := S4x4x256x128) ![(c : ℕ), (h : ℕ), 0, 0] S1x1x256x128.size (by revert c h; decide))
  dst := dst

/-- The head's part of the carried gradient of the state. -/
def dst0 (xs : Vec Ideal S4x256x128 .f32) (h : Fin 4) : Vec Ideal S1x256x128 .f32 :=
  View.ld xs (Rect.unit (s := S4x256x128) ![(h : ℕ), 0, 0] S1x256x128.size (by revert h; decide))

/-- The gradient of the state after `s` chunks, from the last. -/
def dstN (B : Blk) (xs : Vec Ideal S4x256x128 .f32) (h : Fin 4) : ℕ → Vec Ideal S1x256x128 .f32
  | 0 => dst0 xs h
  | s + 1 => (tileOf B (Fin.ofNat 4 (3 - s)) h (dstN B xs h s)).nxt

/-- The tiles of chunk `c` and head `h`, with the gradient of the state that has reached it. -/
def tl (B : Blk) (xs : Vec Ideal S4x256x128 .f32) (c h : Fin 4) : Tl := tileOf B c h (dstN B xs h (3 - c))

/-- The head's part of the gradient of the gain after `s` chunks, from the last. -/
def dgN (B : Blk) (xs : Vec Ideal S4x256x128 .f32) (xo : Vec Ideal S1x1024 .f32) (h : Fin 4) : ℕ → Vec Ideal S1x256 .f32
  | 0 => View.ld xo (Rect.unit (s := S1x1024) ![0, 256 * (h : ℕ)] S1x256.size (inb2 (by omega) (by omega)))
  | s + 1 => (tl B xs (Fin.ofNat 4 (3 - s)) h).dg (dgN B xs xo h s)

section

variable (arg1 : Memref sig .tc .vmem S256x1024 .bf16) (harg1 : arg1.IsWhole) (arg2 : Memref sig .tc .vmem S256x1024 .bf16) (harg2 : arg2.IsWhole)
  (arg3 : Memref sig .tc .vmem S256x1024 .bf16) (harg3 : arg3.IsWhole) (arg4 : Memref sig .tc .vmem S256x512 .f32) (harg4 : arg4.IsWhole)
  (arg8 : Memref sig .tc .vmem S1x1024 .f32) (harg8 : arg8.IsWhole) (arg9 : Memref sig .tc .vmem S256x1024 .f32) (harg9 : arg9.IsWhole)
  (arg10 : Memref sig .tc .vmem S4x4x256x128 .bf16) (harg10 : arg10.IsWhole) (arg11 : Memref sig .tc .vmem S256x1024 .bf16) (harg11 : arg11.IsWhole)
  (x0 : Vec Ideal S256x1024 .bf16) (x1 : Vec Ideal S256x1024 .bf16) (x2 : Vec Ideal S256x1024 .bf16) (x3 : Vec Ideal S256x512 .f32)
  (x7 : Vec Ideal S1x1024 .f32) (x8 : Vec Ideal S256x1024 .f32) (x9 : Vec Ideal S4x4x256x128 .bf16) (x10 : Vec Ideal S256x1024 .bf16)

/-- The blocks, read back from the buffers that hold them. -/
def mb : Blk where
  x0 := arg1.view.read (Elt Ideal) (harg1.unread x0)
  x1 := arg2.view.read (Elt Ideal) (harg2.unread x1)
  x2 := arg3.view.read (Elt Ideal) (harg3.unread x2)
  x3 := arg4.view.read (Elt Ideal) (harg4.unread x3)
  x7 := arg8.view.read (Elt Ideal) (harg8.unread x7)
  x8 := arg9.view.read (Elt Ideal) (harg9.unread x8)
  x9 := arg10.view.read (Elt Ideal) (harg10.unread x9)
  x10 := arg11.view.read (Elt Ideal) (harg11.unread x10)

theorem mb_eq : mb arg1 harg1 arg2 harg2 arg3 harg3 arg4 harg4 arg8 harg8 arg9 harg9 arg10 harg10 arg11 harg11 x0 x1 x2 x3 x7 x8 x9 x10
    = ⟨x0, x1, x2, x3, x7, x8, x9, x10⟩ := by
  unfold mb
  simp only [Memref.IsWhole.read_unread]

end

end Gla

end
-- ==== Proof.WordsA.lean ====
module

public import proofs.«01_k».proof.Proof.Blk
public import Idealize.ShloMosaic.Lib.Pipeline.ReadBack
public import proofs.«01_k».proof.Proof.Gen.KernelIdeal.Frame.RunA

/-!
The words of one grid point, chunk by chunk and head by head: case A. The carried gradients of the state and of the gain, as each read finds them.
-/

@[expose] public section

set_option maxRecDepth 16384

noncomputable section

namespace Gla

open Idealize.ShloMosaic Cert.KernelIdeal Cert.KernelIdeal.Gen

variable {c : Dev nD} {i : grid0.Coords} {arg1 : Memref sig .tc .vmem S256x1024 .bf16} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S256x512 .f32} {harg4 : arg4.IsWhole} {arg5 : Memref sig .tc .vmem S256x128 .f32} {harg5 : arg5.IsWhole} {arg6 : Memref sig .tc .vmem S128x512 .f32} {harg6 : arg6.IsWhole} {arg7 : Memref sig .tc .vmem S1x512 .f32} {harg7 : arg7.IsWhole} {arg8 : Memref sig .tc .vmem S1x1024 .f32} {harg8 : arg8.IsWhole} {arg9 : Memref sig .tc .vmem S256x1024 .f32} {harg9 : arg9.IsWhole} {arg10 : Memref sig .tc .vmem S4x4x256x128 .bf16} {harg10 : arg10.IsWhole} {arg11 : Memref sig .tc .vmem S256x1024 .bf16} {harg11 : arg11.IsWhole} {arg13 : Memref sig .tc .vmem S256x4096 .bf16} {harg13 : arg13.IsWhole} {arg14 : Memref sig .tc .vmem S256x512 .bf16} {harg14 : arg14.IsWhole} {arg15 : Memref sig .tc .vmem S1x1024 .f32} {harg15 : arg15.IsWhole} {arg16 : Memref sig .tc .vmem S1x512 .f32} {harg16 : arg16.IsWhole} {arg17 : Memref sig .tc .vmem S4x256x128 .f32} {harg17 : arg17.IsWhole} {arg18 : Memref sig .tc .vmem S256x512 .f32} {harg18 : arg18.IsWhole}  {x0 : Vec Ideal S256x1024 .bf16} {x1 : Vec Ideal S256x1024 .bf16} {x2 : Vec Ideal S256x1024 .bf16} {x3 : Vec Ideal S256x512 .f32} {x4 : Vec Ideal S256x128 .f32} {x5 : Vec Ideal S128x512 .f32} {x6 : Vec Ideal S1x512 .f32} {x7 : Vec Ideal S1x1024 .f32} {x8 : Vec Ideal S256x1024 .f32} {x9 : Vec Ideal S4x4x256x128 .bf16} {x10 : Vec Ideal S256x1024 .bf16}

theorem A_nxt_3_0 :
    k0_pay47 (F := Ideal) (kernelRun0_A.sl.r_9 (F := Ideal) c arg4 harg4 x3) (kernelRun0_A.sl.r_13 (F := Ideal) c arg1 harg1 arg4 harg4 x0 x3) (kernelRun0_A.sl.r_23 (F := Ideal) c arg3 harg3 arg8 harg8 arg9 harg9 arg11 harg11 x2 x7 x8 x10) (kernelRun0_A.sl.r_26 (F := Ideal) c arg17)
      = (tileOf (mb arg1 harg1 arg2 harg2 arg3 harg3 arg4 harg4 arg8 harg8 arg9 harg9 arg10 harg10 arg11 harg11 x0 x1 x2 x3 x7 x8 x9 x10) 3 0 (kernelRun0_A.sl.v114 (F := Ideal) c arg17)).nxt := by
  sl_kernel_rfl

theorem A_dg_3_0 (dst : Vec Ideal S1x256x128 .f32) :
    k0_pay36 (F := Ideal) (kernelRun0_A.sl.r_16 (F := Ideal) c arg3 harg3 x2) (kernelRun0_A.sl.r_17 (F := Ideal) c arg11 harg11 x10) (kernelRun0_A.sl.r_18 (F := Ideal) c arg3 harg3 x2) (kernelRun0_A.sl.r_20 (F := Ideal) c arg9 harg9 x8) (kernelRun0_A.sl.v84 (F := Ideal) c arg15)
      = (tileOf (mb arg1 harg1 arg2 harg2 arg3 harg3 arg4 harg4 arg8 harg8 arg9 harg9 arg10 harg10 arg11 harg11 x0 x1 x2 x3 x7 x8 x9 x10) 3 0 dst).dg (kernelRun0_A.sl.v84 (F := Ideal) c arg15) := by
  sl_kernel_rfl

theorem A_nxt_3_1 :
    kernelRun0_A.sl.r_53 (F := Ideal) c arg1 harg1 arg3 harg3 arg4 harg4 arg8 harg8 arg9 harg9 arg11 harg11 arg17 x0 x2 x3 x7 x8 x10
      = (tileOf (mb arg1 harg1 arg2 harg2 arg3 harg3 arg4 harg4 arg8 harg8 arg9 harg9 arg10 harg10 arg11 harg11 x0 x1 x2 x3 x7 x8 x9 x10) 3 1 (kernelRun0_A.sl.v252 (F := Ideal) c arg1 harg1 arg3 harg3 arg4 harg4 arg8 harg8 arg9 harg9 arg11 harg11 arg17 x0 x2 x3 x7 x8 x10)).nxt := by
  sl_kernel_rfl

theorem A_dg_3_1 (dst : Vec Ideal S1x256x128 .f32) :
    k0_pay75 (F := Ideal) (kernelRun0_A.sl.r_43 (F := Ideal) c arg9 harg9 x8) (kernelRun0_A.sl.r_44 (F := Ideal) c arg3 harg3 x2) (kernelRun0_A.sl.r_45 (F := Ideal) c arg11 harg11 x10) (kernelRun0_A.sl.r_46 (F := Ideal) c arg3 harg3 x2) (kernelRun0_A.sl.r_47 (F := Ideal) c arg9 harg9 x8) (kernelRun0_A.sl.v222 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 3 1 dst).dg (kernelRun0_A.sl.v222 (F := Ideal) c arg3 harg3 arg9 harg9 arg11 harg11 arg15 x2 x8 x10) := by
  sl_kernel_rfl

theorem A_nxt_3_2 :
    k0_pay121 (F := Ideal) (kernelRun0_A.sl.r_59 (F := Ideal) c arg4 harg4 x3) (kernelRun0_A.sl.r_63 (F := Ideal) c arg1 harg1 arg4 harg4 x0 x3) (kernelRun0_A.sl.r_73 (F := Ideal) c arg3 harg3 arg8 harg8 arg9 harg9 arg11 harg11 x2 x7 x8 x10) (kernelRun0_A.sl.r_76 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 3 2 (kernelRun0_A.sl.v390 (F := Ideal) c arg1 harg1 arg3 harg3 arg4 harg4 arg8 harg8 arg9 harg9 arg11 harg11 arg17 x0 x2 x3 x7 x8 x10)).nxt := by
  sl_kernel_rfl

theorem A_dg_3_2 (dst : Vec Ideal S1x256x128 .f32) :
    k0_pay110 (F := Ideal) (kernelRun0_A.sl.r_66 (F := Ideal) c arg3 harg3 x2) (kernelRun0_A.sl.r_67 (F := Ideal) c arg11 harg11 x10) (kernelRun0_A.sl.r_68 (F := Ideal) c arg3 harg3 x2) (kernelRun0_A.sl.r_70 (F := Ideal) c arg9 harg9 x8) (kernelRun0_A.sl.v360 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 3 2 dst).dg (kernelRun0_A.sl.v360 (F := Ideal) c arg3 harg3 arg9 harg9 arg11 harg11 arg15 x2 x8 x10) := by
  sl_kernel_rfl

theorem A_nxt_3_3 :
    kernelRun0_A.sl.r_103 (F := Ideal) c arg1 harg1 arg3 harg3 arg4 harg4 arg8 harg8 arg9 harg9 arg11 harg11 arg17 x0 x2 x3 x7 x8 x10
      = (tileOf (mb arg1 harg1 arg2 harg2 arg3 harg3 arg4 harg4 arg8 harg8 arg9 harg9 arg10 harg10 arg11 harg11 x0 x1 x2 x3 x7 x8 x9 x10) 3 3 (kernelRun0_A.sl.v528 (F := Ideal) c arg1 harg1 arg3 harg3 arg4 harg4 arg8 harg8 arg9 harg9 arg11 harg11 arg17 x0 x2 x3 x7 x8 x10)).nxt := by
  sl_kernel_rfl

theorem A_dg_3_3 (dst : Vec Ideal S1x256x128 .f32) :
    k0_pay149 (F := Ideal) (kernelRun0_A.sl.r_93 (F := Ideal) c arg9 harg9 x8) (kernelRun0_A.sl.r_94 (F := Ideal) c arg3 harg3 x2) (kernelRun0_A.sl.r_95 (F := Ideal) c arg11 harg11 x10) (kernelRun0_A.sl.r_96 (F := Ideal) c arg3 harg3 x2) (kernelRun0_A.sl.r_97 (F := Ideal) c arg9 harg9 x8) (kernelRun0_A.sl.v498 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 3 3 dst).dg (kernelRun0_A.sl.v498 (F := Ideal) c arg3 harg3 arg9 harg9 arg11 harg11 arg15 x2 x8 x10) := by
  sl_kernel_rfl

theorem A_nxt_2_0 :
    k0_pay201 (F := Ideal) (kernelRun0_A.sl.r_113 (F := Ideal) c arg4 harg4 x3) (kernelRun0_A.sl.r_117 (F := Ideal) c arg1 harg1 arg4 harg4 x0 x3) (kernelRun0_A.sl.r_125 (F := Ideal) c arg3 harg3 arg8 harg8 arg9 harg9 arg11 harg11 x2 x7 x8 x10) (kernelRun0_A.sl.v678 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 2 0 (kernelRun0_A.sl.v678 (F := Ideal) c arg1 harg1 arg3 harg3 arg4 harg4 arg8 harg8 arg9 harg9 arg11 harg11 arg17 x0 x2 x3 x7 x8 x10)).nxt := by
  sl_kernel_rfl

theorem A_dg_2_0 (dst : Vec Ideal S1x256x128 .f32) :
    k0_pay189 (F := Ideal) (kernelRun0_A.sl.r_120 (F := Ideal) c arg3 harg3 x2) (kernelRun0_A.sl.r_121 (F := Ideal) c arg11 harg11 x10) (kernelRun0_A.sl.r_122 (F := Ideal) c arg3 harg3 x2) (kernelRun0_A.sl.r_124 (F := Ideal) c arg9 harg9 x8) (kernelRun0_A.sl.v648 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 2 0 dst).dg (kernelRun0_A.sl.v648 (F := Ideal) c arg3 harg3 arg9 harg9 arg11 harg11 arg15 x2 x8 x10) := by
  sl_kernel_rfl

theorem A_nxt_2_1 :
    k0_pay233 (F := Ideal) (kernelRun0_A.sl.r_136 (F := Ideal) c arg4 harg4 x3) (kernelRun0_A.sl.r_140 (F := Ideal) c arg1 harg1 arg4 harg4 x0 x3) (kernelRun0_A.sl.r_150 (F := Ideal) c arg3 harg3 arg8 harg8 arg9 harg9 arg11 harg11 x2 x7 x8 x10) (kernelRun0_A.sl.r_152 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 2 1 (kernelRun0_A.sl.v816 (F := Ideal) c arg1 harg1 arg3 harg3 arg4 harg4 arg8 harg8 arg9 harg9 arg11 harg11 arg17 x0 x2 x3 x7 x8 x10)).nxt := by
  sl_kernel_rfl

theorem A_dg_2_1 (dst : Vec Ideal S1x256x128 .f32) :
    kernelRun0_A.sl.r_149 (F := Ideal) c arg3 harg3 arg9 harg9 arg11 harg11 arg15 x2 x8 x10
      = (tileOf (mb arg1 harg1 arg2 harg2 arg3 harg3 arg4 harg4 arg8 harg8 arg9 harg9 arg10 harg10 arg11 harg11 x0 x1 x2 x3 x7 x8 x9 x10) 2 1 dst).dg (kernelRun0_A.sl.v786 (F := Ideal) c arg3 harg3 arg9 harg9 arg11 harg11 arg15 x2 x8 x10) := by
  sl_kernel_rfl

theorem A_nxt_2_2 :
    k0_pay267 (F := Ideal) (kernelRun0_A.sl.r_161 (F := Ideal) c arg4 harg4 x3) (kernelRun0_A.sl.r_165 (F := Ideal) c arg1 harg1 arg4 harg4 x0 x3) (kernelRun0_A.sl.r_173 (F := Ideal) c arg3 harg3 arg8 harg8 arg9 harg9 arg11 harg11 x2 x7 x8 x10) (kernelRun0_A.sl.v954 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 2 2 (kernelRun0_A.sl.v954 (F := Ideal) c arg1 harg1 arg3 harg3 arg4 harg4 arg8 harg8 arg9 harg9 arg11 harg11 arg17 x0 x2 x3 x7 x8 x10)).nxt := by
  sl_kernel_rfl

theorem A_dg_2_2 (dst : Vec Ideal S1x256x128 .f32) :
    k0_pay255 (F := Ideal) (kernelRun0_A.sl.r_168 (F := Ideal) c arg3 harg3 x2) (kernelRun0_A.sl.r_169 (F := Ideal) c arg11 harg11 x10) (kernelRun0_A.sl.r_170 (F := Ideal) c arg3 harg3 x2) (kernelRun0_A.sl.r_172 (F := Ideal) c arg9 harg9 x8) (kernelRun0_A.sl.v924 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 2 2 dst).dg (kernelRun0_A.sl.v924 (F := Ideal) c arg3 harg3 arg9 harg9 arg11 harg11 arg15 x2 x8 x10) := by
  sl_kernel_rfl

theorem A_nxt_2_3 :
    k0_pay299 (F := Ideal) (kernelRun0_A.sl.r_184 (F := Ideal) c arg4 harg4 x3) (kernelRun0_A.sl.r_188 (F := Ideal) c arg1 harg1 arg4 harg4 x0 x3) (kernelRun0_A.sl.r_198 (F := Ideal) c arg3 harg3 arg8 harg8 arg9 harg9 arg11 harg11 x2 x7 x8 x10) (kernelRun0_A.sl.r_200 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 2 3 (kernelRun0_A.sl.v1092 (F := Ideal) c arg1 harg1 arg3 harg3 arg4 harg4 arg8 harg8 arg9 harg9 arg11 harg11 arg17 x0 x2 x3 x7 x8 x10)).nxt := by
  sl_kernel_rfl

theorem A_dg_2_3 (dst : Vec Ideal S1x256x128 .f32) :
    kernelRun0_A.sl.r_197 (F := Ideal) c arg3 harg3 arg9 harg9 arg11 harg11 arg15 x2 x8 x10
      = (tileOf (mb arg1 harg1 arg2 harg2 arg3 harg3 arg4 harg4 arg8 harg8 arg9 harg9 arg10 harg10 arg11 harg11 x0 x1 x2 x3 x7 x8 x9 x10) 2 3 dst).dg (kernelRun0_A.sl.v1062 (F := Ideal) c arg3 harg3 arg9 harg9 arg11 harg11 arg15 x2 x8 x10) := by
  sl_kernel_rfl

theorem A_nxt_1_0 :
    k0_pay340 (F := Ideal) (kernelRun0_A.sl.r_230 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 1 0 (kernelRun0_A.sl.v1242 (F := Ideal) c arg1 harg1 arg3 harg3 arg4 harg4 arg8 harg8 arg9 harg9 arg11 harg11 arg17 x0 x2 x3 x7 x8 x10)).nxt := by
  sl_kernel_rfl

theorem A_dg_1_0 (dst : Vec Ideal S1x256x128 .f32) :
    k0_pay327 (F := Ideal) (kernelRun0_A.sl.r_220 (F := Ideal) c arg9 harg9 x8) (kernelRun0_A.sl.r_221 (F := Ideal) c arg3 harg3 x2) (kernelRun0_A.sl.r_222 (F := Ideal) c arg11 harg11 x10) (kernelRun0_A.sl.r_223 (F := Ideal) c arg3 harg3 x2) (kernelRun0_A.sl.v1212 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 1 0 dst).dg (kernelRun0_A.sl.v1212 (F := Ideal) c arg3 harg3 arg9 harg9 arg11 harg11 arg15 x2 x8 x10) := by
  sl_kernel_rfl

theorem A_nxt_1_1 :
    k0_pay376 (F := Ideal) (kernelRun0_A.sl.r_237 (F := Ideal) c arg4 harg4 x3) (kernelRun0_A.sl.r_241 (F := Ideal) c arg1 harg1 arg4 harg4 x0 x3) (kernelRun0_A.sl.r_250 (F := Ideal) c arg3 harg3 arg8 harg8 arg9 harg9 arg11 harg11 x2 x7 x8 x10) (kernelRun0_A.sl.r_253 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 1 1 (kernelRun0_A.sl.v1380 (F := Ideal) c arg1 harg1 arg3 harg3 arg4 harg4 arg8 harg8 arg9 harg9 arg11 harg11 arg17 x0 x2 x3 x7 x8 x10)).nxt := by
  sl_kernel_rfl

theorem A_dg_1_1 (dst : Vec Ideal S1x256x128 .f32) :
    k0_pay364 (F := Ideal) (kernelRun0_A.sl.r_244 (F := Ideal) c arg3 harg3 x2) (kernelRun0_A.sl.r_245 (F := Ideal) c arg11 harg11 x10) (kernelRun0_A.sl.r_246 (F := Ideal) c arg3 harg3 x2) (kernelRun0_A.sl.r_248 (F := Ideal) c arg9 harg9 x8) (kernelRun0_A.sl.v1350 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 1 1 dst).dg (kernelRun0_A.sl.v1350 (F := Ideal) c arg3 harg3 arg9 harg9 arg11 harg11 arg15 x2 x8 x10) := by
  sl_kernel_rfl

theorem A_nxt_1_2 :
    k0_pay415 (F := Ideal) (kernelRun0_A.sl.r_280 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 1 2 (kernelRun0_A.sl.v1518 (F := Ideal) c arg1 harg1 arg3 harg3 arg4 harg4 arg8 harg8 arg9 harg9 arg11 harg11 arg17 x0 x2 x3 x7 x8 x10)).nxt := by
  sl_kernel_rfl

theorem A_dg_1_2 (dst : Vec Ideal S1x256x128 .f32) :
    k0_pay402 (F := Ideal) (kernelRun0_A.sl.r_270 (F := Ideal) c arg9 harg9 x8) (kernelRun0_A.sl.r_271 (F := Ideal) c arg3 harg3 x2) (kernelRun0_A.sl.r_272 (F := Ideal) c arg11 harg11 x10) (kernelRun0_A.sl.r_273 (F := Ideal) c arg3 harg3 x2) (kernelRun0_A.sl.v1488 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 1 2 dst).dg (kernelRun0_A.sl.v1488 (F := Ideal) c arg3 harg3 arg9 harg9 arg11 harg11 arg15 x2 x8 x10) := by
  sl_kernel_rfl

theorem A_nxt_1_3 :
    k0_pay451 (F := Ideal) (kernelRun0_A.sl.r_287 (F := Ideal) c arg4 harg4 x3) (kernelRun0_A.sl.r_291 (F := Ideal) c arg1 harg1 arg4 harg4 x0 x3) (kernelRun0_A.sl.r_300 (F := Ideal) c arg3 harg3 arg8 harg8 arg9 harg9 arg11 harg11 x2 x7 x8 x10) (kernelRun0_A.sl.r_303 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 1 3 (kernelRun0_A.sl.v1656 (F := Ideal) c arg1 harg1 arg3 harg3 arg4 harg4 arg8 harg8 arg9 harg9 arg11 harg11 arg17 x0 x2 x3 x7 x8 x10)).nxt := by
  sl_kernel_rfl

theorem A_dg_1_3 (dst : Vec Ideal S1x256x128 .f32) :
    k0_pay439 (F := Ideal) (kernelRun0_A.sl.r_294 (F := Ideal) c arg3 harg3 x2) (kernelRun0_A.sl.r_295 (F := Ideal) c arg11 harg11 x10) (kernelRun0_A.sl.r_296 (F := Ideal) c arg3 harg3 x2) (kernelRun0_A.sl.r_298 (F := Ideal) c arg9 harg9 x8) (kernelRun0_A.sl.v1626 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 1 3 dst).dg (kernelRun0_A.sl.v1626 (F := Ideal) c arg3 harg3 arg9 harg9 arg11 harg11 arg15 x2 x8 x10) := by
  sl_kernel_rfl

theorem A_nxt_0_0 :
    k0_pay494 (F := Ideal) (kernelRun0_A.sl.r_317 (F := Ideal) c arg4 harg4 x3) (kernelRun0_A.sl.r_321 (F := Ideal) c arg1 harg1 arg4 harg4 x0 x3) (kernelRun0_A.sl.r_329 (F := Ideal) c arg3 harg3 arg8 harg8 arg9 harg9 arg11 harg11 x2 x7 x8 x10) (kernelRun0_A.sl.r_331 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 0 0 (kernelRun0_A.sl.v1806 (F := Ideal) c arg1 harg1 arg3 harg3 arg4 harg4 arg8 harg8 arg9 harg9 arg11 harg11 arg17 x0 x2 x3 x7 x8 x10)).nxt := by
  sl_kernel_rfl

theorem A_dg_0_0 (dst : Vec Ideal S1x256x128 .f32) :
    kernelRun0_A.sl.r_328 (F := Ideal) c arg3 harg3 arg9 harg9 arg11 harg11 arg15 x2 x8 x10
      = (tileOf (mb arg1 harg1 arg2 harg2 arg3 harg3 arg4 harg4 arg8 harg8 arg9 harg9 arg10 harg10 arg11 harg11 x0 x1 x2 x3 x7 x8 x9 x10) 0 0 dst).dg (kernelRun0_A.sl.v1776 (F := Ideal) c arg3 harg3 arg9 harg9 arg11 harg11 arg15 x2 x8 x10) := by
  sl_kernel_rfl

theorem A_nxt_0_1 :
    k0_pay528 (F := Ideal) (kernelRun0_A.sl.r_340 (F := Ideal) c arg4 harg4 x3) (kernelRun0_A.sl.r_344 (F := Ideal) c arg1 harg1 arg4 harg4 x0 x3) (kernelRun0_A.sl.r_352 (F := Ideal) c arg3 harg3 arg8 harg8 arg9 harg9 arg11 harg11 x2 x7 x8 x10) (kernelRun0_A.sl.v1944 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 0 1 (kernelRun0_A.sl.v1944 (F := Ideal) c arg1 harg1 arg3 harg3 arg4 harg4 arg8 harg8 arg9 harg9 arg11 harg11 arg17 x0 x2 x3 x7 x8 x10)).nxt := by
  sl_kernel_rfl

theorem A_dg_0_1 (dst : Vec Ideal S1x256x128 .f32) :
    k0_pay516 (F := Ideal) (kernelRun0_A.sl.r_347 (F := Ideal) c arg3 harg3 x2) (kernelRun0_A.sl.r_348 (F := Ideal) c arg11 harg11 x10) (kernelRun0_A.sl.r_349 (F := Ideal) c arg3 harg3 x2) (kernelRun0_A.sl.r_351 (F := Ideal) c arg9 harg9 x8) (kernelRun0_A.sl.v1914 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 0 1 dst).dg (kernelRun0_A.sl.v1914 (F := Ideal) c arg3 harg3 arg9 harg9 arg11 harg11 arg15 x2 x8 x10) := by
  sl_kernel_rfl

theorem A_nxt_0_2 :
    k0_pay561 (F := Ideal) (kernelRun0_A.sl.r_364 (F := Ideal) c arg4 harg4 x3) (kernelRun0_A.sl.r_368 (F := Ideal) c arg1 harg1 arg4 harg4 x0 x3) (kernelRun0_A.sl.r_376 (F := Ideal) c arg3 harg3 arg8 harg8 arg9 harg9 arg11 harg11 x2 x7 x8 x10) (kernelRun0_A.sl.r_378 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 0 2 (kernelRun0_A.sl.v2082 (F := Ideal) c arg1 harg1 arg3 harg3 arg4 harg4 arg8 harg8 arg9 harg9 arg11 harg11 arg17 x0 x2 x3 x7 x8 x10)).nxt := by
  sl_kernel_rfl

theorem A_dg_0_2 (dst : Vec Ideal S1x256x128 .f32) :
    kernelRun0_A.sl.r_375 (F := Ideal) c arg3 harg3 arg9 harg9 arg11 harg11 arg15 x2 x8 x10
      = (tileOf (mb arg1 harg1 arg2 harg2 arg3 harg3 arg4 harg4 arg8 harg8 arg9 harg9 arg10 harg10 arg11 harg11 x0 x1 x2 x3 x7 x8 x9 x10) 0 2 dst).dg (kernelRun0_A.sl.v2052 (F := Ideal) c arg3 harg3 arg9 harg9 arg11 harg11 arg15 x2 x8 x10) := by
  sl_kernel_rfl

theorem A_nxt_0_3 :
    k0_pay595 (F := Ideal) (kernelRun0_A.sl.r_387 (F := Ideal) c arg4 harg4 x3) (kernelRun0_A.sl.r_391 (F := Ideal) c arg1 harg1 arg4 harg4 x0 x3) (kernelRun0_A.sl.r_399 (F := Ideal) c arg3 harg3 arg8 harg8 arg9 harg9 arg11 harg11 x2 x7 x8 x10) (kernelRun0_A.sl.v2220 (F := Ideal) c arg1 harg1 arg3 harg3 arg4 harg4 arg8 harg8 arg9 harg9 arg11 harg11 arg17 x0 x2 x3 x7 x8 x10)
      = (tileOf (mb arg1 harg1 arg2 harg2 arg3 harg3 arg4 harg4 arg8 harg8 arg9 harg9 arg10 harg10 arg11 harg11 x0 x1 x2 x3 x7 x8 x9 x10) 0 3 (kernelRun0_A.sl.v2220 (F := Ideal) c arg1 harg1 arg3 harg3 arg4 harg4 arg8 harg8 arg9 harg9 arg11 harg11 arg17 x0 x2 x3 x7 x8 x10)).nxt := by
  sl_kernel_rfl

theorem A_dg_0_3 (dst : Vec Ideal S1x256x128 .f32) :
    k0_pay583 (F := Ideal) (kernelRun0_A.sl.r_394 (F := Ideal) c arg3 harg3 x2) (kernelRun0_A.sl.r_395 (F := Ideal) c arg11 harg11 x10) (kernelRun0_A.sl.r_396 (F := Ideal) c arg3 harg3 x2) (kernelRun0_A.sl.r_398 (F := Ideal) c arg9 harg9 x8) (kernelRun0_A.sl.v2190 (F := Ideal) c arg3 harg3 arg9 harg9 arg11 harg11 arg15 x2 x8 x10)
      = (tileOf (mb arg1 harg1 arg2 harg2 arg3 harg3 arg4 harg4 arg8 harg8 arg9 harg9 arg10 harg10 arg11 harg11 x0 x1 x2 x3 x7 x8 x9 x10) 0 3 dst).dg (kernelRun0_A.sl.v2190 (F := Ideal) c arg3 harg3 arg9 harg9 arg11 harg11 arg15 x2 x8 x10) := by
  sl_kernel_rfl

theorem A_dstN_3_0 :
    (kernelRun0_A.sl.v114 (F := Ideal) c arg17)
      = dstN (mb arg1 harg1 arg2 harg2 arg3 harg3 arg4 harg4 arg8 harg8 arg9 harg9 arg10 harg10 arg11 harg11 x0 x1 x2 x3 x7 x8 x9 x10) (k0_pay4 (F := Ideal)) 0 0 := by
  simp (disch := decide) only [kernelRun0_A.sl.v114, kernelRun0_A.sl.HS0_1, View.readCov_skip, View.readCov_fill]
  rfl

theorem A_dstN_3_1 :
    (kernelRun0_A.sl.v252 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 1 0 := by
  simp (disch := decide) only [kernelRun0_A.sl.v252, kernelRun0_A.sl.HS0_2, kernelRun0_A.sl.HS0_1, View.readCov_skip, View.readCov_fill]
  rfl

theorem A_dstN_3_2 :
    (kernelRun0_A.sl.v390 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 2 0 := by
  simp (disch := decide) only [kernelRun0_A.sl.v390, kernelRun0_A.sl.HS0_3, kernelRun0_A.sl.HS0_2, kernelRun0_A.sl.HS0_1, View.readCov_skip, View.readCov_fill]
  rfl

theorem A_dstN_3_3 :
    (kernelRun0_A.sl.v528 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 3 0 := by
  simp (disch := decide) only [kernelRun0_A.sl.v528, kernelRun0_A.sl.HS0_4, kernelRun0_A.sl.HS0_3, kernelRun0_A.sl.HS0_2, kernelRun0_A.sl.HS0_1, View.readCov_skip, View.readCov_fill]
  rfl

theorem A_dstN_2_0 :
    (kernelRun0_A.sl.v678 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 0 1 := by
  have e : (kernelRun0_A.sl.v678 (F := Ideal) c arg1 harg1 arg3 harg3 arg4 harg4 arg8 harg8 arg9 harg9 arg11 harg11 arg17 x0 x2 x3 x7 x8 x10)
      = k0_pay47 (F := Ideal) (kernelRun0_A.sl.r_9 (F := Ideal) c arg4 harg4 x3) (kernelRun0_A.sl.r_13 (F := Ideal) c arg1 harg1 arg4 harg4 x0 x3) (kernelRun0_A.sl.r_23 (F := Ideal) c arg3 harg3 arg8 harg8 arg9 harg9 arg11 harg11 x2 x7 x8 x10) (kernelRun0_A.sl.r_26 (F := Ideal) c arg17) := by
    simp (disch := decide) only [kernelRun0_A.sl.v678, kernelRun0_A.sl.HS0_5, kernelRun0_A.sl.HS0_4, kernelRun0_A.sl.HS0_3, kernelRun0_A.sl.HS0_2, View.readCov_skip, View.readCov_cons_toLoadRect]
  rw [e, A_nxt_3_0, A_dstN_3_0]
  rfl

theorem A_dstN_2_1 :
    (kernelRun0_A.sl.v816 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 1 1 := by
  have e : (kernelRun0_A.sl.v816 (F := Ideal) c arg1 harg1 arg3 harg3 arg4 harg4 arg8 harg8 arg9 harg9 arg11 harg11 arg17 x0 x2 x3 x7 x8 x10)
      = kernelRun0_A.sl.r_53 (F := Ideal) c arg1 harg1 arg3 harg3 arg4 harg4 arg8 harg8 arg9 harg9 arg11 harg11 arg17 x0 x2 x3 x7 x8 x10 := by
    simp (disch := decide) only [kernelRun0_A.sl.v816, kernelRun0_A.sl.HS0_6, kernelRun0_A.sl.HS0_5, kernelRun0_A.sl.HS0_4, kernelRun0_A.sl.HS0_3, View.readCov_skip, View.readCov_cons_toLoadRect]
  rw [e, A_nxt_3_1, A_dstN_3_1]
  rfl

theorem A_dstN_2_2 :
    (kernelRun0_A.sl.v954 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 2 1 := by
  have e : (kernelRun0_A.sl.v954 (F := Ideal) c arg1 harg1 arg3 harg3 arg4 harg4 arg8 harg8 arg9 harg9 arg11 harg11 arg17 x0 x2 x3 x7 x8 x10)
      = k0_pay121 (F := Ideal) (kernelRun0_A.sl.r_59 (F := Ideal) c arg4 harg4 x3) (kernelRun0_A.sl.r_63 (F := Ideal) c arg1 harg1 arg4 harg4 x0 x3) (kernelRun0_A.sl.r_73 (F := Ideal) c arg3 harg3 arg8 harg8 arg9 harg9 arg11 harg11 x2 x7 x8 x10) (kernelRun0_A.sl.r_76 (F := Ideal) c arg1 harg1 arg3 harg3 arg4 harg4 arg8 harg8 arg9 harg9 arg11 harg11 arg17 x0 x2 x3 x7 x8 x10) := by
    simp (disch := decide) only [kernelRun0_A.sl.v954, kernelRun0_A.sl.HS0_7, kernelRun0_A.sl.HS0_6, kernelRun0_A.sl.HS0_5, kernelRun0_A.sl.HS0_4, View.readCov_skip, View.readCov_cons_toLoadRect]
  rw [e, A_nxt_3_2, A_dstN_3_2]
  rfl

theorem A_dstN_2_3 :
    (kernelRun0_A.sl.v1092 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 3 1 := by
  have e : (kernelRun0_A.sl.v1092 (F := Ideal) c arg1 harg1 arg3 harg3 arg4 harg4 arg8 harg8 arg9 harg9 arg11 harg11 arg17 x0 x2 x3 x7 x8 x10)
      = kernelRun0_A.sl.r_103 (F := Ideal) c arg1 harg1 arg3 harg3 arg4 harg4 arg8 harg8 arg9 harg9 arg11 harg11 arg17 x0 x2 x3 x7 x8 x10 := by
    simp (disch := decide) only [kernelRun0_A.sl.v1092, kernelRun0_A.sl.HS0_8, kernelRun0_A.sl.HS0_7, kernelRun0_A.sl.HS0_6, kernelRun0_A.sl.HS0_5, View.readCov_skip, View.readCov_cons_toLoadRect]
  rw [e, A_nxt_3_3, A_dstN_3_3]
  rfl

theorem A_dstN_1_0 :
    (kernelRun0_A.sl.v1242 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 0 2 := by
  have e : (kernelRun0_A.sl.v1242 (F := Ideal) c arg1 harg1 arg3 harg3 arg4 harg4 arg8 harg8 arg9 harg9 arg11 harg11 arg17 x0 x2 x3 x7 x8 x10)
      = k0_pay201 (F := Ideal) (kernelRun0_A.sl.r_113 (F := Ideal) c arg4 harg4 x3) (kernelRun0_A.sl.r_117 (F := Ideal) c arg1 harg1 arg4 harg4 x0 x3) (kernelRun0_A.sl.r_125 (F := Ideal) c arg3 harg3 arg8 harg8 arg9 harg9 arg11 harg11 x2 x7 x8 x10) (kernelRun0_A.sl.v678 (F := Ideal) c arg1 harg1 arg3 harg3 arg4 harg4 arg8 harg8 arg9 harg9 arg11 harg11 arg17 x0 x2 x3 x7 x8 x10) := by
    simp (disch := decide) only [kernelRun0_A.sl.v1242, kernelRun0_A.sl.HS0_9, kernelRun0_A.sl.HS0_8, kernelRun0_A.sl.HS0_7, kernelRun0_A.sl.HS0_6, View.readCov_skip, View.readCov_cons_toLoadRect]
  rw [e, A_nxt_2_0, A_dstN_2_0]
  rfl

theorem A_dstN_1_1 :
    (kernelRun0_A.sl.v1380 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 1 2 := by
  have e : (kernelRun0_A.sl.v1380 (F := Ideal) c arg1 harg1 arg3 harg3 arg4 harg4 arg8 harg8 arg9 harg9 arg11 harg11 arg17 x0 x2 x3 x7 x8 x10)
      = k0_pay233 (F := Ideal) (kernelRun0_A.sl.r_136 (F := Ideal) c arg4 harg4 x3) (kernelRun0_A.sl.r_140 (F := Ideal) c arg1 harg1 arg4 harg4 x0 x3) (kernelRun0_A.sl.r_150 (F := Ideal) c arg3 harg3 arg8 harg8 arg9 harg9 arg11 harg11 x2 x7 x8 x10) (kernelRun0_A.sl.r_152 (F := Ideal) c arg1 harg1 arg3 harg3 arg4 harg4 arg8 harg8 arg9 harg9 arg11 harg11 arg17 x0 x2 x3 x7 x8 x10) := by
    simp (disch := decide) only [kernelRun0_A.sl.v1380, kernelRun0_A.sl.HS0_10, kernelRun0_A.sl.HS0_9, kernelRun0_A.sl.HS0_8, kernelRun0_A.sl.HS0_7, View.readCov_skip, View.readCov_cons_toLoadRect]
  rw [e, A_nxt_2_1, A_dstN_2_1]
  rfl

theorem A_dstN_1_2 :
    (kernelRun0_A.sl.v1518 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 2 2 := by
  have e : (kernelRun0_A.sl.v1518 (F := Ideal) c arg1 harg1 arg3 harg3 arg4 harg4 arg8 harg8 arg9 harg9 arg11 harg11 arg17 x0 x2 x3 x7 x8 x10)
      = k0_pay267 (F := Ideal) (kernelRun0_A.sl.r_161 (F := Ideal) c arg4 harg4 x3) (kernelRun0_A.sl.r_165 (F := Ideal) c arg1 harg1 arg4 harg4 x0 x3) (kernelRun0_A.sl.r_173 (F := Ideal) c arg3 harg3 arg8 harg8 arg9 harg9 arg11 harg11 x2 x7 x8 x10) (kernelRun0_A.sl.v954 (F := Ideal) c arg1 harg1 arg3 harg3 arg4 harg4 arg8 harg8 arg9 harg9 arg11 harg11 arg17 x0 x2 x3 x7 x8 x10) := by
    simp (disch := decide) only [kernelRun0_A.sl.v1518, kernelRun0_A.sl.HS0_11, kernelRun0_A.sl.HS0_10, kernelRun0_A.sl.HS0_9, kernelRun0_A.sl.HS0_8, View.readCov_skip, View.readCov_cons_toLoadRect]
  rw [e, A_nxt_2_2, A_dstN_2_2]
  rfl

theorem A_dstN_1_3 :
    (kernelRun0_A.sl.v1656 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 3 2 := by
  have e : (kernelRun0_A.sl.v1656 (F := Ideal) c arg1 harg1 arg3 harg3 arg4 harg4 arg8 harg8 arg9 harg9 arg11 harg11 arg17 x0 x2 x3 x7 x8 x10)
      = k0_pay299 (F := Ideal) (kernelRun0_A.sl.r_184 (F := Ideal) c arg4 harg4 x3) (kernelRun0_A.sl.r_188 (F := Ideal) c arg1 harg1 arg4 harg4 x0 x3) (kernelRun0_A.sl.r_198 (F := Ideal) c arg3 harg3 arg8 harg8 arg9 harg9 arg11 harg11 x2 x7 x8 x10) (kernelRun0_A.sl.r_200 (F := Ideal) c arg1 harg1 arg3 harg3 arg4 harg4 arg8 harg8 arg9 harg9 arg11 harg11 arg17 x0 x2 x3 x7 x8 x10) := by
    simp (disch := decide) only [kernelRun0_A.sl.v1656, kernelRun0_A.sl.HS0_12, kernelRun0_A.sl.HS0_11, kernelRun0_A.sl.HS0_10, kernelRun0_A.sl.HS0_9, View.readCov_skip, View.readCov_cons_toLoadRect]
  rw [e, A_nxt_2_3, A_dstN_2_3]
  rfl

theorem A_dstN_0_0 :
    (kernelRun0_A.sl.v1806 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 0 3 := by
  have e : (kernelRun0_A.sl.v1806 (F := Ideal) c arg1 harg1 arg3 harg3 arg4 harg4 arg8 harg8 arg9 harg9 arg11 harg11 arg17 x0 x2 x3 x7 x8 x10)
      = k0_pay340 (F := Ideal) (kernelRun0_A.sl.r_230 (F := Ideal) c arg1 harg1 arg3 harg3 arg4 harg4 arg8 harg8 arg9 harg9 arg11 harg11 arg17 x0 x2 x3 x7 x8 x10) := by
    simp (disch := decide) only [kernelRun0_A.sl.v1806, kernelRun0_A.sl.HS0_13, kernelRun0_A.sl.HS0_12, kernelRun0_A.sl.HS0_11, kernelRun0_A.sl.HS0_10, View.readCov_skip, View.readCov_cons_toLoadRect]
  rw [e, A_nxt_1_0, A_dstN_1_0]
  rfl

theorem A_dstN_0_1 :
    (kernelRun0_A.sl.v1944 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 1 3 := by
  have e : (kernelRun0_A.sl.v1944 (F := Ideal) c arg1 harg1 arg3 harg3 arg4 harg4 arg8 harg8 arg9 harg9 arg11 harg11 arg17 x0 x2 x3 x7 x8 x10)
      = k0_pay376 (F := Ideal) (kernelRun0_A.sl.r_237 (F := Ideal) c arg4 harg4 x3) (kernelRun0_A.sl.r_241 (F := Ideal) c arg1 harg1 arg4 harg4 x0 x3) (kernelRun0_A.sl.r_250 (F := Ideal) c arg3 harg3 arg8 harg8 arg9 harg9 arg11 harg11 x2 x7 x8 x10) (kernelRun0_A.sl.r_253 (F := Ideal) c arg1 harg1 arg3 harg3 arg4 harg4 arg8 harg8 arg9 harg9 arg11 harg11 arg17 x0 x2 x3 x7 x8 x10) := by
    simp (disch := decide) only [kernelRun0_A.sl.v1944, kernelRun0_A.sl.HS0_14, kernelRun0_A.sl.HS0_13, kernelRun0_A.sl.HS0_12, kernelRun0_A.sl.HS0_11, View.readCov_skip, View.readCov_cons_toLoadRect]
  rw [e, A_nxt_1_1, A_dstN_1_1]
  rfl

theorem A_dstN_0_2 :
    (kernelRun0_A.sl.v2082 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 2 3 := by
  have e : (kernelRun0_A.sl.v2082 (F := Ideal) c arg1 harg1 arg3 harg3 arg4 harg4 arg8 harg8 arg9 harg9 arg11 harg11 arg17 x0 x2 x3 x7 x8 x10)
      = k0_pay415 (F := Ideal) (kernelRun0_A.sl.r_280 (F := Ideal) c arg1 harg1 arg3 harg3 arg4 harg4 arg8 harg8 arg9 harg9 arg11 harg11 arg17 x0 x2 x3 x7 x8 x10) := by
    simp (disch := decide) only [kernelRun0_A.sl.v2082, kernelRun0_A.sl.HS0_15, kernelRun0_A.sl.HS0_14, kernelRun0_A.sl.HS0_13, kernelRun0_A.sl.HS0_12, View.readCov_skip, View.readCov_cons_toLoadRect]
  rw [e, A_nxt_1_2, A_dstN_1_2]
  rfl

theorem A_dstN_0_3 :
    (kernelRun0_A.sl.v2220 (F := Ideal) c arg1 harg1 arg3 harg3 arg4 harg4 arg8 harg8 arg9 harg9 arg11 harg11 arg17 x0 x2 x3 x7 x8 x10)
      = dstN (mb arg1 harg1 arg2 harg2 arg3 harg3 arg4 harg4 arg8 harg8 arg9 harg9 arg10 harg10 arg11 harg11 x0 x1 x2 x3 x7 x8 x9 x10) (k0_pay4 (F := Ideal)) 3 3 := by
  have e : (kernelRun0_A.sl.v2220 (F := Ideal) c arg1 harg1 arg3 harg3 arg4 harg4 arg8 harg8 arg9 harg9 arg11 harg11 arg17 x0 x2 x3 x7 x8 x10)
      = k0_pay451 (F := Ideal) (kernelRun0_A.sl.r_287 (F := Ideal) c arg4 harg4 x3) (kernelRun0_A.sl.r_291 (F := Ideal) c arg1 harg1 arg4 harg4 x0 x3) (kernelRun0_A.sl.r_300 (F := Ideal) c arg3 harg3 arg8 harg8 arg9 harg9 arg11 harg11 x2 x7 x8 x10) (kernelRun0_A.sl.r_303 (F := Ideal) c arg1 harg1 arg3 harg3 arg4 harg4 arg8 harg8 arg9 harg9 arg11 harg11 arg17 x0 x2 x3 x7 x8 x10) := by
    simp (disch := decide) only [kernelRun0_A.sl.v2220, kernelRun0_A.sl.HS0_16, kernelRun0_A.sl.HS0_15, kernelRun0_A.sl.HS0_14, kernelRun0_A.sl.HS0_13, View.readCov_skip, View.readCov_cons_toLoadRect]
  rw [e, A_nxt_1_3, A_dstN_1_3]
  rfl

theorem A_dgN_3_0 :
    (kernelRun0_A.sl.v84 (F := Ideal) c arg15)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 0 0 := by
  simp (disch := decide) only [kernelRun0_A.sl.v84, kernelRun0_A.sl.H13_1, View.readCov_skip, View.readCov_fill]
  rfl

theorem A_dgN_3_1 :
    (kernelRun0_A.sl.v222 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 1 0 := by
  simp (disch := decide) only [kernelRun0_A.sl.v222, kernelRun0_A.sl.H13_2, kernelRun0_A.sl.H13_1, View.readCov_skip, View.readCov_fill]
  rfl

theorem A_dgN_3_2 :
    (kernelRun0_A.sl.v360 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 2 0 := by
  simp (disch := decide) only [kernelRun0_A.sl.v360, kernelRun0_A.sl.H13_3, kernelRun0_A.sl.H13_2, kernelRun0_A.sl.H13_1, View.readCov_skip, View.readCov_fill]
  rfl

theorem A_dgN_3_3 :
    (kernelRun0_A.sl.v498 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 3 0 := by
  simp (disch := decide) only [kernelRun0_A.sl.v498, kernelRun0_A.sl.H13_4, kernelRun0_A.sl.H13_3, kernelRun0_A.sl.H13_2, kernelRun0_A.sl.H13_1, View.readCov_skip, View.readCov_fill]
  rfl

theorem A_dgN_2_0 :
    (kernelRun0_A.sl.v648 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 0 1 := by
  have e : (kernelRun0_A.sl.v648 (F := Ideal) c arg3 harg3 arg9 harg9 arg11 harg11 arg15 x2 x8 x10)
      = k0_pay36 (F := Ideal) (kernelRun0_A.sl.r_16 (F := Ideal) c arg3 harg3 x2) (kernelRun0_A.sl.r_17 (F := Ideal) c arg11 harg11 x10) (kernelRun0_A.sl.r_18 (F := Ideal) c arg3 harg3 x2) (kernelRun0_A.sl.r_20 (F := Ideal) c arg9 harg9 x8) (kernelRun0_A.sl.v84 (F := Ideal) c arg15) := by
    simp (disch := decide) only [kernelRun0_A.sl.v648, kernelRun0_A.sl.H13_5, kernelRun0_A.sl.H13_4, kernelRun0_A.sl.H13_3, kernelRun0_A.sl.H13_2, View.readCov_skip, View.readCov_cons_toLoadRect]
  rw [e, A_dg_3_0 (dstN (mb arg1 harg1 arg2 harg2 arg3 harg3 arg4 harg4 arg8 harg8 arg9 harg9 arg10 harg10 arg11 harg11 x0 x1 x2 x3 x7 x8 x9 x10) (k0_pay4 (F := Ideal)) 0 0), A_dgN_3_0]
  rfl

theorem A_dgN_2_1 :
    (kernelRun0_A.sl.v786 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 1 1 := by
  have e : (kernelRun0_A.sl.v786 (F := Ideal) c arg3 harg3 arg9 harg9 arg11 harg11 arg15 x2 x8 x10)
      = k0_pay75 (F := Ideal) (kernelRun0_A.sl.r_43 (F := Ideal) c arg9 harg9 x8) (kernelRun0_A.sl.r_44 (F := Ideal) c arg3 harg3 x2) (kernelRun0_A.sl.r_45 (F := Ideal) c arg11 harg11 x10) (kernelRun0_A.sl.r_46 (F := Ideal) c arg3 harg3 x2) (kernelRun0_A.sl.r_47 (F := Ideal) c arg9 harg9 x8) (kernelRun0_A.sl.v222 (F := Ideal) c arg3 harg3 arg9 harg9 arg11 harg11 arg15 x2 x8 x10) := by
    simp (disch := decide) only [kernelRun0_A.sl.v786, kernelRun0_A.sl.H13_6, kernelRun0_A.sl.H13_5, kernelRun0_A.sl.H13_4, kernelRun0_A.sl.H13_3, View.readCov_skip, View.readCov_cons_toLoadRect]
  rw [e, A_dg_3_1 (dstN (mb arg1 harg1 arg2 harg2 arg3 harg3 arg4 harg4 arg8 harg8 arg9 harg9 arg10 harg10 arg11 harg11 x0 x1 x2 x3 x7 x8 x9 x10) (k0_pay4 (F := Ideal)) 1 0), A_dgN_3_1]
  rfl

theorem A_dgN_2_2 :
    (kernelRun0_A.sl.v924 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 2 1 := by
  have e : (kernelRun0_A.sl.v924 (F := Ideal) c arg3 harg3 arg9 harg9 arg11 harg11 arg15 x2 x8 x10)
      = k0_pay110 (F := Ideal) (kernelRun0_A.sl.r_66 (F := Ideal) c arg3 harg3 x2) (kernelRun0_A.sl.r_67 (F := Ideal) c arg11 harg11 x10) (kernelRun0_A.sl.r_68 (F := Ideal) c arg3 harg3 x2) (kernelRun0_A.sl.r_70 (F := Ideal) c arg9 harg9 x8) (kernelRun0_A.sl.v360 (F := Ideal) c arg3 harg3 arg9 harg9 arg11 harg11 arg15 x2 x8 x10) := by
    simp (disch := decide) only [kernelRun0_A.sl.v924, kernelRun0_A.sl.H13_7, kernelRun0_A.sl.H13_6, kernelRun0_A.sl.H13_5, kernelRun0_A.sl.H13_4, View.readCov_skip, View.readCov_cons_toLoadRect]
  rw [e, A_dg_3_2 (dstN (mb arg1 harg1 arg2 harg2 arg3 harg3 arg4 harg4 arg8 harg8 arg9 harg9 arg10 harg10 arg11 harg11 x0 x1 x2 x3 x7 x8 x9 x10) (k0_pay4 (F := Ideal)) 2 0), A_dgN_3_2]
  rfl

theorem A_dgN_2_3 :
    (kernelRun0_A.sl.v1062 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 3 1 := by
  have e : (kernelRun0_A.sl.v1062 (F := Ideal) c arg3 harg3 arg9 harg9 arg11 harg11 arg15 x2 x8 x10)
      = k0_pay149 (F := Ideal) (kernelRun0_A.sl.r_93 (F := Ideal) c arg9 harg9 x8) (kernelRun0_A.sl.r_94 (F := Ideal) c arg3 harg3 x2) (kernelRun0_A.sl.r_95 (F := Ideal) c arg11 harg11 x10) (kernelRun0_A.sl.r_96 (F := Ideal) c arg3 harg3 x2) (kernelRun0_A.sl.r_97 (F := Ideal) c arg9 harg9 x8) (kernelRun0_A.sl.v498 (F := Ideal) c arg3 harg3 arg9 harg9 arg11 harg11 arg15 x2 x8 x10) := by
    simp (disch := decide) only [kernelRun0_A.sl.v1062, kernelRun0_A.sl.H13_8, kernelRun0_A.sl.H13_7, kernelRun0_A.sl.H13_6, kernelRun0_A.sl.H13_5, View.readCov_skip, View.readCov_cons_toLoadRect]
  rw [e, A_dg_3_3 (dstN (mb arg1 harg1 arg2 harg2 arg3 harg3 arg4 harg4 arg8 harg8 arg9 harg9 arg10 harg10 arg11 harg11 x0 x1 x2 x3 x7 x8 x9 x10) (k0_pay4 (F := Ideal)) 3 0), A_dgN_3_3]
  rfl

theorem A_dgN_1_0 :
    (kernelRun0_A.sl.v1212 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 0 2 := by
  have e : (kernelRun0_A.sl.v1212 (F := Ideal) c arg3 harg3 arg9 harg9 arg11 harg11 arg15 x2 x8 x10)
      = k0_pay189 (F := Ideal) (kernelRun0_A.sl.r_120 (F := Ideal) c arg3 harg3 x2) (kernelRun0_A.sl.r_121 (F := Ideal) c arg11 harg11 x10) (kernelRun0_A.sl.r_122 (F := Ideal) c arg3 harg3 x2) (kernelRun0_A.sl.r_124 (F := Ideal) c arg9 harg9 x8) (kernelRun0_A.sl.v648 (F := Ideal) c arg3 harg3 arg9 harg9 arg11 harg11 arg15 x2 x8 x10) := by
    simp (disch := decide) only [kernelRun0_A.sl.v1212, kernelRun0_A.sl.H13_9, kernelRun0_A.sl.H13_8, kernelRun0_A.sl.H13_7, kernelRun0_A.sl.H13_6, View.readCov_skip, View.readCov_cons_toLoadRect]
  rw [e, A_dg_2_0 (dstN (mb arg1 harg1 arg2 harg2 arg3 harg3 arg4 harg4 arg8 harg8 arg9 harg9 arg10 harg10 arg11 harg11 x0 x1 x2 x3 x7 x8 x9 x10) (k0_pay4 (F := Ideal)) 0 1), A_dgN_2_0]
  rfl

theorem A_dgN_1_1 :
    (kernelRun0_A.sl.v1350 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 1 2 := by
  have e : (kernelRun0_A.sl.v1350 (F := Ideal) c arg3 harg3 arg9 harg9 arg11 harg11 arg15 x2 x8 x10)
      = kernelRun0_A.sl.r_149 (F := Ideal) c arg3 harg3 arg9 harg9 arg11 harg11 arg15 x2 x8 x10 := by
    simp (disch := decide) only [kernelRun0_A.sl.v1350, kernelRun0_A.sl.H13_10, kernelRun0_A.sl.H13_9, kernelRun0_A.sl.H13_8, kernelRun0_A.sl.H13_7, View.readCov_skip, View.readCov_cons_toLoadRect]
  rw [e, A_dg_2_1 (dstN (mb arg1 harg1 arg2 harg2 arg3 harg3 arg4 harg4 arg8 harg8 arg9 harg9 arg10 harg10 arg11 harg11 x0 x1 x2 x3 x7 x8 x9 x10) (k0_pay4 (F := Ideal)) 1 1), A_dgN_2_1]
  rfl

theorem A_dgN_1_2 :
    (kernelRun0_A.sl.v1488 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 2 2 := by
  have e : (kernelRun0_A.sl.v1488 (F := Ideal) c arg3 harg3 arg9 harg9 arg11 harg11 arg15 x2 x8 x10)
      = k0_pay255 (F := Ideal) (kernelRun0_A.sl.r_168 (F := Ideal) c arg3 harg3 x2) (kernelRun0_A.sl.r_169 (F := Ideal) c arg11 harg11 x10) (kernelRun0_A.sl.r_170 (F := Ideal) c arg3 harg3 x2) (kernelRun0_A.sl.r_172 (F := Ideal) c arg9 harg9 x8) (kernelRun0_A.sl.v924 (F := Ideal) c arg3 harg3 arg9 harg9 arg11 harg11 arg15 x2 x8 x10) := by
    simp (disch := decide) only [kernelRun0_A.sl.v1488, kernelRun0_A.sl.H13_11, kernelRun0_A.sl.H13_10, kernelRun0_A.sl.H13_9, kernelRun0_A.sl.H13_8, View.readCov_skip, View.readCov_cons_toLoadRect]
  rw [e, A_dg_2_2 (dstN (mb arg1 harg1 arg2 harg2 arg3 harg3 arg4 harg4 arg8 harg8 arg9 harg9 arg10 harg10 arg11 harg11 x0 x1 x2 x3 x7 x8 x9 x10) (k0_pay4 (F := Ideal)) 2 1), A_dgN_2_2]
  rfl

theorem A_dgN_1_3 :
    (kernelRun0_A.sl.v1626 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 3 2 := by
  have e : (kernelRun0_A.sl.v1626 (F := Ideal) c arg3 harg3 arg9 harg9 arg11 harg11 arg15 x2 x8 x10)
      = kernelRun0_A.sl.r_197 (F := Ideal) c arg3 harg3 arg9 harg9 arg11 harg11 arg15 x2 x8 x10 := by
    simp (disch := decide) only [kernelRun0_A.sl.v1626, kernelRun0_A.sl.H13_12, kernelRun0_A.sl.H13_11, kernelRun0_A.sl.H13_10, kernelRun0_A.sl.H13_9, View.readCov_skip, View.readCov_cons_toLoadRect]
  rw [e, A_dg_2_3 (dstN (mb arg1 harg1 arg2 harg2 arg3 harg3 arg4 harg4 arg8 harg8 arg9 harg9 arg10 harg10 arg11 harg11 x0 x1 x2 x3 x7 x8 x9 x10) (k0_pay4 (F := Ideal)) 3 1), A_dgN_2_3]
  rfl

theorem A_dgN_0_0 :
    (kernelRun0_A.sl.v1776 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 0 3 := by
  have e : (kernelRun0_A.sl.v1776 (F := Ideal) c arg3 harg3 arg9 harg9 arg11 harg11 arg15 x2 x8 x10)
      = k0_pay327 (F := Ideal) (kernelRun0_A.sl.r_220 (F := Ideal) c arg9 harg9 x8) (kernelRun0_A.sl.r_221 (F := Ideal) c arg3 harg3 x2) (kernelRun0_A.sl.r_222 (F := Ideal) c arg11 harg11 x10) (kernelRun0_A.sl.r_223 (F := Ideal) c arg3 harg3 x2) (kernelRun0_A.sl.v1212 (F := Ideal) c arg3 harg3 arg9 harg9 arg11 harg11 arg15 x2 x8 x10) := by
    simp (disch := decide) only [kernelRun0_A.sl.v1776, kernelRun0_A.sl.H13_13, kernelRun0_A.sl.H13_12, kernelRun0_A.sl.H13_11, kernelRun0_A.sl.H13_10, View.readCov_skip, View.readCov_cons_toLoadRect]
  rw [e, A_dg_1_0 (dstN (mb arg1 harg1 arg2 harg2 arg3 harg3 arg4 harg4 arg8 harg8 arg9 harg9 arg10 harg10 arg11 harg11 x0 x1 x2 x3 x7 x8 x9 x10) (k0_pay4 (F := Ideal)) 0 2), A_dgN_1_0]
  rfl

theorem A_dgN_0_1 :
    (kernelRun0_A.sl.v1914 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 1 3 := by
  have e : (kernelRun0_A.sl.v1914 (F := Ideal) c arg3 harg3 arg9 harg9 arg11 harg11 arg15 x2 x8 x10)
      = k0_pay364 (F := Ideal) (kernelRun0_A.sl.r_244 (F := Ideal) c arg3 harg3 x2) (kernelRun0_A.sl.r_245 (F := Ideal) c arg11 harg11 x10) (kernelRun0_A.sl.r_246 (F := Ideal) c arg3 harg3 x2) (kernelRun0_A.sl.r_248 (F := Ideal) c arg9 harg9 x8) (kernelRun0_A.sl.v1350 (F := Ideal) c arg3 harg3 arg9 harg9 arg11 harg11 arg15 x2 x8 x10) := by
    simp (disch := decide) only [kernelRun0_A.sl.v1914, kernelRun0_A.sl.H13_14, kernelRun0_A.sl.H13_13, kernelRun0_A.sl.H13_12, kernelRun0_A.sl.H13_11, View.readCov_skip, View.readCov_cons_toLoadRect]
  rw [e, A_dg_1_1 (dstN (mb arg1 harg1 arg2 harg2 arg3 harg3 arg4 harg4 arg8 harg8 arg9 harg9 arg10 harg10 arg11 harg11 x0 x1 x2 x3 x7 x8 x9 x10) (k0_pay4 (F := Ideal)) 1 2), A_dgN_1_1]
  rfl

theorem A_dgN_0_2 :
    (kernelRun0_A.sl.v2052 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 2 3 := by
  have e : (kernelRun0_A.sl.v2052 (F := Ideal) c arg3 harg3 arg9 harg9 arg11 harg11 arg15 x2 x8 x10)
      = k0_pay402 (F := Ideal) (kernelRun0_A.sl.r_270 (F := Ideal) c arg9 harg9 x8) (kernelRun0_A.sl.r_271 (F := Ideal) c arg3 harg3 x2) (kernelRun0_A.sl.r_272 (F := Ideal) c arg11 harg11 x10) (kernelRun0_A.sl.r_273 (F := Ideal) c arg3 harg3 x2) (kernelRun0_A.sl.v1488 (F := Ideal) c arg3 harg3 arg9 harg9 arg11 harg11 arg15 x2 x8 x10) := by
    simp (disch := decide) only [kernelRun0_A.sl.v2052, kernelRun0_A.sl.H13_15, kernelRun0_A.sl.H13_14, kernelRun0_A.sl.H13_13, kernelRun0_A.sl.H13_12, View.readCov_skip, View.readCov_cons_toLoadRect]
  rw [e, A_dg_1_2 (dstN (mb arg1 harg1 arg2 harg2 arg3 harg3 arg4 harg4 arg8 harg8 arg9 harg9 arg10 harg10 arg11 harg11 x0 x1 x2 x3 x7 x8 x9 x10) (k0_pay4 (F := Ideal)) 2 2), A_dgN_1_2]
  rfl

theorem A_dgN_0_3 :
    (kernelRun0_A.sl.v2190 (F := Ideal) c arg3 harg3 arg9 harg9 arg11 harg11 arg15 x2 x8 x10)
      = dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) 3 3 := by
  have e : (kernelRun0_A.sl.v2190 (F := Ideal) c arg3 harg3 arg9 harg9 arg11 harg11 arg15 x2 x8 x10)
      = k0_pay439 (F := Ideal) (kernelRun0_A.sl.r_294 (F := Ideal) c arg3 harg3 x2) (kernelRun0_A.sl.r_295 (F := Ideal) c arg11 harg11 x10) (kernelRun0_A.sl.r_296 (F := Ideal) c arg3 harg3 x2) (kernelRun0_A.sl.r_298 (F := Ideal) c arg9 harg9 x8) (kernelRun0_A.sl.v1626 (F := Ideal) c arg3 harg3 arg9 harg9 arg11 harg11 arg15 x2 x8 x10) := by
    simp (disch := decide) only [kernelRun0_A.sl.v2190, kernelRun0_A.sl.H13_16, kernelRun0_A.sl.H13_15, kernelRun0_A.sl.H13_14, kernelRun0_A.sl.H13_13, View.readCov_skip, View.readCov_cons_toLoadRect]
  rw [e, A_dg_1_3 (dstN (mb arg1 harg1 arg2 harg2 arg3 harg3 arg4 harg4 arg8 harg8 arg9 harg9 arg10 harg10 arg11 harg11 x0 x1 x2 x3 x7 x8 x9 x10) (k0_pay4 (F := Ideal)) 3 2), A_dgN_1_3]
  rfl

end Gla

end
-- ==== Proof.Pt.lean ====
module

public import proofs.«01_k».proof.Proof.Blk

/-!
What one grid point computes, as real numbers, when its blocks hold rows of real arrays.
-/

@[expose] public section

set_option maxRecDepth 16384

noncomputable section

namespace Gla

open Idealize.ShloMosaic Cert.KernelIdeal Cert.KernelIdeal.Gen Finset

/-- The arrays of the whole call, as real numbers at a row and a column. -/
structure Arr where
  a : ℕ → ℕ → ℝ
  qk : ℕ → ℕ → ℝ
  v : ℕ → ℕ → ℝ
  o : ℕ → ℕ → ℝ
  y : ℕ → ℕ → ℝ
  r : ℕ → ℕ → ℝ
  g : ℕ → ℝ

namespace Arr

variable (A : Arr) (h : ℕ)

def aH (x : Fin 128) : ℕ → ℝ := col A.a (128 * h + x)
def qH (x : Fin 128) (t : ℕ) : ℝ := A.qk t (128 * h + x)
def kH (x : Fin 128) (t : ℕ) : ℝ := A.qk t (512 + 128 * h + x)
def vH (x : Fin 256) (t : ℕ) : ℝ := A.v t (256 * h + x)
def oH (x : Fin 256) (t : ℕ) : ℝ := A.o t (256 * h + x)
def yH (x : Fin 256) (t : ℕ) : ℝ := A.y t (256 * h + x)
def rH (x : Fin 256) (t : ℕ) : ℝ := A.r t (256 * h + x)
def gH (x : Fin 256) : ℝ := A.g (256 * h + x)

/-- The gradient of the attention's output. -/
def dH (x : Fin 256) (t : ℕ) : ℝ := dO (A.oH h) (A.yH h) (A.rH h) (A.gH h) x t

/-- The gradient of the query at row `t`. -/
def dq (x : Fin 128) (t : ℕ) : ℝ := DQ (A.aH h x) (A.kH h x) (Dt (A.dH h) (A.vH h)) t * scl
/-- The gradient of the key. -/
def dk (N : ℕ) (x : Fin 128) (t : ℕ) : ℝ := DK (A.aH h x) (sq (A.qH h) x) (Dt (A.dH h) (A.vH h)) N t
/-- The gradient of the value. -/
def dv (N : ℕ) (x : Fin 256) (t : ℕ) : ℝ := DV (A.aH h) (sq (A.qH h)) (A.kH h) (A.dH h x) N t
/-- The gradient of the gate's argument. -/
def dr (x : Fin 256) (t : ℕ) : ℝ := drv (fun z => A.oH h z t) (fun z => A.yH h z t) (fun z => A.rH h z t) (A.gH h) x
/-- The gradient of the log decay. -/
def dla (N : ℕ) (x : Fin 128) (t : ℕ) : ℝ := DLA (A.aH h x) (sq (A.qH h) x) (A.kH h x) (Dt (A.dH h) (A.vH h)) N t
/-- One row's part of the gradient of the gain. -/
def dg (x : Fin 256) (t : ℕ) : ℝ := donv (A.yH h x t) (A.rH h x t) * nn (fun z => A.oH h z t) x
/-- The gradient of the state before row `n`. -/
def ds (N : ℕ) (z : Fin 256) (x : Fin 128) (n : ℕ) : ℝ := Tt (A.aH h x) (sq (A.qH h) x) (A.dH h z) N n

end Arr

/-- The blocks hold the rows from `n` on. -/
structure BlkOk (A : Arr) (B : Blk) (n : ℕ) : Prop where
  x0 : ∀ (i : Fin 256) (j : Fin 1024), B.x0 (ix2 i j) = ((A.qk (n + i) j : ℝ) : EReal)
  x1 : ∀ (i : Fin 256) (j : Fin 1024), B.x1 (ix2 i j) = ((A.v (n + i) j : ℝ) : EReal)
  x2 : ∀ (i : Fin 256) (j : Fin 1024), B.x2 (ix2 i j) = ((A.r (n + i) j : ℝ) : EReal)
  x3 : ∀ (i : Fin 256) (j : Fin 512), B.x3 (ix2 i j) = ((A.a (n + i) j : ℝ) : EReal)
  x7 : ∀ (j : Fin 1024), B.x7 (ix2 0 j) = ((A.g j : ℝ) : EReal)
  x8 : ∀ (i : Fin 256) (j : Fin 1024), B.x8 (ix2 i j) = ((A.o (n + i) j : ℝ) : EReal)
  x9 : ∀ (c h : Fin 4) (z : Fin 256) (x : Fin 128),
    B.x9 (ix4 c h z x) = ((St (A.aH h x) (A.kH h x) (A.vH h z) (n + 64 * c) : ℝ) : EReal)
  x10 : ∀ (i : Fin 256) (j : Fin 1024), B.x10 (ix2 i j) = ((A.y (n + i) j : ℝ) : EReal)

theorem ld2 {s0 s1 a0 a1 o0 o1 : ℕ} {φ : EltTy} (X : Vec Ideal ⟨2, ![s0, s1]⟩ φ)
    (inb : ∀ i : Fin 2, (![o0, o1] : Fin 2 → ℕ) i + (![a0, a1] : Fin 2 → ℕ) i ≤ (![s0, s1] : Fin 2 → ℕ) i)
    (i : Fin a0) (j : Fin a1) :
    View.ld X (Rect.unit (s := ⟨2, ![s0, s1]⟩) ![o0, o1] ![a0, a1] inb) (ix2 i j)
      = X (ix2 ⟨o0 + i, by have := inb 0; simp at this; omega⟩ ⟨o1 + j, by have := inb 1; simp at this; omega⟩) := by
  unfold View.ld
  congr 1
  funext k
  fin_cases k <;> (apply Fin.ext; simp [Rect.unit, Rect.emb])

section

variable {A : Arr} {B : Blk} {n N : ℕ} (H : BlkOk A B n)
include H

theorem la_ok (c : Fin 4) (i : Fin 64) (j : Fin 512) : laOf B c (ix2 i j) = ((A.a (n + 64 * c + i) j : ℝ) : EReal) := by
  unfold laOf
  refine (ld2 B.x3 _ i j).trans ((H.x3 _ _).trans ?_)
  simp [Nat.add_assoc]

theorem tile_ok (hN : n + 256 ≤ N) (c h : Fin 4) (dst : Vec Ideal S1x256x128 .f32)
    (hd : ∀ z x, dst (ix3 0 z x) = ((A.ds h N z x (n + 64 * c + 64) : ℝ) : EReal)) :
    Ok (tileOf B c h dst) (n + 64 * c) N (A.aH h) (A.qH h) (A.kH h) (A.vH h) (A.oH h) (A.yH h) (A.rH h) (A.gH h) where
  hN := by omega
  eb i x := by
    have := p13 (n + 64 * c) A.a _ (la_ok H c) i ⟨128 * h + x, by omega⟩
    pointwise [tileOf]
    exact this
  ekl i x := by
    have := p14 (n + 64 * c) A.a _ (la_ok H c) i ⟨128 * h + x, by omega⟩
    pointwise [tileOf]
    exact this
  eih x := by
    have := p15 (n + 64 * c) A.a _ (la_ok H c) ⟨128 * h + x, by omega⟩
    pointwise [tileOf]
    exact this
  gam x := by
    have := p16 (n + 64 * c) A.a _ (la_ok H c) ⟨128 * h + x, by omega⟩
    pointwise [tileOf]
    exact this
  hq i x := by
    refine (ld2 B.x0 _ i x).trans ((H.x0 _ _).trans ?_)
    simp [Arr.qH, Nat.add_assoc]
  hk i x := by
    refine (ld2 B.x0 _ i x).trans ((H.x0 _ _).trans ?_)
    simp [Arr.kH, Nat.add_assoc]
  hv i x := by
    refine (ld2 B.x1 _ i x).trans ((H.x1 _ _).trans ?_)
    simp [Arr.vH, Nat.add_assoc]
  ho i x := by
    refine (ld2 B.x8 _ i x).trans ((H.x8 _ _).trans ?_)
    simp [Arr.oH, Nat.add_assoc]
  hr i x := by
    refine (ld2 B.x2 _ i x).trans ((H.x2 _ _).trans ?_)
    simp [Arr.rH, Nat.add_assoc]
  hy i x := by
    refine (ld2 B.x10 _ i x).trans ((H.x10 _ _).trans ?_)
    simp [Arr.yH, Nat.add_assoc]
  hg x := by
    refine (ld2 B.x7 _ 0 x).trans ((H.x7 _).trans ?_)
    simp [Arr.gH]
  st z x := by
    refine Eq.trans ?_ (H.x9 c h z x)
    unfold tileOf View.ld
    dsimp only
    congr 1
    funext k
    fin_cases k <;> (apply Fin.ext; simp [Rect.unit, Rect.emb])
  dst := hd

theorem dst0_ok (xs : Vec Ideal S4x256x128 .f32) (h : Fin 4) (z : Fin 256) (x : Fin 128) :
    dst0 xs h (ix3 0 z x) = xs (ix3 h z x) := by
  unfold dst0 View.ld
  congr 1
  funext k
  fin_cases k <;> (apply Fin.ext; simp [Rect.unit])

variable (hN : n + 256 ≤ N) (xs : Vec Ideal S4x256x128 .f32)
  (hxs : ∀ h z x, xs (ix3 h z x) = ((A.ds (h : Fin 4) N z x (n + 256) : ℝ) : EReal))
include hN hxs

theorem dstN_ok (h : Fin 4) (s : ℕ) (hs : s ≤ 4) (z : Fin 256) (x : Fin 128) :
    dstN B xs h s (ix3 0 z x) = ((A.ds h N z x (n + 64 * (4 - s)) : ℝ) : EReal) := by
  induction s generalizing z x with
  | zero => exact (dst0_ok H xs h z x).trans (hxs h z x)
  | succ s ih =>
    have hc : ((Fin.ofNat 4 (3 - s) : Fin 4) : ℕ) = 3 - s := by simp [Fin.ofNat]; omega
    have e : n + 64 * (4 - s) = n + 64 * ((Fin.ofNat 4 (3 - s) : Fin 4) : ℕ) + 64 := by rw [hc]; omega
    have := (tile_ok H hN (Fin.ofNat 4 (3 - s)) h (dstN B xs h s) (fun z x => by rw [ih (by omega) z x, e])).nxt z x
    refine this.trans ?_
    unfold Arr.ds
    rw [hc, show 4 - (s + 1) = 3 - s by omega]
    rfl

theorem tl_ok (c h : Fin 4) :
    Ok (tl B xs c h) (n + 64 * c) N (A.aH h) (A.qH h) (A.kH h) (A.vH h) (A.oH h) (A.yH h) (A.rH h) (A.gH h) :=
  tile_ok H hN c h _ fun z x => by
    rw [dstN_ok H hN xs hxs h (3 - c) (by omega) z x, show n + 64 * (4 - (3 - (c : ℕ))) = n + 64 * c + 64 by omega]

theorem dq_ok (c h : Fin 4) (i : Fin 64) (x : Fin 128) : (tl B xs c h).dq (ix2 i x) = ((A.dq h x (n + 64 * c + i) : ℝ) : EReal) :=
  (tl_ok H hN xs hxs c h).dq i x

theorem dk_ok (c h : Fin 4) (i : Fin 64) (x : Fin 128) : (tl B xs c h).dk (ix2 i x) = ((A.dk h N x (n + 64 * c + i) : ℝ) : EReal) :=
  (tl_ok H hN xs hxs c h).dk i x

theorem dv_ok (c h : Fin 4) (i : Fin 64) (x : Fin 256) : (tl B xs c h).dv (ix2 i x) = ((A.dv h N x (n + 64 * c + i) : ℝ) : EReal) :=
  (tl_ok H hN xs hxs c h).dv i x

theorem dr_ok (c h : Fin 4) (i : Fin 64) (x : Fin 256) : (tl B xs c h).dr (ix2 i x) = ((A.dr h x (n + 64 * c + i) : ℝ) : EReal) :=
  (tl_ok H hN xs hxs c h).dr i x

theorem dla_ok (c h : Fin 4) (i : Fin 64) (x : Fin 128) : (tl B xs c h).dla (ix2 i x) = ((A.dla h N x (n + 64 * c + i) : ℝ) : EReal) :=
  (tl_ok H hN xs hxs c h).dla i x

theorem dgN_ok (xo : Vec Ideal S1x1024 .f32) (h : Fin 4)
    (hxo : ∀ x : Fin 256, xo (ix2 0 ⟨256 * h + x, by omega⟩) = ((∑ t ∈ Ico (n + 256) N, A.dg h x t : ℝ) : EReal))
    (s : ℕ) (hs : s ≤ 4) (x : Fin 256) :
    dgN B xs xo h s (ix2 0 x) = ((∑ t ∈ Ico (n + 64 * (4 - s)) N, A.dg h x t : ℝ) : EReal) := by
  induction s with
  | zero => exact (ld2 xo _ 0 x).trans (hxo x)
  | succ s ih =>
    have hc : ((Fin.ofNat 4 (3 - s) : Fin 4) : ℕ) = 3 - s := by simp [Fin.ofNat]; omega
    refine ((tl_ok H hN xs hxs (Fin.ofNat 4 (3 - s)) h).dg _ x _ (ih (by omega))).trans ?_
    congr 1
    rw [hc, show n + 64 * (4 - s) = n + 64 * (3 - s) + 64 by omega, show 4 - (s + 1) = 3 - s by omega,
      ← sum_Ico_consecutive _ (show n + 64 * (3 - s) ≤ n + 64 * (3 - s) + 64 by omega) (by omega), add_comm,
      sum_Ico_eq_sum_range _ (n + 64 * (3 - s)) (n + 64 * (3 - s) + 64),
      Nat.add_sub_cancel_left, sum_range]
    rfl

end

end Gla

end
-- ==== Proof.Dz.lean ====
module

public import proofs.«01_k».proof.Proof.Row

/-!
The gradient of the gate's logits, from that of the log decay.
-/

@[expose] public section

set_option maxRecDepth 16384

noncomputable section

namespace Gla

open Idealize.ShloMosaic Cert.KernelIdeal Cert.KernelIdeal.Gen Finset

/-- The gradient of a logit at row `t`: nothing on the padded rows. -/
def dzv (d z : ℝ) (t : ℕ) : ℝ := d * (1 / 16) * sg (-z) * (if 240 ≤ t then 1 else 0)

theorem mask240 : ∀ (b : Fin 33) (i : Fin 256),
    IntOp.cmpi CmpIPredicate.sge (IntOp.addi (Scalar.muli (BitVec.ofNat 32 (b : ℕ)) 256#32) (BitVec.ofNat 32 (i : ℕ))) 240#32
      = if 240 ≤ 256 * (b : ℕ) + i then 1#1 else 0#1 := by
  decide +kernel

section

variable (b : Fin 33) (dla : Vec Ideal S256x512 .f32) (D : ℕ → ℕ → ℝ)
  (hd : ∀ (i : Fin 256) (j : Fin 512), dla (ix2 i j) = ((D (256 * b + i) j : ℝ) : EReal))
  (x4 : Vec Ideal S256x128 .f32) (x5 : Vec Ideal S128x512 .f32) (x6 : Vec Ideal S1x512 .f32)
  (L W : ℕ → ℕ → ℝ) (bb : ℕ → ℝ)
  (h4 : ∀ (i : Fin 256) (r : Fin 128), x4 (ix2 i r) = ((L (256 * b + i) r : ℝ) : EReal))
  (h5 : ∀ (r : Fin 128) (j : Fin 512), x5 (ix2 r j) = ((W r j : ℝ) : EReal))
  (h6 : ∀ j : Fin 512, x6 (ix2 0 j) = ((bb j : ℝ) : EReal))

/-- The logit at row `t`. -/
def zv (L W : ℕ → ℕ → ℝ) (bb : ℕ → ℝ) (t j : ℕ) : ℝ := ∑ r : Fin 128, L t r * W r j + bb j

include h4 h5 h6 in
theorem p600 (i : Fin 256) (j : Fin 512) :
    k0_pay600 (F := Ideal) x4 x5 x6 (ix2 i j) = ((1 + Real.exp (zv L W bb (256 * b + i) j) : ℝ) : EReal) := by
  pointwise [Gen.k0_pay600]
  simp only [h4, h5, h6, ← EReal.coe_mul, coe_sum, ← EReal.coe_add, zero_sub, ← EReal.coe_neg, neg_neg, Ideal.exp_coe, one_coe]
  rfl

include hd h4 h5 h6

theorem p1 (i : Fin 256) (j : Fin 512) :
    k0_pay1 (F := Ideal) (BitVec.ofNat 32 (b : ℕ)) (k0_pay599 dla) (k0_pay600 x4 x5 x6) k0_pay601 (ix2 i j)
      = ((dzv (D (256 * b + i) j) (zv L W bb (256 * b + i) j) (256 * b + i) : ℝ) : EReal) := by
  pointwise [Gen.k0_pay1, Gen.k0_pay599, Gen.k0_pay601]
  rw [p600 b x4 x5 x6 L W bb h4 h5 h6, hd]
  rw [mask240, ofBits_sixteenth, one_coe, div_coe' (by positivity)]
  have e : (FloatOps.sitofp (F := Ideal) FTy.f32 (BitVec.setWidth 32 (if 240 ≤ 256 * (b : ℕ) + i then 1#1 else 0#1)))
      = (((if 240 ≤ 256 * (b : ℕ) + i then 1 else 0 : ℝ)) : EReal) := by
    split_ifs <;> simp [FloatOps.sitofp]
  rw [e]
  simp only [← EReal.coe_mul]
  unfold dzv sg
  rw [neg_neg]

theorem p3 (i : Fin 256) (j : Fin 512) :
    k0_pay3 (F := Ideal) (BitVec.ofNat 32 (b : ℕ)) (k0_pay599 dla) (k0_pay600 x4 x5 x6) k0_pay601 (ix2 i j)
      = ((dzv (D (256 * b + i) j) (zv L W bb (256 * b + i) j) (256 * b + i) : ℝ) : EReal) := by
  pointwise [Gen.k0_pay3]
  exact p1 b dla D hd x4 x5 x6 L W bb h4 h5 h6 i j

theorem p2 (old : Vec Ideal S1x512 .f32) (j : Fin 512) (N : ℕ) (hN : 256 * (b : ℕ) + 256 ≤ N)
    (ho : old (ix2 0 j) = ((∑ t ∈ Ico (256 * (b : ℕ) + 256) N, dzv (D t j) (zv L W bb t j) t : ℝ) : EReal)) :
    k0_pay2 (F := Ideal) (BitVec.ofNat 32 (b : ℕ)) (k0_pay599 dla) (k0_pay600 x4 x5 x6) k0_pay601 old (ix2 0 j)
      = ((∑ t ∈ Ico (256 * (b : ℕ)) N, dzv (D t j) (zv L W bb t j) t : ℝ) : EReal) := by
  pointwise [Gen.k0_pay2]
  simp only [p1 b dla D hd x4 x5 x6 L W bb h4 h5 h6, coe_sum]
  rw [ho, ← EReal.coe_add]
  congr 1
  rw [← sum_Ico_consecutive _ (show 256 * (b : ℕ) ≤ 256 * b + 256 by omega) hN, add_comm,
    sum_Ico_eq_sum_range _ (256 * (b : ℕ)) (256 * b + 256), Nat.add_sub_cancel_left, sum_range]

end

end Gla

end
-- ==== Proof.Lists.lean ====
module

public import proofs.«01_k».proof.Proof.Pt
public import proofs.«01_k».proof.Proof.Dz
public import Idealize.ShloMosaic.Lib.Pipeline.ReadBack
public import Idealize.ShloMosaic.Lib.Tactic
public import Idealize.ShloMosaic.Lib.Ring

/-!
The pieces that one grid point writes, as lists over the tiles, and what each list leaves in its block.
-/

@[expose] public section

set_option maxRecDepth 16384

noncomputable section

namespace Gla

open Idealize.ShloMosaic Cert.KernelIdeal Cert.KernelIdeal.Gen Finset

variable (B : Blk) (D : Fin 4 → Fin 4 → Vec Ideal S1x256x128 .f32)

/-- The pieces of the projections' gradients that chunk `c` and head `h` write. -/
def dpP (c h : Fin 4) : List (View.Piece (Elt Ideal) S256x4096 .bf16) :=
  [⟨Rect.unit (s := S256x4096) ![64 * (c : ℕ), 512 + 128 * (h : ℕ)] S64x128.size (inb2 (by omega) (by omega)), (tileOf B c h (D c h)).dk⟩,
   ⟨Rect.unit (s := S256x4096) ![64 * (c : ℕ), 128 * (h : ℕ)] S64x128.size (inb2 (by omega) (by omega)), (tileOf B c h (D c h)).dq⟩,
   ⟨Rect.unit (s := S256x4096) ![64 * (c : ℕ), 1024 + 256 * (h : ℕ)] S64x256.size (inb2 (by omega) (by omega)), (tileOf B c h (D c h)).dv⟩,
   ⟨Rect.unit (s := S256x4096) ![64 * (c : ℕ), 2048 + 256 * (h : ℕ)] S64x256.size (inb2 (by omega) (by omega)), (tileOf B c h (D c h)).dr⟩]

/-- The pieces of the log decay's gradient that chunk `c` and head `h` write. -/
def dlaP (c h : Fin 4) : List (View.Piece (Elt Ideal) S256x512 .f32) :=
  [⟨Rect.unit (s := S256x512) ![64 * (c : ℕ), 128 * (h : ℕ)] S64x128.size (inb2 (by omega) (by omega)), (tileOf B c h (D c h)).dla⟩]

/-- The pieces of the state's gradient that the first chunk writes. -/
def nxtP (h : Fin 4) : List (View.Piece (Elt Ideal) S4x256x128 .f32) :=
  [⟨Rect.unit (s := S4x256x128) ![(h : ℕ), 0, 0] S1x256x128.size (by revert h; decide), (tileOf B 0 h (D 0 h)).nxt⟩]

/-- The pieces of the gain's gradient that the first chunk writes. -/
def dgP (E : Fin 4 → Vec Ideal S1x256 .f32) (h : Fin 4) : List (View.Piece (Elt Ideal) S1x1024 .f32) :=
  [⟨Rect.unit (s := S1x1024) ![0, 256 * (h : ℕ)] S1x256.size (inb2 (by omega) (by omega)), (tileOf B 0 h (D 0 h)).dg (E h)⟩]

/-- Over all chunks and heads, the last written first. -/
def allP {s : Shape} {e : EltTy} (P : Fin 4 → Fin 4 → List (View.Piece (Elt Ideal) s e)) (L : List (View.Piece (Elt Ideal) s e)) :
    List (View.Piece (Elt Ideal) s e) :=
  P 0 3 ++ (P 0 2 ++ (P 0 1 ++ (P 0 0 ++ (P 1 3 ++ (P 1 2 ++ (P 1 1 ++ (P 1 0 ++ (P 2 3 ++ (P 2 2 ++ (P 2 1 ++ (P 2 0 ++ (P 3 3 ++ (P 3 2 ++ (P 3 1 ++ (P 3 0 ++ L)))))))))))))))

/-- Over all heads, the last written first. -/
def headP {s : Shape} {e : EltTy} (P : Fin 4 → List (View.Piece (Elt Ideal) s e)) : List (View.Piece (Elt Ideal) s e) :=
  P 3 ++ (P 2 ++ (P 1 ++ P 0))

def dpL : List (View.Piece (Elt Ideal) S256x4096 .bf16) :=
  allP (dpP B D) [⟨Rect.unit (s := S256x4096) ![0, 3072] S256x1024.size (inb2 (by omega) (by omega)), k0_pay7 (F := Ideal)⟩]

def dlaL : List (View.Piece (Elt Ideal) S256x512 .f32) := allP (dlaP B D) []

def nxtL : List (View.Piece (Elt Ideal) S4x256x128 .f32) := headP (nxtP B D)

def dgL (E : Fin 4 → Vec Ideal S1x256 .f32) : List (View.Piece (Elt Ideal) S1x1024 .f32) := headP (dgP B D E)

section

variable {κ : Kind} {sp : Space} (v : View sig κ sp S256x512 .f32) (w : BitVec 32)
  (x4 : Vec Ideal S256x128 .f32) (x5 : Vec Ideal S128x512 .f32) (x6 : Vec Ideal S1x512 .f32)

/-- The log decay's gradient, read back. -/
def dlaR : Vec Ideal S256x512 .f32 :=
  v.readCov (dlaL B D) (Rect.unit (s := S256x512) ![0, 0] S256x512.size inb_S256x512_S256x512_0_0).toLoadRect

def dzL : List (View.Piece (Elt Ideal) S256x512 .bf16) :=
  [⟨Rect.unit (s := S256x512) ![0, 0] S256x512.size inb_S256x512_S256x512_0_0,
    k0_pay3 (F := Ideal) w (k0_pay599 (dlaR B D v)) (k0_pay600 (View.ld x4 (Rect.unit (s := S256x128) ![0, 0] S256x128.size inb_S256x128_S256x128_0_0))
      (View.ld x5 (Rect.unit (s := S128x512) ![0, 0] S128x512.size inb_S128x512_S128x512_0_0))
      (View.ld x6 (Rect.unit (s := S1x512) ![0, 0] S1x512.size inb_S1x512_S1x512_0_0))) k0_pay601⟩]

def dbaL (old : Vec Ideal S1x512 .f32) (L : List (View.Piece (Elt Ideal) S1x512 .f32)) : List (View.Piece (Elt Ideal) S1x512 .f32) :=
  ⟨Rect.unit (s := S1x512) ![0, 0] S1x512.size inb_S1x512_S1x512_0_0,
    k0_pay2 (F := Ideal) w (k0_pay599 (dlaR B D v)) (k0_pay600 (View.ld x4 (Rect.unit (s := S256x128) ![0, 0] S256x128.size inb_S256x128_S256x128_0_0))
      (View.ld x5 (Rect.unit (s := S128x512) ![0, 0] S128x512.size inb_S128x512_S128x512_0_0))
      (View.ld x6 (Rect.unit (s := S1x512) ![0, 0] S1x512.size inb_S1x512_S1x512_0_0))) k0_pay601
      (View.ld old (Rect.unit (s := S1x512) ![0, 0] S1x512.size inb_S1x512_S1x512_0_0))⟩ :: L

end

theorem dpL_cover (y : S256x4096.Idx) : ∃ p ∈ dpL B D, y ∈ p.1.set :=
  View.cover_of_tiledBy (dpL B D) ![64, 128] (by sl_kernel_rfl) y

theorem dlaL_cover (y : S256x512.Idx) : ∃ p ∈ dlaL B D, y ∈ p.1.set :=
  View.cover_of_tiledBy (dlaL B D) ![64, 128] (by sl_kernel_rfl) y

theorem nxtL_cover (y : S4x256x128.Idx) : ∃ p ∈ nxtL B D, y ∈ p.1.set :=
  View.cover_of_tiledBy (nxtL B D) ![1, 256, 128] (by sl_kernel_rfl) y

theorem dgL_cover (E : Fin 4 → Vec Ideal S1x256 .f32) (y : S1x1024.Idx) : ∃ p ∈ dgL B D E, y ∈ p.1.set :=
  View.cover_of_tiledBy (dgL B D E) ![1, 256] (by sl_kernel_rfl) y

theorem mat_eq {α : Type} (f : Fin 4 → Fin 4 → α) {a00 a01 a02 a03 a10 a11 a12 a13 a20 a21 a22 a23 a30 a31 a32 a33 : α}
    (h00 : a00 = f 0 0) (h01 : a01 = f 0 1) (h02 : a02 = f 0 2) (h03 : a03 = f 0 3) (h10 : a10 = f 1 0) (h11 : a11 = f 1 1) (h12 : a12 = f 1 2) (h13 : a13 = f 1 3) (h20 : a20 = f 2 0) (h21 : a21 = f 2 1) (h22 : a22 = f 2 2) (h23 : a23 = f 2 3) (h30 : a30 = f 3 0) (h31 : a31 = f 3 1) (h32 : a32 = f 3 2) (h33 : a33 = f 3 3) :
    (![![a00, a01, a02, a03], ![a10, a11, a12, a13], ![a20, a21, a22, a23], ![a30, a31, a32, a33]] : Fin 4 → Fin 4 → α) = f := by
  subst h00 h01 h02 h03 h10 h11 h12 h13 h20 h21 h22 h23 h30 h31 h32 h33
  funext c h
  fin_cases c <;> fin_cases h <;> rfl

theorem vec_eq {α : Type} (f : Fin 4 → α) {a0 a1 a2 a3 : α} (h0 : a0 = f 0) (h1 : a1 = f 1) (h2 : a2 = f 2) (h3 : a3 = f 3) :
    (![a0, a1, a2, a3] : Fin 4 → α) = f := by
  subst h0 h1 h2 h3
  funext h
  fin_cases h <;> rfl

section

variable {s : Shape} {e : EltTy} (G : s.Idx → Elt Ideal e)

theorem pieces_append {L L' : List (View.Piece (Elt Ideal) s e)} (h : View.PiecesOf G L) (h' : View.PiecesOf G L') :
    View.PiecesOf G (L ++ L') := by
  induction L with
  | nil => exact h'
  | cons p L ih => exact ⟨h.1, ih h.2⟩

theorem pieces_allP {P : Fin 4 → Fin 4 → List (View.Piece (Elt Ideal) s e)} {L : List (View.Piece (Elt Ideal) s e)}
    (h : ∀ c k, View.PiecesOf G (P c k)) (h' : View.PiecesOf G L) : View.PiecesOf G (allP P L) := by
  unfold allP
  repeat' apply pieces_append
  all_goals first | exact h _ _ | exact h'

theorem pieces_headP {P : Fin 4 → List (View.Piece (Elt Ideal) s e)}
    (h : ∀ k, View.PiecesOf G (P k)) : View.PiecesOf G (headP P) := by
  unfold headP
  repeat' apply pieces_append
  all_goals exact h _

end

theorem emb2 {s0 s1 a0 a1 o0 o1 : ℕ}
    (inb : ∀ i : Fin 2, (![o0, o1] : Fin 2 → ℕ) i + (![a0, a1] : Fin 2 → ℕ) i ≤ (![s0, s1] : Fin 2 → ℕ) i)
    (i : Fin a0) (j : Fin a1) :
    (Rect.unit (s := ⟨2, ![s0, s1]⟩) ![o0, o1] ![a0, a1] inb).emb (ix2 i j)
      = ix2 ⟨o0 + i, by have := inb 0; simp at this; omega⟩ ⟨o1 + j, by have := inb 1; simp at this; omega⟩ := by
  funext k
  fin_cases k <;> (apply Fin.ext; simp [Rect.unit, Rect.emb])

theorem canon_whole2 {s0 s1 : ℕ} {φ : EltTy} (inb : ∀ i : Fin 2, (![0, 0] : Fin 2 → ℕ) i + (![s0, s1] : Fin 2 → ℕ) i ≤ (![s0, s1] : Fin 2 → ℕ) i)
    (w : Vec Ideal ⟨2, ![s0, s1]⟩ φ) (L : List (View.Piece (Elt Ideal) ⟨2, ![s0, s1]⟩ φ)) (i : Fin s0) (j : Fin s1) :
    View.canon (Val := Elt Ideal) (⟨Rect.unit (s := ⟨2, ![s0, s1]⟩) ![0, 0] ![s0, s1] inb, w⟩ :: L) (ix2 i j) = w (ix2 i j) := by
  have := View.canon_cons_emb (Val := Elt Ideal) (Rect.unit (s := ⟨2, ![s0, s1]⟩) ![0, 0] ![s0, s1] inb) w L (ix2 i j)
  rw [emb2] at this
  simpa using this

theorem ld_whole2 {s0 s1 : ℕ} {φ : EltTy} (X : Vec Ideal ⟨2, ![s0, s1]⟩ φ)
    (inb : ∀ i : Fin 2, (![0, 0] : Fin 2 → ℕ) i + (![s0, s1] : Fin 2 → ℕ) i ≤ (![s0, s1] : Fin 2 → ℕ) i) (i : Fin s0) (j : Fin s1) :
    View.ld X (Rect.unit (s := ⟨2, ![s0, s1]⟩) ![0, 0] ![s0, s1] inb) (ix2 i j) = X (ix2 i j) :=
  (ld2 X inb i j).trans (by simp)

theorem v0_eq (i : grid0.Coords) (b : Fin 33) (h : (i 0 : ℕ) = 32 - b) :
    Scalar.subi 32#32 (BitVec.ofNat 32 (i 0 : ℕ)) = BitVec.ofNat 32 (b : ℕ) := by
  rw [h]
  clear h
  revert b
  decide

variable {A : Arr} {B} {n N : ℕ}

/-- The gradients of the projections at row `t`, side by side. -/
def dpv (A : Arr) (N t j : ℕ) : ℝ :=
  if j < 512 then A.dq (j / 128) ⟨j % 128, Nat.mod_lt _ (by decide)⟩ t
  else if j < 1024 then A.dk ((j - 512) / 128) N ⟨(j - 512) % 128, Nat.mod_lt _ (by decide)⟩ t
  else if j < 2048 then A.dv ((j - 1024) / 256) N ⟨(j - 1024) % 256, Nat.mod_lt _ (by decide)⟩ t
  else if j < 3072 then A.dr ((j - 2048) / 256) ⟨(j - 2048) % 256, Nat.mod_lt _ (by decide)⟩ t
  else 0

/-- The gradient of the log decay at row `t`, the heads side by side. -/
def dlav (A : Arr) (N t j : ℕ) : ℝ := A.dla (j / 128) N ⟨j % 128, Nat.mod_lt _ (by decide)⟩ t

/-- The gradient of the gain over the rows from `n`. -/
def dgv (A : Arr) (N n j : ℕ) : ℝ := ∑ t ∈ Ico n N, A.dg (j / 256) ⟨j % 256, Nat.mod_lt _ (by decide)⟩ t

section

variable (A N) (t : ℕ) (h : Fin 4)

theorem dpv_q (x : Fin 128) : dpv A N t (128 * h + x) = A.dq h x t := by
  have h1 : (128 * (h : ℕ) + x) / 128 = h := by omega
  have h2 : (128 * (h : ℕ) + x) % 128 = x := by omega
  unfold dpv
  rw [if_pos (by omega)]
  simp only [h1, h2]

theorem dpv_k (x : Fin 128) : dpv A N t (512 + 128 * h + x) = A.dk h N x t := by
  have h1 : (512 + 128 * (h : ℕ) + x - 512) / 128 = h := by omega
  have h2 : (512 + 128 * (h : ℕ) + x - 512) % 128 = x := by omega
  unfold dpv
  rw [if_neg (by omega), if_pos (by omega)]
  simp only [h1, h2]

theorem dpv_v (x : Fin 256) : dpv A N t (1024 + 256 * h + x) = A.dv h N x t := by
  have h1 : (1024 + 256 * (h : ℕ) + x - 1024) / 256 = h := by omega
  have h2 : (1024 + 256 * (h : ℕ) + x - 1024) % 256 = x := by omega
  unfold dpv
  rw [if_neg (by omega), if_neg (by omega), if_pos (by omega)]
  simp only [h1, h2]

theorem dpv_r (x : Fin 256) : dpv A N t (2048 + 256 * h + x) = A.dr h x t := by
  have h1 : (2048 + 256 * (h : ℕ) + x - 2048) / 256 = h := by omega
  have h2 : (2048 + 256 * (h : ℕ) + x - 2048) % 256 = x := by omega
  unfold dpv
  rw [if_neg (by omega), if_neg (by omega), if_neg (by omega), if_pos (by omega)]
  simp only [h1, h2]

theorem dpv_0 (x : Fin 1024) : dpv A N t (3072 + x) = 0 := by
  unfold dpv
  rw [if_neg (by omega), if_neg (by omega), if_neg (by omega), if_neg (by omega)]

theorem dlav_h (x : Fin 128) : dlav A N t (128 * h + x) = A.dla h N x t := by
  have h1 : (128 * (h : ℕ) + x) / 128 = h := by omega
  have h2 : (128 * (h : ℕ) + x) % 128 = x := by omega
  unfold dlav
  simp only [h1, h2]

theorem dgv_h (n : ℕ) (x : Fin 256) : dgv A N n (256 * h + x) = ∑ t ∈ Ico n N, A.dg h x t := by
  have h1 : (256 * (h : ℕ) + x) / 256 = h := by omega
  have h2 : (256 * (h : ℕ) + x) % 256 = x := by omega
  unfold dgv
  simp only [h1, h2]

end

section

variable (H : BlkOk A B n) (hN : n + 256 ≤ N) (xs : Vec Ideal S4x256x128 .f32)
  (hxs : ∀ (h : Fin 4) (z : Fin 256) (x : Fin 128), xs (ix3 h z x) = ((A.ds h N z x (n + 256) : ℝ) : EReal))
include H hN hxs

theorem dp_canon (i : Fin 256) (j : Fin 4096) :
    View.canon (Val := Elt Ideal) (dpL B fun c h => dstN B xs h (3 - c)) (ix2 i j) = ((dpv A N (n + i) j : ℝ) : EReal) := by
  have hp : View.PiecesOf (Val := Elt Ideal) (s := S256x4096) (e := .bf16) (fun y => ((dpv A N (n + (y 0 : ℕ)) (y 1 : ℕ) : ℝ) : EReal)) (dpL B fun c h => dstN B xs h (3 - c)) := by
    refine pieces_allP _ (fun c h => ⟨?_, ?_, ?_, ?_, trivial⟩) ⟨?_, trivial⟩
    · intro x
      obtain ⟨i, k, rfl⟩ : ∃ (i : Fin 64) (k : Fin 128), x = ix2 i k := ⟨x 0, x 1, eq_ix2 x⟩
      refine (dk_ok H hN xs hxs c h i k).trans ?_
      rw [emb2, ← dpv_k A N _ h k]
      simp [Nat.add_assoc]
    · intro x
      obtain ⟨i, k, rfl⟩ : ∃ (i : Fin 64) (k : Fin 128), x = ix2 i k := ⟨x 0, x 1, eq_ix2 x⟩
      refine (dq_ok H hN xs hxs c h i k).trans ?_
      rw [emb2, ← dpv_q A N _ h k]
      simp [Nat.add_assoc]
    · intro x
      obtain ⟨i, k, rfl⟩ : ∃ (i : Fin 64) (k : Fin 256), x = ix2 i k := ⟨x 0, x 1, eq_ix2 x⟩
      refine (dv_ok H hN xs hxs c h i k).trans ?_
      rw [emb2, ← dpv_v A N _ h k]
      simp [Nat.add_assoc]
    · intro x
      obtain ⟨i, k, rfl⟩ : ∃ (i : Fin 64) (k : Fin 256), x = ix2 i k := ⟨x 0, x 1, eq_ix2 x⟩
      refine (dr_ok H hN xs hxs c h i k).trans ?_
      rw [emb2, ← dpv_r A N _ h k]
      simp [Nat.add_assoc]
    · intro x
      obtain ⟨i, k, rfl⟩ : ∃ (i : Fin 256) (k : Fin 1024), x = ix2 i k := ⟨x 0, x 1, eq_ix2 x⟩
      rw [emb2]
      refine Eq.trans ?_ (congrArg (fun r : ℝ => (r : EReal)) (dpv_0 A N (n + (0 + i)) k).symm)
      pointwise [Gen.k0_pay7]
      simp
  have := View.canon_append_of_piecesOf _ [] _ hp (ix2 i j) (dpL_cover B _ (ix2 i j))
  rw [List.append_nil] at this
  exact this

theorem dla_canon (i : Fin 256) (j : Fin 512) :
    View.canon (Val := Elt Ideal) (dlaL B fun c h => dstN B xs h (3 - c)) (ix2 i j) = ((dlav A N (n + i) j : ℝ) : EReal) := by
  have hp : View.PiecesOf (Val := Elt Ideal) (s := S256x512) (e := .f32) (fun y => ((dlav A N (n + (y 0 : ℕ)) (y 1 : ℕ) : ℝ) : EReal)) (dlaL B fun c h => dstN B xs h (3 - c)) := by
    refine pieces_allP _ (fun c h => ⟨?_, trivial⟩) trivial
    intro x
    obtain ⟨i, k, rfl⟩ : ∃ (i : Fin 64) (k : Fin 128), x = ix2 i k := ⟨x 0, x 1, eq_ix2 x⟩
    refine (dla_ok H hN xs hxs c h i k).trans ?_
    rw [emb2, ← dlav_h A N _ h k]
    simp [Nat.add_assoc]
  have := View.canon_append_of_piecesOf _ [] _ hp (ix2 i j) (dlaL_cover B _ (ix2 i j))
  rw [List.append_nil] at this
  exact this

theorem nxt_canon (L : List (View.Piece (Elt Ideal) S4x256x128 .f32)) (h : Fin 4) (z : Fin 256) (x : Fin 128) :
    View.canon (Val := Elt Ideal) ((nxtL B fun c h => dstN B xs h (3 - c)) ++ L) (ix3 h z x) = ((A.ds h N z x n : ℝ) : EReal) := by
  have hp : View.PiecesOf (Val := Elt Ideal) (s := S4x256x128) (e := .f32) (fun y => ((A.ds (y 0 : ℕ) N (y 1) (y 2) n : ℝ) : EReal)) (nxtL B fun c h => dstN B xs h (3 - c)) := by
    refine pieces_headP _ (fun h => ⟨?_, trivial⟩)
    intro y
    obtain ⟨u, z, x, rfl⟩ : ∃ (u : Fin 1) (z : Fin 256) (x : Fin 128), y = ix3 u z x := ⟨y 0, y 1, y 2, eq_ix3 y⟩
    obtain rfl : u = 0 := Subsingleton.elim _ _
    refine (dstN_ok H hN xs hxs h 4 le_rfl z x).trans ?_
    have e : (Rect.unit (s := S4x256x128) ![(h : ℕ), 0, 0] S1x256x128.size (by revert h; decide)).emb (ix3 0 z x) = ix3 h z x := by
      funext k
      fin_cases k <;> (apply Fin.ext; simp [Rect.unit, Rect.emb])
    rw [e]
    rfl
  exact View.canon_append_of_piecesOf _ L _ hp (ix3 h z x) (nxtL_cover B _ (ix3 h z x))

theorem dg_canon (L : List (View.Piece (Elt Ideal) S1x1024 .f32)) (xo : Vec Ideal S1x1024 .f32)
    (hxo : ∀ j : Fin 1024, xo (ix2 0 j) = ((dgv A N (n + 256) j : ℝ) : EReal)) (j : Fin 1024) :
    View.canon (Val := Elt Ideal) ((dgL B (fun c h => dstN B xs h (3 - c)) fun h => dgN B xs xo h 3) ++ L) (ix2 0 j)
      = ((dgv A N n j : ℝ) : EReal) := by
  have hp : View.PiecesOf (Val := Elt Ideal) (s := S1x1024) (e := .f32) (fun y => ((dgv A N n (y 1 : ℕ) : ℝ) : EReal))
      (dgL B (fun c h => dstN B xs h (3 - c)) fun h => dgN B xs xo h 3) := by
    refine pieces_headP _ (fun h => ⟨?_, trivial⟩)
    intro y
    obtain ⟨u, x, rfl⟩ : ∃ (u : Fin 1) (x : Fin 256), y = ix2 u x := ⟨y 0, y 1, eq_ix2 y⟩
    obtain rfl : u = 0 := Subsingleton.elim _ _
    refine (dgN_ok H hN xs hxs xo h (fun x => ?_) 4 le_rfl x).trans ?_
    · rw [hxo, dgv_h]
    · rw [emb2]
      exact congrArg (fun r : ℝ => (r : EReal)) (dgv_h A N h n x).symm
  exact View.canon_append_of_piecesOf _ L _ hp (ix2 0 j) (dgL_cover B _ _ (ix2 0 j))

end

section

variable (b : Fin 33) (H : BlkOk A B (256 * b)) (hN : 256 * (b : ℕ) + 256 ≤ N) (xs : Vec Ideal S4x256x128 .f32)
  (hxs : ∀ (h : Fin 4) (z : Fin 256) (x : Fin 128), xs (ix3 h z x) = ((A.ds h N z x (256 * b + 256) : ℝ) : EReal))
  (w : BitVec 32) (hw : w = BitVec.ofNat 32 (b : ℕ)) {κ : Kind} {sp : Space} (v : View sig κ sp S256x512 .f32)
  (x4 : Vec Ideal S256x128 .f32) (x5 : Vec Ideal S128x512 .f32) (x6 : Vec Ideal S1x512 .f32)
  (L U : ℕ → ℕ → ℝ) (bb : ℕ → ℝ)
  (h4 : ∀ (i : Fin 256) (r : Fin 128), x4 (ix2 i r) = ((L (256 * b + i) r : ℝ) : EReal))
  (h5 : ∀ (r : Fin 128) (j : Fin 512), x5 (ix2 r j) = ((U r j : ℝ) : EReal))
  (h6 : ∀ j : Fin 512, x6 (ix2 0 j) = ((bb j : ℝ) : EReal))

include H hN hxs in
theorem dla_read (i : Fin 256) (j : Fin 512) :
    dlaR B (fun c h => dstN B xs h (3 - c)) v (ix2 i j) = ((dlav A N (256 * b + i) j : ℝ) : EReal) := by
  unfold dlaR
  rw [View.readCov_eq_canon']
  have e : (Rect.unit (s := S256x512) ![0, 0] S256x512.size inb_S256x512_S256x512_0_0).toLoadRect.idx (ix2 i j) = ix2 i j := by
    funext k
    fin_cases k <;> (apply Fin.ext; simp [Rect.unit])
  exact (congrArg _ e).trans (dla_canon H hN xs hxs i j)

include H hN hxs hw h4 h5 h6

theorem dz_ok (i : Fin 256) (j : Fin 512) :
    View.canon (Val := Elt Ideal) (dzL B (fun c h => dstN B xs h (3 - c)) v w x4 x5 x6) (ix2 i j)
      = ((dzv (dlav A N (256 * b + i) j) (zv L U bb (256 * b + i) j) (256 * b + i) : ℝ) : EReal) := by
  subst hw
  refine (canon_whole2 _ _ _ i j).trans ?_
  exact p3 b _ (dlav A N) (dla_read b H hN xs hxs v) _ _ _ L U bb (fun i r => (ld_whole2 _ _ _ _).trans (h4 i r))
    (fun r j => (ld_whole2 _ _ _ _).trans (h5 r j)) (fun j => (ld_whole2 _ _ _ _).trans (h6 j)) i j

theorem dba_ok (old : Vec Ideal S1x512 .f32) (L' : List (View.Piece (Elt Ideal) S1x512 .f32)) (hol : ∀ j : Fin 512, old (ix2 0 j)
      = ((∑ t ∈ Ico (256 * (b : ℕ) + 256) N, dzv (dlav A N t j) (zv L U bb t j) t : ℝ) : EReal)) (j : Fin 512) :
    View.canon (Val := Elt Ideal) (dbaL B (fun c h => dstN B xs h (3 - c)) v w x4 x5 x6 old L') (ix2 0 j)
      = ((∑ t ∈ Ico (256 * (b : ℕ)) N, dzv (dlav A N t j) (zv L U bb t j) t : ℝ) : EReal) := by
  subst hw
  refine (canon_whole2 _ _ _ 0 j).trans ?_
  exact p2 b _ (dlav A N) (dla_read b H hN xs hxs v) _ _ _ L U bb (fun i r => (ld_whole2 _ _ _ _).trans (h4 i r))
    (fun r j => (ld_whole2 _ _ _ _).trans (h5 r j)) (fun j => (ld_whole2 _ _ _ _).trans (h6 j)) _ j N hN ((ld_whole2 _ _ _ _).trans (hol j))

end

end Gla

end
-- ==== Proof.OutA.lean ====
module

public import proofs.«01_k».proof.Proof.WordsA
public import proofs.«01_k».proof.Proof.Lists
public import Idealize.ShloMosaic.Lib.Pipeline.ReadBack
public import proofs.«01_k».proof.Proof.Gen.KernelIdeal.Frame

/-!
What one grid point of case A leaves in each block.
-/

@[expose] public section

set_option maxRecDepth 16384

noncomputable section

namespace Gla

open Idealize.ShloMosaic Cert.KernelIdeal Cert.KernelIdeal.Gen Finset

variable {c : Dev nD} {i : grid0.Coords} {arg1 : Memref sig .tc .vmem S256x1024 .bf16} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S256x512 .f32} {harg4 : arg4.IsWhole} {arg5 : Memref sig .tc .vmem S256x128 .f32} {harg5 : arg5.IsWhole} {arg6 : Memref sig .tc .vmem S128x512 .f32} {harg6 : arg6.IsWhole} {arg7 : Memref sig .tc .vmem S1x512 .f32} {harg7 : arg7.IsWhole} {arg8 : Memref sig .tc .vmem S1x1024 .f32} {harg8 : arg8.IsWhole} {arg9 : Memref sig .tc .vmem S256x1024 .f32} {harg9 : arg9.IsWhole} {arg10 : Memref sig .tc .vmem S4x4x256x128 .bf16} {harg10 : arg10.IsWhole} {arg11 : Memref sig .tc .vmem S256x1024 .bf16} {harg11 : arg11.IsWhole} {arg13 : Memref sig .tc .vmem S256x4096 .bf16} {harg13 : arg13.IsWhole} {arg14 : Memref sig .tc .vmem S256x512 .bf16} {harg14 : arg14.IsWhole} {arg15 : Memref sig .tc .vmem S1x1024 .f32} {harg15 : arg15.IsWhole} {arg16 : Memref sig .tc .vmem S1x512 .f32} {harg16 : arg16.IsWhole} {arg17 : Memref sig .tc .vmem S4x256x128 .f32} {harg17 : arg17.IsWhole} {arg18 : Memref sig .tc .vmem S256x512 .f32} {harg18 : arg18.IsWhole}  {x0 : Vec Ideal S256x1024 .bf16} {x1 : Vec Ideal S256x1024 .bf16} {x2 : Vec Ideal S256x1024 .bf16} {x3 : Vec Ideal S256x512 .f32} {x4 : Vec Ideal S256x128 .f32} {x5 : Vec Ideal S128x512 .f32} {x6 : Vec Ideal S1x512 .f32} {x7 : Vec Ideal S1x1024 .f32} {x8 : Vec Ideal S256x1024 .f32} {x9 : Vec Ideal S4x4x256x128 .bf16} {x10 : Vec Ideal S256x1024 .bf16}

theorem A_D :
    (![![(kernelRun0_A.sl.v1806 (F := Ideal) c arg1 harg1 arg3 harg3 arg4 harg4 arg8 harg8 arg9 harg9 arg11 harg11 arg17 x0 x2 x3 x7 x8 x10), (kernelRun0_A.sl.v1944 (F := Ideal) c arg1 harg1 arg3 harg3 arg4 harg4 arg8 harg8 arg9 harg9 arg11 harg11 arg17 x0 x2 x3 x7 x8 x10), (kernelRun0_A.sl.v2082 (F := Ideal) c arg1 harg1 arg3 harg3 arg4 harg4 arg8 harg8 arg9 harg9 arg11 harg11 arg17 x0 x2 x3 x7 x8 x10), (kernelRun0_A.sl.v2220 (F := Ideal) c arg1 harg1 arg3 harg3 arg4 harg4 arg8 harg8 arg9 harg9 arg11 harg11 arg17 x0 x2 x3 x7 x8 x10)], ![(kernelRun0_A.sl.v1242 (F := Ideal) c arg1 harg1 arg3 harg3 arg4 harg4 arg8 harg8 arg9 harg9 arg11 harg11 arg17 x0 x2 x3 x7 x8 x10), (kernelRun0_A.sl.v1380 (F := Ideal) c arg1 harg1 arg3 harg3 arg4 harg4 arg8 harg8 arg9 harg9 arg11 harg11 arg17 x0 x2 x3 x7 x8 x10), (kernelRun0_A.sl.v1518 (F := Ideal) c arg1 harg1 arg3 harg3 arg4 harg4 arg8 harg8 arg9 harg9 arg11 harg11 arg17 x0 x2 x3 x7 x8 x10), (kernelRun0_A.sl.v1656 (F := Ideal) c arg1 harg1 arg3 harg3 arg4 harg4 arg8 harg8 arg9 harg9 arg11 harg11 arg17 x0 x2 x3 x7 x8 x10)], ![(kernelRun0_A.sl.v678 (F := Ideal) c arg1 harg1 arg3 harg3 arg4 harg4 arg8 harg8 arg9 harg9 arg11 harg11 arg17 x0 x2 x3 x7 x8 x10), (kernelRun0_A.sl.v816 (F := Ideal) c arg1 harg1 arg3 harg3 arg4 harg4 arg8 harg8 arg9 harg9 arg11 harg11 arg17 x0 x2 x3 x7 x8 x10), (kernelRun0_A.sl.v954 (F := Ideal) c arg1 harg1 arg3 harg3 arg4 harg4 arg8 harg8 arg9 harg9 arg11 harg11 arg17 x0 x2 x3 x7 x8 x10), (kernelRun0_A.sl.v1092 (F := Ideal) c arg1 harg1 arg3 harg3 arg4 harg4 arg8 harg8 arg9 harg9 arg11 harg11 arg17 x0 x2 x3 x7 x8 x10)], ![(kernelRun0_A.sl.v114 (F := Ideal) c arg17), (kernelRun0_A.sl.v252 (F := Ideal) c arg1 harg1 arg3 harg3 arg4 harg4 arg8 harg8 arg9 harg9 arg11 harg11 arg17 x0 x2 x3 x7 x8 x10), (kernelRun0_A.sl.v390 (F := Ideal) c arg1 harg1 arg3 harg3 arg4 harg4 arg8 harg8 arg9 harg9 arg11 harg11 arg17 x0 x2 x3 x7 x8 x10), (kernelRun0_A.sl.v528 (F := Ideal) c arg1 harg1 arg3 harg3 arg4 harg4 arg8 harg8 arg9 harg9 arg11 harg11 arg17 x0 x2 x3 x7 x8 x10)]] : Fin 4 → Fin 4 → Vec Ideal S1x256x128 .f32)
      = fun (c h : Fin 4) => dstN (mb arg1 harg1 arg2 harg2 arg3 harg3 arg4 harg4 arg8 harg8 arg9 harg9 arg10 harg10 arg11 harg11 x0 x1 x2 x3 x7 x8 x9 x10) (k0_pay4 (F := Ideal)) h (3 - (c : ℕ)) :=
  mat_eq _ A_dstN_0_0 A_dstN_0_1 A_dstN_0_2 A_dstN_0_3 A_dstN_1_0 A_dstN_1_1 A_dstN_1_2 A_dstN_1_3 A_dstN_2_0 A_dstN_2_1 A_dstN_2_2 A_dstN_2_3 A_dstN_3_0 A_dstN_3_1 A_dstN_3_2 A_dstN_3_3

theorem A_E :
    (![(kernelRun0_A.sl.v1776 (F := Ideal) c arg3 harg3 arg9 harg9 arg11 harg11 arg15 x2 x8 x10), (kernelRun0_A.sl.v1914 (F := Ideal) c arg3 harg3 arg9 harg9 arg11 harg11 arg15 x2 x8 x10), (kernelRun0_A.sl.v2052 (F := Ideal) c arg3 harg3 arg9 harg9 arg11 harg11 arg15 x2 x8 x10), (kernelRun0_A.sl.v2190 (F := Ideal) c arg3 harg3 arg9 harg9 arg11 harg11 arg15 x2 x8 x10)] : Fin 4 → Vec Ideal S1x256 .f32)
      = fun (h : Fin 4) => dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) h 3 :=
  vec_eq _ A_dgN_0_0 A_dgN_0_1 A_dgN_0_2 A_dgN_0_3

theorem A_l11 (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10).1
      = dpL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (k0_pay4 (F := Ideal)) h (3 - (c : ℕ))) :=
  Eq.trans (b := dpL (mb arg1 harg1 arg2 harg2 arg3 harg3 arg4 harg4 arg8 harg8 arg9 harg9 arg10 harg10 arg11 harg11 x0 x1 x2 x3 x7 x8 x9 x10) (![![(kernelRun0_A.sl.v1806 (F := Ideal) c arg1 harg1 arg3 harg3 arg4 harg4 arg8 harg8 arg9 harg9 arg11 harg11 arg17 x0 x2 x3 x7 x8 x10), (kernelRun0_A.sl.v1944 (F := Ideal) c arg1 harg1 arg3 harg3 arg4 harg4 arg8 harg8 arg9 harg9 arg11 harg11 arg17 x0 x2 x3 x7 x8 x10), (kernelRun0_A.sl.v2082 (F := Ideal) c arg1 harg1 arg3 harg3 arg4 harg4 arg8 harg8 arg9 harg9 arg11 harg11 arg17 x0 x2 x3 x7 x8 x10), (kernelRun0_A.sl.v2220 (F := Ideal) c arg1 harg1 arg3 harg3 arg4 harg4 arg8 harg8 arg9 harg9 arg11 harg11 arg17 x0 x2 x3 x7 x8 x10)], ![(kernelRun0_A.sl.v1242 (F := Ideal) c arg1 harg1 arg3 harg3 arg4 harg4 arg8 harg8 arg9 harg9 arg11 harg11 arg17 x0 x2 x3 x7 x8 x10), (kernelRun0_A.sl.v1380 (F := Ideal) c arg1 harg1 arg3 harg3 arg4 harg4 arg8 harg8 arg9 harg9 arg11 harg11 arg17 x0 x2 x3 x7 x8 x10), (kernelRun0_A.sl.v1518 (F := Ideal) c arg1 harg1 arg3 harg3 arg4 harg4 arg8 harg8 arg9 harg9 arg11 harg11 arg17 x0 x2 x3 x7 x8 x10), (kernelRun0_A.sl.v1656 (F := Ideal) c arg1 harg1 arg3 harg3 arg4 harg4 arg8 harg8 arg9 harg9 arg11 harg11 arg17 x0 x2 x3 x7 x8 x10)], ![(kernelRun0_A.sl.v678 (F := Ideal) c arg1 harg1 arg3 harg3 arg4 harg4 arg8 harg8 arg9 harg9 arg11 harg11 arg17 x0 x2 x3 x7 x8 x10), (kernelRun0_A.sl.v816 (F := Ideal) c arg1 harg1 arg3 harg3 arg4 harg4 arg8 harg8 arg9 harg9 arg11 harg11 arg17 x0 x2 x3 x7 x8 x10), (kernelRun0_A.sl.v954 (F := Ideal) c arg1 harg1 arg3 harg3 arg4 harg4 arg8 harg8 arg9 harg9 arg11 harg11 arg17 x0 x2 x3 x7 x8 x10), (kernelRun0_A.sl.v1092 (F := Ideal) c arg1 harg1 arg3 harg3 arg4 harg4 arg8 harg8 arg9 harg9 arg11 harg11 arg17 x0 x2 x3 x7 x8 x10)], ![(kernelRun0_A.sl.v114 (F := Ideal) c arg17), (kernelRun0_A.sl.v252 (F := Ideal) c arg1 harg1 arg3 harg3 arg4 harg4 arg8 harg8 arg9 harg9 arg11 harg11 arg17 x0 x2 x3 x7 x8 x10), (kernelRun0_A.sl.v390 (F := Ideal) c arg1 harg1 arg3 harg3 arg4 harg4 arg8 harg8 arg9 harg9 arg11 harg11 arg17 x0 x2 x3 x7 x8 x10), (kernelRun0_A.sl.v528 (F := Ideal) c arg1 harg1 arg3 harg3 arg4 harg4 arg8 harg8 arg9 harg9 arg11 harg11 arg17 x0 x2 x3 x7 x8 x10)]] : Fin 4 → Fin 4 → Vec Ideal S1x256x128 .f32)) (by sl_kernel_rfl) (congrArg (dpL (mb arg1 harg1 arg2 harg2 arg3 harg3 arg4 harg4 arg8 harg8 arg9 harg9 arg10 harg10 arg11 harg11 x0 x1 x2 x3 x7 x8 x9 x10)) A_D)

theorem A_l12 (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10).2.1
      = dzL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (k0_pay4 (F := Ideal)) h (3 - (c : ℕ))) (arg18.view) (kernelRun0_A.sl.v0 i) (arg5.view.read (Elt Ideal) (harg5.unread x4)) (arg6.view.read (Elt Ideal) (harg6.unread x5)) (arg7.view.read (Elt Ideal) (harg7.unread x6)) :=
  Eq.trans (b := dzL (mb arg1 harg1 arg2 harg2 arg3 harg3 arg4 harg4 arg8 harg8 arg9 harg9 arg10 harg10 arg11 harg11 x0 x1 x2 x3 x7 x8 x9 x10) (![![(kernelRun0_A.sl.v1806 (F := Ideal) c arg1 harg1 arg3 harg3 arg4 harg4 arg8 harg8 arg9 harg9 arg11 harg11 arg17 x0 x2 x3 x7 x8 x10), (kernelRun0_A.sl.v1944 (F := Ideal) c arg1 harg1 arg3 harg3 arg4 harg4 arg8 harg8 arg9 harg9 arg11 harg11 arg17 x0 x2 x3 x7 x8 x10), (kernelRun0_A.sl.v2082 (F := Ideal) c arg1 harg1 arg3 harg3 arg4 harg4 arg8 harg8 arg9 harg9 arg11 harg11 arg17 x0 x2 x3 x7 x8 x10), (kernelRun0_A.sl.v2220 (F := Ideal) c arg1 harg1 arg3 harg3 arg4 harg4 arg8 harg8 arg9 harg9 arg11 harg11 arg17 x0 x2 x3 x7 x8 x10)], ![(kernelRun0_A.sl.v1242 (F := Ideal) c arg1 harg1 arg3 harg3 arg4 harg4 arg8 harg8 arg9 harg9 arg11 harg11 arg17 x0 x2 x3 x7 x8 x10), (kernelRun0_A.sl.v1380 (F := Ideal) c arg1 harg1 arg3 harg3 arg4 harg4 arg8 harg8 arg9 harg9 arg11 harg11 arg17 x0 x2 x3 x7 x8 x10), (kernelRun0_A.sl.v1518 (F := Ideal) c arg1 harg1 arg3 harg3 arg4 harg4 arg8 harg8 arg9 harg9 arg11 harg11 arg17 x0 x2 x3 x7 x8 x10), (kernelRun0_A.sl.v1656 (F := Ideal) c arg1 harg1 arg3 harg3 arg4 harg4 arg8 harg8 arg9 harg9 arg11 harg11 arg17 x0 x2 x3 x7 x8 x10)], ![(kernelRun0_A.sl.v678 (F := Ideal) c arg1 harg1 arg3 harg3 arg4 harg4 arg8 harg8 arg9 harg9 arg11 harg11 arg17 x0 x2 x3 x7 x8 x10), (kernelRun0_A.sl.v816 (F := Ideal) c arg1 harg1 arg3 harg3 arg4 harg4 arg8 harg8 arg9 harg9 arg11 harg11 arg17 x0 x2 x3 x7 x8 x10), (kernelRun0_A.sl.v954 (F := Ideal) c arg1 harg1 arg3 harg3 arg4 harg4 arg8 harg8 arg9 harg9 arg11 harg11 arg17 x0 x2 x3 x7 x8 x10), (kernelRun0_A.sl.v1092 (F := Ideal) c arg1 harg1 arg3 harg3 arg4 harg4 arg8 harg8 arg9 harg9 arg11 harg11 arg17 x0 x2 x3 x7 x8 x10)], ![(kernelRun0_A.sl.v114 (F := Ideal) c arg17), (kernelRun0_A.sl.v252 (F := Ideal) c arg1 harg1 arg3 harg3 arg4 harg4 arg8 harg8 arg9 harg9 arg11 harg11 arg17 x0 x2 x3 x7 x8 x10), (kernelRun0_A.sl.v390 (F := Ideal) c arg1 harg1 arg3 harg3 arg4 harg4 arg8 harg8 arg9 harg9 arg11 harg11 arg17 x0 x2 x3 x7 x8 x10), (kernelRun0_A.sl.v528 (F := Ideal) c arg1 harg1 arg3 harg3 arg4 harg4 arg8 harg8 arg9 harg9 arg11 harg11 arg17 x0 x2 x3 x7 x8 x10)]] : Fin 4 → Fin 4 → Vec Ideal S1x256x128 .f32) (arg18.view) (kernelRun0_A.sl.v0 i) (arg5.view.read (Elt Ideal) (harg5.unread x4)) (arg6.view.read (Elt Ideal) (harg6.unread x5)) (arg7.view.read (Elt Ideal) (harg7.unread x6))) (by sl_kernel_rfl) (congrArg (fun D => dzL (mb arg1 harg1 arg2 harg2 arg3 harg3 arg4 harg4 arg8 harg8 arg9 harg9 arg10 harg10 arg11 harg11 x0 x1 x2 x3 x7 x8 x9 x10) D (arg18.view) (kernelRun0_A.sl.v0 i) (arg5.view.read (Elt Ideal) (harg5.unread x4)) (arg6.view.read (Elt Ideal) (harg6.unread x5)) (arg7.view.read (Elt Ideal) (harg7.unread x6))) A_D)

theorem A_l13 (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10).2.2.1
      = dgL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (k0_pay4 (F := Ideal)) h (3 - (c : ℕ))) (fun (h : Fin 4) => dgN (mb arg1 harg1 arg2 harg2 arg3 harg3 arg4 harg4 arg8 harg8 arg9 harg9 arg10 harg10 arg11 harg11 x0 x1 x2 x3 x7 x8 x9 x10) (k0_pay4 (F := Ideal)) (k0_pay5 (F := Ideal)) h 3) ++ (kernelRun0_A.sl.H13_13 (F := Ideal) c arg3 harg3 arg9 harg9 arg11 harg11 arg15 x2 x8 x10) :=
  Eq.trans (b := dgL (mb arg1 harg1 arg2 harg2 arg3 harg3 arg4 harg4 arg8 harg8 arg9 harg9 arg10 harg10 arg11 harg11 x0 x1 x2 x3 x7 x8 x9 x10) (![![(kernelRun0_A.sl.v1806 (F := Ideal) c arg1 harg1 arg3 harg3 arg4 harg4 arg8 harg8 arg9 harg9 arg11 harg11 arg17 x0 x2 x3 x7 x8 x10), (kernelRun0_A.sl.v1944 (F := Ideal) c arg1 harg1 arg3 harg3 arg4 harg4 arg8 harg8 arg9 harg9 arg11 harg11 arg17 x0 x2 x3 x7 x8 x10), (kernelRun0_A.sl.v2082 (F := Ideal) c arg1 harg1 arg3 harg3 arg4 harg4 arg8 harg8 arg9 harg9 arg11 harg11 arg17 x0 x2 x3 x7 x8 x10), (kernelRun0_A.sl.v2220 (F := Ideal) c arg1 harg1 arg3 harg3 arg4 harg4 arg8 harg8 arg9 harg9 arg11 harg11 arg17 x0 x2 x3 x7 x8 x10)], ![(kernelRun0_A.sl.v1242 (F := Ideal) c arg1 harg1 arg3 harg3 arg4 harg4 arg8 harg8 arg9 harg9 arg11 harg11 arg17 x0 x2 x3 x7 x8 x10), (kernelRun0_A.sl.v1380 (F := Ideal) c arg1 harg1 arg3 harg3 arg4 harg4 arg8 harg8 arg9 harg9 arg11 harg11 arg17 x0 x2 x3 x7 x8 x10), (kernelRun0_A.sl.v1518 (F := Ideal) c arg1 harg1 arg3 harg3 arg4 harg4 arg8 harg8 arg9 harg9 arg11 harg11 arg17 x0 x2 x3 x7 x8 x10), (kernelRun0_A.sl.v1656 (F := Ideal) c arg1 harg1 arg3 harg3 arg4 harg4 arg8 harg8 arg9 harg9 arg11 harg11 arg17 x0 x2 x3 x7 x8 x10)], ![(kernelRun0_A.sl.v678 (F := Ideal) c arg1 harg1 arg3 harg3 arg4 harg4 arg8 harg8 arg9 harg9 arg11 harg11 arg17 x0 x2 x3 x7 x8 x10), (kernelRun0_A.sl.v816 (F := Ideal) c arg1 harg1 arg3 harg3 arg4 harg4 arg8 harg8 arg9 harg9 arg11 harg11 arg17 x0 x2 x3 x7 x8 x10), (kernelRun0_A.sl.v954 (F := Ideal) c arg1 harg1 arg3 harg3 arg4 harg4 arg8 harg8 arg9 harg9 arg11 harg11 arg17 x0 x2 x3 x7 x8 x10), (kernelRun0_A.sl.v1092 (F := Ideal) c arg1 harg1 arg3 harg3 arg4 harg4 arg8 harg8 arg9 harg9 arg11 harg11 arg17 x0 x2 x3 x7 x8 x10)], ![(kernelRun0_A.sl.v114 (F := Ideal) c arg17), (kernelRun0_A.sl.v252 (F := Ideal) c arg1 harg1 arg3 harg3 arg4 harg4 arg8 harg8 arg9 harg9 arg11 harg11 arg17 x0 x2 x3 x7 x8 x10), (kernelRun0_A.sl.v390 (F := Ideal) c arg1 harg1 arg3 harg3 arg4 harg4 arg8 harg8 arg9 harg9 arg11 harg11 arg17 x0 x2 x3 x7 x8 x10), (kernelRun0_A.sl.v528 (F := Ideal) c arg1 harg1 arg3 harg3 arg4 harg4 arg8 harg8 arg9 harg9 arg11 harg11 arg17 x0 x2 x3 x7 x8 x10)]] : Fin 4 → Fin 4 → Vec Ideal S1x256x128 .f32) (![(kernelRun0_A.sl.v1776 (F := Ideal) c arg3 harg3 arg9 harg9 arg11 harg11 arg15 x2 x8 x10), (kernelRun0_A.sl.v1914 (F := Ideal) c arg3 harg3 arg9 harg9 arg11 harg11 arg15 x2 x8 x10), (kernelRun0_A.sl.v2052 (F := Ideal) c arg3 harg3 arg9 harg9 arg11 harg11 arg15 x2 x8 x10), (kernelRun0_A.sl.v2190 (F := Ideal) c arg3 harg3 arg9 harg9 arg11 harg11 arg15 x2 x8 x10)] : Fin 4 → Vec Ideal S1x256 .f32) ++ (kernelRun0_A.sl.H13_13 (F := Ideal) c arg3 harg3 arg9 harg9 arg11 harg11 arg15 x2 x8 x10)) (by sl_kernel_rfl) (congrArg₂ (fun D E => dgL (mb arg1 harg1 arg2 harg2 arg3 harg3 arg4 harg4 arg8 harg8 arg9 harg9 arg10 harg10 arg11 harg11 x0 x1 x2 x3 x7 x8 x9 x10) D E ++ (kernelRun0_A.sl.H13_13 (F := Ideal) c arg3 harg3 arg9 harg9 arg11 harg11 arg15 x2 x8 x10)) A_D A_E)

theorem A_old : (kernelRun0_A.sl.v2303 (F := Ideal) c arg16) = View.ld (k0_pay6 (F := Ideal)) (Rect.unit (s := S1x512) ![0, 0] S1x512.size inb_S1x512_S1x512_0_0) := by
  simp (disch := decide) only [kernelRun0_A.sl.v2303, kernelRun0_A.sl.H14_1, View.readCov_fill]

theorem A_l14 (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10).2.2.2.1
      = dbaL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (k0_pay4 (F := Ideal)) h (3 - (c : ℕ))) (arg18.view) (kernelRun0_A.sl.v0 i) (arg5.view.read (Elt Ideal) (harg5.unread x4)) (arg6.view.read (Elt Ideal) (harg6.unread x5)) (arg7.view.read (Elt Ideal) (harg7.unread x6)) (k0_pay6 (F := Ideal)) (kernelRun0_A.sl.H14_1 (F := Ideal)) :=
  Eq.trans (b := ⟨Rect.unit (s := S1x512) ![0, 0] S1x512.size inb_S1x512_S1x512_0_0, k0_pay2 (F := Ideal) (kernelRun0_A.sl.v0 i) (kernelRun0_A.sl.r_407 (F := Ideal) c arg1 harg1 arg2 harg2 arg3 harg3 arg4 harg4 arg8 harg8 arg9 harg9 arg10 harg10 arg11 harg11 arg17 arg18 x0 x1 x2 x3 x7 x8 x9 x10) (kernelRun0_A.sl.r_408 (F := Ideal) c arg5 harg5 arg6 harg6 arg7 harg7 x4 x5 x6) k0_pay601 (kernelRun0_A.sl.v2303 (F := Ideal) c arg16)⟩ :: (kernelRun0_A.sl.H14_1 (F := Ideal))) (by sl_kernel_rfl)
    (Eq.trans (b := ⟨Rect.unit (s := S1x512) ![0, 0] S1x512.size inb_S1x512_S1x512_0_0, k0_pay2 (F := Ideal) (kernelRun0_A.sl.v0 i) (kernelRun0_A.sl.r_407 (F := Ideal) c arg1 harg1 arg2 harg2 arg3 harg3 arg4 harg4 arg8 harg8 arg9 harg9 arg10 harg10 arg11 harg11 arg17 arg18 x0 x1 x2 x3 x7 x8 x9 x10) (kernelRun0_A.sl.r_408 (F := Ideal) c arg5 harg5 arg6 harg6 arg7 harg7 x4 x5 x6) k0_pay601 (View.ld (k0_pay6 (F := Ideal)) (Rect.unit (s := S1x512) ![0, 0] S1x512.size inb_S1x512_S1x512_0_0))⟩ :: (kernelRun0_A.sl.H14_1 (F := Ideal)))
      (congrArg (fun o => (⟨Rect.unit (s := S1x512) ![0, 0] S1x512.size inb_S1x512_S1x512_0_0, k0_pay2 (F := Ideal) (kernelRun0_A.sl.v0 i) (kernelRun0_A.sl.r_407 (F := Ideal) c arg1 harg1 arg2 harg2 arg3 harg3 arg4 harg4 arg8 harg8 arg9 harg9 arg10 harg10 arg11 harg11 arg17 arg18 x0 x1 x2 x3 x7 x8 x9 x10) (kernelRun0_A.sl.r_408 (F := Ideal) c arg5 harg5 arg6 harg6 arg7 harg7 x4 x5 x6) k0_pay601 o⟩ : View.Piece (Elt Ideal) S1x512 .f32) :: (kernelRun0_A.sl.H14_1 (F := Ideal))) A_old)
      (Eq.trans (b := dbaL (mb arg1 harg1 arg2 harg2 arg3 harg3 arg4 harg4 arg8 harg8 arg9 harg9 arg10 harg10 arg11 harg11 x0 x1 x2 x3 x7 x8 x9 x10) (![![(kernelRun0_A.sl.v1806 (F := Ideal) c arg1 harg1 arg3 harg3 arg4 harg4 arg8 harg8 arg9 harg9 arg11 harg11 arg17 x0 x2 x3 x7 x8 x10), (kernelRun0_A.sl.v1944 (F := Ideal) c arg1 harg1 arg3 harg3 arg4 harg4 arg8 harg8 arg9 harg9 arg11 harg11 arg17 x0 x2 x3 x7 x8 x10), (kernelRun0_A.sl.v2082 (F := Ideal) c arg1 harg1 arg3 harg3 arg4 harg4 arg8 harg8 arg9 harg9 arg11 harg11 arg17 x0 x2 x3 x7 x8 x10), (kernelRun0_A.sl.v2220 (F := Ideal) c arg1 harg1 arg3 harg3 arg4 harg4 arg8 harg8 arg9 harg9 arg11 harg11 arg17 x0 x2 x3 x7 x8 x10)], ![(kernelRun0_A.sl.v1242 (F := Ideal) c arg1 harg1 arg3 harg3 arg4 harg4 arg8 harg8 arg9 harg9 arg11 harg11 arg17 x0 x2 x3 x7 x8 x10), (kernelRun0_A.sl.v1380 (F := Ideal) c arg1 harg1 arg3 harg3 arg4 harg4 arg8 harg8 arg9 harg9 arg11 harg11 arg17 x0 x2 x3 x7 x8 x10), (kernelRun0_A.sl.v1518 (F := Ideal) c arg1 harg1 arg3 harg3 arg4 harg4 arg8 harg8 arg9 harg9 arg11 harg11 arg17 x0 x2 x3 x7 x8 x10), (kernelRun0_A.sl.v1656 (F := Ideal) c arg1 harg1 arg3 harg3 arg4 harg4 arg8 harg8 arg9 harg9 arg11 harg11 arg17 x0 x2 x3 x7 x8 x10)], ![(kernelRun0_A.sl.v678 (F := Ideal) c arg1 harg1 arg3 harg3 arg4 harg4 arg8 harg8 arg9 harg9 arg11 harg11 arg17 x0 x2 x3 x7 x8 x10), (kernelRun0_A.sl.v816 (F := Ideal) c arg1 harg1 arg3 harg3 arg4 harg4 arg8 harg8 arg9 harg9 arg11 harg11 arg17 x0 x2 x3 x7 x8 x10), (kernelRun0_A.sl.v954 (F := Ideal) c arg1 harg1 arg3 harg3 arg4 harg4 arg8 harg8 arg9 harg9 arg11 harg11 arg17 x0 x2 x3 x7 x8 x10), (kernelRun0_A.sl.v1092 (F := Ideal) c arg1 harg1 arg3 harg3 arg4 harg4 arg8 harg8 arg9 harg9 arg11 harg11 arg17 x0 x2 x3 x7 x8 x10)], ![(kernelRun0_A.sl.v114 (F := Ideal) c arg17), (kernelRun0_A.sl.v252 (F := Ideal) c arg1 harg1 arg3 harg3 arg4 harg4 arg8 harg8 arg9 harg9 arg11 harg11 arg17 x0 x2 x3 x7 x8 x10), (kernelRun0_A.sl.v390 (F := Ideal) c arg1 harg1 arg3 harg3 arg4 harg4 arg8 harg8 arg9 harg9 arg11 harg11 arg17 x0 x2 x3 x7 x8 x10), (kernelRun0_A.sl.v528 (F := Ideal) c arg1 harg1 arg3 harg3 arg4 harg4 arg8 harg8 arg9 harg9 arg11 harg11 arg17 x0 x2 x3 x7 x8 x10)]] : Fin 4 → Fin 4 → Vec Ideal S1x256x128 .f32) (arg18.view) (kernelRun0_A.sl.v0 i) (arg5.view.read (Elt Ideal) (harg5.unread x4)) (arg6.view.read (Elt Ideal) (harg6.unread x5)) (arg7.view.read (Elt Ideal) (harg7.unread x6)) (k0_pay6 (F := Ideal)) (kernelRun0_A.sl.H14_1 (F := Ideal))) (by sl_kernel_rfl) (congrArg (fun D => dbaL (mb arg1 harg1 arg2 harg2 arg3 harg3 arg4 harg4 arg8 harg8 arg9 harg9 arg10 harg10 arg11 harg11 x0 x1 x2 x3 x7 x8 x9 x10) D (arg18.view) (kernelRun0_A.sl.v0 i) (arg5.view.read (Elt Ideal) (harg5.unread x4)) (arg6.view.read (Elt Ideal) (harg6.unread x5)) (arg7.view.read (Elt Ideal) (harg7.unread x6)) (k0_pay6 (F := Ideal)) (kernelRun0_A.sl.H14_1 (F := Ideal))) A_D)))

theorem A_l0 (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10).2.2.2.2.1
      = nxtL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (k0_pay4 (F := Ideal)) h (3 - (c : ℕ))) ++ (kernelRun0_A.sl.HS0_13 (F := Ideal) c arg1 harg1 arg3 harg3 arg4 harg4 arg8 harg8 arg9 harg9 arg11 harg11 arg17 x0 x2 x3 x7 x8 x10) :=
  Eq.trans (b := nxtL (mb arg1 harg1 arg2 harg2 arg3 harg3 arg4 harg4 arg8 harg8 arg9 harg9 arg10 harg10 arg11 harg11 x0 x1 x2 x3 x7 x8 x9 x10) (![![(kernelRun0_A.sl.v1806 (F := Ideal) c arg1 harg1 arg3 harg3 arg4 harg4 arg8 harg8 arg9 harg9 arg11 harg11 arg17 x0 x2 x3 x7 x8 x10), (kernelRun0_A.sl.v1944 (F := Ideal) c arg1 harg1 arg3 harg3 arg4 harg4 arg8 harg8 arg9 harg9 arg11 harg11 arg17 x0 x2 x3 x7 x8 x10), (kernelRun0_A.sl.v2082 (F := Ideal) c arg1 harg1 arg3 harg3 arg4 harg4 arg8 harg8 arg9 harg9 arg11 harg11 arg17 x0 x2 x3 x7 x8 x10), (kernelRun0_A.sl.v2220 (F := Ideal) c arg1 harg1 arg3 harg3 arg4 harg4 arg8 harg8 arg9 harg9 arg11 harg11 arg17 x0 x2 x3 x7 x8 x10)], ![(kernelRun0_A.sl.v1242 (F := Ideal) c arg1 harg1 arg3 harg3 arg4 harg4 arg8 harg8 arg9 harg9 arg11 harg11 arg17 x0 x2 x3 x7 x8 x10), (kernelRun0_A.sl.v1380 (F := Ideal) c arg1 harg1 arg3 harg3 arg4 harg4 arg8 harg8 arg9 harg9 arg11 harg11 arg17 x0 x2 x3 x7 x8 x10), (kernelRun0_A.sl.v1518 (F := Ideal) c arg1 harg1 arg3 harg3 arg4 harg4 arg8 harg8 arg9 harg9 arg11 harg11 arg17 x0 x2 x3 x7 x8 x10), (kernelRun0_A.sl.v1656 (F := Ideal) c arg1 harg1 arg3 harg3 arg4 harg4 arg8 harg8 arg9 harg9 arg11 harg11 arg17 x0 x2 x3 x7 x8 x10)], ![(kernelRun0_A.sl.v678 (F := Ideal) c arg1 harg1 arg3 harg3 arg4 harg4 arg8 harg8 arg9 harg9 arg11 harg11 arg17 x0 x2 x3 x7 x8 x10), (kernelRun0_A.sl.v816 (F := Ideal) c arg1 harg1 arg3 harg3 arg4 harg4 arg8 harg8 arg9 harg9 arg11 harg11 arg17 x0 x2 x3 x7 x8 x10), (kernelRun0_A.sl.v954 (F := Ideal) c arg1 harg1 arg3 harg3 arg4 harg4 arg8 harg8 arg9 harg9 arg11 harg11 arg17 x0 x2 x3 x7 x8 x10), (kernelRun0_A.sl.v1092 (F := Ideal) c arg1 harg1 arg3 harg3 arg4 harg4 arg8 harg8 arg9 harg9 arg11 harg11 arg17 x0 x2 x3 x7 x8 x10)], ![(kernelRun0_A.sl.v114 (F := Ideal) c arg17), (kernelRun0_A.sl.v252 (F := Ideal) c arg1 harg1 arg3 harg3 arg4 harg4 arg8 harg8 arg9 harg9 arg11 harg11 arg17 x0 x2 x3 x7 x8 x10), (kernelRun0_A.sl.v390 (F := Ideal) c arg1 harg1 arg3 harg3 arg4 harg4 arg8 harg8 arg9 harg9 arg11 harg11 arg17 x0 x2 x3 x7 x8 x10), (kernelRun0_A.sl.v528 (F := Ideal) c arg1 harg1 arg3 harg3 arg4 harg4 arg8 harg8 arg9 harg9 arg11 harg11 arg17 x0 x2 x3 x7 x8 x10)]] : Fin 4 → Fin 4 → Vec Ideal S1x256x128 .f32) ++ (kernelRun0_A.sl.HS0_13 (F := Ideal) c arg1 harg1 arg3 harg3 arg4 harg4 arg8 harg8 arg9 harg9 arg11 harg11 arg17 x0 x2 x3 x7 x8 x10)) (by sl_kernel_rfl) (congrArg (fun D => nxtL (mb arg1 harg1 arg2 harg2 arg3 harg3 arg4 harg4 arg8 harg8 arg9 harg9 arg10 harg10 arg11 harg11 x0 x1 x2 x3 x7 x8 x9 x10) D ++ (kernelRun0_A.sl.HS0_13 (F := Ideal) c arg1 harg1 arg3 harg3 arg4 harg4 arg8 harg8 arg9 harg9 arg11 harg11 arg17 x0 x2 x3 x7 x8 x10)) A_D)

variable {A : Arr} {n N : ℕ}
theorem A_out11 (hc0 : cond0_0 i) (H : BlkOk A ⟨x0, x1, x2, x3, x7, x8, x9, x10⟩ n) (hN : n + 256 ≤ N)
    (hxs : ∀ (h : Fin 4) (z : Fin 256) (x : Fin 128), (k0_pay4 (F := Ideal)) (ix3 h z x) = ((A.ds h N z x (n + 256) : ℝ) : EReal))
    (u : Fin 256) (j : Fin 4096) :
    out0_A_11 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 (ix2 u j) = ((dpv A N (n + u) j : ℝ) : EReal) := by
  refine (congrFun ((View.read_writes_junk_eq_canon _ _).trans (congrArg _ (A_l11 hc0))) _).trans ?_
  rw [mb_eq]
  exact dp_canon H hN _ hxs u j

theorem A_sout (hc0 : cond0_0 i) (H : BlkOk A ⟨x0, x1, x2, x3, x7, x8, x9, x10⟩ n) (hN : n + 256 ≤ N)
    (hxs : ∀ (h : Fin 4) (z : Fin 256) (x : Fin 128), (k0_pay4 (F := Ideal)) (ix3 h z x) = ((A.ds h N z x (n + 256) : ℝ) : EReal))
    (h : Fin 4) (z : Fin 256) (x : Fin 128) :
    sout0_A_0 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 (ix3 h z x) = ((A.ds h N z x n : ℝ) : EReal) := by
  refine (congrFun ((View.read_writes_junk_eq_canon _ _).trans (congrArg _ (A_l0 hc0))) _).trans ?_
  rw [mb_eq]
  exact nxt_canon H hN _ hxs _ h z x

theorem A_out13 (hc0 : cond0_0 i) (H : BlkOk A ⟨x0, x1, x2, x3, x7, x8, x9, x10⟩ n) (hN : n + 256 ≤ N)
    (hxs : ∀ (h : Fin 4) (z : Fin 256) (x : Fin 128), (k0_pay4 (F := Ideal)) (ix3 h z x) = ((A.ds h N z x (n + 256) : ℝ) : EReal))
    (hxo : ∀ j : Fin 1024, (k0_pay5 (F := Ideal)) (ix2 0 j) = ((dgv A N (n + 256) j : ℝ) : EReal))
    (j : Fin 1024) :
    out0_A_13 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 (ix2 0 j) = ((dgv A N n j : ℝ) : EReal) := by
  refine (congrFun ((View.read_writes_junk_eq_canon _ _).trans (congrArg _ (A_l13 hc0))) _).trans ?_
  rw [mb_eq]
  exact dg_canon H hN _ hxs _ _ hxo j

theorem A_out12 (hc0 : cond0_0 i) (H : BlkOk A ⟨x0, x1, x2, x3, x7, x8, x9, x10⟩ n) (hN : n + 256 ≤ N)
    (hxs : ∀ (h : Fin 4) (z : Fin 256) (x : Fin 128), (k0_pay4 (F := Ideal)) (ix3 h z x) = ((A.ds h N z x (n + 256) : ℝ) : EReal))
    (b : Fin 33) (hn : n = 256 * b) (hi : (i 0 : ℕ) = 32 - b) (L U : ℕ → ℕ → ℝ) (bb : ℕ → ℝ)
    (h4 : ∀ (i : Fin 256) (r : Fin 128), x4 (ix2 i r) = ((L (256 * b + i) r : ℝ) : EReal))
    (h5 : ∀ (r : Fin 128) (j : Fin 512), x5 (ix2 r j) = ((U r j : ℝ) : EReal))
    (h6 : ∀ j : Fin 512, x6 (ix2 0 j) = ((bb j : ℝ) : EReal))
    (u : Fin 256) (j : Fin 512) :
    out0_A_12 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 (ix2 u j) = ((dzv (dlav A N (n + u) j) (zv L U bb (n + u) j) (n + u) : ℝ) : EReal) := by
  refine (congrFun ((View.read_writes_junk_eq_canon _ _).trans (congrArg _ (A_l12 hc0))) _).trans ?_
  rw [mb_eq, harg5.read_unread, harg6.read_unread, harg7.read_unread]
  subst hn
  exact dz_ok b H hN _ hxs _ (v0_eq _ b hi) _ x4 x5 x6 L U bb h4 h5 h6 u j

theorem A_out14 (hc0 : cond0_0 i) (H : BlkOk A ⟨x0, x1, x2, x3, x7, x8, x9, x10⟩ n) (hN : n + 256 ≤ N)
    (hxs : ∀ (h : Fin 4) (z : Fin 256) (x : Fin 128), (k0_pay4 (F := Ideal)) (ix3 h z x) = ((A.ds h N z x (n + 256) : ℝ) : EReal))
    (b : Fin 33) (hn : n = 256 * b) (hi : (i 0 : ℕ) = 32 - b) (L U : ℕ → ℕ → ℝ) (bb : ℕ → ℝ)
    (h4 : ∀ (i : Fin 256) (r : Fin 128), x4 (ix2 i r) = ((L (256 * b + i) r : ℝ) : EReal))
    (h5 : ∀ (r : Fin 128) (j : Fin 512), x5 (ix2 r j) = ((U r j : ℝ) : EReal))
    (h6 : ∀ j : Fin 512, x6 (ix2 0 j) = ((bb j : ℝ) : EReal))
    (hol : ∀ j : Fin 512, (k0_pay6 (F := Ideal)) (ix2 0 j) = ((∑ t ∈ Ico (n + 256) N, dzv (dlav A N t j) (zv L U bb t j) t : ℝ) : EReal))
    (j : Fin 512) :
    out0_A_14 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 (ix2 0 j) = ((∑ t ∈ Ico n N, dzv (dlav A N t j) (zv L U bb t j) t : ℝ) : EReal) := by
  refine (congrFun ((View.read_writes_junk_eq_canon _ _).trans (congrArg _ (A_l14 hc0))) _).trans ?_
  rw [mb_eq, harg5.read_unread, harg6.read_unread, harg7.read_unread]
  subst hn
  exact dba_ok b H hN _ hxs _ (v0_eq _ b hi) _ x4 x5 x6 L U bb h4 h5 h6 _ _ hol j

end Gla

end
-- ==== Proof.WordsB.lean ====
module

public import proofs.«01_k».proof.Proof.Blk
public import Idealize.ShloMosaic.Lib.Pipeline.ReadBack
public import proofs.«01_k».proof.Proof.Gen.KernelIdeal.Frame.RunB

/-!
The words of one grid point, chunk by chunk and head by head: case B. The carried gradients of the state and of the gain, as each read finds them.
-/

@[expose] public section

set_option maxRecDepth 16384

noncomputable section

namespace Gla

open Idealize.ShloMosaic Cert.KernelIdeal Cert.KernelIdeal.Gen

variable {c : Dev nD} {i : grid0.Coords} {arg1 : Memref sig .tc .vmem S256x1024 .bf16} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S256x512 .f32} {harg4 : arg4.IsWhole} {arg5 : Memref sig .tc .vmem S256x128 .f32} {harg5 : arg5.IsWhole} {arg6 : Memref sig .tc .vmem S128x512 .f32} {harg6 : arg6.IsWhole} {arg7 : Memref sig .tc .vmem S1x512 .f32} {harg7 : arg7.IsWhole} {arg8 : Memref sig .tc .vmem S1x1024 .f32} {harg8 : arg8.IsWhole} {arg9 : Memref sig .tc .vmem S256x1024 .f32} {harg9 : arg9.IsWhole} {arg10 : Memref sig .tc .vmem S4x4x256x128 .bf16} {harg10 : arg10.IsWhole} {arg11 : Memref sig .tc .vmem S256x1024 .bf16} {harg11 : arg11.IsWhole} {arg13 : Memref sig .tc .vmem S256x4096 .bf16} {harg13 : arg13.IsWhole} {arg14 : Memref sig .tc .vmem S256x512 .bf16} {harg14 : arg14.IsWhole} {arg15 : Memref sig .tc .vmem S1x1024 .f32} {harg15 : arg15.IsWhole} {arg16 : Memref sig .tc .vmem S1x512 .f32} {harg16 : arg16.IsWhole} {arg17 : Memref sig .tc .vmem S4x256x128 .f32} {harg17 : arg17.IsWhole} {arg18 : Memref sig .tc .vmem S256x512 .f32} {harg18 : arg18.IsWhole}  {x0 : Vec Ideal S256x1024 .bf16} {x1 : Vec Ideal S256x1024 .bf16} {x2 : Vec Ideal S256x1024 .bf16} {x3 : Vec Ideal S256x512 .f32} {x4 : Vec Ideal S256x128 .f32} {x5 : Vec Ideal S128x512 .f32} {x6 : Vec Ideal S1x512 .f32} {x7 : Vec Ideal S1x1024 .f32} {x8 : Vec Ideal S256x1024 .f32} {x9 : Vec Ideal S4x4x256x128 .bf16} {x10 : Vec Ideal S256x1024 .bf16} {xo13 : Vec Ideal S1x1024 .f32} {xo14 : Vec Ideal S1x512 .f32} {xs0 : Vec Ideal S4x256x128 .f32}

theorem B_nxt_3_0 :
    k0_pay47 (F := Ideal) (kernelRun0_B.sl.r_9 (F := Ideal) c arg4 harg4 x3) (kernelRun0_B.sl.r_13 (F := Ideal) c arg1 harg1 arg4 harg4 x0 x3) (kernelRun0_B.sl.r_23 (F := Ideal) c arg3 harg3 arg8 harg8 arg9 harg9 arg11 harg11 x2 x7 x8 x10) (kernelRun0_B.sl.r_26 (F := Ideal) c arg17 harg17 xs0)
      = (tileOf (mb arg1 harg1 arg2 harg2 arg3 harg3 arg4 harg4 arg8 harg8 arg9 harg9 arg10 harg10 arg11 harg11 x0 x1 x2 x3 x7 x8 x9 x10) 3 0 (View.readAt (Elt Ideal) arg17.view (Rect.unit (s := S4x256x128) ![0, 0, 0] S1x256x128.size inb_S4x256x128_S1x256x128_0_0_0).toLoadRect (harg17.unread xs0))).nxt := by
  sl_kernel_rfl

theorem B_dg_3_0 (dst : Vec Ideal S1x256x128 .f32) :
    k0_pay36 (F := Ideal) (kernelRun0_B.sl.r_16 (F := Ideal) c arg3 harg3 x2) (kernelRun0_B.sl.r_17 (F := Ideal) c arg11 harg11 x10) (kernelRun0_B.sl.r_18 (F := Ideal) c arg3 harg3 x2) (kernelRun0_B.sl.r_20 (F := Ideal) c arg9 harg9 x8) (View.readAt (Elt Ideal) arg15.view (Rect.unit (s := S1x1024) ![0, 0] S1x256.size inb_S1x1024_S1x256_0_0).toLoadRect (harg15.unread xo13))
      = (tileOf (mb arg1 harg1 arg2 harg2 arg3 harg3 arg4 harg4 arg8 harg8 arg9 harg9 arg10 harg10 arg11 harg11 x0 x1 x2 x3 x7 x8 x9 x10) 3 0 dst).dg (View.readAt (Elt Ideal) arg15.view (Rect.unit (s := S1x1024) ![0, 0] S1x256.size inb_S1x1024_S1x256_0_0).toLoadRect (harg15.unread xo13)) := by
  sl_kernel_rfl

theorem B_nxt_3_1 :
    kernelRun0_B.sl.r_53 (F := Ideal) c arg1 harg1 arg3 harg3 arg4 harg4 arg8 harg8 arg9 harg9 arg11 harg11 arg17 harg17 x0 x2 x3 x7 x8 x10 xs0
      = (tileOf (mb arg1 harg1 arg2 harg2 arg3 harg3 arg4 harg4 arg8 harg8 arg9 harg9 arg10 harg10 arg11 harg11 x0 x1 x2 x3 x7 x8 x9 x10) 3 1 (kernelRun0_B.sl.v252 (F := Ideal) c arg17 harg17 xs0)).nxt := by
  sl_kernel_rfl

theorem B_dg_3_1 (dst : Vec Ideal S1x256x128 .f32) :
    k0_pay75 (F := Ideal) (kernelRun0_B.sl.r_43 (F := Ideal) c arg9 harg9 x8) (kernelRun0_B.sl.r_44 (F := Ideal) c arg3 harg3 x2) (kernelRun0_B.sl.r_45 (F := Ideal) c arg11 harg11 x10) (kernelRun0_B.sl.r_46 (F := Ideal) c arg3 harg3 x2) (kernelRun0_B.sl.r_47 (F := Ideal) c arg9 harg9 x8) (kernelRun0_B.sl.v222 (F := Ideal) c arg15 harg15 xo13)
      = (tileOf (mb arg1 harg1 arg2 harg2 arg3 harg3 arg4 harg4 arg8 harg8 arg9 harg9 arg10 harg10 arg11 harg11 x0 x1 x2 x3 x7 x8 x9 x10) 3 1 dst).dg (kernelRun0_B.sl.v222 (F := Ideal) c arg15 harg15 xo13) := by
  sl_kernel_rfl

theorem B_nxt_3_2 :
    k0_pay121 (F := Ideal) (kernelRun0_B.sl.r_59 (F := Ideal) c arg4 harg4 x3) (kernelRun0_B.sl.r_63 (F := Ideal) c arg1 harg1 arg4 harg4 x0 x3) (kernelRun0_B.sl.r_73 (F := Ideal) c arg3 harg3 arg8 harg8 arg9 harg9 arg11 harg11 x2 x7 x8 x10) (kernelRun0_B.sl.r_76 (F := Ideal) c arg17 harg17 xs0)
      = (tileOf (mb arg1 harg1 arg2 harg2 arg3 harg3 arg4 harg4 arg8 harg8 arg9 harg9 arg10 harg10 arg11 harg11 x0 x1 x2 x3 x7 x8 x9 x10) 3 2 (kernelRun0_B.sl.v390 (F := Ideal) c arg17 harg17 xs0)).nxt := by
  sl_kernel_rfl

theorem B_dg_3_2 (dst : Vec Ideal S1x256x128 .f32) :
    k0_pay110 (F := Ideal) (kernelRun0_B.sl.r_66 (F := Ideal) c arg3 harg3 x2) (kernelRun0_B.sl.r_67 (F := Ideal) c arg11 harg11 x10) (kernelRun0_B.sl.r_68 (F := Ideal) c arg3 harg3 x2) (kernelRun0_B.sl.r_70 (F := Ideal) c arg9 harg9 x8) (kernelRun0_B.sl.v360 (F := Ideal) c arg15 harg15 xo13)
      = (tileOf (mb arg1 harg1 arg2 harg2 arg3 harg3 arg4 harg4 arg8 harg8 arg9 harg9 arg10 harg10 arg11 harg11 x0 x1 x2 x3 x7 x8 x9 x10) 3 2 dst).dg (kernelRun0_B.sl.v360 (F := Ideal) c arg15 harg15 xo13) := by
  sl_kernel_rfl

theorem B_nxt_3_3 :
    kernelRun0_B.sl.r_103 (F := Ideal) c arg1 harg1 arg3 harg3 arg4 harg4 arg8 harg8 arg9 harg9 arg11 harg11 arg17 harg17 x0 x2 x3 x7 x8 x10 xs0
      = (tileOf (mb arg1 harg1 arg2 harg2 arg3 harg3 arg4 harg4 arg8 harg8 arg9 harg9 arg10 harg10 arg11 harg11 x0 x1 x2 x3 x7 x8 x9 x10) 3 3 (kernelRun0_B.sl.v528 (F := Ideal) c arg17 harg17 xs0)).nxt := by
  sl_kernel_rfl

theorem B_dg_3_3 (dst : Vec Ideal S1x256x128 .f32) :
    k0_pay149 (F := Ideal) (kernelRun0_B.sl.r_93 (F := Ideal) c arg9 harg9 x8) (kernelRun0_B.sl.r_94 (F := Ideal) c arg3 harg3 x2) (kernelRun0_B.sl.r_95 (F := Ideal) c arg11 harg11 x10) (kernelRun0_B.sl.r_96 (F := Ideal) c arg3 harg3 x2) (kernelRun0_B.sl.r_97 (F := Ideal) c arg9 harg9 x8) (kernelRun0_B.sl.v498 (F := Ideal) c arg15 harg15 xo13)
      = (tileOf (mb arg1 harg1 arg2 harg2 arg3 harg3 arg4 harg4 arg8 harg8 arg9 harg9 arg10 harg10 arg11 harg11 x0 x1 x2 x3 x7 x8 x9 x10) 3 3 dst).dg (kernelRun0_B.sl.v498 (F := Ideal) c arg15 harg15 xo13) := by
  sl_kernel_rfl

theorem B_nxt_2_0 :
    k0_pay201 (F := Ideal) (kernelRun0_B.sl.r_113 (F := Ideal) c arg4 harg4 x3) (kernelRun0_B.sl.r_117 (F := Ideal) c arg1 harg1 arg4 harg4 x0 x3) (kernelRun0_B.sl.r_125 (F := Ideal) c arg3 harg3 arg8 harg8 arg9 harg9 arg11 harg11 x2 x7 x8 x10) (kernelRun0_B.sl.v678 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 2 0 (kernelRun0_B.sl.v678 (F := Ideal) c arg1 harg1 arg3 harg3 arg4 harg4 arg8 harg8 arg9 harg9 arg11 harg11 arg17 harg17 x0 x2 x3 x7 x8 x10 xs0)).nxt := by
  sl_kernel_rfl

theorem B_dg_2_0 (dst : Vec Ideal S1x256x128 .f32) :
    k0_pay189 (F := Ideal) (kernelRun0_B.sl.r_120 (F := Ideal) c arg3 harg3 x2) (kernelRun0_B.sl.r_121 (F := Ideal) c arg11 harg11 x10) (kernelRun0_B.sl.r_122 (F := Ideal) c arg3 harg3 x2) (kernelRun0_B.sl.r_124 (F := Ideal) c arg9 harg9 x8) (kernelRun0_B.sl.v648 (F := Ideal) c arg3 harg3 arg9 harg9 arg11 harg11 arg15 harg15 x2 x8 x10 xo13)
      = (tileOf (mb arg1 harg1 arg2 harg2 arg3 harg3 arg4 harg4 arg8 harg8 arg9 harg9 arg10 harg10 arg11 harg11 x0 x1 x2 x3 x7 x8 x9 x10) 2 0 dst).dg (kernelRun0_B.sl.v648 (F := Ideal) c arg3 harg3 arg9 harg9 arg11 harg11 arg15 harg15 x2 x8 x10 xo13) := by
  sl_kernel_rfl

theorem B_nxt_2_1 :
    k0_pay233 (F := Ideal) (kernelRun0_B.sl.r_136 (F := Ideal) c arg4 harg4 x3) (kernelRun0_B.sl.r_140 (F := Ideal) c arg1 harg1 arg4 harg4 x0 x3) (kernelRun0_B.sl.r_150 (F := Ideal) c arg3 harg3 arg8 harg8 arg9 harg9 arg11 harg11 x2 x7 x8 x10) (kernelRun0_B.sl.r_152 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 2 1 (kernelRun0_B.sl.v816 (F := Ideal) c arg1 harg1 arg3 harg3 arg4 harg4 arg8 harg8 arg9 harg9 arg11 harg11 arg17 harg17 x0 x2 x3 x7 x8 x10 xs0)).nxt := by
  sl_kernel_rfl

theorem B_dg_2_1 (dst : Vec Ideal S1x256x128 .f32) :
    kernelRun0_B.sl.r_149 (F := Ideal) c arg3 harg3 arg9 harg9 arg11 harg11 arg15 harg15 x2 x8 x10 xo13
      = (tileOf (mb arg1 harg1 arg2 harg2 arg3 harg3 arg4 harg4 arg8 harg8 arg9 harg9 arg10 harg10 arg11 harg11 x0 x1 x2 x3 x7 x8 x9 x10) 2 1 dst).dg (kernelRun0_B.sl.v786 (F := Ideal) c arg3 harg3 arg9 harg9 arg11 harg11 arg15 harg15 x2 x8 x10 xo13) := by
  sl_kernel_rfl

theorem B_nxt_2_2 :
    k0_pay267 (F := Ideal) (kernelRun0_B.sl.r_161 (F := Ideal) c arg4 harg4 x3) (kernelRun0_B.sl.r_165 (F := Ideal) c arg1 harg1 arg4 harg4 x0 x3) (kernelRun0_B.sl.r_173 (F := Ideal) c arg3 harg3 arg8 harg8 arg9 harg9 arg11 harg11 x2 x7 x8 x10) (kernelRun0_B.sl.v954 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 2 2 (kernelRun0_B.sl.v954 (F := Ideal) c arg1 harg1 arg3 harg3 arg4 harg4 arg8 harg8 arg9 harg9 arg11 harg11 arg17 harg17 x0 x2 x3 x7 x8 x10 xs0)).nxt := by
  sl_kernel_rfl

theorem B_dg_2_2 (dst : Vec Ideal S1x256x128 .f32) :
    k0_pay255 (F := Ideal) (kernelRun0_B.sl.r_168 (F := Ideal) c arg3 harg3 x2) (kernelRun0_B.sl.r_169 (F := Ideal) c arg11 harg11 x10) (kernelRun0_B.sl.r_170 (F := Ideal) c arg3 harg3 x2) (kernelRun0_B.sl.r_172 (F := Ideal) c arg9 harg9 x8) (kernelRun0_B.sl.v924 (F := Ideal) c arg3 harg3 arg9 harg9 arg11 harg11 arg15 harg15 x2 x8 x10 xo13)
      = (tileOf (mb arg1 harg1 arg2 harg2 arg3 harg3 arg4 harg4 arg8 harg8 arg9 harg9 arg10 harg10 arg11 harg11 x0 x1 x2 x3 x7 x8 x9 x10) 2 2 dst).dg (kernelRun0_B.sl.v924 (F := Ideal) c arg3 harg3 arg9 harg9 arg11 harg11 arg15 harg15 x2 x8 x10 xo13) := by
  sl_kernel_rfl

theorem B_nxt_2_3 :
    k0_pay299 (F := Ideal) (kernelRun0_B.sl.r_184 (F := Ideal) c arg4 harg4 x3) (kernelRun0_B.sl.r_188 (F := Ideal) c arg1 harg1 arg4 harg4 x0 x3) (kernelRun0_B.sl.r_198 (F := Ideal) c arg3 harg3 arg8 harg8 arg9 harg9 arg11 harg11 x2 x7 x8 x10) (kernelRun0_B.sl.r_200 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 2 3 (kernelRun0_B.sl.v1092 (F := Ideal) c arg1 harg1 arg3 harg3 arg4 harg4 arg8 harg8 arg9 harg9 arg11 harg11 arg17 harg17 x0 x2 x3 x7 x8 x10 xs0)).nxt := by
  sl_kernel_rfl

theorem B_dg_2_3 (dst : Vec Ideal S1x256x128 .f32) :
    kernelRun0_B.sl.r_197 (F := Ideal) c arg3 harg3 arg9 harg9 arg11 harg11 arg15 harg15 x2 x8 x10 xo13
      = (tileOf (mb arg1 harg1 arg2 harg2 arg3 harg3 arg4 harg4 arg8 harg8 arg9 harg9 arg10 harg10 arg11 harg11 x0 x1 x2 x3 x7 x8 x9 x10) 2 3 dst).dg (kernelRun0_B.sl.v1062 (F := Ideal) c arg3 harg3 arg9 harg9 arg11 harg11 arg15 harg15 x2 x8 x10 xo13) := by
  sl_kernel_rfl

theorem B_nxt_1_0 :
    k0_pay340 (F := Ideal) (kernelRun0_B.sl.r_230 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 1 0 (kernelRun0_B.sl.v1242 (F := Ideal) c arg1 harg1 arg3 harg3 arg4 harg4 arg8 harg8 arg9 harg9 arg11 harg11 arg17 harg17 x0 x2 x3 x7 x8 x10 xs0)).nxt := by
  sl_kernel_rfl

theorem B_dg_1_0 (dst : Vec Ideal S1x256x128 .f32) :
    k0_pay327 (F := Ideal) (kernelRun0_B.sl.r_220 (F := Ideal) c arg9 harg9 x8) (kernelRun0_B.sl.r_221 (F := Ideal) c arg3 harg3 x2) (kernelRun0_B.sl.r_222 (F := Ideal) c arg11 harg11 x10) (kernelRun0_B.sl.r_223 (F := Ideal) c arg3 harg3 x2) (kernelRun0_B.sl.v1212 (F := Ideal) c arg3 harg3 arg9 harg9 arg11 harg11 arg15 harg15 x2 x8 x10 xo13)
      = (tileOf (mb arg1 harg1 arg2 harg2 arg3 harg3 arg4 harg4 arg8 harg8 arg9 harg9 arg10 harg10 arg11 harg11 x0 x1 x2 x3 x7 x8 x9 x10) 1 0 dst).dg (kernelRun0_B.sl.v1212 (F := Ideal) c arg3 harg3 arg9 harg9 arg11 harg11 arg15 harg15 x2 x8 x10 xo13) := by
  sl_kernel_rfl

theorem B_nxt_1_1 :
    k0_pay376 (F := Ideal) (kernelRun0_B.sl.r_237 (F := Ideal) c arg4 harg4 x3) (kernelRun0_B.sl.r_241 (F := Ideal) c arg1 harg1 arg4 harg4 x0 x3) (kernelRun0_B.sl.r_250 (F := Ideal) c arg3 harg3 arg8 harg8 arg9 harg9 arg11 harg11 x2 x7 x8 x10) (kernelRun0_B.sl.r_253 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 1 1 (kernelRun0_B.sl.v1380 (F := Ideal) c arg1 harg1 arg3 harg3 arg4 harg4 arg8 harg8 arg9 harg9 arg11 harg11 arg17 harg17 x0 x2 x3 x7 x8 x10 xs0)).nxt := by
  sl_kernel_rfl

theorem B_dg_1_1 (dst : Vec Ideal S1x256x128 .f32) :
    k0_pay364 (F := Ideal) (kernelRun0_B.sl.r_244 (F := Ideal) c arg3 harg3 x2) (kernelRun0_B.sl.r_245 (F := Ideal) c arg11 harg11 x10) (kernelRun0_B.sl.r_246 (F := Ideal) c arg3 harg3 x2) (kernelRun0_B.sl.r_248 (F := Ideal) c arg9 harg9 x8) (kernelRun0_B.sl.v1350 (F := Ideal) c arg3 harg3 arg9 harg9 arg11 harg11 arg15 harg15 x2 x8 x10 xo13)
      = (tileOf (mb arg1 harg1 arg2 harg2 arg3 harg3 arg4 harg4 arg8 harg8 arg9 harg9 arg10 harg10 arg11 harg11 x0 x1 x2 x3 x7 x8 x9 x10) 1 1 dst).dg (kernelRun0_B.sl.v1350 (F := Ideal) c arg3 harg3 arg9 harg9 arg11 harg11 arg15 harg15 x2 x8 x10 xo13) := by
  sl_kernel_rfl

theorem B_nxt_1_2 :
    k0_pay415 (F := Ideal) (kernelRun0_B.sl.r_280 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 1 2 (kernelRun0_B.sl.v1518 (F := Ideal) c arg1 harg1 arg3 harg3 arg4 harg4 arg8 harg8 arg9 harg9 arg11 harg11 arg17 harg17 x0 x2 x3 x7 x8 x10 xs0)).nxt := by
  sl_kernel_rfl

theorem B_dg_1_2 (dst : Vec Ideal S1x256x128 .f32) :
    k0_pay402 (F := Ideal) (kernelRun0_B.sl.r_270 (F := Ideal) c arg9 harg9 x8) (kernelRun0_B.sl.r_271 (F := Ideal) c arg3 harg3 x2) (kernelRun0_B.sl.r_272 (F := Ideal) c arg11 harg11 x10) (kernelRun0_B.sl.r_273 (F := Ideal) c arg3 harg3 x2) (kernelRun0_B.sl.v1488 (F := Ideal) c arg3 harg3 arg9 harg9 arg11 harg11 arg15 harg15 x2 x8 x10 xo13)
      = (tileOf (mb arg1 harg1 arg2 harg2 arg3 harg3 arg4 harg4 arg8 harg8 arg9 harg9 arg10 harg10 arg11 harg11 x0 x1 x2 x3 x7 x8 x9 x10) 1 2 dst).dg (kernelRun0_B.sl.v1488 (F := Ideal) c arg3 harg3 arg9 harg9 arg11 harg11 arg15 harg15 x2 x8 x10 xo13) := by
  sl_kernel_rfl

theorem B_nxt_1_3 :
    k0_pay451 (F := Ideal) (kernelRun0_B.sl.r_287 (F := Ideal) c arg4 harg4 x3) (kernelRun0_B.sl.r_291 (F := Ideal) c arg1 harg1 arg4 harg4 x0 x3) (kernelRun0_B.sl.r_300 (F := Ideal) c arg3 harg3 arg8 harg8 arg9 harg9 arg11 harg11 x2 x7 x8 x10) (kernelRun0_B.sl.r_303 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 1 3 (kernelRun0_B.sl.v1656 (F := Ideal) c arg1 harg1 arg3 harg3 arg4 harg4 arg8 harg8 arg9 harg9 arg11 harg11 arg17 harg17 x0 x2 x3 x7 x8 x10 xs0)).nxt := by
  sl_kernel_rfl

theorem B_dg_1_3 (dst : Vec Ideal S1x256x128 .f32) :
    k0_pay439 (F := Ideal) (kernelRun0_B.sl.r_294 (F := Ideal) c arg3 harg3 x2) (kernelRun0_B.sl.r_295 (F := Ideal) c arg11 harg11 x10) (kernelRun0_B.sl.r_296 (F := Ideal) c arg3 harg3 x2) (kernelRun0_B.sl.r_298 (F := Ideal) c arg9 harg9 x8) (kernelRun0_B.sl.v1626 (F := Ideal) c arg3 harg3 arg9 harg9 arg11 harg11 arg15 harg15 x2 x8 x10 xo13)
      = (tileOf (mb arg1 harg1 arg2 harg2 arg3 harg3 arg4 harg4 arg8 harg8 arg9 harg9 arg10 harg10 arg11 harg11 x0 x1 x2 x3 x7 x8 x9 x10) 1 3 dst).dg (kernelRun0_B.sl.v1626 (F := Ideal) c arg3 harg3 arg9 harg9 arg11 harg11 arg15 harg15 x2 x8 x10 xo13) := by
  sl_kernel_rfl

theorem B_nxt_0_0 :
    k0_pay494 (F := Ideal) (kernelRun0_B.sl.r_317 (F := Ideal) c arg4 harg4 x3) (kernelRun0_B.sl.r_321 (F := Ideal) c arg1 harg1 arg4 harg4 x0 x3) (kernelRun0_B.sl.r_329 (F := Ideal) c arg3 harg3 arg8 harg8 arg9 harg9 arg11 harg11 x2 x7 x8 x10) (kernelRun0_B.sl.r_331 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 0 0 (kernelRun0_B.sl.v1806 (F := Ideal) c arg1 harg1 arg3 harg3 arg4 harg4 arg8 harg8 arg9 harg9 arg11 harg11 arg17 harg17 x0 x2 x3 x7 x8 x10 xs0)).nxt := by
  sl_kernel_rfl

theorem B_dg_0_0 (dst : Vec Ideal S1x256x128 .f32) :
    kernelRun0_B.sl.r_328 (F := Ideal) c arg3 harg3 arg9 harg9 arg11 harg11 arg15 harg15 x2 x8 x10 xo13
      = (tileOf (mb arg1 harg1 arg2 harg2 arg3 harg3 arg4 harg4 arg8 harg8 arg9 harg9 arg10 harg10 arg11 harg11 x0 x1 x2 x3 x7 x8 x9 x10) 0 0 dst).dg (kernelRun0_B.sl.v1776 (F := Ideal) c arg3 harg3 arg9 harg9 arg11 harg11 arg15 harg15 x2 x8 x10 xo13) := by
  sl_kernel_rfl

theorem B_nxt_0_1 :
    k0_pay528 (F := Ideal) (kernelRun0_B.sl.r_340 (F := Ideal) c arg4 harg4 x3) (kernelRun0_B.sl.r_344 (F := Ideal) c arg1 harg1 arg4 harg4 x0 x3) (kernelRun0_B.sl.r_352 (F := Ideal) c arg3 harg3 arg8 harg8 arg9 harg9 arg11 harg11 x2 x7 x8 x10) (kernelRun0_B.sl.v1944 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 0 1 (kernelRun0_B.sl.v1944 (F := Ideal) c arg1 harg1 arg3 harg3 arg4 harg4 arg8 harg8 arg9 harg9 arg11 harg11 arg17 harg17 x0 x2 x3 x7 x8 x10 xs0)).nxt := by
  sl_kernel_rfl

theorem B_dg_0_1 (dst : Vec Ideal S1x256x128 .f32) :
    k0_pay516 (F := Ideal) (kernelRun0_B.sl.r_347 (F := Ideal) c arg3 harg3 x2) (kernelRun0_B.sl.r_348 (F := Ideal) c arg11 harg11 x10) (kernelRun0_B.sl.r_349 (F := Ideal) c arg3 harg3 x2) (kernelRun0_B.sl.r_351 (F := Ideal) c arg9 harg9 x8) (kernelRun0_B.sl.v1914 (F := Ideal) c arg3 harg3 arg9 harg9 arg11 harg11 arg15 harg15 x2 x8 x10 xo13)
      = (tileOf (mb arg1 harg1 arg2 harg2 arg3 harg3 arg4 harg4 arg8 harg8 arg9 harg9 arg10 harg10 arg11 harg11 x0 x1 x2 x3 x7 x8 x9 x10) 0 1 dst).dg (kernelRun0_B.sl.v1914 (F := Ideal) c arg3 harg3 arg9 harg9 arg11 harg11 arg15 harg15 x2 x8 x10 xo13) := by
  sl_kernel_rfl

theorem B_nxt_0_2 :
    k0_pay561 (F := Ideal) (kernelRun0_B.sl.r_364 (F := Ideal) c arg4 harg4 x3) (kernelRun0_B.sl.r_368 (F := Ideal) c arg1 harg1 arg4 harg4 x0 x3) (kernelRun0_B.sl.r_376 (F := Ideal) c arg3 harg3 arg8 harg8 arg9 harg9 arg11 harg11 x2 x7 x8 x10) (kernelRun0_B.sl.r_378 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 0 2 (kernelRun0_B.sl.v2082 (F := Ideal) c arg1 harg1 arg3 harg3 arg4 harg4 arg8 harg8 arg9 harg9 arg11 harg11 arg17 harg17 x0 x2 x3 x7 x8 x10 xs0)).nxt := by
  sl_kernel_rfl

theorem B_dg_0_2 (dst : Vec Ideal S1x256x128 .f32) :
    kernelRun0_B.sl.r_375 (F := Ideal) c arg3 harg3 arg9 harg9 arg11 harg11 arg15 harg15 x2 x8 x10 xo13
      = (tileOf (mb arg1 harg1 arg2 harg2 arg3 harg3 arg4 harg4 arg8 harg8 arg9 harg9 arg10 harg10 arg11 harg11 x0 x1 x2 x3 x7 x8 x9 x10) 0 2 dst).dg (kernelRun0_B.sl.v2052 (F := Ideal) c arg3 harg3 arg9 harg9 arg11 harg11 arg15 harg15 x2 x8 x10 xo13) := by
  sl_kernel_rfl

theorem B_nxt_0_3 :
    k0_pay595 (F := Ideal) (kernelRun0_B.sl.r_387 (F := Ideal) c arg4 harg4 x3) (kernelRun0_B.sl.r_391 (F := Ideal) c arg1 harg1 arg4 harg4 x0 x3) (kernelRun0_B.sl.r_399 (F := Ideal) c arg3 harg3 arg8 harg8 arg9 harg9 arg11 harg11 x2 x7 x8 x10) (kernelRun0_B.sl.v2220 (F := Ideal) c arg1 harg1 arg3 harg3 arg4 harg4 arg8 harg8 arg9 harg9 arg11 harg11 arg17 harg17 x0 x2 x3 x7 x8 x10 xs0)
      = (tileOf (mb arg1 harg1 arg2 harg2 arg3 harg3 arg4 harg4 arg8 harg8 arg9 harg9 arg10 harg10 arg11 harg11 x0 x1 x2 x3 x7 x8 x9 x10) 0 3 (kernelRun0_B.sl.v2220 (F := Ideal) c arg1 harg1 arg3 harg3 arg4 harg4 arg8 harg8 arg9 harg9 arg11 harg11 arg17 harg17 x0 x2 x3 x7 x8 x10 xs0)).nxt := by
  sl_kernel_rfl

theorem B_dg_0_3 (dst : Vec Ideal S1x256x128 .f32) :
    k0_pay583 (F := Ideal) (kernelRun0_B.sl.r_394 (F := Ideal) c arg3 harg3 x2) (kernelRun0_B.sl.r_395 (F := Ideal) c arg11 harg11 x10) (kernelRun0_B.sl.r_396 (F := Ideal) c arg3 harg3 x2) (kernelRun0_B.sl.r_398 (F := Ideal) c arg9 harg9 x8) (kernelRun0_B.sl.v2190 (F := Ideal) c arg3 harg3 arg9 harg9 arg11 harg11 arg15 harg15 x2 x8 x10 xo13)
      = (tileOf (mb arg1 harg1 arg2 harg2 arg3 harg3 arg4 harg4 arg8 harg8 arg9 harg9 arg10 harg10 arg11 harg11 x0 x1 x2 x3 x7 x8 x9 x10) 0 3 dst).dg (kernelRun0_B.sl.v2190 (F := Ideal) c arg3 harg3 arg9 harg9 arg11 harg11 arg15 harg15 x2 x8 x10 xo13) := by
  sl_kernel_rfl

theorem B_dstN_3_0 :
    (View.readAt (Elt Ideal) arg17.view (Rect.unit (s := S4x256x128) ![0, 0, 0] S1x256x128.size inb_S4x256x128_S1x256x128_0_0_0).toLoadRect (harg17.unread xs0))
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 0 0 := by
  sl_kernel_rfl

theorem B_dstN_3_1 :
    (kernelRun0_B.sl.v252 (F := Ideal) c arg17 harg17 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 1 0 := by
  sl_kernel_rfl

theorem B_dstN_3_2 :
    (kernelRun0_B.sl.v390 (F := Ideal) c arg17 harg17 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 2 0 := by
  sl_kernel_rfl

theorem B_dstN_3_3 :
    (kernelRun0_B.sl.v528 (F := Ideal) c arg17 harg17 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 3 0 := by
  sl_kernel_rfl

theorem B_dstN_2_0 :
    (kernelRun0_B.sl.v678 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 0 1 := by
  have e : (kernelRun0_B.sl.v678 (F := Ideal) c arg1 harg1 arg3 harg3 arg4 harg4 arg8 harg8 arg9 harg9 arg11 harg11 arg17 harg17 x0 x2 x3 x7 x8 x10 xs0)
      = k0_pay47 (F := Ideal) (kernelRun0_B.sl.r_9 (F := Ideal) c arg4 harg4 x3) (kernelRun0_B.sl.r_13 (F := Ideal) c arg1 harg1 arg4 harg4 x0 x3) (kernelRun0_B.sl.r_23 (F := Ideal) c arg3 harg3 arg8 harg8 arg9 harg9 arg11 harg11 x2 x7 x8 x10) (kernelRun0_B.sl.r_26 (F := Ideal) c arg17 harg17 xs0) := by
    simp (disch := decide) only [kernelRun0_B.sl.v678, kernelRun0_B.sl.HS0_4, View.readCov_skip, View.readCov_cons_toLoadRect]
  rw [e, B_nxt_3_0, B_dstN_3_0]
  rfl

theorem B_dstN_2_1 :
    (kernelRun0_B.sl.v816 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 1 1 := by
  have e : (kernelRun0_B.sl.v816 (F := Ideal) c arg1 harg1 arg3 harg3 arg4 harg4 arg8 harg8 arg9 harg9 arg11 harg11 arg17 harg17 x0 x2 x3 x7 x8 x10 xs0)
      = kernelRun0_B.sl.r_53 (F := Ideal) c arg1 harg1 arg3 harg3 arg4 harg4 arg8 harg8 arg9 harg9 arg11 harg11 arg17 harg17 x0 x2 x3 x7 x8 x10 xs0 := by
    simp (disch := decide) only [kernelRun0_B.sl.v816, kernelRun0_B.sl.HS0_5, kernelRun0_B.sl.HS0_4, View.readCov_skip, View.readCov_cons_toLoadRect]
  rw [e, B_nxt_3_1, B_dstN_3_1]
  rfl

theorem B_dstN_2_2 :
    (kernelRun0_B.sl.v954 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 2 1 := by
  have e : (kernelRun0_B.sl.v954 (F := Ideal) c arg1 harg1 arg3 harg3 arg4 harg4 arg8 harg8 arg9 harg9 arg11 harg11 arg17 harg17 x0 x2 x3 x7 x8 x10 xs0)
      = k0_pay121 (F := Ideal) (kernelRun0_B.sl.r_59 (F := Ideal) c arg4 harg4 x3) (kernelRun0_B.sl.r_63 (F := Ideal) c arg1 harg1 arg4 harg4 x0 x3) (kernelRun0_B.sl.r_73 (F := Ideal) c arg3 harg3 arg8 harg8 arg9 harg9 arg11 harg11 x2 x7 x8 x10) (kernelRun0_B.sl.r_76 (F := Ideal) c arg17 harg17 xs0) := by
    simp (disch := decide) only [kernelRun0_B.sl.v954, kernelRun0_B.sl.HS0_6, kernelRun0_B.sl.HS0_5, kernelRun0_B.sl.HS0_4, View.readCov_skip, View.readCov_cons_toLoadRect]
  rw [e, B_nxt_3_2, B_dstN_3_2]
  rfl

theorem B_dstN_2_3 :
    (kernelRun0_B.sl.v1092 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 3 1 := by
  have e : (kernelRun0_B.sl.v1092 (F := Ideal) c arg1 harg1 arg3 harg3 arg4 harg4 arg8 harg8 arg9 harg9 arg11 harg11 arg17 harg17 x0 x2 x3 x7 x8 x10 xs0)
      = kernelRun0_B.sl.r_103 (F := Ideal) c arg1 harg1 arg3 harg3 arg4 harg4 arg8 harg8 arg9 harg9 arg11 harg11 arg17 harg17 x0 x2 x3 x7 x8 x10 xs0 := by
    simp (disch := decide) only [kernelRun0_B.sl.v1092, kernelRun0_B.sl.HS0_7, kernelRun0_B.sl.HS0_6, kernelRun0_B.sl.HS0_5, kernelRun0_B.sl.HS0_4, View.readCov_skip, View.readCov_cons_toLoadRect]
  rw [e, B_nxt_3_3, B_dstN_3_3]
  rfl

theorem B_dstN_1_0 :
    (kernelRun0_B.sl.v1242 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 0 2 := by
  have e : (kernelRun0_B.sl.v1242 (F := Ideal) c arg1 harg1 arg3 harg3 arg4 harg4 arg8 harg8 arg9 harg9 arg11 harg11 arg17 harg17 x0 x2 x3 x7 x8 x10 xs0)
      = k0_pay201 (F := Ideal) (kernelRun0_B.sl.r_113 (F := Ideal) c arg4 harg4 x3) (kernelRun0_B.sl.r_117 (F := Ideal) c arg1 harg1 arg4 harg4 x0 x3) (kernelRun0_B.sl.r_125 (F := Ideal) c arg3 harg3 arg8 harg8 arg9 harg9 arg11 harg11 x2 x7 x8 x10) (kernelRun0_B.sl.v678 (F := Ideal) c arg1 harg1 arg3 harg3 arg4 harg4 arg8 harg8 arg9 harg9 arg11 harg11 arg17 harg17 x0 x2 x3 x7 x8 x10 xs0) := by
    simp (disch := decide) only [kernelRun0_B.sl.v1242, kernelRun0_B.sl.HS0_8, kernelRun0_B.sl.HS0_7, kernelRun0_B.sl.HS0_6, kernelRun0_B.sl.HS0_5, View.readCov_skip, View.readCov_cons_toLoadRect]
  rw [e, B_nxt_2_0, B_dstN_2_0]
  rfl

theorem B_dstN_1_1 :
    (kernelRun0_B.sl.v1380 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 1 2 := by
  have e : (kernelRun0_B.sl.v1380 (F := Ideal) c arg1 harg1 arg3 harg3 arg4 harg4 arg8 harg8 arg9 harg9 arg11 harg11 arg17 harg17 x0 x2 x3 x7 x8 x10 xs0)
      = k0_pay233 (F := Ideal) (kernelRun0_B.sl.r_136 (F := Ideal) c arg4 harg4 x3) (kernelRun0_B.sl.r_140 (F := Ideal) c arg1 harg1 arg4 harg4 x0 x3) (kernelRun0_B.sl.r_150 (F := Ideal) c arg3 harg3 arg8 harg8 arg9 harg9 arg11 harg11 x2 x7 x8 x10) (kernelRun0_B.sl.r_152 (F := Ideal) c arg1 harg1 arg3 harg3 arg4 harg4 arg8 harg8 arg9 harg9 arg11 harg11 arg17 harg17 x0 x2 x3 x7 x8 x10 xs0) := by
    simp (disch := decide) only [kernelRun0_B.sl.v1380, kernelRun0_B.sl.HS0_9, kernelRun0_B.sl.HS0_8, kernelRun0_B.sl.HS0_7, kernelRun0_B.sl.HS0_6, View.readCov_skip, View.readCov_cons_toLoadRect]
  rw [e, B_nxt_2_1, B_dstN_2_1]
  rfl

theorem B_dstN_1_2 :
    (kernelRun0_B.sl.v1518 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 2 2 := by
  have e : (kernelRun0_B.sl.v1518 (F := Ideal) c arg1 harg1 arg3 harg3 arg4 harg4 arg8 harg8 arg9 harg9 arg11 harg11 arg17 harg17 x0 x2 x3 x7 x8 x10 xs0)
      = k0_pay267 (F := Ideal) (kernelRun0_B.sl.r_161 (F := Ideal) c arg4 harg4 x3) (kernelRun0_B.sl.r_165 (F := Ideal) c arg1 harg1 arg4 harg4 x0 x3) (kernelRun0_B.sl.r_173 (F := Ideal) c arg3 harg3 arg8 harg8 arg9 harg9 arg11 harg11 x2 x7 x8 x10) (kernelRun0_B.sl.v954 (F := Ideal) c arg1 harg1 arg3 harg3 arg4 harg4 arg8 harg8 arg9 harg9 arg11 harg11 arg17 harg17 x0 x2 x3 x7 x8 x10 xs0) := by
    simp (disch := decide) only [kernelRun0_B.sl.v1518, kernelRun0_B.sl.HS0_10, kernelRun0_B.sl.HS0_9, kernelRun0_B.sl.HS0_8, kernelRun0_B.sl.HS0_7, View.readCov_skip, View.readCov_cons_toLoadRect]
  rw [e, B_nxt_2_2, B_dstN_2_2]
  rfl

theorem B_dstN_1_3 :
    (kernelRun0_B.sl.v1656 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 3 2 := by
  have e : (kernelRun0_B.sl.v1656 (F := Ideal) c arg1 harg1 arg3 harg3 arg4 harg4 arg8 harg8 arg9 harg9 arg11 harg11 arg17 harg17 x0 x2 x3 x7 x8 x10 xs0)
      = k0_pay299 (F := Ideal) (kernelRun0_B.sl.r_184 (F := Ideal) c arg4 harg4 x3) (kernelRun0_B.sl.r_188 (F := Ideal) c arg1 harg1 arg4 harg4 x0 x3) (kernelRun0_B.sl.r_198 (F := Ideal) c arg3 harg3 arg8 harg8 arg9 harg9 arg11 harg11 x2 x7 x8 x10) (kernelRun0_B.sl.r_200 (F := Ideal) c arg1 harg1 arg3 harg3 arg4 harg4 arg8 harg8 arg9 harg9 arg11 harg11 arg17 harg17 x0 x2 x3 x7 x8 x10 xs0) := by
    simp (disch := decide) only [kernelRun0_B.sl.v1656, kernelRun0_B.sl.HS0_11, kernelRun0_B.sl.HS0_10, kernelRun0_B.sl.HS0_9, kernelRun0_B.sl.HS0_8, View.readCov_skip, View.readCov_cons_toLoadRect]
  rw [e, B_nxt_2_3, B_dstN_2_3]
  rfl

theorem B_dstN_0_0 :
    (kernelRun0_B.sl.v1806 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 0 3 := by
  have e : (kernelRun0_B.sl.v1806 (F := Ideal) c arg1 harg1 arg3 harg3 arg4 harg4 arg8 harg8 arg9 harg9 arg11 harg11 arg17 harg17 x0 x2 x3 x7 x8 x10 xs0)
      = k0_pay340 (F := Ideal) (kernelRun0_B.sl.r_230 (F := Ideal) c arg1 harg1 arg3 harg3 arg4 harg4 arg8 harg8 arg9 harg9 arg11 harg11 arg17 harg17 x0 x2 x3 x7 x8 x10 xs0) := by
    simp (disch := decide) only [kernelRun0_B.sl.v1806, kernelRun0_B.sl.HS0_12, kernelRun0_B.sl.HS0_11, kernelRun0_B.sl.HS0_10, kernelRun0_B.sl.HS0_9, View.readCov_skip, View.readCov_cons_toLoadRect]
  rw [e, B_nxt_1_0, B_dstN_1_0]
  rfl

theorem B_dstN_0_1 :
    (kernelRun0_B.sl.v1944 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 1 3 := by
  have e : (kernelRun0_B.sl.v1944 (F := Ideal) c arg1 harg1 arg3 harg3 arg4 harg4 arg8 harg8 arg9 harg9 arg11 harg11 arg17 harg17 x0 x2 x3 x7 x8 x10 xs0)
      = k0_pay376 (F := Ideal) (kernelRun0_B.sl.r_237 (F := Ideal) c arg4 harg4 x3) (kernelRun0_B.sl.r_241 (F := Ideal) c arg1 harg1 arg4 harg4 x0 x3) (kernelRun0_B.sl.r_250 (F := Ideal) c arg3 harg3 arg8 harg8 arg9 harg9 arg11 harg11 x2 x7 x8 x10) (kernelRun0_B.sl.r_253 (F := Ideal) c arg1 harg1 arg3 harg3 arg4 harg4 arg8 harg8 arg9 harg9 arg11 harg11 arg17 harg17 x0 x2 x3 x7 x8 x10 xs0) := by
    simp (disch := decide) only [kernelRun0_B.sl.v1944, kernelRun0_B.sl.HS0_13, kernelRun0_B.sl.HS0_12, kernelRun0_B.sl.HS0_11, kernelRun0_B.sl.HS0_10, View.readCov_skip, View.readCov_cons_toLoadRect]
  rw [e, B_nxt_1_1, B_dstN_1_1]
  rfl

theorem B_dstN_0_2 :
    (kernelRun0_B.sl.v2082 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 2 3 := by
  have e : (kernelRun0_B.sl.v2082 (F := Ideal) c arg1 harg1 arg3 harg3 arg4 harg4 arg8 harg8 arg9 harg9 arg11 harg11 arg17 harg17 x0 x2 x3 x7 x8 x10 xs0)
      = k0_pay415 (F := Ideal) (kernelRun0_B.sl.r_280 (F := Ideal) c arg1 harg1 arg3 harg3 arg4 harg4 arg8 harg8 arg9 harg9 arg11 harg11 arg17 harg17 x0 x2 x3 x7 x8 x10 xs0) := by
    simp (disch := decide) only [kernelRun0_B.sl.v2082, kernelRun0_B.sl.HS0_14, kernelRun0_B.sl.HS0_13, kernelRun0_B.sl.HS0_12, kernelRun0_B.sl.HS0_11, View.readCov_skip, View.readCov_cons_toLoadRect]
  rw [e, B_nxt_1_2, B_dstN_1_2]
  rfl

theorem B_dstN_0_3 :
    (kernelRun0_B.sl.v2220 (F := Ideal) c arg1 harg1 arg3 harg3 arg4 harg4 arg8 harg8 arg9 harg9 arg11 harg11 arg17 harg17 x0 x2 x3 x7 x8 x10 xs0)
      = dstN (mb arg1 harg1 arg2 harg2 arg3 harg3 arg4 harg4 arg8 harg8 arg9 harg9 arg10 harg10 arg11 harg11 x0 x1 x2 x3 x7 x8 x9 x10) (arg17.view.read (Elt Ideal) (harg17.unread xs0)) 3 3 := by
  have e : (kernelRun0_B.sl.v2220 (F := Ideal) c arg1 harg1 arg3 harg3 arg4 harg4 arg8 harg8 arg9 harg9 arg11 harg11 arg17 harg17 x0 x2 x3 x7 x8 x10 xs0)
      = k0_pay451 (F := Ideal) (kernelRun0_B.sl.r_287 (F := Ideal) c arg4 harg4 x3) (kernelRun0_B.sl.r_291 (F := Ideal) c arg1 harg1 arg4 harg4 x0 x3) (kernelRun0_B.sl.r_300 (F := Ideal) c arg3 harg3 arg8 harg8 arg9 harg9 arg11 harg11 x2 x7 x8 x10) (kernelRun0_B.sl.r_303 (F := Ideal) c arg1 harg1 arg3 harg3 arg4 harg4 arg8 harg8 arg9 harg9 arg11 harg11 arg17 harg17 x0 x2 x3 x7 x8 x10 xs0) := by
    simp (disch := decide) only [kernelRun0_B.sl.v2220, kernelRun0_B.sl.HS0_15, kernelRun0_B.sl.HS0_14, kernelRun0_B.sl.HS0_13, kernelRun0_B.sl.HS0_12, View.readCov_skip, View.readCov_cons_toLoadRect]
  rw [e, B_nxt_1_3, B_dstN_1_3]
  rfl

theorem B_dgN_3_0 :
    (View.readAt (Elt Ideal) arg15.view (Rect.unit (s := S1x1024) ![0, 0] S1x256.size inb_S1x1024_S1x256_0_0).toLoadRect (harg15.unread xo13))
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 0 0 := by
  sl_kernel_rfl

theorem B_dgN_3_1 :
    (kernelRun0_B.sl.v222 (F := Ideal) c arg15 harg15 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 1 0 := by
  sl_kernel_rfl

theorem B_dgN_3_2 :
    (kernelRun0_B.sl.v360 (F := Ideal) c arg15 harg15 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 2 0 := by
  sl_kernel_rfl

theorem B_dgN_3_3 :
    (kernelRun0_B.sl.v498 (F := Ideal) c arg15 harg15 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 3 0 := by
  sl_kernel_rfl

theorem B_dgN_2_0 :
    (kernelRun0_B.sl.v648 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 0 1 := by
  have e : (kernelRun0_B.sl.v648 (F := Ideal) c arg3 harg3 arg9 harg9 arg11 harg11 arg15 harg15 x2 x8 x10 xo13)
      = k0_pay36 (F := Ideal) (kernelRun0_B.sl.r_16 (F := Ideal) c arg3 harg3 x2) (kernelRun0_B.sl.r_17 (F := Ideal) c arg11 harg11 x10) (kernelRun0_B.sl.r_18 (F := Ideal) c arg3 harg3 x2) (kernelRun0_B.sl.r_20 (F := Ideal) c arg9 harg9 x8) (View.readAt (Elt Ideal) arg15.view (Rect.unit (s := S1x1024) ![0, 0] S1x256.size inb_S1x1024_S1x256_0_0).toLoadRect (harg15.unread xo13)) := by
    simp (disch := decide) only [kernelRun0_B.sl.v648, kernelRun0_B.sl.H13_4, View.readCov_skip, View.readCov_cons_toLoadRect]
  rw [e, B_dg_3_0 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 0 0), B_dgN_3_0]
  rfl

theorem B_dgN_2_1 :
    (kernelRun0_B.sl.v786 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 1 1 := by
  have e : (kernelRun0_B.sl.v786 (F := Ideal) c arg3 harg3 arg9 harg9 arg11 harg11 arg15 harg15 x2 x8 x10 xo13)
      = k0_pay75 (F := Ideal) (kernelRun0_B.sl.r_43 (F := Ideal) c arg9 harg9 x8) (kernelRun0_B.sl.r_44 (F := Ideal) c arg3 harg3 x2) (kernelRun0_B.sl.r_45 (F := Ideal) c arg11 harg11 x10) (kernelRun0_B.sl.r_46 (F := Ideal) c arg3 harg3 x2) (kernelRun0_B.sl.r_47 (F := Ideal) c arg9 harg9 x8) (kernelRun0_B.sl.v222 (F := Ideal) c arg15 harg15 xo13) := by
    simp (disch := decide) only [kernelRun0_B.sl.v786, kernelRun0_B.sl.H13_5, kernelRun0_B.sl.H13_4, View.readCov_skip, View.readCov_cons_toLoadRect]
  rw [e, B_dg_3_1 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 1 0), B_dgN_3_1]
  rfl

theorem B_dgN_2_2 :
    (kernelRun0_B.sl.v924 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 2 1 := by
  have e : (kernelRun0_B.sl.v924 (F := Ideal) c arg3 harg3 arg9 harg9 arg11 harg11 arg15 harg15 x2 x8 x10 xo13)
      = k0_pay110 (F := Ideal) (kernelRun0_B.sl.r_66 (F := Ideal) c arg3 harg3 x2) (kernelRun0_B.sl.r_67 (F := Ideal) c arg11 harg11 x10) (kernelRun0_B.sl.r_68 (F := Ideal) c arg3 harg3 x2) (kernelRun0_B.sl.r_70 (F := Ideal) c arg9 harg9 x8) (kernelRun0_B.sl.v360 (F := Ideal) c arg15 harg15 xo13) := by
    simp (disch := decide) only [kernelRun0_B.sl.v924, kernelRun0_B.sl.H13_6, kernelRun0_B.sl.H13_5, kernelRun0_B.sl.H13_4, View.readCov_skip, View.readCov_cons_toLoadRect]
  rw [e, B_dg_3_2 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 2 0), B_dgN_3_2]
  rfl

theorem B_dgN_2_3 :
    (kernelRun0_B.sl.v1062 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 3 1 := by
  have e : (kernelRun0_B.sl.v1062 (F := Ideal) c arg3 harg3 arg9 harg9 arg11 harg11 arg15 harg15 x2 x8 x10 xo13)
      = k0_pay149 (F := Ideal) (kernelRun0_B.sl.r_93 (F := Ideal) c arg9 harg9 x8) (kernelRun0_B.sl.r_94 (F := Ideal) c arg3 harg3 x2) (kernelRun0_B.sl.r_95 (F := Ideal) c arg11 harg11 x10) (kernelRun0_B.sl.r_96 (F := Ideal) c arg3 harg3 x2) (kernelRun0_B.sl.r_97 (F := Ideal) c arg9 harg9 x8) (kernelRun0_B.sl.v498 (F := Ideal) c arg15 harg15 xo13) := by
    simp (disch := decide) only [kernelRun0_B.sl.v1062, kernelRun0_B.sl.H13_7, kernelRun0_B.sl.H13_6, kernelRun0_B.sl.H13_5, kernelRun0_B.sl.H13_4, View.readCov_skip, View.readCov_cons_toLoadRect]
  rw [e, B_dg_3_3 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 3 0), B_dgN_3_3]
  rfl

theorem B_dgN_1_0 :
    (kernelRun0_B.sl.v1212 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 0 2 := by
  have e : (kernelRun0_B.sl.v1212 (F := Ideal) c arg3 harg3 arg9 harg9 arg11 harg11 arg15 harg15 x2 x8 x10 xo13)
      = k0_pay189 (F := Ideal) (kernelRun0_B.sl.r_120 (F := Ideal) c arg3 harg3 x2) (kernelRun0_B.sl.r_121 (F := Ideal) c arg11 harg11 x10) (kernelRun0_B.sl.r_122 (F := Ideal) c arg3 harg3 x2) (kernelRun0_B.sl.r_124 (F := Ideal) c arg9 harg9 x8) (kernelRun0_B.sl.v648 (F := Ideal) c arg3 harg3 arg9 harg9 arg11 harg11 arg15 harg15 x2 x8 x10 xo13) := by
    simp (disch := decide) only [kernelRun0_B.sl.v1212, kernelRun0_B.sl.H13_8, kernelRun0_B.sl.H13_7, kernelRun0_B.sl.H13_6, kernelRun0_B.sl.H13_5, View.readCov_skip, View.readCov_cons_toLoadRect]
  rw [e, B_dg_2_0 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 0 1), B_dgN_2_0]
  rfl

theorem B_dgN_1_1 :
    (kernelRun0_B.sl.v1350 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 1 2 := by
  have e : (kernelRun0_B.sl.v1350 (F := Ideal) c arg3 harg3 arg9 harg9 arg11 harg11 arg15 harg15 x2 x8 x10 xo13)
      = kernelRun0_B.sl.r_149 (F := Ideal) c arg3 harg3 arg9 harg9 arg11 harg11 arg15 harg15 x2 x8 x10 xo13 := by
    simp (disch := decide) only [kernelRun0_B.sl.v1350, kernelRun0_B.sl.H13_9, kernelRun0_B.sl.H13_8, kernelRun0_B.sl.H13_7, kernelRun0_B.sl.H13_6, View.readCov_skip, View.readCov_cons_toLoadRect]
  rw [e, B_dg_2_1 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 1 1), B_dgN_2_1]
  rfl

theorem B_dgN_1_2 :
    (kernelRun0_B.sl.v1488 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 2 2 := by
  have e : (kernelRun0_B.sl.v1488 (F := Ideal) c arg3 harg3 arg9 harg9 arg11 harg11 arg15 harg15 x2 x8 x10 xo13)
      = k0_pay255 (F := Ideal) (kernelRun0_B.sl.r_168 (F := Ideal) c arg3 harg3 x2) (kernelRun0_B.sl.r_169 (F := Ideal) c arg11 harg11 x10) (kernelRun0_B.sl.r_170 (F := Ideal) c arg3 harg3 x2) (kernelRun0_B.sl.r_172 (F := Ideal) c arg9 harg9 x8) (kernelRun0_B.sl.v924 (F := Ideal) c arg3 harg3 arg9 harg9 arg11 harg11 arg15 harg15 x2 x8 x10 xo13) := by
    simp (disch := decide) only [kernelRun0_B.sl.v1488, kernelRun0_B.sl.H13_10, kernelRun0_B.sl.H13_9, kernelRun0_B.sl.H13_8, kernelRun0_B.sl.H13_7, View.readCov_skip, View.readCov_cons_toLoadRect]
  rw [e, B_dg_2_2 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 2 1), B_dgN_2_2]
  rfl

theorem B_dgN_1_3 :
    (kernelRun0_B.sl.v1626 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 3 2 := by
  have e : (kernelRun0_B.sl.v1626 (F := Ideal) c arg3 harg3 arg9 harg9 arg11 harg11 arg15 harg15 x2 x8 x10 xo13)
      = kernelRun0_B.sl.r_197 (F := Ideal) c arg3 harg3 arg9 harg9 arg11 harg11 arg15 harg15 x2 x8 x10 xo13 := by
    simp (disch := decide) only [kernelRun0_B.sl.v1626, kernelRun0_B.sl.H13_11, kernelRun0_B.sl.H13_10, kernelRun0_B.sl.H13_9, kernelRun0_B.sl.H13_8, View.readCov_skip, View.readCov_cons_toLoadRect]
  rw [e, B_dg_2_3 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 3 1), B_dgN_2_3]
  rfl

theorem B_dgN_0_0 :
    (kernelRun0_B.sl.v1776 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 0 3 := by
  have e : (kernelRun0_B.sl.v1776 (F := Ideal) c arg3 harg3 arg9 harg9 arg11 harg11 arg15 harg15 x2 x8 x10 xo13)
      = k0_pay327 (F := Ideal) (kernelRun0_B.sl.r_220 (F := Ideal) c arg9 harg9 x8) (kernelRun0_B.sl.r_221 (F := Ideal) c arg3 harg3 x2) (kernelRun0_B.sl.r_222 (F := Ideal) c arg11 harg11 x10) (kernelRun0_B.sl.r_223 (F := Ideal) c arg3 harg3 x2) (kernelRun0_B.sl.v1212 (F := Ideal) c arg3 harg3 arg9 harg9 arg11 harg11 arg15 harg15 x2 x8 x10 xo13) := by
    simp (disch := decide) only [kernelRun0_B.sl.v1776, kernelRun0_B.sl.H13_12, kernelRun0_B.sl.H13_11, kernelRun0_B.sl.H13_10, kernelRun0_B.sl.H13_9, View.readCov_skip, View.readCov_cons_toLoadRect]
  rw [e, B_dg_1_0 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 0 2), B_dgN_1_0]
  rfl

theorem B_dgN_0_1 :
    (kernelRun0_B.sl.v1914 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 1 3 := by
  have e : (kernelRun0_B.sl.v1914 (F := Ideal) c arg3 harg3 arg9 harg9 arg11 harg11 arg15 harg15 x2 x8 x10 xo13)
      = k0_pay364 (F := Ideal) (kernelRun0_B.sl.r_244 (F := Ideal) c arg3 harg3 x2) (kernelRun0_B.sl.r_245 (F := Ideal) c arg11 harg11 x10) (kernelRun0_B.sl.r_246 (F := Ideal) c arg3 harg3 x2) (kernelRun0_B.sl.r_248 (F := Ideal) c arg9 harg9 x8) (kernelRun0_B.sl.v1350 (F := Ideal) c arg3 harg3 arg9 harg9 arg11 harg11 arg15 harg15 x2 x8 x10 xo13) := by
    simp (disch := decide) only [kernelRun0_B.sl.v1914, kernelRun0_B.sl.H13_13, kernelRun0_B.sl.H13_12, kernelRun0_B.sl.H13_11, kernelRun0_B.sl.H13_10, View.readCov_skip, View.readCov_cons_toLoadRect]
  rw [e, B_dg_1_1 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 1 2), B_dgN_1_1]
  rfl

theorem B_dgN_0_2 :
    (kernelRun0_B.sl.v2052 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 2 3 := by
  have e : (kernelRun0_B.sl.v2052 (F := Ideal) c arg3 harg3 arg9 harg9 arg11 harg11 arg15 harg15 x2 x8 x10 xo13)
      = k0_pay402 (F := Ideal) (kernelRun0_B.sl.r_270 (F := Ideal) c arg9 harg9 x8) (kernelRun0_B.sl.r_271 (F := Ideal) c arg3 harg3 x2) (kernelRun0_B.sl.r_272 (F := Ideal) c arg11 harg11 x10) (kernelRun0_B.sl.r_273 (F := Ideal) c arg3 harg3 x2) (kernelRun0_B.sl.v1488 (F := Ideal) c arg3 harg3 arg9 harg9 arg11 harg11 arg15 harg15 x2 x8 x10 xo13) := by
    simp (disch := decide) only [kernelRun0_B.sl.v2052, kernelRun0_B.sl.H13_14, kernelRun0_B.sl.H13_13, kernelRun0_B.sl.H13_12, kernelRun0_B.sl.H13_11, View.readCov_skip, View.readCov_cons_toLoadRect]
  rw [e, B_dg_1_2 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 2 2), B_dgN_1_2]
  rfl

theorem B_dgN_0_3 :
    (kernelRun0_B.sl.v2190 (F := Ideal) c arg3 harg3 arg9 harg9 arg11 harg11 arg15 harg15 x2 x8 x10 xo13)
      = dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) 3 3 := by
  have e : (kernelRun0_B.sl.v2190 (F := Ideal) c arg3 harg3 arg9 harg9 arg11 harg11 arg15 harg15 x2 x8 x10 xo13)
      = k0_pay439 (F := Ideal) (kernelRun0_B.sl.r_294 (F := Ideal) c arg3 harg3 x2) (kernelRun0_B.sl.r_295 (F := Ideal) c arg11 harg11 x10) (kernelRun0_B.sl.r_296 (F := Ideal) c arg3 harg3 x2) (kernelRun0_B.sl.r_298 (F := Ideal) c arg9 harg9 x8) (kernelRun0_B.sl.v1626 (F := Ideal) c arg3 harg3 arg9 harg9 arg11 harg11 arg15 harg15 x2 x8 x10 xo13) := by
    simp (disch := decide) only [kernelRun0_B.sl.v2190, kernelRun0_B.sl.H13_15, kernelRun0_B.sl.H13_14, kernelRun0_B.sl.H13_13, kernelRun0_B.sl.H13_12, View.readCov_skip, View.readCov_cons_toLoadRect]
  rw [e, B_dg_1_3 (dstN (mb arg1 harg1 arg2 harg2 arg3 harg3 arg4 harg4 arg8 harg8 arg9 harg9 arg10 harg10 arg11 harg11 x0 x1 x2 x3 x7 x8 x9 x10) (arg17.view.read (Elt Ideal) (harg17.unread xs0)) 3 2), B_dgN_1_3]
  rfl

end Gla

end
-- ==== Proof.OutB.lean ====
module

public import proofs.«01_k».proof.Proof.WordsB
public import proofs.«01_k».proof.Proof.Lists
public import Idealize.ShloMosaic.Lib.Pipeline.ReadBack
public import proofs.«01_k».proof.Proof.Gen.KernelIdeal.Frame

/-!
What one grid point of case B leaves in each block.
-/

@[expose] public section

set_option maxRecDepth 16384

noncomputable section

namespace Gla

open Idealize.ShloMosaic Cert.KernelIdeal Cert.KernelIdeal.Gen Finset

variable {c : Dev nD} {i : grid0.Coords} {arg1 : Memref sig .tc .vmem S256x1024 .bf16} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S256x512 .f32} {harg4 : arg4.IsWhole} {arg5 : Memref sig .tc .vmem S256x128 .f32} {harg5 : arg5.IsWhole} {arg6 : Memref sig .tc .vmem S128x512 .f32} {harg6 : arg6.IsWhole} {arg7 : Memref sig .tc .vmem S1x512 .f32} {harg7 : arg7.IsWhole} {arg8 : Memref sig .tc .vmem S1x1024 .f32} {harg8 : arg8.IsWhole} {arg9 : Memref sig .tc .vmem S256x1024 .f32} {harg9 : arg9.IsWhole} {arg10 : Memref sig .tc .vmem S4x4x256x128 .bf16} {harg10 : arg10.IsWhole} {arg11 : Memref sig .tc .vmem S256x1024 .bf16} {harg11 : arg11.IsWhole} {arg13 : Memref sig .tc .vmem S256x4096 .bf16} {harg13 : arg13.IsWhole} {arg14 : Memref sig .tc .vmem S256x512 .bf16} {harg14 : arg14.IsWhole} {arg15 : Memref sig .tc .vmem S1x1024 .f32} {harg15 : arg15.IsWhole} {arg16 : Memref sig .tc .vmem S1x512 .f32} {harg16 : arg16.IsWhole} {arg17 : Memref sig .tc .vmem S4x256x128 .f32} {harg17 : arg17.IsWhole} {arg18 : Memref sig .tc .vmem S256x512 .f32} {harg18 : arg18.IsWhole}  {x0 : Vec Ideal S256x1024 .bf16} {x1 : Vec Ideal S256x1024 .bf16} {x2 : Vec Ideal S256x1024 .bf16} {x3 : Vec Ideal S256x512 .f32} {x4 : Vec Ideal S256x128 .f32} {x5 : Vec Ideal S128x512 .f32} {x6 : Vec Ideal S1x512 .f32} {x7 : Vec Ideal S1x1024 .f32} {x8 : Vec Ideal S256x1024 .f32} {x9 : Vec Ideal S4x4x256x128 .bf16} {x10 : Vec Ideal S256x1024 .bf16} {xo13 : Vec Ideal S1x1024 .f32} {xo14 : Vec Ideal S1x512 .f32} {xs0 : Vec Ideal S4x256x128 .f32}

theorem B_D :
    (![![(kernelRun0_B.sl.v1806 (F := Ideal) c arg1 harg1 arg3 harg3 arg4 harg4 arg8 harg8 arg9 harg9 arg11 harg11 arg17 harg17 x0 x2 x3 x7 x8 x10 xs0), (kernelRun0_B.sl.v1944 (F := Ideal) c arg1 harg1 arg3 harg3 arg4 harg4 arg8 harg8 arg9 harg9 arg11 harg11 arg17 harg17 x0 x2 x3 x7 x8 x10 xs0), (kernelRun0_B.sl.v2082 (F := Ideal) c arg1 harg1 arg3 harg3 arg4 harg4 arg8 harg8 arg9 harg9 arg11 harg11 arg17 harg17 x0 x2 x3 x7 x8 x10 xs0), (kernelRun0_B.sl.v2220 (F := Ideal) c arg1 harg1 arg3 harg3 arg4 harg4 arg8 harg8 arg9 harg9 arg11 harg11 arg17 harg17 x0 x2 x3 x7 x8 x10 xs0)], ![(kernelRun0_B.sl.v1242 (F := Ideal) c arg1 harg1 arg3 harg3 arg4 harg4 arg8 harg8 arg9 harg9 arg11 harg11 arg17 harg17 x0 x2 x3 x7 x8 x10 xs0), (kernelRun0_B.sl.v1380 (F := Ideal) c arg1 harg1 arg3 harg3 arg4 harg4 arg8 harg8 arg9 harg9 arg11 harg11 arg17 harg17 x0 x2 x3 x7 x8 x10 xs0), (kernelRun0_B.sl.v1518 (F := Ideal) c arg1 harg1 arg3 harg3 arg4 harg4 arg8 harg8 arg9 harg9 arg11 harg11 arg17 harg17 x0 x2 x3 x7 x8 x10 xs0), (kernelRun0_B.sl.v1656 (F := Ideal) c arg1 harg1 arg3 harg3 arg4 harg4 arg8 harg8 arg9 harg9 arg11 harg11 arg17 harg17 x0 x2 x3 x7 x8 x10 xs0)], ![(kernelRun0_B.sl.v678 (F := Ideal) c arg1 harg1 arg3 harg3 arg4 harg4 arg8 harg8 arg9 harg9 arg11 harg11 arg17 harg17 x0 x2 x3 x7 x8 x10 xs0), (kernelRun0_B.sl.v816 (F := Ideal) c arg1 harg1 arg3 harg3 arg4 harg4 arg8 harg8 arg9 harg9 arg11 harg11 arg17 harg17 x0 x2 x3 x7 x8 x10 xs0), (kernelRun0_B.sl.v954 (F := Ideal) c arg1 harg1 arg3 harg3 arg4 harg4 arg8 harg8 arg9 harg9 arg11 harg11 arg17 harg17 x0 x2 x3 x7 x8 x10 xs0), (kernelRun0_B.sl.v1092 (F := Ideal) c arg1 harg1 arg3 harg3 arg4 harg4 arg8 harg8 arg9 harg9 arg11 harg11 arg17 harg17 x0 x2 x3 x7 x8 x10 xs0)], ![(View.readAt (Elt Ideal) arg17.view (Rect.unit (s := S4x256x128) ![0, 0, 0] S1x256x128.size inb_S4x256x128_S1x256x128_0_0_0).toLoadRect (harg17.unread xs0)), (kernelRun0_B.sl.v252 (F := Ideal) c arg17 harg17 xs0), (kernelRun0_B.sl.v390 (F := Ideal) c arg17 harg17 xs0), (kernelRun0_B.sl.v528 (F := Ideal) c arg17 harg17 xs0)]] : Fin 4 → Fin 4 → Vec Ideal S1x256x128 .f32)
      = fun (c h : Fin 4) => dstN (mb arg1 harg1 arg2 harg2 arg3 harg3 arg4 harg4 arg8 harg8 arg9 harg9 arg10 harg10 arg11 harg11 x0 x1 x2 x3 x7 x8 x9 x10) (arg17.view.read (Elt Ideal) (harg17.unread xs0)) h (3 - (c : ℕ)) :=
  mat_eq _ B_dstN_0_0 B_dstN_0_1 B_dstN_0_2 B_dstN_0_3 B_dstN_1_0 B_dstN_1_1 B_dstN_1_2 B_dstN_1_3 B_dstN_2_0 B_dstN_2_1 B_dstN_2_2 B_dstN_2_3 B_dstN_3_0 B_dstN_3_1 B_dstN_3_2 B_dstN_3_3

theorem B_E :
    (![(kernelRun0_B.sl.v1776 (F := Ideal) c arg3 harg3 arg9 harg9 arg11 harg11 arg15 harg15 x2 x8 x10 xo13), (kernelRun0_B.sl.v1914 (F := Ideal) c arg3 harg3 arg9 harg9 arg11 harg11 arg15 harg15 x2 x8 x10 xo13), (kernelRun0_B.sl.v2052 (F := Ideal) c arg3 harg3 arg9 harg9 arg11 harg11 arg15 harg15 x2 x8 x10 xo13), (kernelRun0_B.sl.v2190 (F := Ideal) c arg3 harg3 arg9 harg9 arg11 harg11 arg15 harg15 x2 x8 x10 xo13)] : Fin 4 → Vec Ideal S1x256 .f32)
      = fun (h : Fin 4) => dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) h 3 :=
  vec_eq _ B_dgN_0_0 B_dgN_0_1 B_dgN_0_2 B_dgN_0_3

theorem B_l11 (hc0 : ¬cond0_0 i) :
    (kernelRun0_B (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0).1
      = dpL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (arg17.view.read (Elt Ideal) (harg17.unread xs0)) h (3 - (c : ℕ))) :=
  Eq.trans (b := dpL (mb arg1 harg1 arg2 harg2 arg3 harg3 arg4 harg4 arg8 harg8 arg9 harg9 arg10 harg10 arg11 harg11 x0 x1 x2 x3 x7 x8 x9 x10) (![![(kernelRun0_B.sl.v1806 (F := Ideal) c arg1 harg1 arg3 harg3 arg4 harg4 arg8 harg8 arg9 harg9 arg11 harg11 arg17 harg17 x0 x2 x3 x7 x8 x10 xs0), (kernelRun0_B.sl.v1944 (F := Ideal) c arg1 harg1 arg3 harg3 arg4 harg4 arg8 harg8 arg9 harg9 arg11 harg11 arg17 harg17 x0 x2 x3 x7 x8 x10 xs0), (kernelRun0_B.sl.v2082 (F := Ideal) c arg1 harg1 arg3 harg3 arg4 harg4 arg8 harg8 arg9 harg9 arg11 harg11 arg17 harg17 x0 x2 x3 x7 x8 x10 xs0), (kernelRun0_B.sl.v2220 (F := Ideal) c arg1 harg1 arg3 harg3 arg4 harg4 arg8 harg8 arg9 harg9 arg11 harg11 arg17 harg17 x0 x2 x3 x7 x8 x10 xs0)], ![(kernelRun0_B.sl.v1242 (F := Ideal) c arg1 harg1 arg3 harg3 arg4 harg4 arg8 harg8 arg9 harg9 arg11 harg11 arg17 harg17 x0 x2 x3 x7 x8 x10 xs0), (kernelRun0_B.sl.v1380 (F := Ideal) c arg1 harg1 arg3 harg3 arg4 harg4 arg8 harg8 arg9 harg9 arg11 harg11 arg17 harg17 x0 x2 x3 x7 x8 x10 xs0), (kernelRun0_B.sl.v1518 (F := Ideal) c arg1 harg1 arg3 harg3 arg4 harg4 arg8 harg8 arg9 harg9 arg11 harg11 arg17 harg17 x0 x2 x3 x7 x8 x10 xs0), (kernelRun0_B.sl.v1656 (F := Ideal) c arg1 harg1 arg3 harg3 arg4 harg4 arg8 harg8 arg9 harg9 arg11 harg11 arg17 harg17 x0 x2 x3 x7 x8 x10 xs0)], ![(kernelRun0_B.sl.v678 (F := Ideal) c arg1 harg1 arg3 harg3 arg4 harg4 arg8 harg8 arg9 harg9 arg11 harg11 arg17 harg17 x0 x2 x3 x7 x8 x10 xs0), (kernelRun0_B.sl.v816 (F := Ideal) c arg1 harg1 arg3 harg3 arg4 harg4 arg8 harg8 arg9 harg9 arg11 harg11 arg17 harg17 x0 x2 x3 x7 x8 x10 xs0), (kernelRun0_B.sl.v954 (F := Ideal) c arg1 harg1 arg3 harg3 arg4 harg4 arg8 harg8 arg9 harg9 arg11 harg11 arg17 harg17 x0 x2 x3 x7 x8 x10 xs0), (kernelRun0_B.sl.v1092 (F := Ideal) c arg1 harg1 arg3 harg3 arg4 harg4 arg8 harg8 arg9 harg9 arg11 harg11 arg17 harg17 x0 x2 x3 x7 x8 x10 xs0)], ![(View.readAt (Elt Ideal) arg17.view (Rect.unit (s := S4x256x128) ![0, 0, 0] S1x256x128.size inb_S4x256x128_S1x256x128_0_0_0).toLoadRect (harg17.unread xs0)), (kernelRun0_B.sl.v252 (F := Ideal) c arg17 harg17 xs0), (kernelRun0_B.sl.v390 (F := Ideal) c arg17 harg17 xs0), (kernelRun0_B.sl.v528 (F := Ideal) c arg17 harg17 xs0)]] : Fin 4 → Fin 4 → Vec Ideal S1x256x128 .f32)) (by sl_kernel_rfl) (congrArg (dpL (mb arg1 harg1 arg2 harg2 arg3 harg3 arg4 harg4 arg8 harg8 arg9 harg9 arg10 harg10 arg11 harg11 x0 x1 x2 x3 x7 x8 x9 x10)) B_D)

theorem B_l12 (hc0 : ¬cond0_0 i) :
    (kernelRun0_B (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0).2.1
      = dzL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (arg17.view.read (Elt Ideal) (harg17.unread xs0)) h (3 - (c : ℕ))) (arg18.view) (kernelRun0_B.sl.v0 i) (arg5.view.read (Elt Ideal) (harg5.unread x4)) (arg6.view.read (Elt Ideal) (harg6.unread x5)) (arg7.view.read (Elt Ideal) (harg7.unread x6)) :=
  Eq.trans (b := dzL (mb arg1 harg1 arg2 harg2 arg3 harg3 arg4 harg4 arg8 harg8 arg9 harg9 arg10 harg10 arg11 harg11 x0 x1 x2 x3 x7 x8 x9 x10) (![![(kernelRun0_B.sl.v1806 (F := Ideal) c arg1 harg1 arg3 harg3 arg4 harg4 arg8 harg8 arg9 harg9 arg11 harg11 arg17 harg17 x0 x2 x3 x7 x8 x10 xs0), (kernelRun0_B.sl.v1944 (F := Ideal) c arg1 harg1 arg3 harg3 arg4 harg4 arg8 harg8 arg9 harg9 arg11 harg11 arg17 harg17 x0 x2 x3 x7 x8 x10 xs0), (kernelRun0_B.sl.v2082 (F := Ideal) c arg1 harg1 arg3 harg3 arg4 harg4 arg8 harg8 arg9 harg9 arg11 harg11 arg17 harg17 x0 x2 x3 x7 x8 x10 xs0), (kernelRun0_B.sl.v2220 (F := Ideal) c arg1 harg1 arg3 harg3 arg4 harg4 arg8 harg8 arg9 harg9 arg11 harg11 arg17 harg17 x0 x2 x3 x7 x8 x10 xs0)], ![(kernelRun0_B.sl.v1242 (F := Ideal) c arg1 harg1 arg3 harg3 arg4 harg4 arg8 harg8 arg9 harg9 arg11 harg11 arg17 harg17 x0 x2 x3 x7 x8 x10 xs0), (kernelRun0_B.sl.v1380 (F := Ideal) c arg1 harg1 arg3 harg3 arg4 harg4 arg8 harg8 arg9 harg9 arg11 harg11 arg17 harg17 x0 x2 x3 x7 x8 x10 xs0), (kernelRun0_B.sl.v1518 (F := Ideal) c arg1 harg1 arg3 harg3 arg4 harg4 arg8 harg8 arg9 harg9 arg11 harg11 arg17 harg17 x0 x2 x3 x7 x8 x10 xs0), (kernelRun0_B.sl.v1656 (F := Ideal) c arg1 harg1 arg3 harg3 arg4 harg4 arg8 harg8 arg9 harg9 arg11 harg11 arg17 harg17 x0 x2 x3 x7 x8 x10 xs0)], ![(kernelRun0_B.sl.v678 (F := Ideal) c arg1 harg1 arg3 harg3 arg4 harg4 arg8 harg8 arg9 harg9 arg11 harg11 arg17 harg17 x0 x2 x3 x7 x8 x10 xs0), (kernelRun0_B.sl.v816 (F := Ideal) c arg1 harg1 arg3 harg3 arg4 harg4 arg8 harg8 arg9 harg9 arg11 harg11 arg17 harg17 x0 x2 x3 x7 x8 x10 xs0), (kernelRun0_B.sl.v954 (F := Ideal) c arg1 harg1 arg3 harg3 arg4 harg4 arg8 harg8 arg9 harg9 arg11 harg11 arg17 harg17 x0 x2 x3 x7 x8 x10 xs0), (kernelRun0_B.sl.v1092 (F := Ideal) c arg1 harg1 arg3 harg3 arg4 harg4 arg8 harg8 arg9 harg9 arg11 harg11 arg17 harg17 x0 x2 x3 x7 x8 x10 xs0)], ![(View.readAt (Elt Ideal) arg17.view (Rect.unit (s := S4x256x128) ![0, 0, 0] S1x256x128.size inb_S4x256x128_S1x256x128_0_0_0).toLoadRect (harg17.unread xs0)), (kernelRun0_B.sl.v252 (F := Ideal) c arg17 harg17 xs0), (kernelRun0_B.sl.v390 (F := Ideal) c arg17 harg17 xs0), (kernelRun0_B.sl.v528 (F := Ideal) c arg17 harg17 xs0)]] : Fin 4 → Fin 4 → Vec Ideal S1x256x128 .f32) (arg18.view) (kernelRun0_B.sl.v0 i) (arg5.view.read (Elt Ideal) (harg5.unread x4)) (arg6.view.read (Elt Ideal) (harg6.unread x5)) (arg7.view.read (Elt Ideal) (harg7.unread x6))) (by sl_kernel_rfl) (congrArg (fun D => dzL (mb arg1 harg1 arg2 harg2 arg3 harg3 arg4 harg4 arg8 harg8 arg9 harg9 arg10 harg10 arg11 harg11 x0 x1 x2 x3 x7 x8 x9 x10) D (arg18.view) (kernelRun0_B.sl.v0 i) (arg5.view.read (Elt Ideal) (harg5.unread x4)) (arg6.view.read (Elt Ideal) (harg6.unread x5)) (arg7.view.read (Elt Ideal) (harg7.unread x6))) B_D)

theorem B_l13 (hc0 : ¬cond0_0 i) :
    (kernelRun0_B (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0).2.2.1
      = dgL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (arg17.view.read (Elt Ideal) (harg17.unread xs0)) h (3 - (c : ℕ))) (fun (h : Fin 4) => dgN (mb arg1 harg1 arg2 harg2 arg3 harg3 arg4 harg4 arg8 harg8 arg9 harg9 arg10 harg10 arg11 harg11 x0 x1 x2 x3 x7 x8 x9 x10) (arg17.view.read (Elt Ideal) (harg17.unread xs0)) (arg15.view.read (Elt Ideal) (harg15.unread xo13)) h 3) ++ (kernelRun0_B.sl.H13_12 (F := Ideal) c arg3 harg3 arg9 harg9 arg11 harg11 arg15 harg15 x2 x8 x10 xo13) :=
  Eq.trans (b := dgL (mb arg1 harg1 arg2 harg2 arg3 harg3 arg4 harg4 arg8 harg8 arg9 harg9 arg10 harg10 arg11 harg11 x0 x1 x2 x3 x7 x8 x9 x10) (![![(kernelRun0_B.sl.v1806 (F := Ideal) c arg1 harg1 arg3 harg3 arg4 harg4 arg8 harg8 arg9 harg9 arg11 harg11 arg17 harg17 x0 x2 x3 x7 x8 x10 xs0), (kernelRun0_B.sl.v1944 (F := Ideal) c arg1 harg1 arg3 harg3 arg4 harg4 arg8 harg8 arg9 harg9 arg11 harg11 arg17 harg17 x0 x2 x3 x7 x8 x10 xs0), (kernelRun0_B.sl.v2082 (F := Ideal) c arg1 harg1 arg3 harg3 arg4 harg4 arg8 harg8 arg9 harg9 arg11 harg11 arg17 harg17 x0 x2 x3 x7 x8 x10 xs0), (kernelRun0_B.sl.v2220 (F := Ideal) c arg1 harg1 arg3 harg3 arg4 harg4 arg8 harg8 arg9 harg9 arg11 harg11 arg17 harg17 x0 x2 x3 x7 x8 x10 xs0)], ![(kernelRun0_B.sl.v1242 (F := Ideal) c arg1 harg1 arg3 harg3 arg4 harg4 arg8 harg8 arg9 harg9 arg11 harg11 arg17 harg17 x0 x2 x3 x7 x8 x10 xs0), (kernelRun0_B.sl.v1380 (F := Ideal) c arg1 harg1 arg3 harg3 arg4 harg4 arg8 harg8 arg9 harg9 arg11 harg11 arg17 harg17 x0 x2 x3 x7 x8 x10 xs0), (kernelRun0_B.sl.v1518 (F := Ideal) c arg1 harg1 arg3 harg3 arg4 harg4 arg8 harg8 arg9 harg9 arg11 harg11 arg17 harg17 x0 x2 x3 x7 x8 x10 xs0), (kernelRun0_B.sl.v1656 (F := Ideal) c arg1 harg1 arg3 harg3 arg4 harg4 arg8 harg8 arg9 harg9 arg11 harg11 arg17 harg17 x0 x2 x3 x7 x8 x10 xs0)], ![(kernelRun0_B.sl.v678 (F := Ideal) c arg1 harg1 arg3 harg3 arg4 harg4 arg8 harg8 arg9 harg9 arg11 harg11 arg17 harg17 x0 x2 x3 x7 x8 x10 xs0), (kernelRun0_B.sl.v816 (F := Ideal) c arg1 harg1 arg3 harg3 arg4 harg4 arg8 harg8 arg9 harg9 arg11 harg11 arg17 harg17 x0 x2 x3 x7 x8 x10 xs0), (kernelRun0_B.sl.v954 (F := Ideal) c arg1 harg1 arg3 harg3 arg4 harg4 arg8 harg8 arg9 harg9 arg11 harg11 arg17 harg17 x0 x2 x3 x7 x8 x10 xs0), (kernelRun0_B.sl.v1092 (F := Ideal) c arg1 harg1 arg3 harg3 arg4 harg4 arg8 harg8 arg9 harg9 arg11 harg11 arg17 harg17 x0 x2 x3 x7 x8 x10 xs0)], ![(View.readAt (Elt Ideal) arg17.view (Rect.unit (s := S4x256x128) ![0, 0, 0] S1x256x128.size inb_S4x256x128_S1x256x128_0_0_0).toLoadRect (harg17.unread xs0)), (kernelRun0_B.sl.v252 (F := Ideal) c arg17 harg17 xs0), (kernelRun0_B.sl.v390 (F := Ideal) c arg17 harg17 xs0), (kernelRun0_B.sl.v528 (F := Ideal) c arg17 harg17 xs0)]] : Fin 4 → Fin 4 → Vec Ideal S1x256x128 .f32) (![(kernelRun0_B.sl.v1776 (F := Ideal) c arg3 harg3 arg9 harg9 arg11 harg11 arg15 harg15 x2 x8 x10 xo13), (kernelRun0_B.sl.v1914 (F := Ideal) c arg3 harg3 arg9 harg9 arg11 harg11 arg15 harg15 x2 x8 x10 xo13), (kernelRun0_B.sl.v2052 (F := Ideal) c arg3 harg3 arg9 harg9 arg11 harg11 arg15 harg15 x2 x8 x10 xo13), (kernelRun0_B.sl.v2190 (F := Ideal) c arg3 harg3 arg9 harg9 arg11 harg11 arg15 harg15 x2 x8 x10 xo13)] : Fin 4 → Vec Ideal S1x256 .f32) ++ (kernelRun0_B.sl.H13_12 (F := Ideal) c arg3 harg3 arg9 harg9 arg11 harg11 arg15 harg15 x2 x8 x10 xo13)) (by sl_kernel_rfl) (congrArg₂ (fun D E => dgL (mb arg1 harg1 arg2 harg2 arg3 harg3 arg4 harg4 arg8 harg8 arg9 harg9 arg10 harg10 arg11 harg11 x0 x1 x2 x3 x7 x8 x9 x10) D E ++ (kernelRun0_B.sl.H13_12 (F := Ideal) c arg3 harg3 arg9 harg9 arg11 harg11 arg15 harg15 x2 x8 x10 xo13)) B_D B_E)

theorem B_l14 (hc0 : ¬cond0_0 i) :
    (kernelRun0_B (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0).2.2.2.1
      = dbaL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (arg17.view.read (Elt Ideal) (harg17.unread xs0)) h (3 - (c : ℕ))) (arg18.view) (kernelRun0_B.sl.v0 i) (arg5.view.read (Elt Ideal) (harg5.unread x4)) (arg6.view.read (Elt Ideal) (harg6.unread x5)) (arg7.view.read (Elt Ideal) (harg7.unread x6)) (arg16.view.read (Elt Ideal) (harg16.unread xo14)) [] :=
  Eq.trans (b := dbaL (mb arg1 harg1 arg2 harg2 arg3 harg3 arg4 harg4 arg8 harg8 arg9 harg9 arg10 harg10 arg11 harg11 x0 x1 x2 x3 x7 x8 x9 x10) (![![(kernelRun0_B.sl.v1806 (F := Ideal) c arg1 harg1 arg3 harg3 arg4 harg4 arg8 harg8 arg9 harg9 arg11 harg11 arg17 harg17 x0 x2 x3 x7 x8 x10 xs0), (kernelRun0_B.sl.v1944 (F := Ideal) c arg1 harg1 arg3 harg3 arg4 harg4 arg8 harg8 arg9 harg9 arg11 harg11 arg17 harg17 x0 x2 x3 x7 x8 x10 xs0), (kernelRun0_B.sl.v2082 (F := Ideal) c arg1 harg1 arg3 harg3 arg4 harg4 arg8 harg8 arg9 harg9 arg11 harg11 arg17 harg17 x0 x2 x3 x7 x8 x10 xs0), (kernelRun0_B.sl.v2220 (F := Ideal) c arg1 harg1 arg3 harg3 arg4 harg4 arg8 harg8 arg9 harg9 arg11 harg11 arg17 harg17 x0 x2 x3 x7 x8 x10 xs0)], ![(kernelRun0_B.sl.v1242 (F := Ideal) c arg1 harg1 arg3 harg3 arg4 harg4 arg8 harg8 arg9 harg9 arg11 harg11 arg17 harg17 x0 x2 x3 x7 x8 x10 xs0), (kernelRun0_B.sl.v1380 (F := Ideal) c arg1 harg1 arg3 harg3 arg4 harg4 arg8 harg8 arg9 harg9 arg11 harg11 arg17 harg17 x0 x2 x3 x7 x8 x10 xs0), (kernelRun0_B.sl.v1518 (F := Ideal) c arg1 harg1 arg3 harg3 arg4 harg4 arg8 harg8 arg9 harg9 arg11 harg11 arg17 harg17 x0 x2 x3 x7 x8 x10 xs0), (kernelRun0_B.sl.v1656 (F := Ideal) c arg1 harg1 arg3 harg3 arg4 harg4 arg8 harg8 arg9 harg9 arg11 harg11 arg17 harg17 x0 x2 x3 x7 x8 x10 xs0)], ![(kernelRun0_B.sl.v678 (F := Ideal) c arg1 harg1 arg3 harg3 arg4 harg4 arg8 harg8 arg9 harg9 arg11 harg11 arg17 harg17 x0 x2 x3 x7 x8 x10 xs0), (kernelRun0_B.sl.v816 (F := Ideal) c arg1 harg1 arg3 harg3 arg4 harg4 arg8 harg8 arg9 harg9 arg11 harg11 arg17 harg17 x0 x2 x3 x7 x8 x10 xs0), (kernelRun0_B.sl.v954 (F := Ideal) c arg1 harg1 arg3 harg3 arg4 harg4 arg8 harg8 arg9 harg9 arg11 harg11 arg17 harg17 x0 x2 x3 x7 x8 x10 xs0), (kernelRun0_B.sl.v1092 (F := Ideal) c arg1 harg1 arg3 harg3 arg4 harg4 arg8 harg8 arg9 harg9 arg11 harg11 arg17 harg17 x0 x2 x3 x7 x8 x10 xs0)], ![(View.readAt (Elt Ideal) arg17.view (Rect.unit (s := S4x256x128) ![0, 0, 0] S1x256x128.size inb_S4x256x128_S1x256x128_0_0_0).toLoadRect (harg17.unread xs0)), (kernelRun0_B.sl.v252 (F := Ideal) c arg17 harg17 xs0), (kernelRun0_B.sl.v390 (F := Ideal) c arg17 harg17 xs0), (kernelRun0_B.sl.v528 (F := Ideal) c arg17 harg17 xs0)]] : Fin 4 → Fin 4 → Vec Ideal S1x256x128 .f32) (arg18.view) (kernelRun0_B.sl.v0 i) (arg5.view.read (Elt Ideal) (harg5.unread x4)) (arg6.view.read (Elt Ideal) (harg6.unread x5)) (arg7.view.read (Elt Ideal) (harg7.unread x6)) (arg16.view.read (Elt Ideal) (harg16.unread xo14)) []) (by sl_kernel_rfl) (congrArg (fun D => dbaL (mb arg1 harg1 arg2 harg2 arg3 harg3 arg4 harg4 arg8 harg8 arg9 harg9 arg10 harg10 arg11 harg11 x0 x1 x2 x3 x7 x8 x9 x10) D (arg18.view) (kernelRun0_B.sl.v0 i) (arg5.view.read (Elt Ideal) (harg5.unread x4)) (arg6.view.read (Elt Ideal) (harg6.unread x5)) (arg7.view.read (Elt Ideal) (harg7.unread x6)) (arg16.view.read (Elt Ideal) (harg16.unread xo14)) []) B_D)

theorem B_l0 (hc0 : ¬cond0_0 i) :
    (kernelRun0_B (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0).2.2.2.2.1
      = nxtL (mb arg1 harg1 arg2 harg2 arg3 harg3 arg4 harg4 arg8 harg8 arg9 harg9 arg10 harg10 arg11 harg11 x0 x1 x2 x3 x7 x8 x9 x10) (fun (c h : Fin 4) => dstN (mb arg1 harg1 arg2 harg2 arg3 harg3 arg4 harg4 arg8 harg8 arg9 harg9 arg10 harg10 arg11 harg11 x0 x1 x2 x3 x7 x8 x9 x10) (arg17.view.read (Elt Ideal) (harg17.unread xs0)) h (3 - (c : ℕ))) ++ (kernelRun0_B.sl.HS0_12 (F := Ideal) c arg1 harg1 arg3 harg3 arg4 harg4 arg8 harg8 arg9 harg9 arg11 harg11 arg17 harg17 x0 x2 x3 x7 x8 x10 xs0) :=
  Eq.trans (b := nxtL (mb arg1 harg1 arg2 harg2 arg3 harg3 arg4 harg4 arg8 harg8 arg9 harg9 arg10 harg10 arg11 harg11 x0 x1 x2 x3 x7 x8 x9 x10) (![![(kernelRun0_B.sl.v1806 (F := Ideal) c arg1 harg1 arg3 harg3 arg4 harg4 arg8 harg8 arg9 harg9 arg11 harg11 arg17 harg17 x0 x2 x3 x7 x8 x10 xs0), (kernelRun0_B.sl.v1944 (F := Ideal) c arg1 harg1 arg3 harg3 arg4 harg4 arg8 harg8 arg9 harg9 arg11 harg11 arg17 harg17 x0 x2 x3 x7 x8 x10 xs0), (kernelRun0_B.sl.v2082 (F := Ideal) c arg1 harg1 arg3 harg3 arg4 harg4 arg8 harg8 arg9 harg9 arg11 harg11 arg17 harg17 x0 x2 x3 x7 x8 x10 xs0), (kernelRun0_B.sl.v2220 (F := Ideal) c arg1 harg1 arg3 harg3 arg4 harg4 arg8 harg8 arg9 harg9 arg11 harg11 arg17 harg17 x0 x2 x3 x7 x8 x10 xs0)], ![(kernelRun0_B.sl.v1242 (F := Ideal) c arg1 harg1 arg3 harg3 arg4 harg4 arg8 harg8 arg9 harg9 arg11 harg11 arg17 harg17 x0 x2 x3 x7 x8 x10 xs0), (kernelRun0_B.sl.v1380 (F := Ideal) c arg1 harg1 arg3 harg3 arg4 harg4 arg8 harg8 arg9 harg9 arg11 harg11 arg17 harg17 x0 x2 x3 x7 x8 x10 xs0), (kernelRun0_B.sl.v1518 (F := Ideal) c arg1 harg1 arg3 harg3 arg4 harg4 arg8 harg8 arg9 harg9 arg11 harg11 arg17 harg17 x0 x2 x3 x7 x8 x10 xs0), (kernelRun0_B.sl.v1656 (F := Ideal) c arg1 harg1 arg3 harg3 arg4 harg4 arg8 harg8 arg9 harg9 arg11 harg11 arg17 harg17 x0 x2 x3 x7 x8 x10 xs0)], ![(kernelRun0_B.sl.v678 (F := Ideal) c arg1 harg1 arg3 harg3 arg4 harg4 arg8 harg8 arg9 harg9 arg11 harg11 arg17 harg17 x0 x2 x3 x7 x8 x10 xs0), (kernelRun0_B.sl.v816 (F := Ideal) c arg1 harg1 arg3 harg3 arg4 harg4 arg8 harg8 arg9 harg9 arg11 harg11 arg17 harg17 x0 x2 x3 x7 x8 x10 xs0), (kernelRun0_B.sl.v954 (F := Ideal) c arg1 harg1 arg3 harg3 arg4 harg4 arg8 harg8 arg9 harg9 arg11 harg11 arg17 harg17 x0 x2 x3 x7 x8 x10 xs0), (kernelRun0_B.sl.v1092 (F := Ideal) c arg1 harg1 arg3 harg3 arg4 harg4 arg8 harg8 arg9 harg9 arg11 harg11 arg17 harg17 x0 x2 x3 x7 x8 x10 xs0)], ![(View.readAt (Elt Ideal) arg17.view (Rect.unit (s := S4x256x128) ![0, 0, 0] S1x256x128.size inb_S4x256x128_S1x256x128_0_0_0).toLoadRect (harg17.unread xs0)), (kernelRun0_B.sl.v252 (F := Ideal) c arg17 harg17 xs0), (kernelRun0_B.sl.v390 (F := Ideal) c arg17 harg17 xs0), (kernelRun0_B.sl.v528 (F := Ideal) c arg17 harg17 xs0)]] : Fin 4 → Fin 4 → Vec Ideal S1x256x128 .f32) ++ (kernelRun0_B.sl.HS0_12 (F := Ideal) c arg1 harg1 arg3 harg3 arg4 harg4 arg8 harg8 arg9 harg9 arg11 harg11 arg17 harg17 x0 x2 x3 x7 x8 x10 xs0)) (by sl_kernel_rfl) (congrArg (fun D => nxtL (mb arg1 harg1 arg2 harg2 arg3 harg3 arg4 harg4 arg8 harg8 arg9 harg9 arg10 harg10 arg11 harg11 x0 x1 x2 x3 x7 x8 x9 x10) D ++ (kernelRun0_B.sl.HS0_12 (F := Ideal) c arg1 harg1 arg3 harg3 arg4 harg4 arg8 harg8 arg9 harg9 arg11 harg11 arg17 harg17 x0 x2 x3 x7 x8 x10 xs0)) B_D)

variable {A : Arr} {n N : ℕ}
theorem B_out11 (hc0 : ¬cond0_0 i) (H : BlkOk A ⟨x0, x1, x2, x3, x7, x8, x9, x10⟩ n) (hN : n + 256 ≤ N)
    (hxs : ∀ (h : Fin 4) (z : Fin 256) (x : Fin 128), xs0 (ix3 h z x) = ((A.ds h N z x (n + 256) : ℝ) : EReal))
    (u : Fin 256) (j : Fin 4096) :
    out0_B_11 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0 (ix2 u j) = ((dpv A N (n + u) j : ℝ) : EReal) := by
  refine (congrFun ((View.read_writes_junk_eq_canon _ _).trans (congrArg _ (B_l11 hc0))) _).trans ?_
  rw [mb_eq, harg17.read_unread]
  exact dp_canon H hN _ hxs u j

theorem B_sout (hc0 : ¬cond0_0 i) (H : BlkOk A ⟨x0, x1, x2, x3, x7, x8, x9, x10⟩ n) (hN : n + 256 ≤ N)
    (hxs : ∀ (h : Fin 4) (z : Fin 256) (x : Fin 128), xs0 (ix3 h z x) = ((A.ds h N z x (n + 256) : ℝ) : EReal))
    (h : Fin 4) (z : Fin 256) (x : Fin 128) :
    sout0_B_0 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0 (ix3 h z x) = ((A.ds h N z x n : ℝ) : EReal) := by
  refine (congrFun ((View.read_writes_junk_eq_canon _ _).trans (congrArg _ (B_l0 hc0))) _).trans ?_
  rw [mb_eq, harg17.read_unread]
  exact nxt_canon H hN _ hxs _ h z x

theorem B_out13 (hc0 : ¬cond0_0 i) (H : BlkOk A ⟨x0, x1, x2, x3, x7, x8, x9, x10⟩ n) (hN : n + 256 ≤ N)
    (hxs : ∀ (h : Fin 4) (z : Fin 256) (x : Fin 128), xs0 (ix3 h z x) = ((A.ds h N z x (n + 256) : ℝ) : EReal))
    (hxo : ∀ j : Fin 1024, xo13 (ix2 0 j) = ((dgv A N (n + 256) j : ℝ) : EReal))
    (j : Fin 1024) :
    out0_B_13 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0 (ix2 0 j) = ((dgv A N n j : ℝ) : EReal) := by
  refine (congrFun ((View.read_writes_junk_eq_canon _ _).trans (congrArg _ (B_l13 hc0))) _).trans ?_
  rw [mb_eq, harg17.read_unread, harg15.read_unread]
  exact dg_canon H hN _ hxs _ _ hxo j

theorem B_out12 (hc0 : ¬cond0_0 i) (H : BlkOk A ⟨x0, x1, x2, x3, x7, x8, x9, x10⟩ n) (hN : n + 256 ≤ N)
    (hxs : ∀ (h : Fin 4) (z : Fin 256) (x : Fin 128), xs0 (ix3 h z x) = ((A.ds h N z x (n + 256) : ℝ) : EReal))
    (b : Fin 33) (hn : n = 256 * b) (hi : (i 0 : ℕ) = 32 - b) (L U : ℕ → ℕ → ℝ) (bb : ℕ → ℝ)
    (h4 : ∀ (i : Fin 256) (r : Fin 128), x4 (ix2 i r) = ((L (256 * b + i) r : ℝ) : EReal))
    (h5 : ∀ (r : Fin 128) (j : Fin 512), x5 (ix2 r j) = ((U r j : ℝ) : EReal))
    (h6 : ∀ j : Fin 512, x6 (ix2 0 j) = ((bb j : ℝ) : EReal))
    (u : Fin 256) (j : Fin 512) :
    out0_B_12 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0 (ix2 u j) = ((dzv (dlav A N (n + u) j) (zv L U bb (n + u) j) (n + u) : ℝ) : EReal) := by
  refine (congrFun ((View.read_writes_junk_eq_canon _ _).trans (congrArg _ (B_l12 hc0))) _).trans ?_
  rw [mb_eq, harg17.read_unread, harg5.read_unread, harg6.read_unread, harg7.read_unread]
  subst hn
  exact dz_ok b H hN _ hxs _ (v0_eq _ b hi) _ x4 x5 x6 L U bb h4 h5 h6 u j

theorem B_out14 (hc0 : ¬cond0_0 i) (H : BlkOk A ⟨x0, x1, x2, x3, x7, x8, x9, x10⟩ n) (hN : n + 256 ≤ N)
    (hxs : ∀ (h : Fin 4) (z : Fin 256) (x : Fin 128), xs0 (ix3 h z x) = ((A.ds h N z x (n + 256) : ℝ) : EReal))
    (b : Fin 33) (hn : n = 256 * b) (hi : (i 0 : ℕ) = 32 - b) (L U : ℕ → ℕ → ℝ) (bb : ℕ → ℝ)
    (h4 : ∀ (i : Fin 256) (r : Fin 128), x4 (ix2 i r) = ((L (256 * b + i) r : ℝ) : EReal))
    (h5 : ∀ (r : Fin 128) (j : Fin 512), x5 (ix2 r j) = ((U r j : ℝ) : EReal))
    (h6 : ∀ j : Fin 512, x6 (ix2 0 j) = ((bb j : ℝ) : EReal))
    (hol : ∀ j : Fin 512, xo14 (ix2 0 j) = ((∑ t ∈ Ico (n + 256) N, dzv (dlav A N t j) (zv L U bb t j) t : ℝ) : EReal))
    (j : Fin 512) :
    out0_B_14 (F := Ideal) c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc0 x0 x1 x2 x3 x4 x5 x6 x7 x8 x9 x10 xo13 xo14 xs0 (ix2 0 j) = ((∑ t ∈ Ico n N, dzv (dlav A N t j) (zv L U bb t j) t : ℝ) : EReal) := by
  refine (congrFun ((View.read_writes_junk_eq_canon _ _).trans (congrArg _ (B_l14 hc0))) _).trans ?_
  rw [mb_eq, harg17.read_unread, harg5.read_unread, harg6.read_unread, harg7.read_unread, harg16.read_unread]
  subst hn
  exact dba_ok b H hN _ hxs _ (v0_eq _ b hi) _ x4 x5 x6 L U bb h4 h5 h6 _ _ hol j

end Gla

end
-- ==== Proof.Grid.lean ====
module

public import proofs.«01_k».proof.Proof.OutA
public import proofs.«01_k».proof.Proof.OutB
public import proofs.«01_k».proof.Proof.Gen.KernelIdeal.Value
public import Idealize.ShloMosaic.Lib.Pipeline.ValueKit

/-!
The blocks at each grid point, and what every point leaves, by induction from the last rows to the first.
-/

@[expose] public section

set_option maxRecDepth 16384

noncomputable section

namespace Gla

open Idealize.ShloMosaic Idealize.ShloMosaic.TcCoe Cert.KernelIdeal Cert.KernelIdeal.Gen Finset

variable (m : (ℓ : Loc nD τ sig) → Buf (Elt Ideal) ℓ) (c : Dev nD)

theorem widx : ∀ t : Fin cfg0.N, win0_0.index t = ![32 - t.val, 0] ∧ win0_1.index t = ![32 - t.val, 1] ∧ win0_2.index t = ![32 - t.val, 2]
    ∧ win0_3.index t = ![32 - t.val, 0] ∧ win0_4.index t = ![32 - t.val, 0] ∧ win0_5.index t = ![0, 0] ∧ win0_6.index t = ![0, 0]
    ∧ win0_7.index t = ![0, 0] ∧ win0_8.index t = ![32 - t.val, 0] ∧ win0_9.index t = ![32 - t.val, 0, 0, 0] ∧ win0_10.index t = ![32 - t.val, 0]
    ∧ win0_11.index t = ![32 - t.val, 1] ∧ win0_12.index t = ![32 - t.val, 0] ∧ win0_13.index t = ![0, 0] ∧ win0_14.index t = ![0, 0]
    ∧ ((grid0.coords t) 0 : ℕ) = t.val ∧ t.val < 33 :=
  (by decide +kernel : ∀ t : Fin grid0.N, _)

/-- What the arrays hold at the region's entry, as real numbers. -/
structure HostOk (X D L U : ℕ → ℕ → ℝ) (bb : ℕ → ℝ) (A : Arr) : Prop where
  p7 : ∀ (i : Fin 8448) (j : Fin 7168), (m ((c : Thread nD τ).loc main_arg0) : Vec Ideal S8448x7168 .bf16) (ix2 i j) = ((X i j : ℝ) : EReal)
  alr : ∀ (i : Fin 8448) (j : Fin 128), (m ((c : Thread nD τ).loc main_arg1) : Vec Ideal S8448x128 .f32) (ix2 i j) = ((L i j : ℝ) : EReal)
  wau : ∀ (i : Fin 128) (j : Fin 512), (m ((c : Thread nD τ).loc main_arg2) : Vec Ideal S128x512 .f32) (ix2 i j) = ((U i j : ℝ) : EReal)
  ba : ∀ j : Fin 512, (m ((c : Thread nD τ).loc main_arg3) : Vec Ideal S1x512 .f32) (ix2 0 j) = ((bb j : ℝ) : EReal)
  g : ∀ j : Fin 1024, (m ((c : Thread nD τ).loc main_arg4) : Vec Ideal S1x1024 .f32) (ix2 0 j) = ((A.g j : ℝ) : EReal)
  dy : ∀ (i : Fin 8448) (j : Fin 1024), (m ((c : Thread nD τ).loc main_arg5) : Vec Ideal S8448x1024 .bf16) (ix2 i j) = ((A.y i j : ℝ) : EReal)
  la : ∀ (i : Fin 8448) (j : Fin 512), (V m c main_v17 : Vec Ideal S8448x512 .f32) (ix2 i j) = ((A.a i j : ℝ) : EReal)
  o : ∀ (i : Fin 8448) (j : Fin 1024), (V m c main_v46 : Vec Ideal S8448x1024 .f32) (ix2 i j) = ((A.o i j : ℝ) : EReal)
  st : ∀ (k : Fin 132) (h : Fin 4) (z : Fin 256) (x : Fin 128), (V m c main_v72 : Vec Ideal S132x4x256x128 .bf16) (ix4 k h z x)
    = ((St (A.aH h x) (A.kH h x) (A.vH h z) (64 * k) : ℝ) : EReal)
  qk : ∀ t j, A.qk t j = X t j
  v : ∀ t j, A.v t j = X t (1024 + j)
  r : ∀ t j, A.r t j = X t (2048 + j)

variable {m c} {X D L U : ℕ → ℕ → ℝ} {bb : ℕ → ℝ} {A : Arr} (K : HostOk m c X D L U bb A)

theorem row_lt (t : Fin cfg0.N) (i : Fin 256) : 256 * (32 - t.val) + i < 8448 := by
  have := (widx t).2.2.2.2.2.2.2.2.2.2.2.2.2.2.2.2
  omega

theorem rd3 (W : Vec Ideal S8448x512 .f32) (t : Fin cfg0.N) (i : Fin 256) (j : Fin 512) :
    ((cfg0.win 3).blk t).view.read (Elt Ideal) W (ix2 i j) = W (ix2 ⟨256 * (32 - t.val) + i, row_lt t i⟩ j) := by
  blk_ext [widx t]

theorem rd8 (W : Vec Ideal S8448x1024 .f32) (t : Fin cfg0.N) (i : Fin 256) (j : Fin 1024) :
    ((cfg0.win 8).blk t).view.read (Elt Ideal) W (ix2 i j) = W (ix2 ⟨256 * (32 - t.val) + i, row_lt t i⟩ j) := by
  blk_ext [widx t]

theorem rd9 (W : Vec Ideal S132x4x256x128 .bf16) (t : Fin cfg0.N) (k h : Fin 4) (z : Fin 256) (x : Fin 128) :
    ((cfg0.win 9).blk t).view.read (Elt Ideal) W (ix4 k h z x)
      = W (ix4 ⟨4 * (32 - t.val) + k, by have := (widx t).2.2.2.2.2.2.2.2.2.2.2.2.2.2.2.2; omega⟩ h z x) := by
  have := (widx t).2.2.2.2.2.2.2.2.2.2.2.2.2.2.2.2
  blk_ext [widx t]

include K in
theorem x0_ok (t : Fin cfg0.N) (i : Fin 256) (j : Fin 1024) : iblk m c 0 t (ix2 i j) = ((A.qk (256 * (32 - t.val) + i) j : ℝ) : EReal) := by
  have e : iblk m c 0 t (ix2 i j) = (m ((c : Thread nD τ).loc main_arg0) : Vec Ideal S8448x7168 .bf16) (ix2 ⟨256 * (32 - t.val) + i, row_lt t i⟩ ⟨j, by omega⟩) := by
    blk_ext [iblk, V, widx t]
  exact e.trans ((K.p7 _ _).trans (by rw [K.qk]))

include K in
theorem x1_ok (t : Fin cfg0.N) (i : Fin 256) (j : Fin 1024) : iblk m c 1 t (ix2 i j) = ((A.v (256 * (32 - t.val) + i) j : ℝ) : EReal) := by
  have e : iblk m c 1 t (ix2 i j) = (m ((c : Thread nD τ).loc main_arg0) : Vec Ideal S8448x7168 .bf16) (ix2 ⟨256 * (32 - t.val) + i, row_lt t i⟩ ⟨1024 + j, by omega⟩) := by
    blk_ext [iblk, V, widx t]
  exact e.trans ((K.p7 _ _).trans (by rw [K.v]))

include K in
theorem x2_ok (t : Fin cfg0.N) (i : Fin 256) (j : Fin 1024) : iblk m c 2 t (ix2 i j) = ((A.r (256 * (32 - t.val) + i) j : ℝ) : EReal) := by
  have e : iblk m c 2 t (ix2 i j) = (m ((c : Thread nD τ).loc main_arg0) : Vec Ideal S8448x7168 .bf16) (ix2 ⟨256 * (32 - t.val) + i, row_lt t i⟩ ⟨2048 + j, by omega⟩) := by
    blk_ext [iblk, V, widx t]
  exact e.trans ((K.p7 _ _).trans (by rw [K.r]))

include K in
theorem x3_ok (t : Fin cfg0.N) (i : Fin 256) (j : Fin 512) : iblk m c 3 t (ix2 i j) = ((A.a (256 * (32 - t.val) + i) j : ℝ) : EReal) :=
  (rd3 (V m c main_v17) t i j).trans (K.la _ _)

include K in
theorem x7_ok (t : Fin cfg0.N) (j : Fin 1024) : iblk m c 7 t (ix2 0 j) = ((A.g j : ℝ) : EReal) := by
  have e : iblk m c 7 t (ix2 0 j) = (m ((c : Thread nD τ).loc main_arg4) : Vec Ideal S1x1024 .f32) (ix2 0 j) := by
    blk_ext [iblk, V, widx t]
  exact e.trans (K.g _)

include K in
theorem x8_ok (t : Fin cfg0.N) (i : Fin 256) (j : Fin 1024) : iblk m c 8 t (ix2 i j) = ((A.o (256 * (32 - t.val) + i) j : ℝ) : EReal) :=
  (rd8 (V m c main_v46) t i j).trans (K.o _ _)

include K in
theorem x9_ok (t : Fin cfg0.N) (k h : Fin 4) (z : Fin 256) (x : Fin 128) : iblk m c 9 t (ix4 k h z x) = ((St (A.aH h x) (A.kH h x) (A.vH h z) (256 * (32 - t.val) + 64 * k) : ℝ) : EReal) := by
  have := (widx t).2.2.2.2.2.2.2.2.2.2.2.2.2.2.2.2
  refine (rd9 (V m c main_v72) t k h z x).trans ((K.st _ _ _ _).trans ?_)
  rw [show 64 * (((⟨4 * (32 - t.val) + k, by omega⟩ : Fin 132)) : ℕ) = 256 * (32 - t.val) + 64 * k by simp; omega]

include K in
theorem x10_ok (t : Fin cfg0.N) (i : Fin 256) (j : Fin 1024) : iblk m c 10 t (ix2 i j) = ((A.y (256 * (32 - t.val) + i) j : ℝ) : EReal) := by
  have e : iblk m c 10 t (ix2 i j) = (m ((c : Thread nD τ).loc main_arg5) : Vec Ideal S8448x1024 .bf16) (ix2 ⟨256 * (32 - t.val) + i, row_lt t i⟩ j) := by
    blk_ext [iblk, V, widx t]
  exact e.trans (K.dy _ _)

theorem blk_mk {x0 x1 x2 : Vec Ideal S256x1024 .bf16} {x3 : Vec Ideal S256x512 .f32} {x7 : Vec Ideal S1x1024 .f32} {x8 : Vec Ideal S256x1024 .f32}
    {x9 : Vec Ideal S4x4x256x128 .bf16} {x10 : Vec Ideal S256x1024 .bf16} {n : ℕ}
    (h0 : ∀ (i : Fin 256) (j : Fin 1024), x0 (ix2 i j) = ((A.qk (n + i) j : ℝ) : EReal))
    (h1 : ∀ (i : Fin 256) (j : Fin 1024), x1 (ix2 i j) = ((A.v (n + i) j : ℝ) : EReal))
    (h2 : ∀ (i : Fin 256) (j : Fin 1024), x2 (ix2 i j) = ((A.r (n + i) j : ℝ) : EReal))
    (h3 : ∀ (i : Fin 256) (j : Fin 512), x3 (ix2 i j) = ((A.a (n + i) j : ℝ) : EReal))
    (h7 : ∀ (j : Fin 1024), x7 (ix2 0 j) = ((A.g j : ℝ) : EReal))
    (h8 : ∀ (i : Fin 256) (j : Fin 1024), x8 (ix2 i j) = ((A.o (n + i) j : ℝ) : EReal))
    (h9 : ∀ (c h : Fin 4) (z : Fin 256) (x : Fin 128),
      x9 (ix4 c h z x) = ((St (A.aH h x) (A.kH h x) (A.vH h z) (n + 64 * c) : ℝ) : EReal))
    (h10 : ∀ (i : Fin 256) (j : Fin 1024), x10 (ix2 i j) = ((A.y (n + i) j : ℝ) : EReal)) :
    BlkOk A ⟨x0, x1, x2, x3, x7, x8, x9, x10⟩ n := ⟨h0, h1, h2, h3, h7, h8, h9, h10⟩

include K in
theorem blk_ok (t : Fin cfg0.N) :
    BlkOk A ⟨iblk m c 0 t, iblk m c 1 t, iblk m c 2 t, iblk m c 3 t, iblk m c 7 t, iblk m c 8 t, iblk m c 9 t, iblk m c 10 t⟩ (256 * (32 - t.val)) :=
  blk_mk (x0_ok K t) (x1_ok K t) (x2_ok K t) (x3_ok K t) (x7_ok K t) (x8_ok K t) (x9_ok K t) (x10_ok K t)

include K in
theorem x4_ok (t : Fin cfg0.N) (i : Fin 256) (r : Fin 128) : iblk m c 4 t (ix2 i r) = ((L (256 * (32 - t.val) + i) r : ℝ) : EReal) := by
  have e : iblk m c 4 t (ix2 i r) = (m ((c : Thread nD τ).loc main_arg1) : Vec Ideal S8448x128 .f32) (ix2 ⟨256 * (32 - t.val) + i, row_lt t i⟩ r) := by
    blk_ext [iblk, V, widx t]
  exact e.trans (K.alr _ _)

include K in
theorem x5_ok (t : Fin cfg0.N) (r : Fin 128) (j : Fin 512) : iblk m c 5 t (ix2 r j) = ((U r j : ℝ) : EReal) := by
  have e : iblk m c 5 t (ix2 r j) = (m ((c : Thread nD τ).loc main_arg2) : Vec Ideal S128x512 .f32) (ix2 r j) := by
    blk_ext [iblk, V, widx t]
  exact e.trans (K.wau _ _)

include K in
theorem x6_ok (t : Fin cfg0.N) (j : Fin 512) : iblk m c 6 t (ix2 0 j) = ((bb j : ℝ) : EReal) := by
  have e : iblk m c 6 t (ix2 0 j) = (m ((c : Thread nD τ).loc main_arg3) : Vec Ideal S1x512 .f32) (ix2 0 j) := by
    blk_ext [iblk, V, widx t]
  exact e.trans (K.ba _)

/-- The gradient of the logit at row `t`. -/
def dzA (A : Arr) (L U : ℕ → ℕ → ℝ) (bb : ℕ → ℝ) (t j : ℕ) : ℝ := dzv (dlav A 8448 t j) (zv L U bb t j) t

/-- What a point has left, once the rows from `n` on are done. -/
structure PtOk (A : Arr) (L U : ℕ → ℕ → ℝ) (bb : ℕ → ℝ)
    (o : Vec Ideal S256x4096 .bf16 × Vec Ideal S256x512 .bf16 × Vec Ideal S1x1024 .f32 × Vec Ideal S1x512 .f32 × Vec Ideal S4x256x128 .f32) (n : ℕ) : Prop where
  dp : ∀ (i : Fin 256) (j : Fin 4096), o.1 (ix2 i j) = ((dpv A 8448 (n + i) j : ℝ) : EReal)
  dz : ∀ (i : Fin 256) (j : Fin 512), o.2.1 (ix2 i j) = ((dzA A L U bb (n + i) j : ℝ) : EReal)
  dg : ∀ j : Fin 1024, o.2.2.1 (ix2 0 j) = ((dgv A 8448 n j : ℝ) : EReal)
  db : ∀ j : Fin 512, o.2.2.2.1 (ix2 0 j) = ((∑ t ∈ Ico n 8448, dzA A L U bb t j : ℝ) : EReal)
  ds : ∀ (h : Fin 4) (z : Fin 256) (x : Fin 128), o.2.2.2.2 (ix3 h z x) = ((A.ds h 8448 z x n : ℝ) : EReal)

theorem pay4_ok (A : Arr) (h : Fin 4) (z : Fin 256) (x : Fin 128) : k0_pay4 (F := Ideal) (ix3 h z x) = ((A.ds h 8448 z x (256 * 32 + 256) : ℝ) : EReal) := by
  pointwise [Gen.k0_pay4]
  simp [Arr.ds, Tt]

theorem pay5_ok (A : Arr) (j : Fin 1024) : k0_pay5 (F := Ideal) (ix2 0 j) = ((dgv A 8448 (256 * 32 + 256) j : ℝ) : EReal) := by
  pointwise [Gen.k0_pay5]
  simp [dgv]

theorem pay6_ok (f : ℕ → ℝ) (j : Fin 512) : k0_pay6 (F := Ideal) (ix2 0 j) = ((∑ t ∈ Ico (256 * 32 + 256) 8448, f t : ℝ) : EReal) := by
  pointwise [Gen.k0_pay6]
  simp

theorem pt_mk {o1 : Vec Ideal S256x4096 .bf16} {o2 : Vec Ideal S256x512 .bf16} {o3 : Vec Ideal S1x1024 .f32} {o4 : Vec Ideal S1x512 .f32}
    {o5 : Vec Ideal S4x256x128 .f32} {n : ℕ}
    (h1 : ∀ (i : Fin 256) (j : Fin 4096), o1 (ix2 i j) = ((dpv A 8448 (n + i) j : ℝ) : EReal))
    (h2 : ∀ (i : Fin 256) (j : Fin 512), o2 (ix2 i j) = ((dzv (dlav A 8448 (n + i) j) (zv L U bb (n + i) j) (n + i) : ℝ) : EReal))
    (h3 : ∀ j : Fin 1024, o3 (ix2 0 j) = ((dgv A 8448 n j : ℝ) : EReal))
    (h4 : ∀ j : Fin 512, o4 (ix2 0 j) = ((∑ t ∈ Ico n 8448, dzv (dlav A 8448 t j) (zv L U bb t j) t : ℝ) : EReal))
    (h5 : ∀ (h : Fin 4) (z : Fin 256) (x : Fin 128), o5 (ix3 h z x) = ((A.ds h 8448 z x n : ℝ) : EReal)) :
    PtOk A L U bb (o1, o2, o3, o4, o5) n := ⟨h1, h2, h3, h4, h5⟩

section

variable (t : Fin cfg0.N) {n : ℕ} (b : Fin 33) (hn : n = 256 * b) (hi : ((grid0.coords t) 0 : ℕ) = 32 - b) (hN : n + 256 ≤ 8448)
  (H : BlkOk A ⟨iblk m c 0 t, iblk m c 1 t, iblk m c 2 t, iblk m c 3 t, iblk m c 7 t, iblk m c 8 t, iblk m c 9 t, iblk m c 10 t⟩ n)
  (h4 : ∀ (i : Fin 256) (r : Fin 128), iblk m c 4 t (ix2 i r) = ((L (256 * b + i) r : ℝ) : EReal))
  (h5 : ∀ (r : Fin 128) (j : Fin 512), iblk m c 5 t (ix2 r j) = ((U r j : ℝ) : EReal))
  (h6 : ∀ j : Fin 512, iblk m c 6 t (ix2 0 j) = ((bb j : ℝ) : EReal))

include hn hi hN H h4 h5 h6

theorem ptA (h0 : t.val % 33 = 0) (he : n + 256 = 8448) : PtOk A L U bb (outsAt0 m c t.val t.isLt) n := by
  rw [outsAt0_A m c t h0]
  have z4 : ∀ (h : Fin 4) (z : Fin 256) (x : Fin 128), k0_pay4 (F := Ideal) (ix3 h z x) = ((A.ds h 8448 z x (n + 256) : ℝ) : EReal) := by
    rw [he]; exact pay4_ok A
  have z5 : ∀ j : Fin 1024, k0_pay5 (F := Ideal) (ix2 0 j) = ((dgv A 8448 (n + 256) j : ℝ) : EReal) := by
    rw [he]; exact pay5_ok A
  have z6 : ∀ j : Fin 512, k0_pay6 (F := Ideal) (ix2 0 j) = ((∑ t ∈ Ico (n + 256) 8448, dzv (dlav A 8448 t j) (zv L U bb t j) t : ℝ) : EReal) := by
    rw [he]; exact fun j => pay6_ok (fun t => dzA A L U bb t j) j
  exact pt_mk (A_out11 (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (i := grid0.coords t) (c := c) ((hcond0_0 t).mpr h0) H hN z4) (A_out12 (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (i := grid0.coords t) (c := c) ((hcond0_0 t).mpr h0) H hN z4 b hn hi L U bb h4 h5 h6) (A_out13 (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (i := grid0.coords t) (c := c) ((hcond0_0 t).mpr h0) H hN z4 z5) (A_out14 (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (i := grid0.coords t) (c := c) ((hcond0_0 t).mpr h0) H hN z4 b hn hi L U bb h4 h5 h6 z6) (A_sout (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (i := grid0.coords t) (c := c) ((hcond0_0 t).mpr h0) H hN z4)

theorem ptB (h0 : ¬t.val % 33 = 0) (I : PtOk A L U bb (outsAt0 m c (t.val - 1) (Nat.lt_of_le_of_lt (Nat.sub_le _ _) t.isLt)) (n + 256)) :
    PtOk A L U bb (outsAt0 m c t.val t.isLt) n := by
  rw [outsAt0_B m c t h0]
  generalize outsAt0 m c (t.val - 1) (Nat.lt_of_le_of_lt (Nat.sub_le _ _) t.isLt) = q at I ⊢
  obtain ⟨q1, q2, q3, q4, q5⟩ := q
  exact pt_mk (B_out11 (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (xo13 := q3) (xo14 := q4) (xs0 := q5) (i := grid0.coords t) (c := c) (fun h => h0 ((hcond0_0 t).mp h)) H hN I.ds) (B_out12 (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (xo13 := q3) (xo14 := q4) (xs0 := q5) (i := grid0.coords t) (c := c) (fun h => h0 ((hcond0_0 t).mp h)) H hN I.ds b hn hi L U bb h4 h5 h6) (B_out13 (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (xo13 := q3) (xo14 := q4) (xs0 := q5) (i := grid0.coords t) (c := c) (fun h => h0 ((hcond0_0 t).mp h)) H hN I.ds I.dg) (B_out14 (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (xo13 := q3) (xo14 := q4) (xs0 := q5) (i := grid0.coords t) (c := c) (fun h => h0 ((hcond0_0 t).mp h)) H hN I.ds b hn hi L U bb h4 h5 h6 I.db) (B_sout (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := scM0_0) (harg17 := Memref.isWhole_whole _) (arg18 := scM0_1) (harg18 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (xo13 := q3) (xo14 := q4) (xs0 := q5) (i := grid0.coords t) (c := c) (fun h => h0 ((hcond0_0 t).mp h)) H hN I.ds)

end

include K in
theorem pt_ok : ∀ (t : ℕ) (ht : t < cfg0.N), PtOk A L U bb (outsAt0 m c t ht) (256 * (32 - t)) := by
  intro t
  induction t with
  | zero =>
    intro ht
    have hi := (widx ⟨0, ht⟩).2.2.2.2.2.2.2.2.2.2.2.2.2.2.2.1
    exact ptA ⟨0, ht⟩ ⟨32, by decide⟩ rfl hi (by decide) (blk_ok K ⟨0, ht⟩) (x4_ok K ⟨0, ht⟩) (x5_ok K ⟨0, ht⟩) (x6_ok K ⟨0, ht⟩) rfl rfl
  | succ t ih =>
    intro ht
    have hlt : t + 1 < 33 := (widx ⟨t + 1, ht⟩).2.2.2.2.2.2.2.2.2.2.2.2.2.2.2.2
    have hi := (widx ⟨t + 1, ht⟩).2.2.2.2.2.2.2.2.2.2.2.2.2.2.2.1
    have hn : 256 * (32 - t) = 256 * (32 - (t + 1)) + 256 := by omega
    have I := ih (Nat.lt_of_succ_lt ht)
    rw [hn] at I
    exact ptB ⟨t + 1, ht⟩ ⟨32 - (t + 1), by omega⟩ rfl (hi.trans (by simp only; omega)) (by omega) (blk_ok K ⟨t + 1, ht⟩) (x4_ok K ⟨t + 1, ht⟩)
      (x5_ok K ⟨t + 1, ht⟩) (x6_ok K ⟨t + 1, ht⟩) (by simp only; omega) I

end Gla

end
-- ==== Proof.Arrays.lean ====
module

public import Idealize.ShloMosaic.Lib.Claim
public import proofs.«01_k».proof.Proof.Gen.KernelIdeal.Value
public import proofs.«01_k».proof.Proof.Grid

/-! The four result arrays of the kernel as real functions: what every grid point writes back, put together. -/

@[expose] public section

open Idealize.ShloMosaic Idealize.ShloMosaic.TcCoe
open scoped BigOperators
open Cert.KernelIdeal Cert.KernelIdeal.Gen
open Finset (Ico)

namespace Gla

set_option maxRecDepth 16384

variable {m : (ℓ : Loc nD τ sig) → Buf (Elt Ideal) ℓ} {c : Dev nD} {X : ℕ → ℕ → ℝ} {D : ℕ → ℕ → ℝ} {L U : ℕ → ℕ → ℝ} {bb : ℕ → ℝ} {A : Arr}
  (K : HostOk m c X D L U bb A)

include K

theorem arr11 : (dats m 0 c).arrAt 11 cfg0.N
    = fun i : S8448x8192.Idx => if 4096 ≤ (i 1 : ℕ) then ((dpv A 8448 (i 0) ((i 1 : ℕ) - 4096) : ℝ) : EReal) else (m ((c : Thread nD τ).loc main_arg6) : Vec Ideal S8448x8192 .bf16) i := by
  have e : V m c (Pipeline.arrRef spec0 11) = m ((c : Thread nD τ).loc main_arg6) := by
    show V m c _ = _
    unfold V; after_results; try rfl
  refine ((dats m 0 c).arrAt_eq_of_coversWhere 11 (fun i : S8448x8192.Idx => ((dpv A 8448 (i 0) ((i 1 : ℕ) - 4096) : ℝ) : EReal))
    (fun β => 1 ≤ β 1) (by decide +kernel) (fun t hf y => ?_) (P := fun i : S8448x8192.Idx => 4096 ≤ (i 1 : ℕ))
    (fun j => by blk_simp [Pipeline.Window.cell_apply]; omega)).trans ?_
  · have p := (pt_ok K t.val t.isLt).dp
    rw [after0_11]
    generalize outsAt0 m c t.val t.isLt = q at p ⊢
    blk_simp [widx t]
    refine ((congrArg q.1 (show y = (ix2 (y 0) (y 1) : S256x4096.Idx) from by
      funext a
      match a with
      | ⟨0, _⟩ => rfl
      | ⟨1, _⟩ => rfl)).trans (p (y 0) (y 1))).trans ?_
    rw [Nat.mul_comm 256, Nat.add_sub_cancel_left]
  · funext i
    rw [A_eq m c 11, e]

theorem arr12 : (dats m 0 c).arrAt 12 cfg0.N = fun i : S8448x512.Idx => ((dzA A L U bb (i 0) (i 1) : ℝ) : EReal) := by
  refine (dats m 0 c).arrAt_eq_of_covers 12 _ (by decide +kernel) fun t _ y => ?_
  have p := (pt_ok K t.val t.isLt).dz
  rw [after0_12]
  generalize outsAt0 m c t.val t.isLt = q at p ⊢
  blk_simp [widx t]
  refine ((congrArg q.2.1 (show y = (ix2 (y 0) (y 1) : S256x512.Idx) from by
    funext a
    match a with
    | ⟨0, _⟩ => rfl
    | ⟨1, _⟩ => rfl)).trans (p (y 0) (y 1))).trans ?_
  rw [Nat.mul_comm 256]

theorem arr13 : (dats m 0 c).arrAt 13 cfg0.N = fun i : S1x1024.Idx => ((dgv A 8448 0 (i 1) : ℝ) : EReal) := by
  have p := (pt_ok K 32 (by decide +kernel)).dg
  refine (dats m 0 c).arrAt_eq_of_after_last 13 ⟨32, by decide +kernel⟩ (by decide +kernel) _ fun j => ?_
  rw [after0_13]
  generalize outsAt0 m c _ _ = q at p ⊢
  blk_simp
  exact (congrArg q.2.2.1 (funext fun a => by
    match a with
    | ⟨0, _⟩ => exact Subsingleton.elim (α := Fin 1) _ _
    | ⟨1, _⟩ => rfl)).trans (p (j 1))

theorem arr14 : (dats m 0 c).arrAt 14 cfg0.N = fun i : S1x512.Idx => ((∑ t ∈ Ico 0 8448, dzA A L U bb t (i 1) : ℝ) : EReal) := by
  have p := (pt_ok K 32 (by decide +kernel)).db
  refine (dats m 0 c).arrAt_eq_of_after_last 14 ⟨32, by decide +kernel⟩ (by decide +kernel) _ fun j => ?_
  rw [after0_14]
  generalize outsAt0 m c _ _ = q at p ⊢
  blk_simp
  exact (congrArg q.2.2.2.1 (funext fun a => by
    match a with
    | ⟨0, _⟩ => exact Subsingleton.elim (α := Fin 1) _ _
    | ⟨1, _⟩ => rfl)).trans (p (j 1))

end Gla

end
-- ==== Proof.Cumsum.lean ====
module

public import Idealize.ShloMosaic.Lib.Routing.Ops
public import proofs.«01_k».proof.Proof.Base

/-! The running sum of the columns of a matrix of reals, forwards and backwards, as window sums. -/

@[expose] public section

namespace Gla

open Idealize.ShloMosaic Idealize.ShloMosaic.Routing
open Finset (range Ico)

theorem foldl_coe {ι : Type} (l : List ι) (step : EReal → ι → EReal) (g : ι → ℝ) (h : ∀ r n, step r n = r + ((g n : ℝ) : EReal)) (z : ℝ) :
    l.foldl step (z : EReal) = ((z + (l.map g).sum : ℝ) : EReal) := by
  induction l generalizing z with
  | nil => simp
  | cons n l ih =>
    rw [List.foldl_cons, h, ← EReal.coe_add, ih, List.map_cons, List.sum_cons, add_assoc]

theorem numelC (N : ℕ) : (shape2 N 1).numel = N := by
  show ∏ a : Fin 2, (![N, 1] : Fin 2 → Nat) a = N
  rw [Fin.prod_univ_two]
  show N * 1 = N
  exact Nat.mul_one N

theorem symmC {N : ℕ} (n : Fin (shape2 N 1).numel) : (shape2 N 1).rowMajor.symm n = ix2 (n.cast (numelC N)) (0 : Fin 1) :=
  ((shape2 N 1).rowMajor.symm_apply_eq).2 (Fin.ext (by
    rw [Shape.rowMajor_val_two]
    show n.val = n.val * 1 + 0
    omega))

theorem sum_finRange (N : ℕ) (g : ℕ → ℝ) : ((List.finRange (shape2 N 1).numel).map fun n => g n.val).sum = ∑ w ∈ range N, g w := by
  rw [← Fin.sum_univ_def, Fin.sum_univ_eq_sum_range, numelC]

theorem cumsum_fwd {N M C : ℕ} (hN : M + 1 = N) (x : FVec Ideal (shape2 N C) .f32) (f : ℕ → ℝ) (j : Fin C)
    (hx : ∀ i : Fin N, x (ix2 i j) = ((f i : ℝ) : EReal)) (init : FVec Ideal shape0 .f32) (hi : init ix0 = (0 : EReal))
    (h : (shape2 N C).ReduceWindows (![N, 1] : Fin 2 → Nat) ![1, 1] ![M, 0] ![0, 0] (shape2 N C)) (hu : 0 < shape0.numel) (t : Fin N) :
    Host.reduceWindowAdd ![N, 1] ![1, 1] ![M, 0] ![0, 0] x init h hu (ix2 t j) = ((∑ i ∈ range (t + 1), f i : ℝ) : EReal) := by
  have hv : init (Shape.Idx.first hu) = (((0 : ℝ)) : EReal) := (congrArg init (ValueIdx.eq_ix0 _)).trans hi
  have ht := t.isLt
  show List.foldl _ (init (Shape.Idx.first hu)) (List.finRange (shape2 N 1).numel) = _
  rw [hv]
  refine (foldl_coe _ _ (fun n => if M ≤ t.val + n.val then f (t.val + n.val - M) else 0) (fun r n => ?_) 0).trans ?_
  · refine congrArg (r + ·) ?_
    have h0 : ((shape2 N 1).rowMajor.symm n 0).val = n.val := by rw [symmC]; rfl
    have h1 : ((shape2 N 1).rowMajor.symm n 1).val = 0 := by rw [symmC]; rfl
    have hn : n.val < N := (n.cast (numelC _)).isLt
    have hj := j.isLt
    dsimp only
    split
    · next hin =>
      have a0 := hin 0
      change M ≤ t.val * 1 + ((shape2 N 1).rowMajor.symm n 0).val ∧ t.val * 1 + ((shape2 N 1).rowMajor.symm n 0).val - M < N at a0
      rw [h0] at a0
      rw [if_pos (by omega)]
      refine (congrArg x (funext fun a => Fin.ext ?_)).trans (hx ⟨t.val + n.val - M, by omega⟩)
      match a with
      | ⟨0, _⟩ =>
        show t.val * 1 + ((shape2 N 1).rowMajor.symm n 0).val - M = t.val + n.val - M
        rw [h0, Nat.mul_one]
      | ⟨1, _⟩ =>
        show j.val * 1 + ((shape2 N 1).rowMajor.symm n 1).val - 0 = j.val
        rw [h1]; omega
    · next hin =>
      rw [if_neg fun hle => hin fun a => by
        match a with
        | ⟨0, _⟩ =>
          show M ≤ t.val * 1 + ((shape2 N 1).rowMajor.symm n 0).val ∧ t.val * 1 + ((shape2 N 1).rowMajor.symm n 0).val - M < N
          rw [h0]
          omega
        | ⟨1, _⟩ =>
          show 0 ≤ j.val * 1 + ((shape2 N 1).rowMajor.symm n 1).val ∧ j.val * 1 + ((shape2 N 1).rowMajor.symm n 1).val - 0 < C
          rw [h1]
          omega]
  · rw [zero_add, sum_finRange N (fun w => if M ≤ t.val + w then f (t.val + w - M) else 0)]
    congr 1
    rw [← Finset.sum_filter]
    refine Finset.sum_nbij' (fun w => t.val + w - M) (fun i => i + M - t.val) ?_ ?_ ?_ ?_ ?_ <;> intro w hw <;>
      simp only [Finset.mem_filter, Finset.mem_range] at hw ⊢ <;> omega

theorem cumsum_rev {N M C : ℕ} (hN : M + 1 = N) (x : FVec Ideal (shape2 N C) .f32) (f : ℕ → ℝ) (j : Fin C)
    (hx : ∀ i : Fin N, x (ix2 i j) = ((f i : ℝ) : EReal)) (init : FVec Ideal shape0 .f32) (hi : init ix0 = (0 : EReal))
    (h : (shape2 N C).ReduceWindows (![N, 1] : Fin 2 → Nat) ![1, 1] ![0, 0] ![M, 0] (shape2 N C)) (hu : 0 < shape0.numel) (t : Fin N) :
    Host.reduceWindowAdd ![N, 1] ![1, 1] ![0, 0] ![M, 0] x init h hu (ix2 t j) = ((∑ i ∈ Ico (t : ℕ) N, f i : ℝ) : EReal) := by
  have hv : init (Shape.Idx.first hu) = (((0 : ℝ)) : EReal) := (congrArg init (ValueIdx.eq_ix0 _)).trans hi
  have ht := t.isLt
  show List.foldl _ (init (Shape.Idx.first hu)) (List.finRange (shape2 N 1).numel) = _
  rw [hv]
  refine (foldl_coe _ _ (fun n => if t.val + n.val < N then f (t.val + n.val) else 0) (fun r n => ?_) 0).trans ?_
  · refine congrArg (r + ·) ?_
    have h0 : ((shape2 N 1).rowMajor.symm n 0).val = n.val := by rw [symmC]; rfl
    have h1 : ((shape2 N 1).rowMajor.symm n 1).val = 0 := by rw [symmC]; rfl
    have hn : n.val < N := (n.cast (numelC _)).isLt
    have hj := j.isLt
    dsimp only
    split
    · next hin =>
      have a0 := hin 0
      change 0 ≤ t.val * 1 + ((shape2 N 1).rowMajor.symm n 0).val ∧ t.val * 1 + ((shape2 N 1).rowMajor.symm n 0).val - 0 < N at a0
      rw [h0] at a0
      rw [if_pos (by omega)]
      refine (congrArg x (funext fun a => Fin.ext ?_)).trans (hx ⟨t.val + n.val, by omega⟩)
      match a with
      | ⟨0, _⟩ =>
        show t.val * 1 + ((shape2 N 1).rowMajor.symm n 0).val - 0 = t.val + n.val
        rw [h0]; omega
      | ⟨1, _⟩ =>
        show j.val * 1 + ((shape2 N 1).rowMajor.symm n 1).val - 0 = j.val
        rw [h1]; omega
    · next hin =>
      rw [if_neg fun hle => hin fun a => by
        match a with
        | ⟨0, _⟩ =>
          show 0 ≤ t.val * 1 + ((shape2 N 1).rowMajor.symm n 0).val ∧ t.val * 1 + ((shape2 N 1).rowMajor.symm n 0).val - 0 < N
          rw [h0]
          omega
        | ⟨1, _⟩ =>
          show 0 ≤ j.val * 1 + ((shape2 N 1).rowMajor.symm n 1).val ∧ j.val * 1 + ((shape2 N 1).rowMajor.symm n 1).val - 0 < C
          rw [h1]
          omega]
  · rw [zero_add, sum_finRange N (fun w => if t.val + w < N then f (t.val + w) else 0)]
    congr 1
    rw [← Finset.sum_filter]
    refine Finset.sum_nbij' (fun w => t.val + w) (fun i => i - t.val) ?_ ?_ ?_ ?_ ?_ <;> intro w hw <;>
      simp only [Finset.mem_filter, Finset.mem_range, Finset.mem_Ico] at hw ⊢ <;> omega

end Gla

end
-- ==== Proof.RefA.lean ====
module

public import Idealize.ShloMosaic.Lib.Claim
public import Idealize.ShloMosaic.Lib.Tactic.CleanTypes
public import Idealize.ShloMosaic.Lib.Pointwise
public import Idealize.ShloMosaic.Lib.WordCmp
public import proofs.«01_k».proof.Proof.Gen.ReferenceIdeal.Run
public import proofs.«01_k».proof.Proof.Pt
public import proofs.«01_k».proof.Proof.Dz
public import proofs.«01_k».proof.Proof.Cumsum

/-! The forward part of the reference at real arguments: what each of its arrays holds at an index. -/

@[expose] public section

set_option maxRecDepth 16384

noncomputable section

namespace Gla

open Idealize.ShloMosaic Idealize.ShloMosaic.TcCoe
open Finset (range Ico)

/-- The soft plus of the negative gate argument. -/
def sp (z : ℝ) : ℝ := max (-z) 0 + Real.log (1 + Real.exp (-|(-z)|))

/-- The log decay. -/
def laR (L U : ℕ → ℕ → ℝ) (bb : ℕ → ℝ) (t j : ℕ) : ℝ := -sp (zv L U bb t j) / 16 * (if 240 ≤ t then 1 else 0)

/-- The score of row `s` for row `t` in head `h`. -/
def scr (a qk : ℕ → ℕ → ℝ) (h t s : ℕ) : ℝ :=
  ∑ x : Fin 128, qk t (128 * h + x) * scl * qk s (512 + 128 * h + x) * (if s ≤ t then ex (col a (128 * h + x)) t s else 0)

/-- The attention's output. -/
def oR (a qk v : ℕ → ℕ → ℝ) (t j : ℕ) : ℝ := ∑ s : Fin 8448, v s j * scr a qk (j / 256) t s

/-- The arrays of the problem, from its arguments. -/
def mkArr (X L U : ℕ → ℕ → ℝ) (bb G : ℕ → ℝ) (Y : ℕ → ℕ → ℝ) : Arr where
  a := laR L U bb
  qk := X
  v := fun t j => X t (1024 + j)
  o := oR (laR L U bb) X (fun t j => X t (1024 + j))
  y := Y
  r := fun t j => X t (2048 + j)
  g := G

theorem exp_neg_abs (z : ℝ) : (0 : ℝ) < 1 + Real.exp (-|z|) := by positivity

theorem log1p_pos {x : ℝ} (h : 0 < 1 + x) : Ideal.log1p ((x : ℝ) : EReal) = ((Real.log (1 + x) : ℝ) : EReal) := by
  unfold Ideal.log1p
  rw [one_coe, ← EReal.coe_add, Ideal.log_coe, if_neg (not_le.mpr h)]

theorem abs_coe (x : ℝ) : FloatOps.absf (F := Ideal) (φ := .f32) ((x : ℝ) : EReal) = ((|x| : ℝ) : EReal) := by
  show max ((x : ℝ) : EReal) (-((x : ℝ) : EReal)) = _
  rw [← EReal.coe_neg, ← EReal.coe_strictMono.monotone.map_max]; rfl

theorem max_coe (x y : ℝ) : max ((x : ℝ) : EReal) ((y : ℝ) : EReal) = ((max x y : ℝ) : EReal) :=
  (EReal.coe_strictMono.monotone.map_max).symm

theorem bit_coe (c : Prop) [Decidable c] : FloatOps.uitofp (F := Ideal) .f32 (BitVec.ofBool (decide c)) = (((if c then 1 else 0 : ℝ)) : EReal) := by
  show (((BitVec.ofBool (decide c)).toNat : ℝ) : EReal) = _
  by_cases h : c <;> simp [h]

theorem exp_sp (z : ℝ) : Real.exp (-z - sp z) = sg (-z) := by
  unfold sp sg
  have key : Real.exp (-z - (max (-z) 0 + Real.log (1 + Real.exp (-|(-z)|)))) = Real.exp (-z) / (Real.exp (max (-z) 0) * (1 + Real.exp (-|(-z)|))) := by
    rw [Real.exp_sub, Real.exp_add, Real.exp_log (exp_neg_abs _)]
  rw [key]
  have e : Real.exp (-z) * Real.exp z = 1 := by rw [← Real.exp_add]; simp
  have p1 := Real.exp_pos (-z)
  have p2 := Real.exp_pos z
  rcases le_total 0 z with hz | hz
  · rw [max_eq_right (by linarith), abs_neg, abs_of_nonneg hz, Real.exp_zero, neg_neg, one_mul]
    rw [div_eq_div_iff (by positivity) (by positivity)]
    linarith
  · rw [max_eq_left (by linarith), abs_neg, abs_of_nonpos hz, neg_neg, div_mul_eq_div_div, div_self (ne_of_gt p1)]
end Gla

namespace Gla.Ref

open Idealize.ShloMosaic Idealize.ShloMosaic.TcCoe Idealize.ShloMosaic.StableHlo Cert.ReferenceIdeal Cert.ReferenceIdeal.Gen Cert.ReferenceIdeal.Value
open Finset (range Ico)

variable (V0 : Valuation τ sig (Elt Ideal)) (X L U : ℕ → ℕ → ℝ) (bb G : ℕ → ℝ) (Y : ℕ → ℕ → ℝ)

/-- The arguments hold these reals. -/
structure In : Prop where
  p7 : ∀ (i : Fin 8448) (j : Fin 7168), (V0 (Proc.devRef .tc main_arg0) : Vec Ideal S8448x7168 .bf16) (ix2 i j) = ((X i j : ℝ) : EReal)
  alr : ∀ (i : Fin 8448) (j : Fin 128), (V0 (Proc.devRef .tc main_arg1) : Vec Ideal S8448x128 .f32) (ix2 i j) = ((L i j : ℝ) : EReal)
  wau : ∀ (i : Fin 128) (j : Fin 512), (V0 (Proc.devRef .tc main_arg2) : Vec Ideal S128x512 .f32) (ix2 i j) = ((U i j : ℝ) : EReal)
  ba : ∀ j : Fin 512, (V0 (Proc.devRef .tc main_arg3) : Vec Ideal S1x512 .f32) (ix2 0 j) = ((bb j : ℝ) : EReal)
  g : ∀ j : Fin 1024, (V0 (Proc.devRef .tc main_arg4) : Vec Ideal S1x1024 .f32) (ix2 0 j) = ((G j : ℝ) : EReal)
  dy : ∀ (i : Fin 8448) (j : Fin 1024), (V0 (Proc.devRef .tc main_arg5) : Vec Ideal S8448x1024 .bf16) (ix2 i j) = ((Y i j : ℝ) : EReal)

variable {V0 X L U bb G Y} (K : In V0 X L U bb G Y)

include K

theorem v7 (t : Fin 8448) (j : Fin 1024) : (res_main_v7 V0 : Vec Ideal S8448x1024 .f32) (ix2 t j) = ((X t (2048 + j) : ℝ) : EReal) := by
  unfold res_main_v7; clean_types; pointwise []
  exact K.p7 t _

theorem c0 (t : Fin 8448) (j : Fin 512) : (res_main_call0_v0 V0 : Vec Ideal S8448x512 .f32) (ix2 t j) = ((-zv L U bb t j : ℝ) : EReal) := by
  unfold res_main_call0_v0; clean_types; pointwise []
  simp only [K.alr, K.wau, K.ba, ← EReal.coe_mul, coe_sum, ← EReal.coe_add, ← EReal.coe_neg]
  rfl

theorem c3 (t : Fin 8448) (j : Fin 512) : (res_main_call0_call0_v3 V0 : Vec Ideal S8448x512 .f32) (ix2 t j) = ((-zv L U bb t j : ℝ) : EReal) := by
  unfold res_main_call0_call0_v3 res_main_call0_call0_cst; clean_types; pointwise []
  exact c0 K t j

theorem c1 (t : Fin 8448) (j : Fin 512) : (res_main_call0_v1_0 V0 : Vec Ideal S8448x512 .f32) (ix2 t j) = ((sp (zv L U bb t j) : ℝ) : EReal) := by
  unfold res_main_call0_v1_0 res_main_call0_call0_cst; clean_types; pointwise []
  simp only [c3 K, c0 K, ne_eq, not_true_eq_false, if_false]
  rw [abs_coe, ← EReal.coe_neg, Ideal.exp_coe, log1p_pos (exp_neg_abs _), zero_coe, max_coe, ← EReal.coe_add]
  rfl

omit K in
theorem v17 (t : Fin 8448) : (res_main_v17 V0 : Vec Ideal S8448x1 .f32) (ix2 t 0) = (((if 240 ≤ (t : ℕ) then 1 else 0 : ℝ)) : EReal) := by
  unfold res_main_v17; clean_types; pointwise []
  rw [WordCmp.cmpi_sge_ofNat (by have := t.isLt; omega) (by norm_num)]
  exact bit_coe _

theorem v24 (t : Fin 8448) (h : Fin 4) (z : Fin 256) :
    (res_main_v24 V0 : Vec Ideal S8448x4x256 .f32) (ix3 t h z) = ((X t (1024 + (256 * h + z)) : ℝ) : EReal) := by
  unfold res_main_v24; clean_types; pointwise []
  refine (K.p7 t _).trans ?_
  simp only [Nat.mul_comm 256]

theorem v25 (t : Fin 8448) (h : Fin 4) (x : Fin 128) :
    (res_main_v25 V0 : Vec Ideal S8448x1x4x128 .f32) (ix4 t 0 h x) = ((X t (128 * h + x) * scl : ℝ) : EReal) := by
  unfold res_main_v25; clean_types; pointwise []
  rw [K.p7 t, ofBits_scl, ← EReal.coe_mul]
  simp only [Nat.mul_comm 128]

theorem v26 (t : Fin 8448) (h : Fin 4) (x : Fin 128) :
    (res_main_v26 V0 : Vec Ideal S1x8448x4x128 .f32) (ix4 0 t h x) = ((X t (512 + 128 * h + x) : ℝ) : EReal) := by
  unfold res_main_v26; clean_types; pointwise []
  refine (K.p7 t _).trans ?_
  simp only [Nat.mul_comm 128, Nat.add_assoc]

theorem v29 (t s : Fin 8448) (h : Fin 4) (x : Fin 128) :
    (res_main_v29 V0 : Vec Ideal S8448x8448x4x128 .f32) (ix4 t s h x) = ((X t (128 * h + x) * scl * X s (512 + 128 * h + x) : ℝ) : EReal) := by
  unfold res_main_v29; clean_types; pointwise []
  rw [v25 K, v26 K, ← EReal.coe_mul]

theorem v31 (t : Fin 8448) (h : Fin 4) (x : Fin 128) :
    (res_main_v31 V0 : Vec Ideal S8448x4x128 .f32) (ix3 t h x) = ((P (col (laR L U bb) (128 * h + x)) (t + 1) : ℝ) : EReal) := by
  unfold res_main_v31; clean_types; pointwise []
  refine (cumsum_fwd (N := 8448) (M := 8447) (C := 512) rfl _ (fun i => laR L U bb i (128 * h + x)) _ (fun i => ?_) _ ?_ _ _ t).trans ?_
  · pointwise []
    rw [c1 K, v17, ofBits_16, ← EReal.coe_neg, div_coe' (by norm_num), ← EReal.coe_mul]
    simp only [laR, Nat.mul_comm 128]
  · pointwise []
  · rfl

omit K in
theorem v35 (t s : Fin 8448) : (res_main_v35 V0 : IVec S8448x8448x1x1 1) (ix4 t s 0 0) = if (s : ℕ) ≤ t then 1#1 else 0#1 := by
  unfold res_main_v35; clean_types; pointwise []
  rw [WordCmp.cmpi_sge_ofNat (by have := t.isLt; omega) (by have := s.isLt; omega)]
  by_cases h : (s : ℕ) ≤ t <;> simp [h]

omit K in
theorem v41_1 (t s : Fin 8448) (h : Fin 4) (x : Fin 128) :
    (res_main_v41_1 V0 : IVec S8448x8448x4x128 1) (ix4 t s h x) = if (s : ℕ) ≤ t then 1#1 else 0#1 := by
  unfold res_main_v41_1; clean_types; pointwise []
  exact v35 t s

omit K in
theorem v43_1 (t s : Fin 8448) (h : Fin 4) (x : Fin 128) :
    (res_main_v43_1 V0 : IVec S8448x8448x4x128 1) (ix4 t s h x) = if (s : ℕ) ≤ t then 1#1 else 0#1 := by
  unfold res_main_v43_1; clean_types; pointwise []
  exact v35 t s

omit K in
theorem z0 : (id (constant (F := Ideal) S_ .f32 0#32) : FVec Ideal S_ .f32) ix0 = (0 : EReal) := by
  show constant (F := Ideal) S_ .f32 0#32 ix0 = _
  pointwise []

theorem v42 (t s : Fin 8448) (h : Fin 4) (x : Fin 128) : (res_main_v42 V0 : Vec Ideal S8448x8448x4x128 .f32) (ix4 t s h x)
    = ((if (s : ℕ) ≤ t then ex (col (laR L U bb) (128 * h + x)) t s else 1 : ℝ) : EReal) := by
  unfold res_main_v42; clean_types; pointwise []
  rw [v41_1, v31 K, v31 K, z0, ← EReal.coe_sub]
  by_cases hc : (s : ℕ) ≤ t
  · rw [if_pos hc, if_pos hc]; rfl
  · rw [if_neg hc, if_neg hc]
    show Ideal.exp 0 = _
    rw [zero_coe, Ideal.exp_coe, Real.exp_zero]

theorem v43_0 (t s : Fin 8448) (h : Fin 4) (x : Fin 128) : (res_main_v43_0 V0 : Vec Ideal S8448x8448x4x128 .f32) (ix4 t s h x)
    = ((if (s : ℕ) ≤ t then ex (col (laR L U bb) (128 * h + x)) t s else 0 : ℝ) : EReal) := by
  unfold res_main_v43_0; clean_types; pointwise []
  rw [v43_1, v42 K, z0]
  by_cases hc : (s : ℕ) ≤ t
  · rw [if_pos hc, if_pos hc, if_pos hc]; rfl
  · rw [if_neg hc, if_neg hc, if_neg hc]; rfl

theorem v45 (t s : Fin 8448) (h : Fin 4) : (res_main_v45 V0 : Vec Ideal S8448x8448x4 .f32) (ix3 t s h)
    = ((scr (laR L U bb) X h t s : ℝ) : EReal) := by
  unfold res_main_v45; clean_types; pointwise []
  simp only [v29 K, v43_0 K, ← EReal.coe_mul, coe_sum]
  rfl

theorem v47 (t : Fin 8448) (h : Fin 4) (z : Fin 256) : (res_main_v47 V0 : Vec Ideal S8448x4x256 .f32) (ix3 t h z)
    = (((mkArr X L U bb G Y).oH h z t : ℝ) : EReal) := by
  unfold res_main_v47; clean_types; pointwise []
  simp only [v24 K, v45 K, ← EReal.coe_mul, coe_sum]
  simp only [Arr.oH, mkArr, oR, show (256 * (h : ℕ) + z) / 256 = h by have := z.isLt; omega]

end Gla.Ref

end
-- ==== Proof.RefB.lean ====
module

public import proofs.«01_k».proof.Proof.RefA

/-! The backward part of the reference at real arguments: what each of its arrays holds at an index. -/

@[expose] public section

set_option maxRecDepth 16384

noncomputable section

open Finset (range Ico mem_filter mem_range mem_Ico)

namespace Gla

theorem rr_sq (o : Fin 256 → ℝ) : (ms o)⁻¹ = rr o * rr o := by
  unfold rr
  rw [← mul_inv, Real.mul_self_sqrt (ms_pos o).le]

theorem dov_eq (o y r g : Fin 256 → ℝ) (x : Fin 256) :
    donv (y x) (r x) * g x * rr o + o x * ((∑ w, o w * (donv (y w) (r w) * g w)) * (-(1 / 2) * (rr o / ms o)) / 256)
      + (∑ w, o w * (donv (y w) (r w) * g w)) * (-(1 / 2) * (rr o / ms o)) / 256 * o x = dov o y r g x := by
  have h1 : ∑ w, donv (y w) (r w) * g w * nn o w = (∑ w, o w * (donv (y w) (r w) * g w)) * rr o := by
    rw [Finset.sum_mul]
    refine Finset.sum_congr rfl fun w _ => ?_
    unfold nn; ring
  unfold dov
  rw [h1, div_eq_mul_inv (rr o) (ms o), rr_sq]
  unfold nn; ring

theorem sum_le {N : ℕ} (f : ℕ → ℝ) (t : Fin N) :
    (∑ s : Fin N, if (s : ℕ) ≤ t then f s else 0) = ∑ s ∈ range (t + 1), f s := by
  rw [Fin.sum_univ_eq_sum_range (fun s => if s ≤ (t : ℕ) then f s else 0) N, ← Finset.sum_filter]
  refine Finset.sum_congr (Finset.ext fun s => ?_) fun _ _ => rfl
  have := t.isLt
  simp only [mem_filter, mem_range]
  omega

theorem sum_ge {N : ℕ} (f : ℕ → ℝ) (s : ℕ) :
    (∑ t : Fin N, if s ≤ (t : ℕ) then f t else 0) = ∑ t ∈ Ico s N, f t := by
  rw [Fin.sum_univ_eq_sum_range (fun t => if s ≤ t then f t else 0) N, ← Finset.sum_filter]
  refine Finset.sum_congr (Finset.ext fun t => ?_) fun _ _ => rfl
  simp only [mem_filter, mem_range, mem_Ico]
  omega

theorem db_eq {N : ℕ} (a q k : ℕ → ℝ) (D : ℕ → ℕ → ℝ) (i : Fin N) :
    -(∑ t : Fin N, if (i : ℕ) ≤ t then q t * k i * ex a t i * D t i else 0)
      + (∑ s : Fin N, if (s : ℕ) ≤ i then q i * k s * ex a i s * D i s else 0) = DB a q k D N i := by
  rw [sum_ge (fun t => q t * k i * ex a t i * D t i), sum_le (fun s => q i * k s * ex a i s * D i s)]
  unfold DB DQ DK
  rw [Finset.mul_sum, Finset.mul_sum, neg_add_eq_sub]
  refine congrArg₂ (· - ·) (Finset.sum_congr rfl fun _ _ => by ring) (Finset.sum_congr rfl fun _ _ => by ring)

end Gla

namespace Gla.Ref

open Idealize.ShloMosaic Idealize.ShloMosaic.TcCoe Idealize.ShloMosaic.StableHlo Cert.ReferenceIdeal Cert.ReferenceIdeal.Gen Cert.ReferenceIdeal.Value

variable {V0 : Valuation τ sig (Elt Ideal)} {X L U : ℕ → ℕ → ℝ} {bb G : ℕ → ℝ} {Y : ℕ → ℕ → ℝ} (K : In V0 X L U bb G Y)

include K

theorem v55 (t : Fin 8448) (h : Fin 4) : (res_main_v55 V0 : Vec Ideal S8448x4x1 .f32) (ix3 t h 0) = ((ms (fun z => (mkArr X L U bb G Y).oH h z t) : ℝ) : EReal) := by
  unfold res_main_v55; clean_types; pointwise []
  simp only [v47 K, ofBits_256, ofBits_eps, ← EReal.coe_mul, coe_sum]
  rw [div_coe' (by norm_num), ← EReal.coe_add]
  rfl

theorem v56 (t : Fin 8448) (h : Fin 4) : (res_main_v56 V0 : Vec Ideal S8448x4x1 .f32) (ix3 t h 0) = ((rr (fun z => (mkArr X L U bb G Y).oH h z t) : ℝ) : EReal) := by
  unfold res_main_v56; clean_types; pointwise []
  rw [v55 K]
  exact rsqrt_pos (ms_pos _)

theorem v61 (t : Fin 8448) (h : Fin 4) (z : Fin 256) :
    (res_main_v61 V0 : Vec Ideal S8448x4x256 .f32) (ix3 t h z) = ((nn (fun z => (mkArr X L U bb G Y).oH h z t) z : ℝ) : EReal) := by
  unfold res_main_v61; clean_types; pointwise []
  rw [v47 K, v56 K, ← EReal.coe_mul]
  rfl

theorem v62 (h : Fin 4) (z : Fin 256) : (res_main_v62 V0 : Vec Ideal S1x4x256 .f32) (ix3 0 h z) = (((mkArr X L U bb G Y).gH h z : ℝ) : EReal) := by
  unfold res_main_v62; clean_types; pointwise []
  refine (K.g _).trans ?_
  simp only [Arr.gH, mkArr, Nat.mul_comm 256]

theorem v65 (t : Fin 8448) (h : Fin 4) (z : Fin 256) (j : Fin 1024) (hj : (j : ℕ) = 256 * h + z) :
    (res_main_v65 V0 : Vec Ideal S8448x1024 .f32) (ix2 t j) = ((nn (fun z => (mkArr X L U bb G Y).oH h z t) z * (mkArr X L U bb G Y).gH h z : ℝ) : EReal) := by
  unfold res_main_v65; clean_types; pointwise []
  rw [show (⟨(j : ℕ) / 256, by omega⟩ : Fin 4) = h from Fin.ext (by show (j : ℕ) / 256 = h; omega),
    show (⟨(j : ℕ) % 256, by omega⟩ : Fin 256) = z from Fin.ext (by show (j : ℕ) % 256 = z; omega), v61 K, v62 K, ← EReal.coe_mul]

theorem v66_2 (t : Fin 8448) (j : Fin 1024) : (res_main_v66_2 V0 : Vec Ideal S8448x1024 .f32) (ix2 t j) = ((sg (X t (2048 + j)) : ℝ) : EReal) := by
  unfold res_main_v66_2; clean_types; pointwise []
  rw [v7 K, ← EReal.coe_neg, Ideal.exp_coe, one_coe, ← EReal.coe_add, div_coe' (sg_den _)]
  rfl

theorem v66_0 (t : Fin 8448) (j : Fin 1024) :
    (res_main_v66_0 V0 : Vec Ideal S8448x1024 .f32) (ix2 t j) = ((X t (2048 + j) * sg (X t (2048 + j)) : ℝ) : EReal) := by
  unfold res_main_v66_0; clean_types; pointwise []
  rw [v7 K, v66_2 K, ← EReal.coe_mul]

theorem v68 (t : Fin 8448) (j : Fin 1024) : (res_main_v68 V0 : Vec Ideal S8448x1024 .f32) (ix2 t j) = ((Y t j : ℝ) : EReal) := by
  unfold res_main_v68; clean_types; pointwise []
  exact K.dy t j

theorem v69 (t : Fin 8448) (h : Fin 4) (z : Fin 256) (j : Fin 1024) (hj : (j : ℕ) = 256 * h + z) :
    (res_main_v69 V0 : Vec Ideal S8448x1024 .f32) (ix2 t j) = ((nn (fun z => (mkArr X L U bb G Y).oH h z t) z * (mkArr X L U bb G Y).gH h z * Y t j : ℝ) : EReal) := by
  unfold res_main_v69; clean_types; pointwise []
  rw [v65 K t h z j hj, v68 K, ← EReal.coe_mul]

theorem v72 (t : Fin 8448) (h : Fin 4) (z : Fin 256) :
    (res_main_v72 V0 : Vec Ideal S8448x4x256 .f32) (ix3 t h z) = ((donv ((mkArr X L U bb G Y).yH h z t) ((mkArr X L U bb G Y).rH h z t) : ℝ) : EReal) := by
  unfold res_main_v72; clean_types; pointwise []
  rw [v68 K, v66_0 K, ← EReal.coe_mul]
  simp only [donv, Arr.yH, Arr.rH, mkArr, Nat.mul_comm 256]

theorem v77 (t : Fin 8448) (h : Fin 4) (z : Fin 256) :
    (res_main_v77 V0 : Vec Ideal S8448x4x256 .f32) (ix3 t h z) = ((donv ((mkArr X L U bb G Y).yH h z t) ((mkArr X L U bb G Y).rH h z t) * (mkArr X L U bb G Y).gH h z : ℝ) : EReal) := by
  unfold res_main_v77; clean_types; pointwise []
  rw [v72 K, v62 K, ← EReal.coe_mul]

theorem v88 (t : Fin 8448) (h : Fin 4) (z : Fin 256) : (res_main_v88 V0 : Vec Ideal S8448x4x256 .f32) (ix3 t h z)
    = (((∑ w, (mkArr X L U bb G Y).oH h w t * (donv ((mkArr X L U bb G Y).yH h w t) ((mkArr X L U bb G Y).rH h w t) * (mkArr X L U bb G Y).gH h w))
        * (-(1 / 2) * (rr (fun z => (mkArr X L U bb G Y).oH h z t) / ms (fun z => (mkArr X L U bb G Y).oH h z t))) / 256 : ℝ) : EReal) := by
  unfold res_main_v88; clean_types; pointwise []
  rw [Fin.sum_univ_one, v56 K, v55 K]
  simp only [v47 K, v77 K, ← EReal.coe_mul, coe_sum, ofBits_256, ofBits_neg_half, div_coe' (ms_pos _).ne', div_coe' (show (256 : ℝ) ≠ 0 by norm_num)]

theorem v94 (t : Fin 8448) (h : Fin 4) (z : Fin 256) :
    (res_main_v94 V0 : Vec Ideal S4x256x8448 .f32) (ix3 h z t) = (((mkArr X L U bb G Y).dH h z t : ℝ) : EReal) := by
  unfold res_main_v94; clean_types; pointwise []
  rw [v77 K, v56 K, v47 K, v88 K]
  simp only [← EReal.coe_mul, ← EReal.coe_add]
  congr 1
  exact dov_eq (fun z => (mkArr X L U bb G Y).oH h z t) (fun z => (mkArr X L U bb G Y).yH h z t) (fun z => (mkArr X L U bb G Y).rH h z t)
    ((mkArr X L U bb G Y).gH h) z

theorem v99 (t s : Fin 8448) (h : Fin 4) (x : Fin 128) :
    (res_main_v99 V0 : Vec Ideal S8448x8448x4x128 .f32) (ix4 t s h x) = ((Dt ((mkArr X L U bb G Y).dH h) ((mkArr X L U bb G Y).vH h) t s : ℝ) : EReal) := by
  unfold res_main_v99; clean_types; pointwise []
  simp only [v94 K, v24 K, ← EReal.coe_mul, coe_sum]
  rfl

theorem v101 (t s : Fin 8448) (h : Fin 4) (x : Fin 128) : (res_main_v101 V0 : Vec Ideal S8448x8448x4x128 .f32) (ix4 t s h x)
    = ((Dt ((mkArr X L U bb G Y).dH h) ((mkArr X L U bb G Y).vH h) t s * (if (s : ℕ) ≤ t then ex ((mkArr X L U bb G Y).aH h x) t s else 0) : ℝ) : EReal) := by
  unfold res_main_v101; clean_types; pointwise []
  rw [v99 K, v43_0 K, ← EReal.coe_mul]
  rfl

theorem v104 (t s : Fin 8448) (h : Fin 4) (x : Fin 128) : (res_main_v104 V0 : Vec Ideal S8448x8448x4x128 .f32) (ix4 t s h x)
    = ((if (s : ℕ) ≤ t then sq ((mkArr X L U bb G Y).qH h) x t * (mkArr X L U bb G Y).kH h x s * ex ((mkArr X L U bb G Y).aH h x) t s * Dt ((mkArr X L U bb G Y).dH h) ((mkArr X L U bb G Y).vH h) t s else 0 : ℝ) : EReal) := by
  unfold res_main_v104; clean_types; pointwise []
  rw [v41_1, v43_1, v29 K, v99 K, v42 K]
  by_cases hc : (s : ℕ) ≤ t
  · simp only [if_pos hc, ← EReal.coe_mul]
    refine congrArg (fun e : ℝ => (e : EReal)) ?_
    show X t (128 * h + x) * scl * X s (512 + 128 * h + x) * _ * _ = X t (128 * h + x) * scl * X s (512 + 128 * h + x) * _ * _
    exact mul_right_comm _ _ _
  · simp only [if_neg hc]
    rfl

omit K in
theorem rev (f : ℕ → ℝ) (j : Fin 512) (t : Fin 8448) (w : FVec Ideal S8448x512 .f32) (init : FVec Ideal S_ .f32)
    (h : S8448x512.ReduceWindows (![8448, 1] : Fin 2 → Nat) ![1, 1] ![0, 0] ![8447, 0] S8448x512) (hu : 0 < S_.numel)
    (hw : ∀ i : Fin 8448, w (ix2 i j) = ((f i : ℝ) : EReal)) (hi : init ix0 = (0 : EReal)) :
    Host.reduceWindowAdd ![8448, 1] ![1, 1] ![0, 0] ![8447, 0] w init h hu (ix2 t j) = ((∑ i ∈ Ico (t : ℕ) 8448, f i : ℝ) : EReal) :=
  cumsum_rev (N := 8448) (M := 8447) (C := 512) rfl w f j hw init hi h hu t

theorem v134 (t : Fin 8448) (h : Fin 4) (x : Fin 128) (j : Fin 512) (hj : (j : ℕ) = 128 * h + x) :
    (res_main_v134 V0 : Vec Ideal S8448x512 .f32) (ix2 t j) = ((dzv ((mkArr X L U bb G Y).dla h 8448 x t) (zv L U bb t j) t : ℝ) : EReal) := by
  unfold res_main_v134; clean_types; pointwise []
  rw [rev (fun u => DB ((mkArr X L U bb G Y).aH h x) (sq ((mkArr X L U bb G Y).qH h) x) ((mkArr X L U bb G Y).kH h x)
      (Dt ((mkArr X L U bb G Y).dH h) ((mkArr X L U bb G Y).vH h)) 8448 u) j t]
  · rw [c0 K, c1 K, v17, ofBits_inf, ofBits_16, if_neg (EReal.coe_ne_top _), if_neg (EReal.coe_ne_top _)]
    simp only [← EReal.coe_mul, div_coe' (show (16 : ℝ) ≠ 0 by norm_num), ← EReal.coe_neg, ← EReal.coe_sub, Ideal.exp_coe, exp_sp]
    refine congrArg (fun e : ℝ => (e : EReal)) ?_
    show -(-(DLA _ _ _ _ 8448 (t : ℕ) * _ / 16) * _) = DLA _ _ _ _ 8448 (t : ℕ) * (1 / 16) * _ * _
    ring
  · intro i
    pointwise []
    rw [show (⟨(j : ℕ) / 128, by omega⟩ : Fin 4) = h from Fin.ext (by show (j : ℕ) / 128 = h; omega),
      show (⟨(j : ℕ) % 128, by omega⟩ : Fin 128) = x from Fin.ext (by show (j : ℕ) % 128 = x; omega)]
    simp only [Fin.sum_univ_one, v104 K, ← EReal.coe_neg, coe_sum, ← EReal.coe_add, Finset.sum_neg_distrib]
    exact congrArg (fun e : ℝ => (e : EReal)) (db_eq _ _ _ _ i)
  · pointwise []

end Gla.Ref

end
-- ==== Proof.RefC.lean ====
module

public import proofs.«01_k».proof.Proof.RefB
public import proofs.«01_k».proof.Proof.Grid

/-! The results of the reference at real arguments. -/

@[expose] public section

set_option maxRecDepth 16384

noncomputable section

namespace Gla.Ref

open Idealize.ShloMosaic Idealize.ShloMosaic.TcCoe Idealize.ShloMosaic.StableHlo Cert.ReferenceIdeal Cert.ReferenceIdeal.Gen Cert.ReferenceIdeal.Value
open Finset (range Ico)

theorem cat5 (a b : Vec Ideal S8448x512 .f32) (c d e : Vec Ideal S8448x1024 .f32) (f : ℕ → ℕ → ℝ)
    (ha : ∀ (t : Fin 8448) (j : Fin 512), a (ix2 t j) = ((f t j : ℝ) : EReal))
    (hb : ∀ (t : Fin 8448) (j : Fin 512), b (ix2 t j) = ((f t (512 + j) : ℝ) : EReal))
    (hc : ∀ (t : Fin 8448) (j : Fin 1024), c (ix2 t j) = ((f t (1024 + j) : ℝ) : EReal))
    (hd : ∀ (t : Fin 8448) (j : Fin 1024), d (ix2 t j) = ((f t (2048 + j) : ℝ) : EReal))
    (he : ∀ (t : Fin 8448) (j : Fin 1024), e (ix2 t j) = ((f t (3072 + j) : ℝ) : EReal))
    (h : Shape.Concatenates [S8448x512, S8448x512, S8448x1024, S8448x1024, S8448x1024] S8448x4096 1) (t : Fin 8448) (j : Fin 4096) :
    concatenate S8448x4096 1 [⟨S8448x512, a⟩, ⟨S8448x512, b⟩, ⟨S8448x1024, c⟩, ⟨S8448x1024, d⟩, ⟨S8448x1024, e⟩] h (ix2 t j) = ((f t j : ℝ) : EReal) := by
  pointwise []
  by_cases h0 : (j : ℕ) < 512
  · rw [dif_pos h0, ha]
  rw [dif_neg h0]
  by_cases h1 : (j : ℕ) - 512 < 512
  · rw [dif_pos h1, hb]
    show ((f t (512 + ((j : ℕ) - 512)) : ℝ) : EReal) = _
    rw [show 512 + ((j : ℕ) - 512) = j by omega]
  rw [dif_neg h1]
  by_cases h2 : (j : ℕ) - 512 - 512 < 1024
  · rw [dif_pos h2, hc]
    show ((f t (1024 + ((j : ℕ) - 512 - 512)) : ℝ) : EReal) = _
    rw [show 1024 + ((j : ℕ) - 512 - 512) = j by omega]
  rw [dif_neg h2]
  by_cases h3 : (j : ℕ) - 512 - 512 - 1024 < 1024
  · rw [dif_pos h3, hd]
    show ((f t (2048 + ((j : ℕ) - 512 - 512 - 1024)) : ℝ) : EReal) = _
    rw [show 2048 + ((j : ℕ) - 512 - 512 - 1024) = j by omega]
  rw [dif_neg h3]
  rw [he]
  show ((f t (3072 + ((j : ℕ) - 512 - 512 - 1024 - 1024)) : ℝ) : EReal) = _
  rw [show 3072 + ((j : ℕ) - 512 - 512 - 1024 - 1024) = j by omega]

theorem tr16 (x : Vec Ideal S8448x4096 .f32) (h : FTy.bf16.bits < FTy.f32.bits) (i : S8448x4096.Idx) :
    @Eq EReal ((truncf .bf16 (x : FVec Ideal S8448x4096 .f32) h : FVec Ideal S8448x4096 .bf16) i) (x i) := rfl

theorem cat2 (a b : Vec Ideal S8448x4096 .bf16) (h : Shape.Concatenates [S8448x4096, S8448x4096] S8448x8192 1) (t : Fin 8448) (j : Fin 8192) :
    concatenate S8448x8192 1 [⟨S8448x4096, a⟩, ⟨S8448x4096, b⟩] h (ix2 t j)
      = if hj : 4096 ≤ (j : ℕ) then b (ix2 t ⟨(j : ℕ) - 4096, by omega⟩) else a (ix2 t ⟨j, by omega⟩) := by
  pointwise []
  by_cases hj : 4096 ≤ (j : ℕ)
  · rw [dif_pos hj, dif_neg (by omega)]
  · rw [dif_neg hj, dif_pos (by omega)]

theorem split128 (j : Fin 512) : ∃ (h : Fin 4) (x : Fin 128), (j : ℕ) = 128 * h + x :=
  ⟨⟨(j : ℕ) / 128, by omega⟩, ⟨(j : ℕ) % 128, Nat.mod_lt _ (by decide)⟩, by show (j : ℕ) = 128 * ((j : ℕ) / 128) + (j : ℕ) % 128; omega⟩

theorem split256 (j : Fin 1024) : ∃ (h : Fin 4) (x : Fin 256), (j : ℕ) = 256 * h + x :=
  ⟨⟨(j : ℕ) / 256, by omega⟩, ⟨(j : ℕ) % 256, Nat.mod_lt _ (by decide)⟩, by show (j : ℕ) = 256 * ((j : ℕ) / 256) + (j : ℕ) % 256; omega⟩

variable {V0 : Valuation τ sig (Elt Ideal)} {X L U : ℕ → ℕ → ℝ} {bb G : ℕ → ℝ} {Y : ℕ → ℕ → ℝ} (K : In V0 X L U bb G Y)

include K

theorem dz (t : Fin 8448) (j : Fin 512) :
    (res_main_v134 V0 : Vec Ideal S8448x512 .f32) (ix2 t j) = ((dzA (mkArr X L U bb G Y) L U bb t j : ℝ) : EReal) := by
  obtain ⟨h, x, e⟩ := split128 j
  rw [v134 K t h x j e]
  refine congrArg (fun d : ℝ => ((dzv d (zv L U bb t j) t : ℝ) : EReal)) ?_
  rw [e]
  exact (dlav_h _ _ _ h x).symm

theorem r142 : (val3 V0 (Proc.devRef .tc main_v142) : Vec Ideal S8448x512 .bf16)
    = fun i => ((dzA (mkArr X L U bb G Y) L U bb (i 0) (i 1) : ℝ) : EReal) := by
  refine (val3_main_v142 V0).trans (funext fun i => ?_)
  obtain ⟨t, j, rfl⟩ : ∃ (t : Fin 8448) (j : Fin 512), i = ix2 t j := ⟨i 0, i 1, ValueIdx.eq_ix2 i⟩
  exact dz K t j

theorem r136 : (val3 V0 (Proc.devRef .tc main_v136) : Vec Ideal S1x512 .f32)
    = fun i => ((∑ t ∈ Ico 0 8448, dzA (mkArr X L U bb G Y) L U bb t (i 1) : ℝ) : EReal) := by
  refine (val3_main_v136 V0).trans (funext fun i => ?_)
  obtain ⟨t, j, rfl⟩ : ∃ (t : Fin 1) (j : Fin 512), i = ix2 t j := ⟨i 0, i 1, ValueIdx.eq_ix2 i⟩
  clean_types
  pointwise []
  simp only [dz K, coe_sum]
  refine congrArg (fun e : ℝ => (e : EReal)) ?_
  rw [Finset.sum_range (fun t => dzA (mkArr X L U bb G Y) L U bb t j) |>.symm, Finset.range_eq_Ico]

theorem r93 : (val3 V0 (Proc.devRef .tc main_v93) : Vec Ideal S1x1024 .f32)
    = fun i => ((dgv (mkArr X L U bb G Y) 8448 0 (i 1) : ℝ) : EReal) := by
  refine (val3_main_v93 V0).trans (funext fun i => ?_)
  obtain ⟨t, j, rfl⟩ : ∃ (t : Fin 1) (j : Fin 1024), i = ix2 t j := ⟨i 0, i 1, ValueIdx.eq_ix2 i⟩
  clean_types
  pointwise []
  simp only [v61 K, v72 K, ← EReal.coe_mul, coe_sum, Fin.sum_univ_one]
  refine congrArg (fun e : ℝ => (e : EReal)) ?_
  unfold dgv
  rw [← Finset.range_eq_Ico, Finset.sum_range]
  exact Finset.sum_congr rfl fun t _ => mul_comm _ _

theorem pq (t : Fin 8448) (j : Fin 512) :
    (shapeCast S8448x512 (mulf (Host.reduceAdd (shapeCast S8448x1x4x128 (Host.reduceAdd (mulf (res_main_v101 V0) (broadcastInDim S8448x8448x4x128 ![0, 1, 2, 3] bcast_S1x8448x4x128_S8448x8448x4x128_0_1_2_3 (res_main_v26 V0))) (constant S_ .f32 0x00000000#32) reducesTo_S8448x8448x4x128_S8448x4x128_d1 h_S_) shapeCasts_S8448x4x128_S8448x1x4x128) (constant S_ .f32 0x00000000#32) reducesTo_S8448x1x4x128_S8448x4x128_d1 h_S_) (broadcastInDim S8448x4x128 ![] bcast_S_S8448x4x128 (constant S_ .f32 0x3DB504F3#32))) shapeCasts_S8448x4x128_S8448x512 : Vec Ideal S8448x512 .f32) (ix2 t j)
      = ((dpv (mkArr X L U bb G Y) 8448 t j : ℝ) : EReal) := by
  obtain ⟨h, x, e⟩ := split128 j
  pointwise []
  simp only [show (j : ℕ) / 128 = h by omega, show (j : ℕ) % 128 = x by omega, Fin.eta]
  simp only [Fin.sum_univ_one, v101 K, v26 K, ← EReal.coe_mul, coe_sum, ofBits_scl]
  refine congrArg (fun e : ℝ => (e : EReal)) ?_
  rw [e, dpv_q]
  refine congrArg (· * scl) ?_
  refine Eq.trans ?_ (sum_le (N := 8448) (fun s => X s (512 + 128 * h + x) * ex ((mkArr X L U bb G Y).aH h x) t s * Dt ((mkArr X L U bb G Y).dH h) ((mkArr X L U bb G Y).vH h) t s) t)
  refine Finset.sum_congr rfl fun s _ => ?_
  split_ifs
  · ring
  · ring

theorem pk (t : Fin 8448) (j : Fin 512) :
    (shapeCast S8448x512 (Host.reduceAdd (shapeCast S1x8448x4x128 (Host.reduceAdd (mulf (broadcastInDim S8448x8448x4x128 ![0, 1, 2, 3] bcast_S8448x1x4x128_S8448x8448x4x128_0_1_2_3 (res_main_v25 V0)) (res_main_v101 V0)) (constant S_ .f32 0x00000000#32) reducesTo_S8448x8448x4x128_S8448x4x128_d0 h_S_) shapeCasts_S8448x4x128_S1x8448x4x128) (constant S_ .f32 0x00000000#32) reducesTo_S1x8448x4x128_S8448x4x128_d0 h_S_) shapeCasts_S8448x4x128_S8448x512 : Vec Ideal S8448x512 .f32) (ix2 t j)
      = ((dpv (mkArr X L U bb G Y) 8448 t (512 + j) : ℝ) : EReal) := by
  obtain ⟨h, x, e⟩ := split128 j
  pointwise []
  simp only [show (j : ℕ) / 128 = h by omega, show (j : ℕ) % 128 = x by omega, Fin.eta]
  simp only [Fin.sum_univ_one, v101 K, v25 K, ← EReal.coe_mul, coe_sum]
  refine congrArg (fun e : ℝ => (e : EReal)) ?_
  rw [e, ← Nat.add_assoc, dpv_k]
  refine Eq.trans ?_ (sum_ge (N := 8448) (fun s => X s (128 * h + x) * scl * ex ((mkArr X L U bb G Y).aH h x) s t * Dt ((mkArr X L U bb G Y).dH h) ((mkArr X L U bb G Y).vH h) s t) t)
  refine Finset.sum_congr rfl fun s _ => ?_
  split_ifs
  · ring
  · ring

theorem pv (t : Fin 8448) (j : Fin 1024) :
    (shapeCast S8448x1024 (transpose S8448x4x256 [2, 0, 1] (Host.dotGeneral dot_S4x256x8448_S8448x8448x4_S4x256x8448_2_0_1_1_0_2 none (φ₁ := .f32) (φ₂ := .f32) (res_main_v94 V0) (res_main_v45 V0)) transposes_S4x256x8448_S8448x4x256_2_0_1) shapeCasts_S8448x4x256_S8448x1024 : Vec Ideal S8448x1024 .f32) (ix2 t j)
      = ((dpv (mkArr X L U bb G Y) 8448 t (1024 + j) : ℝ) : EReal) := by
  obtain ⟨h, x, e⟩ := split256 j
  pointwise []
  simp only [show (j : ℕ) / 256 = h by omega, show (j : ℕ) % 256 = x by omega, Fin.eta]
  simp only [v94 K, v45 K, ← EReal.coe_mul, coe_sum]
  refine congrArg (fun e : ℝ => (e : EReal)) ?_
  rw [e, ← Nat.add_assoc, dpv_v]
  refine Eq.trans ?_ (sum_ge (N := 8448) (fun s => (∑ y : Fin 128, X s (128 * h + y) * scl * X t (512 + 128 * h + y) * ex ((mkArr X L U bb G Y).aH h y) s t) * (mkArr X L U bb G Y).dH h x s) t)
  refine Finset.sum_congr rfl fun s _ => ?_
  unfold scr
  split_ifs
  · exact mul_comm _ _
  · simp only [mul_zero, Finset.sum_const_zero]

theorem pr (t : Fin 8448) (j : Fin 1024) :
    (addf (mulf (res_main_v69 V0) (res_main_v66_2 V0)) (mulf (mulf (res_main_v7 V0) (res_main_v69 V0)) (mulf (res_main_v66_2 V0) (subf (broadcastInDim S8448x1024 ![] bcast_S_S8448x1024 (constant S_ .f32 0x3F800000#32)) (res_main_v66_2 V0)))) : Vec Ideal S8448x1024 .f32) (ix2 t j)
      = ((dpv (mkArr X L U bb G Y) 8448 t (2048 + j) : ℝ) : EReal) := by
  obtain ⟨h, x, e⟩ := split256 j
  pointwise []
  simp only [v69 K t h x j e, v66_2 K, v7 K, one_coe, ← EReal.coe_sub, ← EReal.coe_mul, ← EReal.coe_add]
  refine congrArg (fun e : ℝ => (e : EReal)) ?_
  rw [e, ← Nat.add_assoc, dpv_r]
  show _ = Y t (256 * h + x) * nn (fun z => (mkArr X L U bb G Y).oH h z t) x * (mkArr X L U bb G Y).gH h x
    * (sg (X t (2048 + (256 * h + x))) * (1 + X t (2048 + (256 * h + x)) * (1 - sg (X t (2048 + (256 * h + x))))))
  rw [Nat.add_assoc]
  ring

omit K in
theorem p0 (t : Fin 8448) (j : Fin 1024) :
    (broadcastInDim S8448x1024 ![] bcast_S_S8448x1024 (constant (F := Ideal) S_ .f32 0x00000000#32) : Vec Ideal S8448x1024 .f32) (ix2 t j)
      = ((dpv (mkArr X L U bb G Y) 8448 t (3072 + j) : ℝ) : EReal) := by
  pointwise []
  rw [dpv_0]
  rfl

theorem r141 : (val3 V0 (Proc.devRef .tc main_v141) : Vec Ideal S8448x8192 .bf16)
    = fun i => if 4096 ≤ (i 1 : ℕ) then ((dpv (mkArr X L U bb G Y) 8448 (i 0) ((i 1 : ℕ) - 4096) : ℝ) : EReal)
        else (V0 (Proc.devRef .tc main_arg6) : Vec Ideal S8448x8192 .bf16) i := by
  refine (val3_main_v141 V0).trans (funext fun i => ?_)
  obtain ⟨t, j, rfl⟩ : ∃ (t : Fin 8448) (j : Fin 8192), i = ix2 t j := ⟨i 0, i 1, ValueIdx.eq_ix2 i⟩
  refine (cat2 _ _ _ t j).trans ?_
  by_cases hj : 4096 ≤ (j : ℕ)
  · refine (dif_pos hj).trans (Eq.trans ?_ (if_pos hj).symm)
    refine (tr16 _ _ _).trans ?_
    refine cat5 _ _ _ _ _ (fun t j => dpv (mkArr X L U bb G Y) 8448 t j) ?_ ?_ ?_ ?_ ?_ _ t _
    · exact pq K
    · exact pk K
    · exact pv K
    · exact pr K
    · exact p0
  · refine (dif_neg hj).trans (Eq.trans ?_ (if_neg hj).symm)
    pointwise []

end Gla.Ref

end
-- ==== Proof.Host.lean ====
module

public import Idealize.ShloMosaic.Lib.Claim
public import Idealize.ShloMosaic.Lib.StableHlo.ReadAt
public import Idealize.ShloMosaic.Lib.Tactic.CleanTypes
public import Idealize.ShloMosaic.Lib.Pointwise
public import Idealize.ShloMosaic.Lib.WordCmp
public import proofs.«01_k».proof.Proof.Gen.KernelIdeal.Value
public import proofs.«01_k».proof.Proof.RefA
public import proofs.«01_k».proof.Proof.Grid

/-! What the host lines of the kernel's program compute, at real arguments: the log decays, the attention's output and the states. -/

@[expose] public section

set_option maxRecDepth 16384

noncomputable section

namespace Gla.Host

open Idealize.ShloMosaic Idealize.ShloMosaic.TcCoe Idealize.ShloMosaic.StableHlo Cert.KernelIdeal Cert.KernelIdeal.Gen
open Finset (range Ico)

/-- The lines up to the log decays. -/
abbrev la : List (HloOp τ sig (Elt Ideal)) := hostOps0 ++ (hostOps0_1 ++ hostOps0_2)
/-- The lines up to the attention's output. -/
abbrev lb : List (HloOp τ sig (Elt Ideal)) := hostOps0_3 ++ (hostOps0_4 ++ (hostOps0_5 ++ (hostOps0_6 ++ (hostOps0_7 ++ hostOps0_8))))
/-- The lines up to the states. -/
abbrev lc : List (HloOp τ sig (Elt Ideal)) := hostOps0_9 ++ (hostOps0_10 ++ (hostOps0_11 ++ (hostOps0_12 ++ (hostOps0_13 ++ hostOps0_14))))

theorem after_app (l₁ l₂ : List (HloOp τ sig (Elt Ideal))) (W : Valuation τ sig (Elt Ideal)) : after (l₁ ++ l₂) W = after l₂ (after l₁ W) := by
  induction l₁ generalizing W with
  | nil => rfl
  | cons o l ih => simp only [List.cons_append, after_cons, ih]

theorem V_eq (m : (ℓ : Loc nD τ sig) → Buf (Elt Ideal) ℓ) (c : Dev nD) (b : Ref sig .tc) :
    V m c b = after lc (after lb (after la (fun b => m (c, b)))) (Proc.devRef .tc b) := by
  rw [← after_app, ← after_app]
  show after (List.flatten _) _ _ = _
  rfl

variable {W : Valuation τ sig (Elt Ideal)} {X L U : ℕ → ℕ → ℝ} {bb G : ℕ → ℝ}

theorem a3 (t : Fin 8448) (j : Fin 512) : (after la W (Proc.devRef .tc main_v3) : Vec Ideal S8448x512 .f32) (ix2 t j)
    = (W (Proc.devRef .tc main_arg0) : Vec Ideal S8448x7168 .bf16) (ix2 t ⟨512 + j, by omega⟩) := by
  after_reads_at

theorem a5 (t : Fin 8448) (j : Fin 1024) : (after la W (Proc.devRef .tc main_v5) : Vec Ideal S8448x1024 .f32) (ix2 t j)
    = (W (Proc.devRef .tc main_arg0) : Vec Ideal S8448x7168 .bf16) (ix2 t ⟨1024 + j, by omega⟩) := by
  after_reads_at

theorem a22 (t : Fin 8448) (h : Fin 4) (z : Fin 256) (p7 : ∀ (i : Fin 8448) (j : Fin 7168), (W (Proc.devRef .tc main_arg0) : Vec Ideal S8448x7168 .bf16) (ix2 i j) = ((X i j : ℝ) : EReal)) :
    (after la W (Proc.devRef .tc main_v22) : Vec Ideal S8448x4x256 .f32) (ix3 t h z)
    = ((X t (1024 + (256 * h + z)) : ℝ) : EReal) := by
  after_reads_at
  refine (p7 t _).trans ?_
  simp only [Nat.mul_comm 256]

theorem a27 (t s : Fin 8448) (h : Fin 4) (x : Fin 128) (p7 : ∀ (i : Fin 8448) (j : Fin 7168), (W (Proc.devRef .tc main_arg0) : Vec Ideal S8448x7168 .bf16) (ix2 i j) = ((X i j : ℝ) : EReal)) :
    (after la W (Proc.devRef .tc main_v27) : Vec Ideal S8448x8448x4x128 .f32) (ix4 t s h x)
    = ((X t (128 * h + x) * scl * X s (512 + 128 * h + x) : ℝ) : EReal) := by
  after_reads_at
  rw [p7 t, p7 s, ofBits_scl, ← EReal.coe_mul, ← EReal.coe_mul]
  simp only [Nat.mul_comm 128, Nat.add_assoc]

theorem a17 (alr : ∀ (i : Fin 8448) (j : Fin 128), (W (Proc.devRef .tc main_arg1) : Vec Ideal S8448x128 .f32) (ix2 i j) = ((L i j : ℝ) : EReal))
    (wau : ∀ (i : Fin 128) (j : Fin 512), (W (Proc.devRef .tc main_arg2) : Vec Ideal S128x512 .f32) (ix2 i j) = ((U i j : ℝ) : EReal))
    (ba : ∀ j : Fin 512, (W (Proc.devRef .tc main_arg3) : Vec Ideal S1x512 .f32) (ix2 0 j) = ((bb j : ℝ) : EReal))
    (t : Fin 8448) (j : Fin 512) : (after la W (Proc.devRef .tc main_v17) : Vec Ideal S8448x512 .f32) (ix2 t j) = ((laR L U bb t j : ℝ) : EReal) := by
  after_reads_at
  simp only [alr, wau, ba, ← EReal.coe_mul, coe_sum, ← EReal.coe_add, ← EReal.coe_neg, ne_eq, not_true_eq_false, if_false]
  rw [WordCmp.cmpi_sge_ofNat (by have := t.isLt; omega) (by norm_num)]
  rw [abs_coe, ← EReal.coe_neg, Ideal.exp_coe, log1p_pos (exp_neg_abs _), zero_coe, max_coe, ← EReal.coe_add, ofBits_16, ← EReal.coe_neg,
    div_coe' (by norm_num), bit_coe, ← EReal.coe_mul]
  rfl

theorem sum_lt {N : ℕ} (f : ℕ → ℝ) (n : ℕ) (hn : n ≤ N) :
    (∑ s : Fin N, if (s : ℕ) < n then f s else 0) = ∑ s ∈ range n, f s := by
  rw [Fin.sum_univ_eq_sum_range (fun s => if s < n then f s else 0) N, ← Finset.sum_filter]
  refine Finset.sum_congr (Finset.ext fun s => ?_) fun _ _ => rfl
  simp only [Finset.mem_filter, Finset.mem_range]
  omega

theorem fwd (f : ℕ → ℝ) (j : Fin 512) (t : Fin 8448) (w : FVec Ideal S8448x512 .f32) (init : FVec Ideal S_ .f32)
    (h : S8448x512.ReduceWindows (![8448, 1] : Fin 2 → Nat) ![1, 1] ![8447, 0] ![0, 0] S8448x512) (hu : 0 < S_.numel)
    (hw : ∀ i : Fin 8448, w (ix2 i j) = ((f i : ℝ) : EReal)) (hi : init ix0 = (0 : EReal)) :
    Host.reduceWindowAdd ![8448, 1] ![1, 1] ![8447, 0] ![0, 0] w init h hu (ix2 t j) = ((P f (t + 1) : ℝ) : EReal) :=
  cumsum_fwd (N := 8448) (M := 8447) (C := 512) rfl w f j hw init hi h hu t

theorem i0 : (broadcastInDim S_ ![] bcast_S_S_ (constant (F := Ideal) S_ .f32 0#32) : FVec Ideal S_ .f32) ix0 = (0 : EReal) := by
  pointwise []

theorem z0 : (id (constant (F := Ideal) S_ .f32 0#32) : FVec Ideal S_ .f32) ix0 = (0 : EReal) := by
  show constant (F := Ideal) S_ .f32 0#32 ix0 = _
  pointwise []

theorem sel_exp (d : Prop) [Decidable d] (a b : ℝ) (z : EReal) (hz : z = 0) :
    Scalar.select (BitVec.ofBool (decide d)) (Ideal.exp (Scalar.select (BitVec.ofBool (decide d)) ((a : EReal) - b) z)) z
      = ((if d then Real.exp (a - b) else 0 : ℝ) : EReal) := by
  by_cases h : d
  · rw [if_pos h, decide_eq_true h, ← EReal.coe_sub]
    rfl
  · rw [if_neg h, decide_eq_false h]
    exact hz

theorem b46 (h17 : ∀ (t : Fin 8448) (j : Fin 512), (W (Proc.devRef .tc main_v17) : Vec Ideal S8448x512 .f32) (ix2 t j) = ((laR L U bb t j : ℝ) : EReal))
    (h22 : ∀ (t : Fin 8448) (h : Fin 4) (z : Fin 256), (W (Proc.devRef .tc main_v22) : Vec Ideal S8448x4x256 .f32) (ix3 t h z) = ((X t (1024 + (256 * h + z)) : ℝ) : EReal))
    (h27 : ∀ (t s : Fin 8448) (h : Fin 4) (x : Fin 128), (W (Proc.devRef .tc main_v27) : Vec Ideal S8448x8448x4x128 .f32) (ix4 t s h x) = ((X t (128 * h + x) * scl * X s (512 + 128 * h + x) : ℝ) : EReal))
    (t : Fin 8448) (j : Fin 1024) : (after lb W (Proc.devRef .tc main_v46) : Vec Ideal S8448x1024 .f32) (ix2 t j)
      = ((oR (laR L U bb) X (fun t j => X t (1024 + j)) t j : ℝ) : EReal) := by
  after_reads_at
  have E : ∀ (s : Fin 8448) (i : Fin 512), Scalar.select (IntOp.cmpi CmpIPredicate.sge (BitVec.ofNat 32 t) (BitVec.ofNat 32 s))
      (Ideal.exp (Scalar.select (IntOp.cmpi CmpIPredicate.sge (BitVec.ofNat 32 t) (BitVec.ofNat 32 s))
        (Host.reduceWindowAdd (F := Ideal) (φ := .f32) ![8448, 1] ![1, 1] ![8447, 0] ![0, 0] (W (Proc.devRef .tc main_v17))
            (broadcastInDim S_ ![] bcast_S_S_ (constant S_ .f32 0#32)) reduceWindows_S8448x512_S8448x512_w8448s1p8447_0_w1s1p0_0 h_S_ (ix2 t i)
          - Host.reduceWindowAdd (F := Ideal) (φ := .f32) ![8448, 1] ![1, 1] ![8447, 0] ![0, 0] (W (Proc.devRef .tc main_v17))
            (broadcastInDim S_ ![] bcast_S_S_ (constant S_ .f32 0#32)) reduceWindows_S8448x512_S8448x512_w8448s1p8447_0_w1s1p0_0 h_S_ (ix2 s i))
        (id (constant (F := Ideal) S_ .f32 0#32) ix0))) (id (constant (F := Ideal) S_ .f32 0#32) ix0)
      = ((if (s : ℕ) ≤ t then ex (col (laR L U bb) i) t s else 0 : ℝ) : EReal) := by
    intro s i
    rw [fwd (col (laR L U bb) i) i t _ _ _ _ (fun u => h17 u i) i0, fwd (col (laR L U bb) i) i s _ _ _ _ (fun u => h17 u i) i0,
      WordCmp.cmpi_sge_ofNat (by have := t.isLt; omega) (by have := s.isLt; omega)]
    exact sel_exp _ _ _ _ z0
  simp only [h22, h27, E, ← EReal.coe_mul, coe_sum]
  refine congrArg (fun e : ℝ => (e : EReal)) ?_
  simp only [Nat.div_add_mod, Nat.mul_comm ((j : ℕ) / 256) 128]
  rfl

theorem b_keep : (after lb W (Proc.devRef .tc main_v17) = W (Proc.devRef .tc main_v17)) ∧ (after lb W (Proc.devRef .tc main_v3) = W (Proc.devRef .tc main_v3))
    ∧ (after lb W (Proc.devRef .tc main_v5) = W (Proc.devRef .tc main_v5)) := by
  refine ⟨?_, ?_, ?_⟩ <;> after_reads_simp

theorem c_keep : (after lc W (Proc.devRef .tc main_v17) = W (Proc.devRef .tc main_v17)) ∧ (after lc W (Proc.devRef .tc main_v46) = W (Proc.devRef .tc main_v46)) := by
  refine ⟨?_, ?_⟩ <;> after_reads_simp

theorem c72 (h17 : ∀ (t : Fin 8448) (j : Fin 512), (W (Proc.devRef .tc main_v17) : Vec Ideal S8448x512 .f32) (ix2 t j) = ((laR L U bb t j : ℝ) : EReal))
    (h3 : ∀ (t : Fin 8448) (j : Fin 512), (W (Proc.devRef .tc main_v3) : Vec Ideal S8448x512 .f32) (ix2 t j) = ((X t (512 + j) : ℝ) : EReal))
    (h5 : ∀ (t : Fin 8448) (j : Fin 1024), (W (Proc.devRef .tc main_v5) : Vec Ideal S8448x1024 .f32) (ix2 t j) = ((X t (1024 + j) : ℝ) : EReal))
    (k : Fin 132) (h : Fin 4) (z : Fin 256) (x : Fin 128) : (after lc W (Proc.devRef .tc main_v72) : Vec Ideal S132x4x256x128 .bf16) (ix4 k h z x)
      = ((St (col (laR L U bb) (128 * h + x)) (fun s => X s (512 + 128 * h + x)) (fun s => X s (1024 + (256 * h + z))) (64 * k) : ℝ) : EReal) := by
  after_reads_at
  after_reads_at
  have E : ∀ (s : Fin 8448) (i : Fin 512) (e : EReal), (i : ℕ) = 128 * h + x → e = ((P (col (laR L U bb) i) (64 * k) : ℝ) : EReal) →
      Scalar.select (IntOp.cmpi CmpIPredicate.sgt (IntOp.muli (BitVec.ofNat 32 k) 64#32) (BitVec.ofNat 32 s))
      (Ideal.exp (Scalar.select (IntOp.cmpi CmpIPredicate.sgt (IntOp.muli (BitVec.ofNat 32 k) 64#32) (BitVec.ofNat 32 s))
        (e - Host.reduceWindowAdd (F := Ideal) (φ := .f32) ![8448, 1] ![1, 1] ![8447, 0] ![0, 0] (W (Proc.devRef .tc main_v17))
            (broadcastInDim S_ ![] bcast_S_S_ (constant S_ .f32 0#32)) reduceWindows_S8448x512_S8448x512_w8448s1p8447_0_w1s1p0_0 h_S_ (ix2 s i))
        (id (constant (F := Ideal) S_ .f32 0#32) ix0))) (id (constant (F := Ideal) S_ .f32 0#32) ix0)
      = ((if (s : ℕ) < k * 64 then Real.exp (P (col (laR L U bb) (128 * h + x)) (64 * k) - P (col (laR L U bb) (128 * h + x)) (s + 1)) else 0 : ℝ) : EReal) := by
    intro s i e hi he
    rw [he, fwd (col (laR L U bb) i) i s _ _ _ _ (fun u => h17 u i) i0, WordCmp.muli_ofNat,
      WordCmp.cmpi_sgt_ofNat (by have := k.isLt; omega) (by have := s.isLt; omega), hi]
    exact sel_exp _ _ _ _ z0
  have hx : ∀ hp, ((⟨(h : ℕ) * 128 + x, hp⟩ : Fin 512) : ℕ) = 128 * h + x := fun _ => by show (h : ℕ) * 128 + x = _; omega
  refine (Finset.sum_congr rfl (g := fun s : Fin 8448 => ((X s (1024 + (256 * h + z)) * (X s (512 + 128 * h + x)
    * if (s : ℕ) < 64 * k then Real.exp (P (col (laR L U bb) (128 * h + x)) (64 * k) - P (col (laR L U bb) (128 * h + x)) (s + 1)) else 0) : ℝ) : EReal)) fun s _ => ?_).trans ?_
  · rw [h5, h3]
    rw [E s _ _ (hx _) ?_]
    · rw [← EReal.coe_mul, ← EReal.coe_mul]
      simp only [Nat.mul_comm (k : ℕ) 64, Nat.mul_comm (h : ℕ), Nat.add_assoc]
    · by_cases hk : (k : ℕ) < 1
      · rw [dif_pos hk, show (k : ℕ) = 0 by omega]
        rfl
      · rw [dif_neg hk, fwd (col (laR L U bb) (h * 128 + x)) ⟨(h : ℕ) * 128 + x, by omega⟩ ⟨63 + 64 * ((k : ℕ) - 1), by omega⟩ _ _ _ _ (fun u => h17 u _) i0]
        show ((P (col (laR L U bb) (h * 128 + x)) (63 + 64 * ((k : ℕ) - 1) + 1) : ℝ) : EReal) = _
        rw [show 63 + 64 * ((k : ℕ) - 1) + 1 = 64 * k by omega]
  · rw [coe_sum]
    refine congrArg (fun e : ℝ => (e : EReal)) ?_
    unfold St
    refine Eq.trans (Finset.sum_congr rfl fun s _ => ?_) (sum_lt (N := 8448) (fun s => X s (1024 + (256 * h + z)) * (X s (512 + 128 * h + x)
      * Real.exp (P (col (laR L U bb) (128 * h + x)) (64 * k) - P (col (laR L U bb) (128 * h + x)) (s + 1)))) (64 * k) (by have := k.isLt; omega))
    by_cases hs : (s : ℕ) < 64 * k
    · rw [if_pos hs, if_pos hs]
    · rw [if_neg hs, if_neg hs, mul_zero, mul_zero]

variable {m : (ℓ : Loc nD τ sig) → Buf (Elt Ideal) ℓ} {c : Dev nD} {Y : ℕ → ℕ → ℝ}

/-- What the host lines compute, from the arguments. -/
theorem hostOk
    (p7 : ∀ (i : Fin 8448) (j : Fin 7168), (m ((c : Thread nD τ).loc main_arg0) : Vec Ideal S8448x7168 .bf16) (ix2 i j) = ((X i j : ℝ) : EReal))
    (alr : ∀ (i : Fin 8448) (j : Fin 128), (m ((c : Thread nD τ).loc main_arg1) : Vec Ideal S8448x128 .f32) (ix2 i j) = ((L i j : ℝ) : EReal))
    (wau : ∀ (i : Fin 128) (j : Fin 512), (m ((c : Thread nD τ).loc main_arg2) : Vec Ideal S128x512 .f32) (ix2 i j) = ((U i j : ℝ) : EReal))
    (ba : ∀ j : Fin 512, (m ((c : Thread nD τ).loc main_arg3) : Vec Ideal S1x512 .f32) (ix2 0 j) = ((bb j : ℝ) : EReal))
    (g : ∀ j : Fin 1024, (m ((c : Thread nD τ).loc main_arg4) : Vec Ideal S1x1024 .f32) (ix2 0 j) = ((G j : ℝ) : EReal))
    (dy : ∀ (i : Fin 8448) (j : Fin 1024), (m ((c : Thread nD τ).loc main_arg5) : Vec Ideal S8448x1024 .bf16) (ix2 i j) = ((Y i j : ℝ) : EReal)) :
    HostOk m c X X L U bb (mkArr X L U bb G Y) := by
  have p7' : ∀ (i : Fin 8448) (j : Fin 7168), ((fun b => m (c, b)) (Proc.devRef .tc main_arg0) : Vec Ideal S8448x7168 .bf16) (ix2 i j) = ((X i j : ℝ) : EReal) := p7
  have h17 := a17 (W := fun b => m (c, b)) (L := L) (U := U) (bb := bb) alr wau ba
  have h3 : ∀ (t : Fin 8448) (j : Fin 512), (after la (fun b => m (c, b)) (Proc.devRef .tc main_v3) : Vec Ideal S8448x512 .f32) (ix2 t j) = ((X t (512 + j) : ℝ) : EReal) :=
    fun t j => (a3 t j).trans (p7 t _)
  have h5 : ∀ (t : Fin 8448) (j : Fin 1024), (after la (fun b => m (c, b)) (Proc.devRef .tc main_v5) : Vec Ideal S8448x1024 .f32) (ix2 t j) = ((X t (1024 + j) : ℝ) : EReal) :=
    fun t j => (a5 t j).trans (p7 t _)
  refine ⟨p7, alr, wau, ba, g, dy, fun i j => ?_, fun i j => ?_, fun k h z x => ?_, fun _ _ => rfl, fun _ _ => rfl, fun _ _ => rfl⟩
  · rw [V_eq, c_keep.1, b_keep.1]
    exact h17 i j
  · rw [V_eq, c_keep.2]
    exact b46 h17 (fun t h z => a22 t h z p7') (fun t s h x => a27 t s h x p7') i j
  · rw [V_eq]
    refine c72 (W := after lb (after la fun b => m (c, b))) (fun t j => ?_) (fun t j => ?_) (fun t j => ?_) k h z x
    · rw [b_keep.1]
      exact h17 t j
    · rw [b_keep.2.1]
      exact h3 t j
    · rw [b_keep.2.2]
      exact h5 t j

end Gla.Host

end
-- ==== Proof.Value.lean ====
module

public import proofs.«01_k».proof.Defs
public import Idealize.ShloMosaic.Lib.Claim
public import Idealize.ShloMosaic.Lib.KernelVsHost
public import proofs.«01_k».proof.Proof.Gen.Pre_finite
public import proofs.«01_k».proof.Proof.Gen.KernelIdeal.Value
public import proofs.«01_k».proof.Proof.Gen.ReferenceIdeal.Run
public import proofs.«01_k».proof.Proof.Arrays
public import proofs.«01_k».proof.Proof.RefC
public import proofs.«01_k».proof.Proof.Host

/-! The kernel's four results are the reference's, at finite arguments. -/

@[expose] public section

set_option maxRecDepth 16384

noncomputable section

namespace Gla

open Idealize.ShloMosaic Idealize.SL.Sem

/-- A value below infinity in size is a real number. -/
theorem real_of_lt (x : Ideal .f32) (h : FloatOps.cmpf .olt (FloatOps.hostAbsf x) (FloatOps.ofBits (F := Ideal) .f32 0x7F800000#32) = 1#1) :
    ((x : EReal).toReal : EReal) = x := by
  rw [← Ideal.xori_weird_eq_hostAbsf_olt_inf] at h
  have h' : IntOp.xori (BitVec.ofBool (decide ((x : EReal) = ⊤ ∨ (x : EReal) = ⊥))) 1#1 = 1#1 := h
  by_cases c : (x : EReal) = ⊤ ∨ (x : EReal) = ⊥
  · rw [decide_eq_true c] at h'
    exact absurd h' (by decide)
  · push Not at c
    exact EReal.coe_toReal c.1 c.2

theorem exists_real {a b : ℕ} (x : (⟨2, ![a, b]⟩ : Shape).Idx → EReal)
    (h : ∀ i : (⟨2, ![a, b]⟩ : Shape).Idx, ((x i).toReal : EReal) = x i) :
    ∃ X : ℕ → ℕ → ℝ, ∀ (i : Fin a) (j : Fin b), x (ix2 i j) = ((X i j : ℝ) : EReal) := by
  refine ⟨fun i j => if hh : i < a ∧ j < b then (x (ix2 ⟨i, hh.1⟩ ⟨j, hh.2⟩)).toReal else 0, fun i j => ?_⟩
  beta_reduce
  rw [dif_pos ⟨i.isLt, j.isLt⟩]
  exact (h _).symm

open Cert.Pre_finite in
theorem decode [Cert.Pre_finite.Facts] (a0 : FVec Ideal S8448x7168 .bf16) (a1 : FVec Ideal S8448x128 .f32) (a2 : FVec Ideal S128x512 .f32)
    (a3 : FVec Ideal S1x512 .f32) (a4 : FVec Ideal S1x1024 .f32) (a5 : FVec Ideal S8448x1024 .bf16) (a6 : FVec Ideal S8448x8192 .bf16)
    (h : (fn (F := Ideal) a0 a1 a2 a3 a4 a5 a6).1 = (fun _ => 1#1) ∧ (fn (F := Ideal) a0 a1 a2 a3 a4 a5 a6).2.1 = (fun _ => 1#1)
      ∧ (fn (F := Ideal) a0 a1 a2 a3 a4 a5 a6).2.2.1 = (fun _ => 1#1) ∧ (fn (F := Ideal) a0 a1 a2 a3 a4 a5 a6).2.2.2.1 = (fun _ => 1#1)
      ∧ (fn (F := Ideal) a0 a1 a2 a3 a4 a5 a6).2.2.2.2.1 = (fun _ => 1#1) ∧ (fn (F := Ideal) a0 a1 a2 a3 a4 a5 a6).2.2.2.2.2 = (fun _ => 1#1)) :
    ∃ (X L U : ℕ → ℕ → ℝ) (bb G : ℕ → ℝ) (Y : ℕ → ℕ → ℝ),
      (∀ (i : Fin 8448) (j : Fin 7168), a0 (ix2 i j) = ((X i j : ℝ) : EReal)) ∧ (∀ (i : Fin 8448) (j : Fin 128), a1 (ix2 i j) = ((L i j : ℝ) : EReal))
      ∧ (∀ (i : Fin 128) (j : Fin 512), a2 (ix2 i j) = ((U i j : ℝ) : EReal)) ∧ (∀ j : Fin 512, a3 (ix2 0 j) = ((bb j : ℝ) : EReal))
      ∧ (∀ j : Fin 1024, a4 (ix2 0 j) = ((G j : ℝ) : EReal)) ∧ (∀ (i : Fin 8448) (j : Fin 1024), a5 (ix2 i j) = ((Y i j : ℝ) : EReal)) := by
  obtain ⟨h0, h1, h2, h3, h4, h5⟩ := h
  obtain ⟨X, hX⟩ := exists_real a0 fun i => real_of_lt _ (congrFun h0 i)
  obtain ⟨L, hL⟩ := exists_real a1 fun i => real_of_lt _ (congrFun h1 i)
  obtain ⟨U, hU⟩ := exists_real a2 fun i => real_of_lt _ (congrFun h2 i)
  obtain ⟨bb, hb⟩ := exists_real a3 fun i => real_of_lt _ (congrFun h3 i)
  obtain ⟨G, hG⟩ := exists_real a4 fun i => real_of_lt _ (congrFun h4 i)
  obtain ⟨Y, hY⟩ := exists_real a5 fun i => real_of_lt _ (congrFun h5 i)
  exact ⟨X, L, U, bb 0, G 0, Y, hX, hL, hU, fun j => hb 0 j, fun j => hG 0 j, hY⟩

open Cert.KernelIdeal Cert.KernelIdeal.Gen in
/-- On one device, from arguments that agree, the reference's four results are the kernel's four result arrays. -/
theorem results [Cert.Pre_finite.Facts] (m : (ℓ : Loc nD τ sig) → Buf (Elt Ideal) ℓ)
    (m' : (ℓ : Loc Cert.ReferenceIdeal.nD Cert.ReferenceIdeal.τ Cert.ReferenceIdeal.sig) → Buf (Elt Ideal) ℓ) (hp : Cert.Pre_KernelIdeal_finite m) (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6)) :
    Cert.ReferenceIdeal.Value.val3 (StableHlo.launchContents m' c) (Proc.devRef .tc Cert.ReferenceIdeal.main_v141) = (dats m 0 c).arrAt 11 cfg0.N
    ∧ Cert.ReferenceIdeal.Value.val3 (StableHlo.launchContents m' c) (Proc.devRef .tc Cert.ReferenceIdeal.main_v142) = (dats m 0 c).arrAt 12 cfg0.N
    ∧ Cert.ReferenceIdeal.Value.val3 (StableHlo.launchContents m' c) (Proc.devRef .tc Cert.ReferenceIdeal.main_v93) = (dats m 0 c).arrAt 13 cfg0.N
    ∧ Cert.ReferenceIdeal.Value.val3 (StableHlo.launchContents m' c) (Proc.devRef .tc Cert.ReferenceIdeal.main_v136) = (dats m 0 c).arrAt 14 cfg0.N := by
  obtain ⟨X, L, U, bb, G, Y, hX, hL, hU, hb, hG, hY⟩ := decode _ _ _ _ _ _ _ (hp c)
  have H := Host.hostOk (m := m) (c := c) hX hL hU hb hG hY
  have K : Ref.In (StableHlo.launchContents m' c) X L U bb G Y :=
    ⟨fun i j => (congrFun e0 _).trans (hX i j), fun i j => (congrFun e1 _).trans (hL i j), fun i j => (congrFun e2 _).trans (hU i j),
      fun j => (congrFun e3 _).trans (hb j), fun j => (congrFun e4 _).trans (hG j), fun i j => (congrFun e5 _).trans (hY i j)⟩
  refine ⟨(Ref.r141 K).trans (Eq.trans ?_ (arr11 H).symm), (Ref.r142 K).trans (arr12 H).symm, (Ref.r93 K).trans (arr13 H).symm, (Ref.r136 K).trans (arr14 H).symm⟩
  funext i
  exact congrArg (fun e : EReal => if 4096 ≤ (i 1 : ℕ) then ((dpv (mkArr X L U bb G Y) 8448 (i 0) ((i 1 : ℕ) - 4096) : ℝ) : EReal) else e) (congrFun e6 i)

theorem value : Cert.algebraic_KernelIdeal_ReferenceIdeal_pre_finite := by
  intro m g m' g' hp hagree
  refine ⟨fun c => (Cert.KernelIdeal.Gen.dats m 0 c).arrAt 11 Cert.KernelIdeal.cfg0.N, fun c => (Cert.KernelIdeal.Gen.dats m 0 c).arrAt 12 Cert.KernelIdeal.cfg0.N,
    fun c => (Cert.KernelIdeal.Gen.dats m 0 c).arrAt 13 Cert.KernelIdeal.cfg0.N, fun c => (Cert.KernelIdeal.Gen.dats m 0 c).arrAt 14 Cert.KernelIdeal.cfg0.N,
    Cert.KernelIdeal.Value.run_blocks m g, ?_⟩
  refine (θ_run Cert.ReferenceIdeal.defs _ _).mono (fun r h c => ?_) (Cert.ReferenceIdeal.Value.run m' g')
  have e := hagree c
  have q := results m m' hp c e.1 e.2.1 e.2.2.1 e.2.2.2.1 e.2.2.2.2.1 e.2.2.2.2.2.1 e.2.2.2.2.2.2
  refine ⟨Eq.trans ?_ q.1, Eq.trans ?_ q.2.1, Eq.trans ?_ q.2.2.1, Eq.trans ?_ q.2.2.2, (h c).2.2.2.2⟩
  · rw [Cert.ReferenceIdeal.Value.val3_main_v141]
    exact (h c).1
  · rw [Cert.ReferenceIdeal.Value.val3_main_v142]
    exact (h c).2.1
  · rw [Cert.ReferenceIdeal.Value.val3_main_v93]
    exact (h c).2.2.1
  · rw [Cert.ReferenceIdeal.Value.val3_main_v136]
    exact (h c).2.2.2.1

end Gla

end
-- ==== Proof.Prod.lean ====
module

public import proofs.«01_k».proof.Proof.Base
public import Idealize.ShloMosaic.Lib.KernelVsHost
public import Idealize.ShloMosaic.Lib.Pointwise.Contract

/-!
Products of two matrices, entry by entry, and sums over blocks of rows.
-/

@[expose] public section

noncomputable section

namespace Gla

open Idealize.ShloMosaic Finset

variable {M K N : ℕ} {φ₁ φ₂ : FTy}

/-- The contraction of the first axes of two matrices, on the kernel's side. -/
theorem tn_apply (x : FVec Ideal ⟨2, ![K, M]⟩ φ₁) (y : FVec Ideal ⟨2, ![K, N]⟩ φ₂) (wf) (i : Fin M) (j : Fin N) :
    matmul (⟨[0], [0], [1], [1], [], [], wf⟩ : DotDims ⟨2, ![K, M]⟩ ⟨2, ![K, N]⟩ ⟨2, ![M, N]⟩) none x y (constant ⟨2, ![M, N]⟩ .f32 0x00000000#32) (ix2 i j)
      = ∑ k : Fin K, x (ix2 k i) * y (ix2 k j) := by
  refine (Ideal.matmul_constant_zero_apply (⟨[0], [0], [1], [1], [], [], wf⟩ : DotDims ⟨2, ![K, M]⟩ ⟨2, ![K, N]⟩ ⟨2, ![M, N]⟩) none x y (ix2 i j)).trans ?_
  refine (DotDims.sum_contr₁ _ (a := 0) rfl (K := K) rfl _).trans (Finset.sum_congr rfl fun k _ => ?_)
  congr 2
  all_goals
    funext a
    match a with
    | ⟨0, _⟩ => rfl
    | ⟨1, _⟩ => rfl

/-- The contraction of the second axes of two matrices, on the kernel's side. -/
theorem nt_apply (x : FVec Ideal ⟨2, ![M, K]⟩ φ₁) (y : FVec Ideal ⟨2, ![N, K]⟩ φ₂) (wf) (i : Fin M) (j : Fin N) :
    matmul (⟨[1], [1], [0], [0], [], [], wf⟩ : DotDims ⟨2, ![M, K]⟩ ⟨2, ![N, K]⟩ ⟨2, ![M, N]⟩) none x y (constant ⟨2, ![M, N]⟩ .f32 0x00000000#32) (ix2 i j)
      = ∑ k : Fin K, x (ix2 i k) * y (ix2 j k) := by
  refine (Ideal.matmul_constant_zero_apply (⟨[1], [1], [0], [0], [], [], wf⟩ : DotDims ⟨2, ![M, K]⟩ ⟨2, ![N, K]⟩ ⟨2, ![M, N]⟩) none x y (ix2 i j)).trans ?_
  refine (DotDims.sum_contr₁ _ (a := 1) rfl (K := K) rfl _).trans (Finset.sum_congr rfl fun k _ => ?_)
  congr 2
  all_goals
    funext a
    match a with
    | ⟨0, _⟩ => rfl
    | ⟨1, _⟩ => rfl

/-- The contraction of the second axis of one matrix with the first of another, on the kernel's side. -/
theorem nn_apply (x : FVec Ideal ⟨2, ![M, K]⟩ φ₁) (y : FVec Ideal ⟨2, ![K, N]⟩ φ₂) (wf) (i : Fin M) (j : Fin N) :
    matmul (⟨[1], [0], [0], [1], [], [], wf⟩ : DotDims ⟨2, ![M, K]⟩ ⟨2, ![K, N]⟩ ⟨2, ![M, N]⟩) none x y (constant ⟨2, ![M, N]⟩ .f32 0x00000000#32) (ix2 i j)
      = ∑ k : Fin K, x (ix2 i k) * y (ix2 k j) := by
  refine (Ideal.matmul_constant_zero_apply (⟨[1], [0], [0], [1], [], [], wf⟩ : DotDims ⟨2, ![M, K]⟩ ⟨2, ![K, N]⟩ ⟨2, ![M, N]⟩) none x y (ix2 i j)).trans ?_
  refine (DotDims.sum_contr₁ _ (a := 1) rfl (K := K) rfl _).trans (Finset.sum_congr rfl fun k _ => ?_)
  congr 2
  all_goals
    funext a
    match a with
    | ⟨0, _⟩ => rfl
    | ⟨1, _⟩ => rfl

/-- The same three on the reference's side. -/
theorem tn_host (x : FVec Ideal ⟨2, ![K, M]⟩ φ₁) (y : FVec Ideal ⟨2, ![K, N]⟩ φ₂) (wf) (i : Fin M) (j : Fin N) :
    Host.dotGeneral (⟨[0], [0], [1], [1], [], [], wf⟩ : DotDims ⟨2, ![K, M]⟩ ⟨2, ![K, N]⟩ ⟨2, ![M, N]⟩) none x y (ix2 i j)
      = ∑ k : Fin K, x (ix2 k i) * y (ix2 k j) :=
  (congrFun (matmul_zero_eq_dotGeneral _ _ x y) _).symm.trans (tn_apply x y wf i j)

theorem nt_host (x : FVec Ideal ⟨2, ![M, K]⟩ φ₁) (y : FVec Ideal ⟨2, ![N, K]⟩ φ₂) (wf) (i : Fin M) (j : Fin N) :
    Host.dotGeneral (⟨[1], [1], [0], [0], [], [], wf⟩ : DotDims ⟨2, ![M, K]⟩ ⟨2, ![N, K]⟩ ⟨2, ![M, N]⟩) none x y (ix2 i j)
      = ∑ k : Fin K, x (ix2 i k) * y (ix2 j k) :=
  (congrFun (matmul_zero_eq_dotGeneral _ _ x y) _).symm.trans (nt_apply x y wf i j)

theorem nn_host (x : FVec Ideal ⟨2, ![M, K]⟩ φ₁) (y : FVec Ideal ⟨2, ![K, N]⟩ φ₂) (wf) (i : Fin M) (j : Fin N) :
    Host.dotGeneral (⟨[1], [0], [0], [1], [], [], wf⟩ : DotDims ⟨2, ![M, K]⟩ ⟨2, ![K, N]⟩ ⟨2, ![M, N]⟩) none x y (ix2 i j)
      = ∑ k : Fin K, x (ix2 i k) * y (ix2 k j) :=
  (congrFun (matmul_zero_eq_dotGeneral _ _ x y) _).symm.trans (nn_apply x y wf i j)

/-- The rows of a matrix in blocks: the blocks' sums add up to the sum over all rows. -/
theorem sum_blocks (b n : ℕ) (f : ℕ → EReal) : ∑ s ∈ range n, ∑ k : Fin b, f (b * s + k) = ∑ k : Fin (n * b), f k := by
  rw [Fin.sum_univ_eq_sum_range f (n * b)]
  have e : ∀ s, ∑ k : Fin b, f (b * s + k) = ∑ k ∈ range b, f (b * s + k) := fun s => Fin.sum_univ_eq_sum_range (fun k => f (b * s + k)) b
  simp only [e]
  induction n with
  | zero => simp
  | succ n ih => rw [Finset.sum_range_succ, ih, Nat.succ_mul, Finset.sum_range_add, Nat.mul_comm]

/-- A sum kept over runs of `P` points: started anew at a run's first point, added to at every later one but the last. -/
theorem acc_run (P : ℕ) (hP : 2 ≤ P) {T : ℕ} (S : (n : ℕ) → n < T → EReal) (f : ℕ → ℕ → EReal) (h0 : ∀ n h, n % P = 0 → S n h = f (n / P) 0)
    (h1 : ∀ n h, 1 ≤ (n + 1) % P → (n + 1) % P ≤ P - 2 → S (n + 1) h = S n (Nat.lt_of_succ_lt h) + f ((n + 1) / P) ((n + 1) % P)) :
    ∀ n h, n % P ≤ P - 2 → S n h = ∑ s ∈ range (n % P + 1), f (n / P) s := by
  intro n
  induction n with
  | zero => intro h _; rw [h0 0 h (Nat.zero_mod P), Nat.zero_mod]; simp
  | succ n ih =>
    intro h h4
    by_cases hz : (n + 1) % P = 0
    · rw [h0 _ h hz, hz]; simp
    · have hm : n % P + 1 < P := by
        by_contra hc
        have : n % P + 1 = P := by have := Nat.mod_lt n (show 0 < P by omega); omega
        exact hz (by rw [Nat.add_mod, Nat.mod_eq_of_lt (show 1 < P by omega), this, Nat.mod_self])
      have e : n % P + 1 = (n + 1) % P := by rw [Nat.add_mod, Nat.mod_eq_of_lt (show 1 < P by omega), Nat.mod_eq_of_lt hm]
      have q : n / P = (n + 1) / P := by
        rw [Nat.succ_div, if_neg (fun hd => hz (Nat.mod_eq_zero_of_dvd hd)), Nat.add_zero]
      rw [h1 n h (by omega) h4, ih _ (by omega), e, q, Finset.sum_range_succ]

/-- Runs of six points. -/
theorem acc_of {T : ℕ} (S : (n : ℕ) → n < T → EReal) (f : ℕ → ℕ → EReal) (h0 : ∀ n h, n % 6 = 0 → S n h = f (n / 6) 0)
    (h1 : ∀ n h, 1 ≤ (n + 1) % 6 → (n + 1) % 6 ≤ 4 → S (n + 1) h = S n (Nat.lt_of_succ_lt h) + f ((n + 1) / 6) ((n + 1) % 6)) :
    ∀ n h, n % 6 ≤ 4 → S n h = ∑ s ∈ range (n % 6 + 1), f (n / 6) s :=
  acc_run 6 (by omega) S f h0 h1

/-- A matrix's entry at two natural numbers, zero outside the matrix. -/
def nat2 {A B : ℕ} (x : (⟨2, ![A, B]⟩ : Shape).Idx → EReal) (i j : ℕ) : EReal := if h : i < A ∧ j < B then x (ix2 ⟨i, h.1⟩ ⟨j, h.2⟩) else 0

theorem nat2_eq {A B : ℕ} (x : (⟨2, ![A, B]⟩ : Shape).Idx → EReal) (i : Fin A) (j : Fin B) : x (ix2 i j) = nat2 x i j := by
  unfold nat2
  rw [dif_pos ⟨i.isLt, j.isLt⟩]

end Gla

end
-- ==== Proof.Prod2.lean ====
module

public import proofs.«01_k».proof.Defs
public import proofs.«01_k».proof.Proof.Prod
public import Idealize.ShloMosaic.Lib.Pipeline.ValueKit
public import proofs.«01_k».proof.Proof.Gen.Kernel2Ideal.Value
public import proofs.«01_k».proof.Proof.Gen.Reference2Ideal
public import proofs.«01_k».proof.Proof.Gen.Reference2Ideal.Run

/-!
The gradient of the up projection: the normalized rows, transposed, times the gradient of the two halves; its columns in four stacked blocks.
-/

@[expose] public section

set_option maxRecDepth 16384

noncomputable section

namespace Gla.Prod2

open Idealize.ShloMosaic Idealize.ShloMosaic.TcCoe Idealize.SL.Sem Cert.Kernel2Ideal Cert.Kernel2Ideal.Gen Finset

variable (m : (ℓ : Loc nD τ sig) → Buf (Elt Ideal) ℓ) (c : Dev nD)

theorem hz3 : (![0, 0, 0] : Fin 3 → Nat) = fun _ => 0 := funext fun a => by fin_cases a <;> rfl

theorem hz : (![0, 0] : Fin 2 → Nat) = fun _ => 0 := funext fun a => by fin_cases a <;> rfl

/-- The product of two blocks, entry by entry. -/
theorem pay_apply (x0 : Vec Ideal S1408x1024 .bf16) (x1 : Vec Ideal S1408x1408 .bf16) (i : Fin 1024) (j : Fin 1408) :
    k0_pay1 (F := Ideal) x0 x1 (ix2 i j) = ∑ k : Fin 1408, x0 (ix2 k i) * x1 (ix2 k j) :=
  tn_apply (φ₁ := .bf16) (φ₂ := .bf16) x0 x1 _ i j

variable (g : grid0.Coords) (a0 : Memref sig .tc .vmem S1408x1024 .bf16) (w0 : a0.IsWhole) (a1 : Memref sig .tc .vmem S1408x1408 .bf16) (w1 : a1.IsWhole)
  (a2 : Memref sig .tc .vmem S1x1024x1408 .bf16) (w2 : a2.IsWhole) (a3 : Memref sig .tc .vmem S1024x1408 .f32) (w3 : a3.IsWhole)
  (x0 : Vec Ideal S1408x1024 .bf16) (x1 : Vec Ideal S1408x1408 .bf16) (xs : Vec Ideal S1024x1408 .f32)

theorem sA (h0 h1 h2) : sout0_A_0 c g a0 w0 a1 w1 a2 w2 a3 w3 h0 h1 h2 x0 x1 = k0_pay1 x0 x1 := by
  unfold sout0_A_0
  rw [View.read_writes_eq_canon _ _ _ (scover0_A_0 c g a0 w0 a1 w1 a2 w2 a3 w3 h0 h1 h2 x0 x1)]
  unfold kernelRun0_A
  dsimp only
  rw [View.canon_unit_zero hz]
  unfold k0_pay2
  simp only [View.readAt_eq_ld, w0.read_unread, w1.read_unread, View.ld_unit_zero (S := S1408x1024) hz, View.ld_unit_zero (S := S1408x1408) hz, shapeCast_self]

theorem sB (h0 h1 h2) : sout0_B_0 c g a0 w0 a1 w1 a2 w2 a3 w3 h0 h1 h2 x0 x1 xs = addf xs (k0_pay1 x0 x1) := by
  unfold sout0_B_0
  rw [View.read_writes_eq_canon _ _ _ (scover0_B_0 c g a0 w0 a1 w1 a2 w2 a3 w3 h0 h1 h2 x0 x1 xs)]
  unfold kernelRun0_B
  dsimp only
  rw [View.canon_unit_zero hz]
  unfold k0_pay3
  simp only [View.readAt_eq_ld, w0.read_unread, w1.read_unread, w3.read_unread, View.ld_unit_zero (S := S1408x1024) hz, View.ld_unit_zero (S := S1408x1408) hz, View.ld_unit_zero (S := S1024x1408) hz, shapeCast_self]

theorem oC (h0 h1 h2) (i : Fin 1024) (j : Fin 1408) : out0_C_2 c g a0 w0 a1 w1 a2 w2 a3 w3 h0 h1 h2 x0 x1 xs (ix3 0 i j) = xs (ix2 i j) + k0_pay1 (F := Ideal) x0 x1 (ix2 i j) := by
  unfold out0_C_2
  rw [View.read_writes_eq_canon _ _ _ (cover0_C_2 c g a0 w0 a1 w1 a2 w2 a3 w3 h0 h1 h2 x0 x1 xs)]
  unfold kernelRun0_C
  dsimp only
  rw [View.canon_unit_zero hz3]
  unfold k0_pay4
  simp only [View.readAt_eq_ld, w0.read_unread, w1.read_unread, w3.read_unread, View.ld_unit_zero (S := S1408x1024) hz, View.ld_unit_zero (S := S1408x1408) hz, View.ld_unit_zero (S := S1024x1408) hz, shapeCast_self]
  generalize k0_pay1 (F := Ideal) x0 x1 = q
  pointwise []

theorem widx : ∀ t : Fin cfg0.N, win0_0.index t = ![t.val % 6, 0] ∧ win0_1.index t = ![t.val % 6, t.val / 6] ∧ win0_2.index t = ![t.val / 6, 0, 0] ∧ t.val < 24 :=
  (by decide +kernel : ∀ t : Fin grid0.N, _)

theorem rd2 (W : Vec Ideal S4x1024x1408 .bf16) (t : Fin cfg0.N) (i : Fin 1024) (j : Fin 1408) (ht : t.val < 24) :
    ((cfg0.win 2).blk t).view.read (Elt Ideal) W (ix3 0 i j) = W (ix3 ⟨t.val / 6, by omega⟩ i j) := by
  blk_ext [widx t]

/-- What one block of rows adds to an entry. -/
def term (x : S8448x1024.Idx → EReal) (y : S8448x5632.Idx → EReal) (i j s : ℕ) : EReal := ∑ k : Fin 1408, nat2 x (1408 * s + k) i * nat2 y (1408 * s + k) j

theorem pay_ok (t : Fin cfg0.N) (i : Fin 1024) (j : Fin 1408) :
    k0_pay1 (F := Ideal) (iblk m c 0 t) (iblk m c 1 t) (ix2 i j)
      = term (m ((c.tc : Thread nD τ).loc main_arg0)) (m ((c.tc : Thread nD τ).loc main_arg1)) i (1408 * (t.val / 6) + j) (t.val % 6) := by
  have ht := (widx t).2.2.2
  have e0 (k : Fin 1408) (i : Fin 1024) : iblk m c 0 t (ix2 k i) = (m ((c.tc : Thread nD τ).loc main_arg0) : Vec Ideal S8448x1024 .bf16)
      (ix2 ⟨1408 * (t.val % 6) + k, by omega⟩ i) := by
    blk_ext [iblk, V, widx t]
  have e1 (k j : Fin 1408) : iblk m c 1 t (ix2 k j) = (m ((c.tc : Thread nD τ).loc main_arg1) : Vec Ideal S8448x5632 .bf16)
      (ix2 ⟨1408 * (t.val % 6) + k, by omega⟩ ⟨1408 * (t.val / 6) + j, by omega⟩) := by
    blk_ext [iblk, V, widx t]
  refine (pay_apply _ _ i j).trans (Finset.sum_congr rfl fun k _ => ?_)
  exact congrArg₂ (· * ·) ((e0 k i).trans (nat2_eq _ _ _)) ((e1 k j).trans (nat2_eq _ _ _))

/-- What the carried block holds after a point that is not the last of its run. -/
theorem sc_ok (i : Fin 1024) (j : Fin 1408) : ∀ n h, n % 6 ≤ 4 → (outsAt0 m c n h).2 (ix2 i j)
    = ∑ s ∈ range (n % 6 + 1), term (m ((c.tc : Thread nD τ).loc main_arg0)) (m ((c.tc : Thread nD τ).loc main_arg1)) i (1408 * (n / 6) + j) s := by
  refine acc_of (fun n h => (outsAt0 m c n h).2 (ix2 i j)) (fun q s => term _ _ i (1408 * q + j) s) (fun n h hn => ?_) fun n h l u => ?_
  · rw [outsAt0_A m c ⟨n, h⟩ hn (by dsimp only; omega) (by dsimp only; omega)]
    dsimp only
    rw [sA, pay_ok]
    dsimp only
    rw [hn]
  · rw [outsAt0_B m c ⟨n + 1, h⟩ (by dsimp only; omega) (by dsimp only; omega) (by dsimp only; omega)]
    dsimp only
    rw [sB]
    exact congrArg (fun e => (outsAt0 m c n (Nat.lt_of_succ_lt h)).2 (ix2 i j) + e) (pay_ok m c ⟨n + 1, h⟩ i j)

/-- The result array is the product, its columns in four stacked blocks. -/
def prod (x : S8448x1024.Idx → EReal) (y : S8448x5632.Idx → EReal) : S4x1024x1408.Idx → EReal :=
  fun i => ∑ k : Fin 8448, x (ix2 k (i 1)) * nat2 y k (1408 * (i 0 : ℕ) + (i 2 : ℕ))

theorem prod_eq (x : S8448x1024.Idx → EReal) (y : S8448x5632.Idx → EReal) (q : Fin 4) (i : Fin 1024) (j : Fin 1408) :
    ∑ s ∈ range 6, term x y i (1408 * q + j) s = prod x y (ix3 q i j) :=
  (sum_blocks 1408 6 fun k => nat2 x k i * nat2 y k (1408 * q + j)).trans (Finset.sum_congr rfl fun k _ => congrArg (· * _) (nat2_eq x k i).symm)

theorem last_ok (t : Fin cfg0.N) (h5 : t.val % 6 = 5) (i : Fin 1024) (j : Fin 1408) : (outsAt0 m c t.val t.isLt).1 (ix3 0 i j)
    = ∑ s ∈ range 6, term (m ((c.tc : Thread nD τ).loc main_arg0)) (m ((c.tc : Thread nD τ).loc main_arg1)) i (1408 * (t.val / 6) + j) s := by
  rw [outsAt0_C m c t (by omega) (by omega) h5]
  dsimp only
  rw [oC, pay_ok, sc_ok m c i j (t.val - 1) _ (by omega), Finset.sum_range_succ _ 5, h5, show (t.val - 1) % 6 + 1 = 5 by omega, show (t.val - 1) / 6 = t.val / 6 by omega]

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have ht := (widx t).2.2.2
  obtain ⟨z, i, j, rfl⟩ : ∃ (z : Fin 1) (i : Fin 1024) (j : Fin 1408), y = ix3 z i j := ⟨y 0, y 1, y 2, ValueIdx.eq_ix3 y⟩
  obtain rfl : z = 0 := Subsingleton.elim _ _
  rw [after0_2]
  have p := last_ok m c t ((flush0_2 t).mp hf) i j
  generalize (outsAt0 m c t.val t.isLt).1 = q at p ⊢
  refine Eq.trans ?_ (rd2 (prod (m ((c.tc : Thread nD τ).loc main_arg0)) (m ((c.tc : Thread nD τ).loc main_arg1))) t i j ht).symm
  exact p.trans (prod_eq _ _ ⟨t.val / 6, by omega⟩ i j)

theorem swap (x : S8448x1024.Idx → EReal) (y : S8448x5632.Idx → EReal) (i : Fin 1024) (n : ℕ) (k : Fin 8448) (l : Fin 5632) (hn : (l : ℕ) = n) :
    y (ix2 k l) * x (ix2 k i) = x (ix2 k i) * nat2 y k n := by
  rw [mul_comm, ← hn]
  exact congrArg _ (nat2_eq y k l)

theorem value : Cert.algebraic_Kernel2Ideal_Reference2Ideal := by
  intro m g m' g' hp hagree
  refine ⟨fun c => (dats m 0 c).arrAt 2 cfg0.N, Cert.Kernel2Ideal.Value.run_blocks m g, ?_⟩
  refine (θ_run Cert.Reference2Ideal.defs _ _).mono (fun r h c => ?_) (Cert.Reference2Ideal.Value.run m' g')
  refine ⟨(h c).1.trans (Eq.trans ?_ (final m c).symm), (h c).2⟩
  have e := hagree c
  rw [e.1, e.2]
  funext i
  obtain ⟨q, i, j, rfl⟩ : ∃ (q : Fin 4) (a : Fin 1024) (b : Fin 1408), i = ix3 q a b := ⟨i 0, i 1, i 2, ValueIdx.eq_ix3 i⟩
  generalize m ((c.tc : Thread nD τ).loc main_arg0) = x
  generalize m ((c.tc : Thread nD τ).loc main_arg1) = y
  fin_cases q
  all_goals
    pointwise []
    refine Finset.sum_congr rfl fun k _ => swap x y i _ k _ ?_
    first | exact (Nat.zero_add _).symm | rfl

end Gla.Prod2

end
-- ==== Proof.Prod3.lean ====
module

public import proofs.«01_k».proof.Defs
public import proofs.«01_k».proof.Proof.Prod
public import Idealize.ShloMosaic.Lib.Pipeline.ValueKit
public import proofs.«01_k».proof.Proof.Gen.Kernel3Ideal.Value
public import proofs.«01_k».proof.Proof.Gen.Reference3Ideal
public import proofs.«01_k».proof.Proof.Gen.Reference3Ideal.Run

/-!
The gradient of the down projection: the gated activations, transposed, times the gradient of the output.
-/

@[expose] public section

set_option maxRecDepth 16384

noncomputable section

namespace Gla.Prod3

open Idealize.ShloMosaic Idealize.ShloMosaic.TcCoe Idealize.SL.Sem Cert.Kernel3Ideal Cert.Kernel3Ideal.Gen Finset

variable (m : (ℓ : Loc nD τ sig) → Buf (Elt Ideal) ℓ) (c : Dev nD)

theorem hz : (![0, 0] : Fin 2 → Nat) = fun _ => 0 := funext fun a => by fin_cases a <;> rfl

/-- The product of two blocks, entry by entry. -/
theorem pay_apply (x0 : Vec Ideal S1408x1408 .bf16) (x1 : Vec Ideal S1408x1024 .bf16) (i : Fin 1408) (j : Fin 1024) :
    k0_pay1 (F := Ideal) x0 x1 (ix2 i j) = ∑ k : Fin 1408, x0 (ix2 k i) * x1 (ix2 k j) :=
  tn_apply (φ₁ := .bf16) (φ₂ := .bf16) x0 x1 _ i j

variable (g : grid0.Coords) (a0 : Memref sig .tc .vmem S1408x1408 .bf16) (w0 : a0.IsWhole) (a1 : Memref sig .tc .vmem S1408x1024 .bf16) (w1 : a1.IsWhole)
  (a2 : Memref sig .tc .vmem S1408x1024 .bf16) (w2 : a2.IsWhole) (a3 : Memref sig .tc .vmem S1408x1024 .f32) (w3 : a3.IsWhole)
  (x0 : Vec Ideal S1408x1408 .bf16) (x1 : Vec Ideal S1408x1024 .bf16) (xs : Vec Ideal S1408x1024 .f32)

theorem sA (h0 h1 h2) : sout0_A_0 c g a0 w0 a1 w1 a2 w2 a3 w3 h0 h1 h2 x0 x1 = k0_pay1 x0 x1 := by
  unfold sout0_A_0
  rw [View.read_writes_eq_canon _ _ _ (scover0_A_0 c g a0 w0 a1 w1 a2 w2 a3 w3 h0 h1 h2 x0 x1)]
  unfold kernelRun0_A
  dsimp only
  rw [View.canon_unit_zero hz]
  unfold k0_pay2
  simp only [View.readAt_eq_ld, w0.read_unread, w1.read_unread, View.ld_unit_zero (S := S1408x1408) hz, View.ld_unit_zero (S := S1408x1024) hz, shapeCast_self]

theorem sB (h0 h1 h2) : sout0_B_0 c g a0 w0 a1 w1 a2 w2 a3 w3 h0 h1 h2 x0 x1 xs = addf xs (k0_pay1 x0 x1) := by
  unfold sout0_B_0
  rw [View.read_writes_eq_canon _ _ _ (scover0_B_0 c g a0 w0 a1 w1 a2 w2 a3 w3 h0 h1 h2 x0 x1 xs)]
  unfold kernelRun0_B
  dsimp only
  rw [View.canon_unit_zero hz]
  unfold k0_pay3
  simp only [View.readAt_eq_ld, w0.read_unread, w1.read_unread, w3.read_unread, View.ld_unit_zero (S := S1408x1408) hz, View.ld_unit_zero (S := S1408x1024) hz, shapeCast_self]

theorem oC (h0 h1 h2) (y : S1408x1024.Idx) : out0_C_2 c g a0 w0 a1 w1 a2 w2 a3 w3 h0 h1 h2 x0 x1 xs y = xs y + k0_pay1 (F := Ideal) x0 x1 y := by
  unfold out0_C_2
  rw [View.read_writes_eq_canon _ _ _ (cover0_C_2 c g a0 w0 a1 w1 a2 w2 a3 w3 h0 h1 h2 x0 x1 xs)]
  unfold kernelRun0_C
  dsimp only
  rw [View.canon_unit_zero hz]
  unfold k0_pay4
  simp only [View.readAt_eq_ld, w0.read_unread, w1.read_unread, w3.read_unread, View.ld_unit_zero (S := S1408x1408) hz, View.ld_unit_zero (S := S1408x1024) hz, shapeCast_self]
  rfl

theorem widx : ∀ t : Fin cfg0.N, win0_0.index t = ![t.val % 6, t.val / 6] ∧ win0_1.index t = ![t.val % 6, 0] ∧ win0_2.index t = ![t.val / 6, 0] ∧ t.val < 12 :=
  (by decide +kernel : ∀ t : Fin grid0.N, _)

theorem rd2 (W : Vec Ideal S2816x1024 .bf16) (t : Fin cfg0.N) (i : Fin 1408) (j : Fin 1024) (ht : t.val < 12) :
    ((cfg0.win 2).blk t).view.read (Elt Ideal) W (ix2 i j) = W (ix2 ⟨1408 * (t.val / 6) + i, by omega⟩ j) := by
  blk_ext [widx t]

/-- What one block of rows adds to an entry. -/
def term (x : S8448x2816.Idx → EReal) (y : S8448x1024.Idx → EReal) (i j s : ℕ) : EReal := ∑ k : Fin 1408, nat2 x (1408 * s + k) i * nat2 y (1408 * s + k) j

theorem pay_ok (t : Fin cfg0.N) (i : Fin 1408) (j : Fin 1024) :
    k0_pay1 (F := Ideal) (iblk m c 0 t) (iblk m c 1 t) (ix2 i j)
      = term (m ((c.tc : Thread nD τ).loc main_arg0)) (m ((c.tc : Thread nD τ).loc main_arg1)) (1408 * (t.val / 6) + i) j (t.val % 6) := by
  have ht := (widx t).2.2.2
  have e0 (k i : Fin 1408) : iblk m c 0 t (ix2 k i) = (m ((c.tc : Thread nD τ).loc main_arg0) : Vec Ideal S8448x2816 .bf16)
      (ix2 ⟨1408 * (t.val % 6) + k, by omega⟩ ⟨1408 * (t.val / 6) + i, by omega⟩) := by
    blk_ext [iblk, V, widx t]
  have e1 (k : Fin 1408) (j : Fin 1024) : iblk m c 1 t (ix2 k j) = (m ((c.tc : Thread nD τ).loc main_arg1) : Vec Ideal S8448x1024 .bf16)
      (ix2 ⟨1408 * (t.val % 6) + k, by omega⟩ j) := by
    blk_ext [iblk, V, widx t]
  refine (pay_apply _ _ i j).trans (Finset.sum_congr rfl fun k _ => ?_)
  exact congrArg₂ (· * ·) ((e0 k i).trans (nat2_eq _ _ _)) ((e1 k j).trans (nat2_eq _ _ _))

/-- What the carried block holds after a point that is not the last of its run. -/
theorem sc_ok (i : Fin 1408) (j : Fin 1024) : ∀ n h, n % 6 ≤ 4 → (outsAt0 m c n h).2 (ix2 i j)
    = ∑ s ∈ range (n % 6 + 1), term (m ((c.tc : Thread nD τ).loc main_arg0)) (m ((c.tc : Thread nD τ).loc main_arg1)) (1408 * (n / 6) + i) j s := by
  refine acc_of (fun n h => (outsAt0 m c n h).2 (ix2 i j)) (fun q s => term _ _ (1408 * q + i) j s) (fun n h hn => ?_) fun n h l u => ?_
  · rw [outsAt0_A m c ⟨n, h⟩ hn (by dsimp only; omega) (by dsimp only; omega)]
    dsimp only
    rw [sA, pay_ok]
    dsimp only
    rw [hn]
  · rw [outsAt0_B m c ⟨n + 1, h⟩ (by dsimp only; omega) (by dsimp only; omega) (by dsimp only; omega)]
    dsimp only
    rw [sB]
    exact congrArg (fun e => (outsAt0 m c n (Nat.lt_of_succ_lt h)).2 (ix2 i j) + e) (pay_ok m c ⟨n + 1, h⟩ i j)

/-- The result array is the product. -/
def prod (x : S8448x2816.Idx → EReal) (y : S8448x1024.Idx → EReal) : S2816x1024.Idx → EReal := fun i => ∑ k : Fin 8448, x (ix2 k (i 0)) * y (ix2 k (i 1))

theorem prod_eq (x : S8448x2816.Idx → EReal) (y : S8448x1024.Idx → EReal) (i : Fin 2816) (j : Fin 1024) : ∑ s ∈ range 6, term x y i j s = prod x y (ix2 i j) :=
  (sum_blocks 1408 6 fun k => nat2 x k i * nat2 y k j).trans (Finset.sum_congr rfl fun k _ => congrArg₂ (· * ·) (nat2_eq x k i).symm (nat2_eq y k j).symm)

theorem last_ok (t : Fin cfg0.N) (h5 : t.val % 6 = 5) (i : Fin 1408) (j : Fin 1024) : (outsAt0 m c t.val t.isLt).1 (ix2 i j)
    = ∑ s ∈ range 6, term (m ((c.tc : Thread nD τ).loc main_arg0)) (m ((c.tc : Thread nD τ).loc main_arg1)) (1408 * (t.val / 6) + i) j s := by
  rw [outsAt0_C m c t (by omega) (by omega) h5]
  dsimp only
  rw [oC, pay_ok, sc_ok m c i j (t.val - 1) _ (by omega), Finset.sum_range_succ _ 5, h5, show (t.val - 1) % 6 + 1 = 5 by omega, show (t.val - 1) / 6 = t.val / 6 by omega]

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have ht := (widx t).2.2.2
  obtain ⟨i, j, rfl⟩ : ∃ (i : Fin 1408) (j : Fin 1024), y = ix2 i j := ⟨y 0, y 1, ValueIdx.eq_ix2 y⟩
  rw [after0_2]
  have p := last_ok m c t ((flush0_2 t).mp hf) i j
  generalize (outsAt0 m c t.val t.isLt).1 = q at p ⊢
  refine Eq.trans ?_ (rd2 (prod (m ((c.tc : Thread nD τ).loc main_arg0)) (m ((c.tc : Thread nD τ).loc main_arg1))) t i j ht).symm
  exact p.trans (prod_eq _ _ ⟨1408 * (t.val / 6) + i, by omega⟩ j)

theorem value : Cert.algebraic_Kernel3Ideal_Reference3Ideal := by
  intro m g m' g' hp hagree
  refine ⟨fun c => (dats m 0 c).arrAt 2 cfg0.N, Cert.Kernel3Ideal.Value.run_blocks m g, ?_⟩
  refine (θ_run Cert.Reference3Ideal.defs _ _).mono (fun r h c => ?_) (Cert.Reference3Ideal.Value.run m' g')
  refine ⟨(h c).1.trans (Eq.trans ?_ (final m c).symm), (h c).2⟩
  have e := hagree c
  rw [e.1, e.2]
  funext i
  obtain ⟨i, j, rfl⟩ : ∃ (a : Fin 2816) (b : Fin 1024), i = ix2 a b := ⟨i 0, i 1, ValueIdx.eq_ix2 i⟩
  pointwise []
  exact Finset.sum_congr rfl fun k _ => mul_comm _ _

end Gla.Prod3

end
-- ==== Proof.Prod4.lean ====
module

public import proofs.«01_k».proof.Defs
public import proofs.«01_k».proof.Proof.Prod
public import Idealize.ShloMosaic.Lib.Pipeline.ValueKit
public import proofs.«01_k».proof.Proof.Gen.Kernel4Ideal.Value
public import proofs.«01_k».proof.Proof.Gen.Reference4Ideal
public import proofs.«01_k».proof.Proof.Gen.Reference4Ideal.Run

/-!
The gradient of one output projection: its input, transposed, times the gradient of its output.
-/

@[expose] public section

set_option maxRecDepth 16384

noncomputable section

namespace Gla.Prod4

open Idealize.ShloMosaic Idealize.ShloMosaic.TcCoe Idealize.SL.Sem Cert.Kernel4Ideal Cert.Kernel4Ideal.Gen Finset

variable (m : (ℓ : Loc nD τ sig) → Buf (Elt Ideal) ℓ) (c : Dev nD)

theorem hz : (![0, 0] : Fin 2 → Nat) = fun _ => 0 := funext fun a => by fin_cases a <;> rfl

/-- The product of two blocks, entry by entry. -/
theorem pay_apply (x0 : Vec Ideal S1408x1024 .bf16) (x1 : Vec Ideal S1408x1024 .bf16) (i j : Fin 1024) :
    k0_pay1 (F := Ideal) x0 x1 (ix2 i j) = ∑ k : Fin 1408, x0 (ix2 k i) * x1 (ix2 k j) :=
  tn_apply (φ₁ := .bf16) (φ₂ := .bf16) x0 x1 _ i j

variable (g : grid0.Coords) (a0 : Memref sig .tc .vmem S1408x1024 .bf16) (w0 : a0.IsWhole) (a1 : Memref sig .tc .vmem S1408x1024 .bf16) (w1 : a1.IsWhole)
  (a2 : Memref sig .tc .vmem S1024x1024 .bf16) (w2 : a2.IsWhole) (a3 : Memref sig .tc .vmem S1024x1024 .f32) (w3 : a3.IsWhole)
  (x0 : Vec Ideal S1408x1024 .bf16) (x1 : Vec Ideal S1408x1024 .bf16) (xs : Vec Ideal S1024x1024 .f32)

theorem sA (h0 h1 h2) : sout0_A_0 c g a0 w0 a1 w1 a2 w2 a3 w3 h0 h1 h2 x0 x1 = k0_pay1 x0 x1 := by
  unfold sout0_A_0
  rw [View.read_writes_eq_canon _ _ _ (scover0_A_0 c g a0 w0 a1 w1 a2 w2 a3 w3 h0 h1 h2 x0 x1)]
  unfold kernelRun0_A
  dsimp only
  rw [View.canon_unit_zero hz]
  unfold k0_pay2
  simp only [View.readAt_eq_ld, w0.read_unread, w1.read_unread, View.ld_unit_zero (S := S1024x1024) hz, View.ld_unit_zero (S := S1408x1024) hz, shapeCast_self]

theorem sB (h0 h1 h2) : sout0_B_0 c g a0 w0 a1 w1 a2 w2 a3 w3 h0 h1 h2 x0 x1 xs = addf xs (k0_pay1 x0 x1) := by
  unfold sout0_B_0
  rw [View.read_writes_eq_canon _ _ _ (scover0_B_0 c g a0 w0 a1 w1 a2 w2 a3 w3 h0 h1 h2 x0 x1 xs)]
  unfold kernelRun0_B
  dsimp only
  rw [View.canon_unit_zero hz]
  unfold k0_pay3
  simp only [View.readAt_eq_ld, w0.read_unread, w1.read_unread, w3.read_unread, View.ld_unit_zero (S := S1024x1024) hz, View.ld_unit_zero (S := S1408x1024) hz, shapeCast_self]

theorem oC (h0 h1 h2) (y : S1024x1024.Idx) : out0_C_2 c g a0 w0 a1 w1 a2 w2 a3 w3 h0 h1 h2 x0 x1 xs y = xs y + k0_pay1 (F := Ideal) x0 x1 y := by
  unfold out0_C_2
  rw [View.read_writes_eq_canon _ _ _ (cover0_C_2 c g a0 w0 a1 w1 a2 w2 a3 w3 h0 h1 h2 x0 x1 xs)]
  unfold kernelRun0_C
  dsimp only
  rw [View.canon_unit_zero hz]
  unfold k0_pay4
  simp only [View.readAt_eq_ld, w0.read_unread, w1.read_unread, w3.read_unread, View.ld_unit_zero (S := S1024x1024) hz, View.ld_unit_zero (S := S1408x1024) hz, shapeCast_self]
  rfl

theorem widx : ∀ t : Fin cfg0.N, win0_0.index t = ![t.val % 6, 0] ∧ win0_1.index t = ![t.val % 6, 0] ∧ win0_2.index t = ![0, 0] ∧ t.val < 6 :=
  (by decide +kernel : ∀ t : Fin grid0.N, _)

theorem rd2 (W : Vec Ideal S1024x1024 .bf16) (t : Fin cfg0.N) (i j : Fin 1024) (ht : t.val < 6) :
    ((cfg0.win 2).blk t).view.read (Elt Ideal) W (ix2 i j) = W (ix2 i j) := by
  blk_ext [widx t]

/-- What one block of rows adds to an entry. -/
def term (x : S8448x1024.Idx → EReal) (y : S8448x1024.Idx → EReal) (i j s : ℕ) : EReal := ∑ k : Fin 1408, nat2 x (1408 * s + k) i * nat2 y (1408 * s + k) j

theorem pay_ok (t : Fin cfg0.N) (i j : Fin 1024) :
    k0_pay1 (F := Ideal) (iblk m c 0 t) (iblk m c 1 t) (ix2 i j)
      = term (m ((c.tc : Thread nD τ).loc main_arg0)) (m ((c.tc : Thread nD τ).loc main_arg1)) i j (t.val % 6) := by
  have ht := (widx t).2.2.2
  have e0 (k : Fin 1408) (i : Fin 1024) : iblk m c 0 t (ix2 k i) = (m ((c.tc : Thread nD τ).loc main_arg0) : Vec Ideal S8448x1024 .bf16)
      (ix2 ⟨1408 * (t.val % 6) + k, by omega⟩ i) := by
    blk_ext [iblk, V, widx t]
  have e1 (k : Fin 1408) (j : Fin 1024) : iblk m c 1 t (ix2 k j) = (m ((c.tc : Thread nD τ).loc main_arg1) : Vec Ideal S8448x1024 .bf16)
      (ix2 ⟨1408 * (t.val % 6) + k, by omega⟩ j) := by
    blk_ext [iblk, V, widx t]
  refine (pay_apply _ _ i j).trans (Finset.sum_congr rfl fun k _ => ?_)
  exact congrArg₂ (· * ·) ((e0 k i).trans (nat2_eq _ _ _)) ((e1 k j).trans (nat2_eq _ _ _))

/-- What the carried block holds after a point that is not the last of its run. -/
theorem sc_ok (i j : Fin 1024) : ∀ n h, n % 6 ≤ 4 → (outsAt0 m c n h).2 (ix2 i j)
    = ∑ s ∈ range (n % 6 + 1), term (m ((c.tc : Thread nD τ).loc main_arg0)) (m ((c.tc : Thread nD τ).loc main_arg1)) i j s := by
  refine acc_of (fun n h => (outsAt0 m c n h).2 (ix2 i j)) (fun _ s => term _ _ i j s) (fun n h hn => ?_) fun n h l u => ?_
  · rw [outsAt0_A m c ⟨n, h⟩ hn (by dsimp only; omega) (by dsimp only; omega)]
    dsimp only
    rw [sA, pay_ok]
    dsimp only
    rw [hn]
  · rw [outsAt0_B m c ⟨n + 1, h⟩ (by dsimp only; omega) (by dsimp only; omega) (by dsimp only; omega)]
    dsimp only
    rw [sB]
    exact congrArg (fun e => (outsAt0 m c n (Nat.lt_of_succ_lt h)).2 (ix2 i j) + e) (pay_ok m c ⟨n + 1, h⟩ i j)

/-- The result array is the product. -/
def prod (x : S8448x1024.Idx → EReal) (y : S8448x1024.Idx → EReal) : S1024x1024.Idx → EReal := fun i => ∑ k : Fin 8448, x (ix2 k (i 0)) * y (ix2 k (i 1))

theorem prod_eq (x : S8448x1024.Idx → EReal) (y : S8448x1024.Idx → EReal) (i j : Fin 1024) : ∑ s ∈ range 6, term x y i j s = prod x y (ix2 i j) :=
  (sum_blocks 1408 6 fun k => nat2 x k i * nat2 y k j).trans (Finset.sum_congr rfl fun k _ => congrArg₂ (· * ·) (nat2_eq x k i).symm (nat2_eq y k j).symm)

theorem last_ok (t : Fin cfg0.N) (h5 : t.val % 6 = 5) (i j : Fin 1024) : (outsAt0 m c t.val t.isLt).1 (ix2 i j)
    = ∑ s ∈ range 6, term (m ((c.tc : Thread nD τ).loc main_arg0)) (m ((c.tc : Thread nD τ).loc main_arg1)) i j s := by
  rw [outsAt0_C m c t (by omega) (by omega) h5]
  dsimp only
  rw [oC, pay_ok, sc_ok m c i j (t.val - 1) _ (by omega), Finset.sum_range_succ _ 5, h5, show (t.val - 1) % 6 + 1 = 5 by omega]

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have ht := (widx t).2.2.2
  obtain ⟨i, j, rfl⟩ : ∃ (i : Fin 1024) (j : Fin 1024), y = ix2 i j := ⟨y 0, y 1, ValueIdx.eq_ix2 y⟩
  rw [after0_2]
  have p := last_ok m c t ((flush0_2 t).mp hf) i j
  generalize (outsAt0 m c t.val t.isLt).1 = q at p ⊢
  refine Eq.trans ?_ (rd2 (prod (m ((c.tc : Thread nD τ).loc main_arg0)) (m ((c.tc : Thread nD τ).loc main_arg1))) t i j ht).symm
  exact p.trans (prod_eq _ _ i j)

theorem value : Cert.algebraic_Kernel4Ideal_Reference4Ideal := by
  intro m g m' g' hp hagree
  refine ⟨fun c => (dats m 0 c).arrAt 2 cfg0.N, Cert.Kernel4Ideal.Value.run_blocks m g, ?_⟩
  refine (θ_run Cert.Reference4Ideal.defs _ _).mono (fun r h c => ?_) (Cert.Reference4Ideal.Value.run m' g')
  refine ⟨(h c).1.trans (Eq.trans ?_ (final m c).symm), (h c).2⟩
  have e := hagree c
  rw [e.1, e.2]
  funext i
  obtain ⟨i, j, rfl⟩ : ∃ (a : Fin 1024) (b : Fin 1024), i = ix2 a b := ⟨i 0, i 1, ValueIdx.eq_ix2 i⟩
  pointwise []
  exact Finset.sum_congr rfl fun k _ => mul_comm _ _

end Gla.Prod4

end
-- ==== Proof.Prod5.lean ====
module

public import proofs.«01_k».proof.Defs
public import proofs.«01_k».proof.Proof.Prod
public import Idealize.ShloMosaic.Lib.Pipeline.ValueKit
public import proofs.«01_k».proof.Proof.Gen.Kernel5Ideal.Value
public import proofs.«01_k».proof.Proof.Gen.Reference5Ideal
public import proofs.«01_k».proof.Proof.Gen.Reference5Ideal.Run

/-!
The gradient with respect to the gated activations: the product of the output's gradient with the transposed down projection.
-/

@[expose] public section

noncomputable section

namespace Gla.Prod5

open Idealize.ShloMosaic Idealize.ShloMosaic.TcCoe Idealize.SL.Sem Cert.Kernel5Ideal Cert.Kernel5Ideal.Gen Finset

variable (m : (ℓ : Loc nD τ sig) → Buf (Elt Ideal) ℓ) (c : Dev nD)

theorem hz : (![0, 0] : Fin 2 → Nat) = fun _ => 0 := funext fun a => by fin_cases a <;> rfl

theorem out_apply (x0 x1 : Vec Ideal S1408x1024 .bf16) (i j : Fin 1408) : out0_2 x0 x1 (ix2 i j) = ∑ k : Fin 1024, x0 (ix2 i k) * x1 (ix2 j k) := by
  unfold out0_2
  rw [View.canon_unit_zero hz]
  unfold k0_pay1
  simp only [View.ld_unit_zero (S := S1408x1024) hz]
  exact nt_apply (φ₁ := .bf16) (φ₂ := .bf16) x0 x1 _ i j

theorem widx : ∀ t : Fin cfg0.N, win0_0.index t = ![t.val / 2, 0] ∧ win0_1.index t = ![t.val % 2, 0] ∧ win0_2.index t = ![t.val / 2, t.val % 2] ∧ t.val < 12 :=
  (by decide +kernel : ∀ t : Fin grid0.N, _)

theorem rd2 (W : Vec Ideal S8448x2816 .bf16) (t : Fin cfg0.N) (i j : Fin 1408) (ht : t.val < 12) :
    ((cfg0.win 2).blk t).view.read (Elt Ideal) W (ix2 i j) = W (ix2 ⟨1408 * (t.val / 2) + i, by omega⟩ ⟨1408 * (t.val % 2) + j, by omega⟩) := by
  blk_ext [widx t]

/-- The result array is the product. -/
def prod (x : S8448x1024.Idx → EReal) (y : S2816x1024.Idx → EReal) : S8448x2816.Idx → EReal := fun i => ∑ k : Fin 1024, x (ix2 (i 0) k) * y (ix2 (i 1) k)

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  have ht := (widx t).2.2.2
  have e0 (i : Fin 1408) (k : Fin 1024) : iblk m c 0 t (ix2 i k) = (m ((c.tc : Thread nD τ).loc main_arg0) : Vec Ideal S8448x1024 .bf16) (ix2 ⟨1408 * (t.val / 2) + i, by omega⟩ k) := by
    blk_ext [iblk, V, widx t]
  have e1 (i : Fin 1408) (k : Fin 1024) : iblk m c 1 t (ix2 i k) = (m ((c.tc : Thread nD τ).loc main_arg1) : Vec Ideal S2816x1024 .bf16) (ix2 ⟨1408 * (t.val % 2) + i, by omega⟩ k) := by
    blk_ext [iblk, V, widx t]
  obtain ⟨i, j, rfl⟩ : ∃ (i : Fin 1408) (j : Fin 1408), y = ix2 i j := ⟨y 0, y 1, ValueIdx.eq_ix2 y⟩
  rw [after0_2]
  have p := out_apply (iblk m c 0 t) (iblk m c 1 t) i j
  simp only [e0, e1] at p
  generalize out0_2 (iblk m c 0 t) (iblk m c 1 t) = q at p ⊢
  exact p.trans (rd2 (prod _ _) t i j ht).symm

theorem value : Cert.algebraic_Kernel5Ideal_Reference5Ideal := by
  intro m g m' g' hp hagree
  refine ⟨fun c => (dats m 0 c).arrAt 2 cfg0.N, Cert.Kernel5Ideal.Value.run_blocks m g, ?_⟩
  refine (θ_run Cert.Reference5Ideal.defs _ _).mono (fun r h c => ?_) (Cert.Reference5Ideal.Value.run m' g')
  refine ⟨(h c).1.trans (Eq.trans ?_ (final m c).symm), (h c).2⟩
  have e := hagree c
  rw [e.1, e.2]
  funext i
  obtain ⟨i, j, rfl⟩ : ∃ (a : Fin 8448) (b : Fin 2816), i = ix2 a b := ⟨i 0, i 1, ValueIdx.eq_ix2 i⟩
  exact nt_host (φ₁ := .f32) (φ₂ := .f32) (m ((c.tc : Thread nD τ).loc main_arg0)) (m ((c.tc : Thread nD τ).loc main_arg1)) _ i j

end Gla.Prod5

end
-- ==== Proof.Prod6.lean ====
module

public import proofs.«01_k».proof.Defs
public import proofs.«01_k».proof.Proof.Prod
public import Idealize.ShloMosaic.Lib.Pipeline.ValueKit
public import proofs.«01_k».proof.Proof.Gen.Kernel6Ideal.Value
public import proofs.«01_k».proof.Proof.Gen.Reference6Ideal
public import proofs.«01_k».proof.Proof.Gen.Reference6Ideal.Run

/-!
The gradient with respect to one mixer's output: the product of the block output's gradient with the transposed output projection.
-/

@[expose] public section

noncomputable section

namespace Gla.Prod6

open Idealize.ShloMosaic Idealize.ShloMosaic.TcCoe Idealize.SL.Sem Cert.Kernel6Ideal Cert.Kernel6Ideal.Gen Finset

variable (m : (ℓ : Loc nD τ sig) → Buf (Elt Ideal) ℓ) (c : Dev nD)

theorem hz : (![0, 0] : Fin 2 → Nat) = fun _ => 0 := funext fun a => by fin_cases a <;> rfl

theorem out_apply (x0 : Vec Ideal S1408x1024 .bf16) (x1 : Vec Ideal S1024x1024 .bf16) (i : Fin 1408) (j : Fin 1024) : out0_2 x0 x1 (ix2 i j) = ∑ k : Fin 1024, x0 (ix2 i k) * x1 (ix2 j k) := by
  unfold out0_2
  rw [View.canon_unit_zero hz]
  unfold k0_pay1
  simp only [View.ld_unit_zero (S := S1408x1024) hz, View.ld_unit_zero (S := S1024x1024) hz]
  exact nt_apply (φ₁ := .bf16) (φ₂ := .bf16) x0 x1 _ i j

theorem widx : ∀ t : Fin cfg0.N, win0_0.index t = ![t.val, 0] ∧ win0_1.index t = ![0, 0] ∧ win0_2.index t = ![t.val, 0] ∧ t.val < 6 :=
  (by decide +kernel : ∀ t : Fin grid0.N, _)

theorem rd2 (W : Vec Ideal S8448x1024 .bf16) (t : Fin cfg0.N) (i : Fin 1408) (j : Fin 1024) (ht : t.val < 6) :
    ((cfg0.win 2).blk t).view.read (Elt Ideal) W (ix2 i j) = W (ix2 ⟨1408 * t.val + i, by omega⟩ j) := by
  blk_ext [widx t]

/-- The result array is the product. -/
def prod (x : S8448x1024.Idx → EReal) (y : S1024x1024.Idx → EReal) : S8448x1024.Idx → EReal := fun i => ∑ k : Fin 1024, x (ix2 (i 0) k) * y (ix2 (i 1) k)

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  have ht := (widx t).2.2.2
  have e0 (i : Fin 1408) (k : Fin 1024) : iblk m c 0 t (ix2 i k) = (m ((c.tc : Thread nD τ).loc main_arg0) : Vec Ideal S8448x1024 .bf16) (ix2 ⟨1408 * t.val + i, by omega⟩ k) := by
    blk_ext [iblk, V, widx t]
  have e1 (i k : Fin 1024) : iblk m c 1 t (ix2 i k) = (m ((c.tc : Thread nD τ).loc main_arg1) : Vec Ideal S1024x1024 .bf16) (ix2 i k) := by
    blk_ext [iblk, V, widx t]
  obtain ⟨i, j, rfl⟩ : ∃ (i : Fin 1408) (j : Fin 1024), y = ix2 i j := ⟨y 0, y 1, ValueIdx.eq_ix2 y⟩
  rw [after0_2]
  have p := out_apply (iblk m c 0 t) (iblk m c 1 t) i j
  simp only [e0, e1] at p
  generalize out0_2 (iblk m c 0 t) (iblk m c 1 t) = q at p ⊢
  exact p.trans (rd2 (prod _ _) t i j ht).symm

theorem value : Cert.algebraic_Kernel6Ideal_Reference6Ideal := by
  intro m g m' g' hp hagree
  refine ⟨fun c => (dats m 0 c).arrAt 2 cfg0.N, Cert.Kernel6Ideal.Value.run_blocks m g, ?_⟩
  refine (θ_run Cert.Reference6Ideal.defs _ _).mono (fun r h c => ?_) (Cert.Reference6Ideal.Value.run m' g')
  refine ⟨(h c).1.trans (Eq.trans ?_ (final m c).symm), (h c).2⟩
  have e := hagree c
  rw [e.1, e.2]
  funext i
  obtain ⟨i, j, rfl⟩ : ∃ (a : Fin 8448) (b : Fin 1024), i = ix2 a b := ⟨i 0, i 1, ValueIdx.eq_ix2 i⟩
  exact nt_host (φ₁ := .f32) (φ₂ := .f32) (m ((c.tc : Thread nD τ).loc main_arg0)) (m ((c.tc : Thread nD τ).loc main_arg1)) _ i j

end Gla.Prod6

end
-- ==== Proof.Prod7.lean ====
module

public import proofs.«01_k».proof.Defs
public import proofs.«01_k».proof.Proof.Prod
public import Idealize.ShloMosaic.Lib.Pipeline.ValueKit
public import proofs.«01_k».proof.Proof.Gen.Kernel7Ideal.Value
public import proofs.«01_k».proof.Proof.Gen.Reference7Ideal
public import proofs.«01_k».proof.Proof.Gen.Reference7Ideal.Run

/-!
The product with the up projection, whose columns lie in four stacked blocks.
-/

@[expose] public section

noncomputable section

namespace Gla.Prod7

open Idealize.ShloMosaic Idealize.ShloMosaic.TcCoe Idealize.SL.Sem Cert.Kernel7Ideal Cert.Kernel7Ideal.Gen Finset

variable (m : (ℓ : Loc nD τ sig) → Buf (Elt Ideal) ℓ) (c : Dev nD)

theorem hz : (![0, 0] : Fin 2 → Nat) = fun _ => 0 := funext fun a => by fin_cases a <;> rfl

theorem hz3 : (![0, 0, 0] : Fin 3 → Nat) = fun _ => 0 := funext fun a => by fin_cases a <;> rfl

theorem cast_apply (x1 : Vec Ideal S1x1024x1408 .bf16) (h) (k : Fin 1024) (j : Fin 1408) : shapeCast S1024x1408 x1 h (ix2 k j) = x1 (ix3 0 k j) := by
  pointwise []

theorem out_apply (x0 : Vec Ideal S1408x1024 .bf16) (x1 : Vec Ideal S1x1024x1408 .bf16) (i j : Fin 1408) : out0_2 x0 x1 (ix2 i j) = ∑ k : Fin 1024, x0 (ix2 i k) * x1 (ix3 0 k j) := by
  unfold out0_2
  rw [View.canon_unit_zero hz]
  unfold k0_pay1
  simp only [View.ld_unit_zero (S := S1408x1024) hz, View.ld_unit_zero (S := S1x1024x1408) hz3]
  refine (nn_apply (φ₁ := .bf16) (φ₂ := .bf16) x0 (shapeCast S1024x1408 x1 _) _ i j).trans ?_
  exact Finset.sum_congr rfl fun k _ => congrArg (x0 (ix2 i k) * ·) (cast_apply x1 _ k j)

theorem widx : ∀ t : Fin cfg0.N, win0_0.index t = ![t.val / 4, 0] ∧ win0_1.index t = ![t.val % 4, 0, 0] ∧ win0_2.index t = ![t.val / 4, t.val % 4] ∧ t.val < 24 :=
  (by decide +kernel : ∀ t : Fin grid0.N, _)

theorem rd2 (W : Vec Ideal S8448x5632 .bf16) (t : Fin cfg0.N) (i j : Fin 1408) (ht : t.val < 24) :
    ((cfg0.win 2).blk t).view.read (Elt Ideal) W (ix2 i j) = W (ix2 ⟨1408 * (t.val / 4) + i, by omega⟩ ⟨1408 * (t.val % 4) + j, by omega⟩) := by
  blk_ext [widx t]

/-- The column of the stacked blocks that a column of the result belongs to. -/
def col (y : S4x1024x1408.Idx → EReal) (k : Fin 1024) (n : Fin 5632) : EReal := y (ix3 ⟨n / 1408, by omega⟩ k ⟨n % 1408, Nat.mod_lt _ (by omega)⟩)

/-- The result array is the product. -/
def prod (x : S8448x1024.Idx → EReal) (y : S4x1024x1408.Idx → EReal) : S8448x5632.Idx → EReal := fun i => ∑ k : Fin 1024, x (ix2 (i 0) k) * col y k (i 1)

theorem col_at (y : S4x1024x1408.Idx → EReal) (q : Fin 4) (k : Fin 1024) (j : Fin 1408) (n : Fin 5632) (hn : (n : ℕ) = 1408 * q + j) : col y k n = y (ix3 q k j) := by
  obtain ⟨n, hl⟩ := n
  dsimp only at hn
  subst hn
  unfold col
  have e1 : (⟨(1408 * (q : ℕ) + j) / 1408, by omega⟩ : Fin 4) = q := Fin.ext (by dsimp only; omega)
  have e2 : (⟨(1408 * (q : ℕ) + j) % 1408, Nat.mod_lt _ (by omega)⟩ : Fin 1408) = j := Fin.ext (by dsimp only; omega)
  exact congrArg₂ (fun a b => y (ix3 a k b)) e1 e2

theorem quarters (y : S4x1024x1408.Idx → EReal) (k : Fin 1024) (j : Fin 5632) :
    (if h : (j : ℕ) < 1408 then y (ix3 0 k ⟨j, h⟩)
    else if h : (j : ℕ) - 1408 < 1408 then y (ix3 1 k ⟨(j : ℕ) - 1408, h⟩)
    else if h : (j : ℕ) - 1408 - 1408 < 1408 then y (ix3 2 k ⟨(j : ℕ) - 1408 - 1408, h⟩)
    else y (ix3 3 k ⟨(j : ℕ) - 1408 - 1408 - 1408, by have := j.isLt; omega⟩)) = col y k j := by
  split_ifs with h0 h1 h2
  · exact (col_at y 0 k ⟨j, h0⟩ j (by show (j : ℕ) = 1408 * 0 + j; omega)).symm
  · exact (col_at y 1 k ⟨j - 1408, h1⟩ j (by show (j : ℕ) = 1408 * 1 + (j - 1408); omega)).symm
  · exact (col_at y 2 k ⟨j - 1408 - 1408, h2⟩ j (by show (j : ℕ) = 1408 * 2 + (j - 1408 - 1408); omega)).symm
  · exact (col_at y 3 k ⟨j - 1408 - 1408 - 1408, by have := j.isLt; omega⟩ j (by show (j : ℕ) = 1408 * 3 + (j - 1408 - 1408 - 1408); omega)).symm

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  have ht := (widx t).2.2.2
  have e0 (i : Fin 1408) (k : Fin 1024) : iblk m c 0 t (ix2 i k) = (m ((c.tc : Thread nD τ).loc main_arg0) : Vec Ideal S8448x1024 .bf16) (ix2 ⟨1408 * (t.val / 4) + i, by omega⟩ k) := by
    blk_ext [iblk, V, widx t]
  have e1 (k : Fin 1024) (j : Fin 1408) : iblk m c 1 t (ix3 0 k j) = (m ((c.tc : Thread nD τ).loc main_arg1) : Vec Ideal S4x1024x1408 .bf16) (ix3 ⟨t.val % 4, by omega⟩ k j) := by
    blk_ext [iblk, V, widx t]
  obtain ⟨i, j, rfl⟩ : ∃ (i : Fin 1408) (j : Fin 1408), y = ix2 i j := ⟨y 0, y 1, ValueIdx.eq_ix2 y⟩
  rw [after0_2]
  have p := out_apply (iblk m c 0 t) (iblk m c 1 t) i j
  simp only [e0, e1] at p
  generalize out0_2 (iblk m c 0 t) (iblk m c 1 t) = q at p ⊢
  refine p.trans (Eq.trans ?_ (rd2 (prod (m ((c.tc : Thread nD τ).loc main_arg0)) (m ((c.tc : Thread nD τ).loc main_arg1))) t i j ht).symm)
  exact Finset.sum_congr rfl fun k _ => congrArg (fun e : EReal => (_ : EReal) * e) (col_at _ ⟨t.val % 4, by omega⟩ k j _ rfl).symm

theorem value : Cert.algebraic_Kernel7Ideal_Reference7Ideal := by
  intro m g m' g' hp hagree
  refine ⟨fun c => (dats m 0 c).arrAt 2 cfg0.N, Cert.Kernel7Ideal.Value.run_blocks m g, ?_⟩
  refine (θ_run Cert.Reference7Ideal.defs _ _).mono (fun r h c => ?_) (Cert.Reference7Ideal.Value.run m' g')
  refine ⟨(h c).1.trans (Eq.trans ?_ (final m c).symm), (h c).2⟩
  have e := hagree c
  rw [e.1, e.2]
  funext i
  obtain ⟨i, j, rfl⟩ : ∃ (a : Fin 8448) (b : Fin 5632), i = ix2 a b := ⟨i 0, i 1, ValueIdx.eq_ix2 i⟩
  generalize m ((c.tc : Thread nD τ).loc main_arg0) = x
  generalize m ((c.tc : Thread nD τ).loc main_arg1) = y
  refine (nn_host (φ₁ := .f32) (φ₂ := .f32) x _ _ i j).trans (Finset.sum_congr rfl fun k _ => congrArg (HMul.hMul (α := EReal) (β := EReal) (γ := EReal) (x (ix2 i k))) ?_)
  pointwise []
  exact quarters y k j

end Gla.Prod7

end
-- ==== Proof.Prod8.lean ====
module

public import proofs.«01_k».proof.Defs
public import proofs.«01_k».proof.Proof.Prod
public import Idealize.ShloMosaic.Lib.Pipeline.ValueKit
public import proofs.«01_k».proof.Proof.Gen.Kernel8Ideal.Value
public import proofs.«01_k».proof.Proof.Gen.Reference8Ideal
public import proofs.«01_k».proof.Proof.Gen.Reference8Ideal.Run

/-!
The product of a mixer branch with its output projection.
-/

@[expose] public section

noncomputable section

namespace Gla.Prod8

open Idealize.ShloMosaic Idealize.ShloMosaic.TcCoe Idealize.SL.Sem Cert.Kernel8Ideal Cert.Kernel8Ideal.Gen Finset

variable (m : (ℓ : Loc nD τ sig) → Buf (Elt Ideal) ℓ) (c : Dev nD)

theorem hz : (![0, 0] : Fin 2 → Nat) = fun _ => 0 := funext fun a => by fin_cases a <;> rfl

theorem out_apply (x0 : Vec Ideal S1408x1024 .bf16) (x1 : Vec Ideal S1024x1024 .bf16) (i : Fin 1408) (j : Fin 1024) : out0_2 x0 x1 (ix2 i j) = ∑ k : Fin 1024, x0 (ix2 i k) * x1 (ix2 k j) := by
  unfold out0_2
  rw [View.canon_unit_zero hz]
  unfold k0_pay1
  simp only [View.ld_unit_zero (S := S1408x1024) hz, View.ld_unit_zero (S := S1024x1024) hz]
  exact nn_apply (φ₁ := .bf16) (φ₂ := .bf16) x0 x1 _ i j

theorem widx : ∀ t : Fin cfg0.N, win0_0.index t = ![t.val, 0] ∧ win0_1.index t = ![0, 0] ∧ win0_2.index t = ![t.val, 0] ∧ t.val < 6 :=
  (by decide +kernel : ∀ t : Fin grid0.N, _)

theorem rd2 (W : Vec Ideal S8448x1024 .bf16) (t : Fin cfg0.N) (i : Fin 1408) (j : Fin 1024) (ht : t.val < 6) :
    ((cfg0.win 2).blk t).view.read (Elt Ideal) W (ix2 i j) = W (ix2 ⟨1408 * t.val + i, by omega⟩ j) := by
  blk_ext [widx t]

/-- The result array is the product. -/
def prod (x : S8448x1024.Idx → EReal) (y : S1024x1024.Idx → EReal) : S8448x1024.Idx → EReal := fun i => ∑ k : Fin 1024, x (ix2 (i 0) k) * y (ix2 k (i 1))

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  have ht := (widx t).2.2.2
  have e0 (i : Fin 1408) (k : Fin 1024) : iblk m c 0 t (ix2 i k) = (m ((c.tc : Thread nD τ).loc main_arg0) : Vec Ideal S8448x1024 .bf16) (ix2 ⟨1408 * t.val + i, by omega⟩ k) := by
    blk_ext [iblk, V, widx t]
  have e1 (i k : Fin 1024) : iblk m c 1 t (ix2 i k) = (m ((c.tc : Thread nD τ).loc main_arg1) : Vec Ideal S1024x1024 .bf16) (ix2 i k) := by
    blk_ext [iblk, V, widx t]
  obtain ⟨i, j, rfl⟩ : ∃ (i : Fin 1408) (j : Fin 1024), y = ix2 i j := ⟨y 0, y 1, ValueIdx.eq_ix2 y⟩
  rw [after0_2]
  have p := out_apply (iblk m c 0 t) (iblk m c 1 t) i j
  simp only [e0, e1] at p
  generalize out0_2 (iblk m c 0 t) (iblk m c 1 t) = q at p ⊢
  exact p.trans (rd2 (prod _ _) t i j ht).symm

theorem value : Cert.algebraic_Kernel8Ideal_Reference8Ideal := by
  intro m g m' g' hp hagree
  refine ⟨fun c => (dats m 0 c).arrAt 2 cfg0.N, Cert.Kernel8Ideal.Value.run_blocks m g, ?_⟩
  refine (θ_run Cert.Reference8Ideal.defs _ _).mono (fun r h c => ?_) (Cert.Reference8Ideal.Value.run m' g')
  refine ⟨(h c).1.trans (Eq.trans ?_ (final m c).symm), (h c).2⟩
  have e := hagree c
  rw [e.1, e.2]
  funext i
  obtain ⟨i, j, rfl⟩ : ∃ (a : Fin 8448) (b : Fin 1024), i = ix2 a b := ⟨i 0, i 1, ValueIdx.eq_ix2 i⟩
  exact nn_host (φ₁ := .f32) (φ₂ := .f32) (m ((c.tc : Thread nD τ).loc main_arg0)) (m ((c.tc : Thread nD τ).loc main_arg1)) _ i j

end Gla.Prod8

end
-- ==== Proof.Prod9.lean ====
module

public import proofs.«01_k».proof.Defs
public import proofs.«01_k».proof.Proof.Prod
public import Idealize.ShloMosaic.Lib.Pipeline.ValueKit
public import proofs.«01_k».proof.Proof.Gen.Kernel9Ideal.Value
public import proofs.«01_k».proof.Proof.Gen.Reference9Ideal
public import proofs.«01_k».proof.Proof.Gen.Reference9Ideal.Run

/-!
The gradient with respect to the forget gate's up projection: an accumulated product over blocks of rows.
-/

@[expose] public section

set_option maxRecDepth 16384

noncomputable section

namespace Gla.Prod9

open Idealize.ShloMosaic Idealize.ShloMosaic.TcCoe Idealize.SL.Sem Cert.Kernel9Ideal Cert.Kernel9Ideal.Gen Finset

variable (m : (ℓ : Loc nD τ sig) → Buf (Elt Ideal) ℓ) (c : Dev nD)

theorem hz : (![0, 0] : Fin 2 → Nat) = fun _ => 0 := funext fun a => by fin_cases a <;> rfl

/-- The product of two blocks, entry by entry. -/
theorem pay_apply (x0 : Vec Ideal S768x128 .f32) (x1 : Vec Ideal S768x512 .bf16) (i : Fin 128) (j : Fin 512) :
    k0_pay1 (F := Ideal) x0 x1 (ix2 i j) = ∑ k : Fin 768, x0 (ix2 k i) * x1 (ix2 k j) :=
  tn_apply (φ₁ := .bf16) (φ₂ := .bf16) (truncf .bf16 x0 bitsLt_bf16_f32) x1 _ i j

variable (g : grid0.Coords) (a0 : Memref sig .tc .vmem S768x128 .f32) (w0 : a0.IsWhole) (a1 : Memref sig .tc .vmem S768x512 .bf16) (w1 : a1.IsWhole)
  (a2 : Memref sig .tc .vmem S128x512 .f32) (w2 : a2.IsWhole) (a3 : Memref sig .tc .vmem S128x512 .f32) (w3 : a3.IsWhole)
  (x0 : Vec Ideal S768x128 .f32) (x1 : Vec Ideal S768x512 .bf16) (xs : Vec Ideal S128x512 .f32)

theorem sA (h0 h1 h2) : sout0_A_0 c g a0 w0 a1 w1 a2 w2 a3 w3 h0 h1 h2 x0 x1 = k0_pay1 x0 x1 := by
  unfold sout0_A_0
  rw [View.read_writes_eq_canon _ _ _ (scover0_A_0 c g a0 w0 a1 w1 a2 w2 a3 w3 h0 h1 h2 x0 x1)]
  unfold kernelRun0_A
  dsimp only
  rw [View.canon_unit_zero hz]
  unfold k0_pay2
  simp only [View.readAt_eq_ld, w0.read_unread, w1.read_unread, View.ld_unit_zero (S := S128x512) hz, View.ld_unit_zero (S := S768x128) hz, View.ld_unit_zero (S := S768x512) hz, shapeCast_self]

theorem sB (h0 h1 h2) : sout0_B_0 c g a0 w0 a1 w1 a2 w2 a3 w3 h0 h1 h2 x0 x1 xs = addf xs (k0_pay1 x0 x1) := by
  unfold sout0_B_0
  rw [View.read_writes_eq_canon _ _ _ (scover0_B_0 c g a0 w0 a1 w1 a2 w2 a3 w3 h0 h1 h2 x0 x1 xs)]
  unfold kernelRun0_B
  dsimp only
  rw [View.canon_unit_zero hz]
  unfold k0_pay3
  simp only [View.readAt_eq_ld, w0.read_unread, w1.read_unread, w3.read_unread, View.ld_unit_zero (S := S128x512) hz, View.ld_unit_zero (S := S768x128) hz, View.ld_unit_zero (S := S768x512) hz, shapeCast_self]

theorem oC (h0 h1 h2) (y : S128x512.Idx) : out0_C_2 c g a0 w0 a1 w1 a2 w2 a3 w3 h0 h1 h2 x0 x1 xs y = xs y + k0_pay1 (F := Ideal) x0 x1 y := by
  unfold out0_C_2
  rw [View.read_writes_eq_canon _ _ _ (cover0_C_2 c g a0 w0 a1 w1 a2 w2 a3 w3 h0 h1 h2 x0 x1 xs)]
  unfold kernelRun0_C
  dsimp only
  rw [View.canon_unit_zero hz]
  unfold k0_pay4
  simp only [View.readAt_eq_ld, w0.read_unread, w1.read_unread, w3.read_unread, View.ld_unit_zero (S := S128x512) hz, View.ld_unit_zero (S := S768x128) hz, View.ld_unit_zero (S := S768x512) hz, shapeCast_self]
  rfl

theorem widx : ∀ t : Fin cfg0.N, win0_0.index t = ![t.val % 11, 0] ∧ win0_1.index t = ![t.val % 11, 0] ∧ win0_2.index t = ![0, 0] ∧ t.val < 11 :=
  (by decide +kernel : ∀ t : Fin grid0.N, _)

theorem rd2 (W : Vec Ideal S128x512 .f32) (t : Fin cfg0.N) (i : Fin 128) (j : Fin 512) (ht : t.val < 11) :
    ((cfg0.win 2).blk t).view.read (Elt Ideal) W (ix2 i j) = W (ix2 i j) := by
  blk_ext [widx t]

/-- What one block of rows adds to an entry. -/
def term (x : S8448x128.Idx → EReal) (y : S8448x512.Idx → EReal) (i j s : ℕ) : EReal := ∑ k : Fin 768, nat2 x (768 * s + k) i * nat2 y (768 * s + k) j

theorem pay_ok (t : Fin cfg0.N) (i : Fin 128) (j : Fin 512) :
    k0_pay1 (F := Ideal) (iblk m c 0 t) (iblk m c 1 t) (ix2 i j)
      = term (m ((c.tc : Thread nD τ).loc main_arg0)) (m ((c.tc : Thread nD τ).loc main_arg1)) i j (t.val % 11) := by
  have ht := (widx t).2.2.2
  have e0 (k : Fin 768) (i : Fin 128) : iblk m c 0 t (ix2 k i) = (m ((c.tc : Thread nD τ).loc main_arg0) : Vec Ideal S8448x128 .f32)
      (ix2 ⟨768 * (t.val % 11) + k, by omega⟩ i) := by
    blk_ext [iblk, V, widx t]
  have e1 (k : Fin 768) (j : Fin 512) : iblk m c 1 t (ix2 k j) = (m ((c.tc : Thread nD τ).loc main_arg1) : Vec Ideal S8448x512 .bf16)
      (ix2 ⟨768 * (t.val % 11) + k, by omega⟩ j) := by
    blk_ext [iblk, V, widx t]
  refine (pay_apply _ _ i j).trans (Finset.sum_congr rfl fun k _ => ?_)
  exact congrArg₂ (· * ·) ((e0 k i).trans (nat2_eq _ _ _)) ((e1 k j).trans (nat2_eq _ _ _))

/-- What the carried block holds after a point that is not the last of its run. -/
theorem sc_ok (i : Fin 128) (j : Fin 512) : ∀ n h, n % 11 ≤ 9 → (outsAt0 m c n h).2 (ix2 i j)
    = ∑ s ∈ range (n % 11 + 1), term (m ((c.tc : Thread nD τ).loc main_arg0)) (m ((c.tc : Thread nD τ).loc main_arg1)) i j s := by
  refine acc_run 11 (by omega) (fun n h => (outsAt0 m c n h).2 (ix2 i j)) (fun _ s => term _ _ i j s) (fun n h hn => ?_) fun n h l u => ?_
  · rw [outsAt0_A m c ⟨n, h⟩ hn (by dsimp only; omega) (by dsimp only; omega)]
    dsimp only
    rw [sA, pay_ok]
    dsimp only
    rw [hn]
  · rw [outsAt0_B m c ⟨n + 1, h⟩ (by dsimp only; omega) (by dsimp only; omega) (by dsimp only; omega)]
    dsimp only
    rw [sB]
    exact congrArg (fun e => (outsAt0 m c n (Nat.lt_of_succ_lt h)).2 (ix2 i j) + e) (pay_ok m c ⟨n + 1, h⟩ i j)

/-- The result array is the product. -/
def prod (x : S8448x128.Idx → EReal) (y : S8448x512.Idx → EReal) : S128x512.Idx → EReal := fun i => ∑ k : Fin 8448, x (ix2 k (i 0)) * y (ix2 k (i 1))

theorem prod_eq (x : S8448x128.Idx → EReal) (y : S8448x512.Idx → EReal) (i : Fin 128) (j : Fin 512) : ∑ s ∈ range 11, term x y i j s = prod x y (ix2 i j) :=
  (sum_blocks 768 11 fun k => nat2 x k i * nat2 y k j).trans (Finset.sum_congr rfl fun k _ => congrArg₂ (· * ·) (nat2_eq x k i).symm (nat2_eq y k j).symm)

theorem last_ok (t : Fin cfg0.N) (h5 : t.val % 11 = 10) (i : Fin 128) (j : Fin 512) : (outsAt0 m c t.val t.isLt).1 (ix2 i j)
    = ∑ s ∈ range 11, term (m ((c.tc : Thread nD τ).loc main_arg0)) (m ((c.tc : Thread nD τ).loc main_arg1)) i j s := by
  rw [outsAt0_C m c t (by omega) (by omega) h5]
  dsimp only
  rw [oC, pay_ok, sc_ok m c i j (t.val - 1) _ (by omega), Finset.sum_range_succ _ 10, h5, show (t.val - 1) % 11 + 1 = 10 by omega]

theorem final : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have ht := (widx t).2.2.2
  obtain ⟨i, j, rfl⟩ : ∃ (i : Fin 128) (j : Fin 512), y = ix2 i j := ⟨y 0, y 1, ValueIdx.eq_ix2 y⟩
  rw [after0_2]
  have p := last_ok m c t ((flush0_2 t).mp hf) i j
  generalize (outsAt0 m c t.val t.isLt).1 = q at p ⊢
  refine Eq.trans ?_ (rd2 (prod (m ((c.tc : Thread nD τ).loc main_arg0)) (m ((c.tc : Thread nD τ).loc main_arg1))) t i j ht).symm
  exact p.trans (prod_eq _ _ i j)

theorem value : Cert.algebraic_Kernel9Ideal_Reference9Ideal := by
  intro m g m' g' hp hagree
  refine ⟨fun c => (dats m 0 c).arrAt 2 cfg0.N, Cert.Kernel9Ideal.Value.run_blocks m g, ?_⟩
  refine (θ_run Cert.Reference9Ideal.defs _ _).mono (fun r h c => ?_) (Cert.Reference9Ideal.Value.run m' g')
  refine ⟨(h c).1.trans (Eq.trans ?_ (final m c).symm), (h c).2⟩
  have e := hagree c
  rw [e.1, e.2]
  funext i
  obtain ⟨i, j, rfl⟩ : ∃ (a : Fin 128) (b : Fin 512), i = ix2 a b := ⟨i 0, i 1, ValueIdx.eq_ix2 i⟩
  pointwise []
  exact Finset.sum_congr rfl fun k _ => mul_comm _ _

end Gla.Prod9

end
-- ==== Proof.Prod10.lean ====
module

public import proofs.«01_k».proof.Defs
public import proofs.«01_k».proof.Proof.Base
public import proofs.«01_k».proof.Proof.Gen.Kernel10Ideal.Value
public import proofs.«01_k».proof.Proof.Gen.Reference10Ideal
public import proofs.«01_k».proof.Proof.Gen.Reference10Ideal.Run

/-!
The optimiser's step on the packed small weights.
-/

@[expose] public section

noncomputable section

namespace Gla.Prod10

open Idealize.ShloMosaic Idealize.ShloMosaic.TcCoe Idealize.SL.Sem Cert.Kernel10Ideal Cert.Kernel10Ideal.Gen

theorem value : Cert.algebraic_Kernel10Ideal_Reference10Ideal := by
  intro m g m' g' hp hagree
  refine ⟨_, _, _, Cert.Kernel10Ideal.Value.run m g, ?_⟩
  refine (θ_run Cert.Reference10Ideal.defs _ _).mono (fun r h c => ?_) (Cert.Reference10Ideal.Value.run m' g')
  have e := hagree c
  refine ⟨(h c).1.trans ?_, (h c).2.1.trans ?_, (h c).2.2.1.trans ?_, (h c).2.2.2⟩
  · rw [e.1, e.2.1, e.2.2.1, e.2.2.2]
    rfl
  · rw [e.2.1, e.2.2.1]
    rfl
  · rw [e.2.1, e.2.2.2]
    rfl

end Gla.Prod10

end
-- ==== Proof.Adam.lean ====
module

public import proofs.«01_k».proof.Proof.Base
public import Idealize.ShloMosaic.Lib.KernelVsHost
public import Idealize.ShloMosaic.Lib.Pointwise.Contract

/-!
One step of the optimiser on one entry of an array, and the sum of an entry's gradient over the chips.
-/

@[expose] public section

noncomputable section

namespace Gla.Adam

open Idealize.ShloMosaic Finset

/-- A number given by its bits. -/
def con (w : BitVec 32) : Ideal .f32 := Scalar.ofBits .f32 w

/-- The two moments after the step. -/
def mom (g m : Ideal .f32) : Ideal .f32 := FloatOps.addf (FloatOps.mulf (con 0x3F666666#32) m) (FloatOps.mulf (con 0x3DCCCCCD#32) g)

def vel (g v : Ideal .f32) : Ideal .f32 := FloatOps.addf (FloatOps.mulf (con 0x3F7FBE77#32) v) (FloatOps.mulf (con 0x3A83126F#32) (FloatOps.mulf g g))

/-- The step itself, from the moments and the weight. -/
def step (g w m v : Ideal .f32) : Ideal .f32 :=
  FloatOps.mulf (con 0xBA83126F#32) (FloatOps.addf (FloatOps.divf (FloatOps.divf (mom g m) (con 0x3F26BD02#32))
    (FloatOps.addf (FloatOps.sqrt (FloatOps.divf (vel g v) (con 0x3C231ACC#32))) (con 0x322BCC77#32))) (FloatOps.mulf (con 0x3C23D70A#32) w))

variable {R C : ℕ}

/-- A chip's own part of the gradient and the parts of the three others, added in turn. -/
def gsum (own : (⟨2, ![R, C]⟩ : Shape).Idx → EReal) (oth : (⟨3, ![3, R, C]⟩ : Shape).Idx → EReal) (i : Fin R) (j : Fin C) : EReal :=
  own (ix2 i j) + oth (ix3 0 i j) + oth (ix3 1 i j) + oth (ix3 2 i j)

/-- The reference adds the three others first. -/
theorem host_sum (x : FVec Ideal ⟨2, ![R, C]⟩ .f32) (y : FVec Ideal ⟨3, ![3, R, C]⟩ .f32) (h : (⟨3, ![3, R, C]⟩ : Shape).ReducesTo [0] ⟨2, ![R, C]⟩)
    (hu : 0 < (⟨0, ![]⟩ : Shape).numel) (i : Fin R) (j : Fin C) :
    addf x (Host.reduceAdd y (constant ⟨0, ![]⟩ .f32 0x00000000#32) h hu) (ix2 i j) = gsum x y i j := by
  pointwise []
  rw [Fin.sum_univ_three]
  unfold gsum
  rw [add_assoc, add_assoc, add_assoc]

/-- The four result arrays: the gradient, the step, the two moments. -/
def sumR (own : (⟨2, ![R, C]⟩ : Shape).Idx → EReal) (oth : (⟨3, ![3, R, C]⟩ : Shape).Idx → EReal) : (⟨2, ![R, C]⟩ : Shape).Idx → EReal :=
  fun y => gsum own oth (y 0) (y 1)

def stepR (own : (⟨2, ![R, C]⟩ : Shape).Idx → EReal) (oth : (⟨3, ![3, R, C]⟩ : Shape).Idx → EReal) (w u v : (⟨2, ![R, C]⟩ : Shape).Idx → EReal) :
    (⟨2, ![R, C]⟩ : Shape).Idx → EReal :=
  fun y => step (gsum own oth (y 0) (y 1)) (w (ix2 (y 0) (y 1))) (u (ix2 (y 0) (y 1))) (v (ix2 (y 0) (y 1)))

def momR (own : (⟨2, ![R, C]⟩ : Shape).Idx → EReal) (oth : (⟨3, ![3, R, C]⟩ : Shape).Idx → EReal) (u : (⟨2, ![R, C]⟩ : Shape).Idx → EReal) :
    (⟨2, ![R, C]⟩ : Shape).Idx → EReal :=
  fun y => mom (gsum own oth (y 0) (y 1)) (u (ix2 (y 0) (y 1)))

def velR (own : (⟨2, ![R, C]⟩ : Shape).Idx → EReal) (oth : (⟨3, ![3, R, C]⟩ : Shape).Idx → EReal) (v : (⟨2, ![R, C]⟩ : Shape).Idx → EReal) :
    (⟨2, ![R, C]⟩ : Shape).Idx → EReal :=
  fun y => vel (gsum own oth (y 0) (y 1)) (v (ix2 (y 0) (y 1)))

end Gla.Adam

end
-- ==== Proof.Prod11.lean ====
module

public import proofs.«01_k».proof.Defs
public import proofs.«01_k».proof.Proof.Adam
public import Idealize.ShloMosaic.Lib.Pipeline.ValueKit
public import proofs.«01_k».proof.Proof.Gen.Kernel11Ideal.Value
public import proofs.«01_k».proof.Proof.Gen.Reference11Ideal
public import proofs.«01_k».proof.Proof.Gen.Reference11Ideal.Run

/-!
The chips' sum and the optimiser's step on a shard of the input projection.
-/

@[expose] public section

set_option maxRecDepth 16384

noncomputable section

namespace Gla.Prod11

open Idealize.ShloMosaic Idealize.ShloMosaic.TcCoe Idealize.SL.Sem Cert.Kernel11Ideal Cert.Kernel11Ideal.Gen Adam

variable (m : (ℓ : Loc nD τ sig) → Buf (Elt Ideal) ℓ) (c : Dev nD)

theorem hz : (![0, 0] : Fin 2 → Nat) = fun _ => 0 := funext fun a => by fin_cases a <;> rfl

variable (x0 : Vec Ideal S256x1796 .bf16) (x1 : Vec Ideal S3x256x1796 .bf16) (x2 x3 x4 : Vec Ideal S256x1796 .f32) (i : Fin 256) (j : Fin 1796)

theorem ld0 : View.ld x1 r0_1 (ix3 0 i j) = x1 (ix3 0 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ld1 : View.ld x1 r0_2 (ix3 0 i j) = x1 (ix3 1 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ld2 : View.ld x1 r0_3 (ix3 0 i j) = x1 (ix3 2 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem pay_apply (y0 y1 y2 : Vec Ideal S1x256x1796 .bf16) :
    k0_pay2 x0 y0 y1 y2 (ix2 i j) = x0 (ix2 i j) + y0 (ix3 0 i j) + y1 (ix3 0 i j) + y2 (ix3 0 i j) := by
  unfold k0_pay2
  pointwise []

theorem sum_ok : k0_pay2 x0 (View.ld x1 r0_1) (View.ld x1 r0_2) (View.ld x1 r0_3) (ix2 i j) = gsum x0 x1 i j := by
  rw [pay_apply, ld0, ld1, ld2]
  rfl

theorem out5 : out0_5 x0 x1 x2 x3 x4 (ix2 i j) = gsum x0 x1 i j := by
  unfold out0_5
  rw [View.canon_unit_zero hz]
  simp only [View.ld_unit_zero (S := S256x1796) hz]
  exact sum_ok x0 x1 i j

theorem out6 : out0_6 x0 x1 x2 x3 x4 (ix2 i j) = step (gsum x0 x1 i j) (x2 (ix2 i j)) (x3 (ix2 i j)) (x4 (ix2 i j)) := by
  unfold out0_6
  rw [View.canon_unit_zero hz]
  simp only [View.ld_unit_zero (S := S256x1796) hz]
  rw [← sum_ok]
  rfl

theorem out7 : out0_7 x0 x1 x2 x3 x4 (ix2 i j) = mom (gsum x0 x1 i j) (x3 (ix2 i j)) := by
  unfold out0_7
  rw [View.canon_unit_zero hz]
  simp only [View.ld_unit_zero (S := S256x1796) hz]
  rw [← sum_ok]
  rfl

theorem out8 : out0_8 x0 x1 x2 x3 x4 (ix2 i j) = vel (gsum x0 x1 i j) (x4 (ix2 i j)) := by
  unfold out0_8
  rw [View.canon_unit_zero hz]
  simp only [View.ld_unit_zero (S := S256x1796) hz]
  rw [← sum_ok]
  rfl

theorem widx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] ∧ t.val < 4 :=
  (by decide +kernel : ∀ t : Fin grid0.N, _)

/-- The array's row that a block's row is. -/
def row (t : Fin cfg0.N) (i : Fin 256) : Fin 1024 := ⟨256 * t.val + i, by have := (widx t).2.2.2.2.2.2.2.2.2; omega⟩

theorem e0 (t : Fin cfg0.N) : iblk m c 0 t (ix2 i j) = (m ((c.tc : Thread nD τ).loc main_arg0) : Vec Ideal S1024x1796 .bf16) (ix2 (row t i) j) := by
  blk_ext [iblk, V, widx t, row]

theorem e1 (t : Fin cfg0.N) (q : Fin 3) : iblk m c 1 t (ix3 q i j) = (m ((c.tc : Thread nD τ).loc main_arg1) : Vec Ideal S3x1024x1796 .bf16) (ix3 q (row t i) j) := by
  blk_ext [iblk, V, widx t, row]

theorem e2 (t : Fin cfg0.N) : iblk m c 2 t (ix2 i j) = (m ((c.tc : Thread nD τ).loc main_arg2) : Vec Ideal S1024x1796 .f32) (ix2 (row t i) j) := by
  blk_ext [iblk, V, widx t, row]

theorem e3 (t : Fin cfg0.N) : iblk m c 3 t (ix2 i j) = (m ((c.tc : Thread nD τ).loc main_arg3) : Vec Ideal S1024x1796 .f32) (ix2 (row t i) j) := by
  blk_ext [iblk, V, widx t, row]

theorem e4 (t : Fin cfg0.N) : iblk m c 4 t (ix2 i j) = (m ((c.tc : Thread nD τ).loc main_arg4) : Vec Ideal S1024x1796 .f32) (ix2 (row t i) j) := by
  blk_ext [iblk, V, widx t, row]

theorem rd5 (W : Vec Ideal S1024x1796 .f32) (t : Fin cfg0.N) : ((cfg0.win 5).blk t).view.read (Elt Ideal) W (ix2 i j) = W (ix2 (row t i) j) := by
  blk_ext [widx t, row]

theorem rd6 (W : Vec Ideal S1024x1796 .f32) (t : Fin cfg0.N) : ((cfg0.win 6).blk t).view.read (Elt Ideal) W (ix2 i j) = W (ix2 (row t i) j) := by
  blk_ext [widx t, row]

theorem rd7 (W : Vec Ideal S1024x1796 .f32) (t : Fin cfg0.N) : ((cfg0.win 7).blk t).view.read (Elt Ideal) W (ix2 i j) = W (ix2 (row t i) j) := by
  blk_ext [widx t, row]

theorem rd8 (W : Vec Ideal S1024x1796 .f32) (t : Fin cfg0.N) : ((cfg0.win 8).blk t).view.read (Elt Ideal) W (ix2 i j) = W (ix2 (row t i) j) := by
  blk_ext [widx t, row]

theorem gs (t : Fin cfg0.N) : gsum (iblk m c 0 t) (iblk m c 1 t) i j
    = gsum (m ((c.tc : Thread nD τ).loc main_arg0) : Vec Ideal S1024x1796 .bf16) (m ((c.tc : Thread nD τ).loc main_arg1) : Vec Ideal S3x1024x1796 .bf16) (row t i) j := by
  unfold gsum
  exact congrArg₂ (· + ·) (congrArg₂ (· + ·) (congrArg₂ (· + ·) (e0 m c i j t) (e1 m c i j t 0)) (e1 m c i j t 1)) (e1 m c i j t 2)

theorem final5 : (dats m 0 c).arrAt 5 cfg0.N = sumR (m ((c.tc : Thread nD τ).loc main_arg0)) (m ((c.tc : Thread nD τ).loc main_arg1)) := by
  refine (dats m 0 c).arrAt_eq_of_covers 5 _ (by decide +kernel) fun t _ y => ?_
  obtain ⟨i, j, rfl⟩ : ∃ (i : Fin 256) (j : Fin 1796), y = ix2 i j := ⟨y 0, y 1, ValueIdx.eq_ix2 y⟩
  rw [after0_5]
  have p := (out5 (iblk m c 0 t) (iblk m c 1 t) (iblk m c 2 t) (iblk m c 3 t) (iblk m c 4 t) i j).trans (gs m c i j t)
  generalize out0_5 (iblk m c 0 t) (iblk m c 1 t) (iblk m c 2 t) (iblk m c 3 t) (iblk m c 4 t) = q at p ⊢
  exact p.trans (rd5 i j (sumR (m ((c.tc : Thread nD τ).loc main_arg0)) (m ((c.tc : Thread nD τ).loc main_arg1))) t).symm

theorem final6 : (dats m 0 c).arrAt 6 cfg0.N = stepR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  obtain ⟨i, j, rfl⟩ : ∃ (i : Fin 256) (j : Fin 1796), y = ix2 i j := ⟨y 0, y 1, ValueIdx.eq_ix2 y⟩
  rw [after0_6]
  have p := out6 (iblk m c 0 t) (iblk m c 1 t) (iblk m c 2 t) (iblk m c 3 t) (iblk m c 4 t) i j
  rw [gs, e2, e3, e4] at p
  generalize out0_6 (iblk m c 0 t) (iblk m c 1 t) (iblk m c 2 t) (iblk m c 3 t) (iblk m c 4 t) = q at p ⊢
  exact p.trans (rd6 i j (stepR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) t).symm

theorem final7 : (dats m 0 c).arrAt 7 cfg0.N = momR (m ((c.tc : Thread nD τ).loc main_arg0)) (m ((c.tc : Thread nD τ).loc main_arg1)) (m ((c.tc : Thread nD τ).loc main_arg3)) := by
  refine (dats m 0 c).arrAt_eq_of_covers 7 _ (by decide +kernel) fun t _ y => ?_
  obtain ⟨i, j, rfl⟩ : ∃ (i : Fin 256) (j : Fin 1796), y = ix2 i j := ⟨y 0, y 1, ValueIdx.eq_ix2 y⟩
  rw [after0_7]
  have p := out7 (iblk m c 0 t) (iblk m c 1 t) (iblk m c 2 t) (iblk m c 3 t) (iblk m c 4 t) i j
  rw [gs, e3] at p
  generalize out0_7 (iblk m c 0 t) (iblk m c 1 t) (iblk m c 2 t) (iblk m c 3 t) (iblk m c 4 t) = q at p ⊢
  exact p.trans (rd7 i j (momR (m ((c.tc : Thread nD τ).loc main_arg0)) (m ((c.tc : Thread nD τ).loc main_arg1)) (m ((c.tc : Thread nD τ).loc main_arg3))) t).symm

theorem final8 : (dats m 0 c).arrAt 8 cfg0.N = velR (m ((c.tc : Thread nD τ).loc main_arg0)) (m ((c.tc : Thread nD τ).loc main_arg1)) (m ((c.tc : Thread nD τ).loc main_arg4)) := by
  refine (dats m 0 c).arrAt_eq_of_covers 8 _ (by decide +kernel) fun t _ y => ?_
  obtain ⟨i, j, rfl⟩ : ∃ (i : Fin 256) (j : Fin 1796), y = ix2 i j := ⟨y 0, y 1, ValueIdx.eq_ix2 y⟩
  rw [after0_8]
  have p := out8 (iblk m c 0 t) (iblk m c 1 t) (iblk m c 2 t) (iblk m c 3 t) (iblk m c 4 t) i j
  rw [gs, e4] at p
  generalize out0_8 (iblk m c 0 t) (iblk m c 1 t) (iblk m c 2 t) (iblk m c 3 t) (iblk m c 4 t) = q at p ⊢
  exact p.trans (rd8 i j (velR (m ((c.tc : Thread nD τ).loc main_arg0)) (m ((c.tc : Thread nD τ).loc main_arg1)) (m ((c.tc : Thread nD τ).loc main_arg4))) t).symm

theorem value : Cert.algebraic_Kernel11Ideal_Reference11Ideal := by
  intro m g m' g' hp hagree
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel11Ideal.Value.run_blocks m g, ?_⟩
  refine (θ_run Cert.Reference11Ideal.defs _ _).mono (fun r h c => ?_) (Cert.Reference11Ideal.Value.run m' g')
  have e := hagree c
  have hs (a : Fin 1024) (b : Fin 1796) := host_sum (extf .f32 (m ((c.tc : Thread nD τ).loc main_arg0) : Vec Ideal S1024x1796 .bf16) Cert.Reference11Ideal.Gen.bitsLt_bf16_f32)
    (extf .f32 (m ((c.tc : Thread nD τ).loc main_arg1) : Vec Ideal S3x1024x1796 .bf16) Cert.Reference11Ideal.Gen.bitsLt_bf16_f32)
    Cert.Reference11Ideal.Gen.reducesTo_S3x1024x1796_S1024x1796_d0 Cert.Reference11Ideal.Gen.h_S_ a b
  have u (i : S1024x1796.Idx) : ∃ (a : Fin 1024) (b : Fin 1796), i = ix2 a b := ⟨i 0, i 1, ValueIdx.eq_ix2 i⟩
  refine ⟨(h c).1.trans (Eq.trans ?_ (final5 m c).symm), (h c).2.1.trans (Eq.trans ?_ (final6 m c).symm), (h c).2.2.1.trans (Eq.trans ?_ (final7 m c).symm),
    (h c).2.2.2.1.trans (Eq.trans ?_ (final8 m c).symm), (h c).2.2.2.2⟩
  · rw [e.1, e.2.1]
    funext i
    obtain ⟨a, b, rfl⟩ := u i
    exact hs a b
  · rw [e.1, e.2.1, e.2.2.1, e.2.2.2.1, e.2.2.2.2]
    funext i
    obtain ⟨a, b, rfl⟩ := u i
    exact congrArg (fun q => step q (m ((c.tc : Thread nD τ).loc main_arg2) (ix2 a b)) (m ((c.tc : Thread nD τ).loc main_arg3) (ix2 a b))
      (m ((c.tc : Thread nD τ).loc main_arg4) (ix2 a b))) (hs a b)
  · rw [e.1, e.2.1, e.2.2.2.1]
    funext i
    obtain ⟨a, b, rfl⟩ := u i
    exact congrArg (fun q => mom q (m ((c.tc : Thread nD τ).loc main_arg3) (ix2 a b))) (hs a b)
  · rw [e.1, e.2.1, e.2.2.2.2]
    funext i
    obtain ⟨a, b, rfl⟩ := u i
    exact congrArg (fun q => vel q (m ((c.tc : Thread nD τ).loc main_arg4) (ix2 a b))) (hs a b)

end Gla.Prod11

end
-- ==== Proof.Prod12.lean ====
module

public import proofs.«01_k».proof.Defs
public import proofs.«01_k».proof.Proof.Adam
public import Idealize.ShloMosaic.Lib.Pipeline.ValueKit
public import proofs.«01_k».proof.Proof.Gen.Kernel12Ideal.Value
public import proofs.«01_k».proof.Proof.Gen.Reference12Ideal
public import proofs.«01_k».proof.Proof.Gen.Reference12Ideal.Run

/-!
The chips' sum and the optimiser's step on a shard of the up projection.
-/

@[expose] public section

set_option maxRecDepth 16384

noncomputable section

namespace Gla.Prod12

open Idealize.ShloMosaic Idealize.ShloMosaic.TcCoe Idealize.SL.Sem Cert.Kernel12Ideal Cert.Kernel12Ideal.Gen Adam

variable (m : (ℓ : Loc nD τ sig) → Buf (Elt Ideal) ℓ) (c : Dev nD)

theorem hz : (![0, 0] : Fin 2 → Nat) = fun _ => 0 := funext fun a => by fin_cases a <;> rfl

variable (x0 : Vec Ideal S256x1408 .bf16) (x1 : Vec Ideal S3x256x1408 .bf16) (x2 x3 x4 : Vec Ideal S256x1408 .f32) (i : Fin 256) (j : Fin 1408)

theorem ld0 : View.ld x1 r0_1 (ix3 0 i j) = x1 (ix3 0 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ld1 : View.ld x1 r0_2 (ix3 0 i j) = x1 (ix3 1 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ld2 : View.ld x1 r0_3 (ix3 0 i j) = x1 (ix3 2 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem pay_apply (y0 y1 y2 : Vec Ideal S1x256x1408 .bf16) :
    k0_pay2 x0 y0 y1 y2 (ix2 i j) = x0 (ix2 i j) + y0 (ix3 0 i j) + y1 (ix3 0 i j) + y2 (ix3 0 i j) := by
  unfold k0_pay2
  pointwise []

theorem sum_ok : k0_pay2 x0 (View.ld x1 r0_1) (View.ld x1 r0_2) (View.ld x1 r0_3) (ix2 i j) = gsum x0 x1 i j := by
  rw [pay_apply, ld0, ld1, ld2]
  rfl

theorem out5 : out0_5 x0 x1 x2 x3 x4 (ix2 i j) = gsum x0 x1 i j := by
  unfold out0_5
  rw [View.canon_unit_zero hz]
  simp only [View.ld_unit_zero (S := S256x1408) hz]
  exact sum_ok x0 x1 i j

theorem out6 : out0_6 x0 x1 x2 x3 x4 (ix2 i j) = step (gsum x0 x1 i j) (x2 (ix2 i j)) (x3 (ix2 i j)) (x4 (ix2 i j)) := by
  unfold out0_6
  rw [View.canon_unit_zero hz]
  simp only [View.ld_unit_zero (S := S256x1408) hz]
  rw [← sum_ok]
  rfl

theorem out7 : out0_7 x0 x1 x2 x3 x4 (ix2 i j) = mom (gsum x0 x1 i j) (x3 (ix2 i j)) := by
  unfold out0_7
  rw [View.canon_unit_zero hz]
  simp only [View.ld_unit_zero (S := S256x1408) hz]
  rw [← sum_ok]
  rfl

theorem out8 : out0_8 x0 x1 x2 x3 x4 (ix2 i j) = vel (gsum x0 x1 i j) (x4 (ix2 i j)) := by
  unfold out0_8
  rw [View.canon_unit_zero hz]
  simp only [View.ld_unit_zero (S := S256x1408) hz]
  rw [← sum_ok]
  rfl

theorem widx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] ∧ t.val < 4 :=
  (by decide +kernel : ∀ t : Fin grid0.N, _)

/-- The array's row that a block's row is. -/
def row (t : Fin cfg0.N) (i : Fin 256) : Fin 1024 := ⟨256 * t.val + i, by have := (widx t).2.2.2.2.2.2.2.2.2; omega⟩

theorem e0 (t : Fin cfg0.N) : iblk m c 0 t (ix2 i j) = (m ((c.tc : Thread nD τ).loc main_arg0) : Vec Ideal S1024x1408 .bf16) (ix2 (row t i) j) := by
  blk_ext [iblk, V, widx t, row]

theorem e1 (t : Fin cfg0.N) (q : Fin 3) : iblk m c 1 t (ix3 q i j) = (m ((c.tc : Thread nD τ).loc main_arg1) : Vec Ideal S3x1024x1408 .bf16) (ix3 q (row t i) j) := by
  blk_ext [iblk, V, widx t, row]

theorem e2 (t : Fin cfg0.N) : iblk m c 2 t (ix2 i j) = (m ((c.tc : Thread nD τ).loc main_arg2) : Vec Ideal S1024x1408 .f32) (ix2 (row t i) j) := by
  blk_ext [iblk, V, widx t, row]

theorem e3 (t : Fin cfg0.N) : iblk m c 3 t (ix2 i j) = (m ((c.tc : Thread nD τ).loc main_arg3) : Vec Ideal S1024x1408 .f32) (ix2 (row t i) j) := by
  blk_ext [iblk, V, widx t, row]

theorem e4 (t : Fin cfg0.N) : iblk m c 4 t (ix2 i j) = (m ((c.tc : Thread nD τ).loc main_arg4) : Vec Ideal S1024x1408 .f32) (ix2 (row t i) j) := by
  blk_ext [iblk, V, widx t, row]

theorem rd5 (W : Vec Ideal S1024x1408 .f32) (t : Fin cfg0.N) : ((cfg0.win 5).blk t).view.read (Elt Ideal) W (ix2 i j) = W (ix2 (row t i) j) := by
  blk_ext [widx t, row]

theorem rd6 (W : Vec Ideal S1024x1408 .f32) (t : Fin cfg0.N) : ((cfg0.win 6).blk t).view.read (Elt Ideal) W (ix2 i j) = W (ix2 (row t i) j) := by
  blk_ext [widx t, row]

theorem rd7 (W : Vec Ideal S1024x1408 .f32) (t : Fin cfg0.N) : ((cfg0.win 7).blk t).view.read (Elt Ideal) W (ix2 i j) = W (ix2 (row t i) j) := by
  blk_ext [widx t, row]

theorem rd8 (W : Vec Ideal S1024x1408 .f32) (t : Fin cfg0.N) : ((cfg0.win 8).blk t).view.read (Elt Ideal) W (ix2 i j) = W (ix2 (row t i) j) := by
  blk_ext [widx t, row]

theorem gs (t : Fin cfg0.N) : gsum (iblk m c 0 t) (iblk m c 1 t) i j
    = gsum (m ((c.tc : Thread nD τ).loc main_arg0) : Vec Ideal S1024x1408 .bf16) (m ((c.tc : Thread nD τ).loc main_arg1) : Vec Ideal S3x1024x1408 .bf16) (row t i) j := by
  unfold gsum
  exact congrArg₂ (· + ·) (congrArg₂ (· + ·) (congrArg₂ (· + ·) (e0 m c i j t) (e1 m c i j t 0)) (e1 m c i j t 1)) (e1 m c i j t 2)

theorem final5 : (dats m 0 c).arrAt 5 cfg0.N = sumR (m ((c.tc : Thread nD τ).loc main_arg0)) (m ((c.tc : Thread nD τ).loc main_arg1)) := by
  refine (dats m 0 c).arrAt_eq_of_covers 5 _ (by decide +kernel) fun t _ y => ?_
  obtain ⟨i, j, rfl⟩ : ∃ (i : Fin 256) (j : Fin 1408), y = ix2 i j := ⟨y 0, y 1, ValueIdx.eq_ix2 y⟩
  rw [after0_5]
  have p := (out5 (iblk m c 0 t) (iblk m c 1 t) (iblk m c 2 t) (iblk m c 3 t) (iblk m c 4 t) i j).trans (gs m c i j t)
  generalize out0_5 (iblk m c 0 t) (iblk m c 1 t) (iblk m c 2 t) (iblk m c 3 t) (iblk m c 4 t) = q at p ⊢
  exact p.trans (rd5 i j (sumR (m ((c.tc : Thread nD τ).loc main_arg0)) (m ((c.tc : Thread nD τ).loc main_arg1))) t).symm

theorem final6 : (dats m 0 c).arrAt 6 cfg0.N = stepR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  obtain ⟨i, j, rfl⟩ : ∃ (i : Fin 256) (j : Fin 1408), y = ix2 i j := ⟨y 0, y 1, ValueIdx.eq_ix2 y⟩
  rw [after0_6]
  have p := out6 (iblk m c 0 t) (iblk m c 1 t) (iblk m c 2 t) (iblk m c 3 t) (iblk m c 4 t) i j
  rw [gs, e2, e3, e4] at p
  generalize out0_6 (iblk m c 0 t) (iblk m c 1 t) (iblk m c 2 t) (iblk m c 3 t) (iblk m c 4 t) = q at p ⊢
  exact p.trans (rd6 i j (stepR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) t).symm

theorem final7 : (dats m 0 c).arrAt 7 cfg0.N = momR (m ((c.tc : Thread nD τ).loc main_arg0)) (m ((c.tc : Thread nD τ).loc main_arg1)) (m ((c.tc : Thread nD τ).loc main_arg3)) := by
  refine (dats m 0 c).arrAt_eq_of_covers 7 _ (by decide +kernel) fun t _ y => ?_
  obtain ⟨i, j, rfl⟩ : ∃ (i : Fin 256) (j : Fin 1408), y = ix2 i j := ⟨y 0, y 1, ValueIdx.eq_ix2 y⟩
  rw [after0_7]
  have p := out7 (iblk m c 0 t) (iblk m c 1 t) (iblk m c 2 t) (iblk m c 3 t) (iblk m c 4 t) i j
  rw [gs, e3] at p
  generalize out0_7 (iblk m c 0 t) (iblk m c 1 t) (iblk m c 2 t) (iblk m c 3 t) (iblk m c 4 t) = q at p ⊢
  exact p.trans (rd7 i j (momR (m ((c.tc : Thread nD τ).loc main_arg0)) (m ((c.tc : Thread nD τ).loc main_arg1)) (m ((c.tc : Thread nD τ).loc main_arg3))) t).symm

theorem final8 : (dats m 0 c).arrAt 8 cfg0.N = velR (m ((c.tc : Thread nD τ).loc main_arg0)) (m ((c.tc : Thread nD τ).loc main_arg1)) (m ((c.tc : Thread nD τ).loc main_arg4)) := by
  refine (dats m 0 c).arrAt_eq_of_covers 8 _ (by decide +kernel) fun t _ y => ?_
  obtain ⟨i, j, rfl⟩ : ∃ (i : Fin 256) (j : Fin 1408), y = ix2 i j := ⟨y 0, y 1, ValueIdx.eq_ix2 y⟩
  rw [after0_8]
  have p := out8 (iblk m c 0 t) (iblk m c 1 t) (iblk m c 2 t) (iblk m c 3 t) (iblk m c 4 t) i j
  rw [gs, e4] at p
  generalize out0_8 (iblk m c 0 t) (iblk m c 1 t) (iblk m c 2 t) (iblk m c 3 t) (iblk m c 4 t) = q at p ⊢
  exact p.trans (rd8 i j (velR (m ((c.tc : Thread nD τ).loc main_arg0)) (m ((c.tc : Thread nD τ).loc main_arg1)) (m ((c.tc : Thread nD τ).loc main_arg4))) t).symm

theorem value : Cert.algebraic_Kernel12Ideal_Reference12Ideal := by
  intro m g m' g' hp hagree
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel12Ideal.Value.run_blocks m g, ?_⟩
  refine (θ_run Cert.Reference12Ideal.defs _ _).mono (fun r h c => ?_) (Cert.Reference12Ideal.Value.run m' g')
  have e := hagree c
  have hs (a : Fin 1024) (b : Fin 1408) := host_sum (extf .f32 (m ((c.tc : Thread nD τ).loc main_arg0) : Vec Ideal S1024x1408 .bf16) Cert.Reference12Ideal.Gen.bitsLt_bf16_f32)
    (extf .f32 (m ((c.tc : Thread nD τ).loc main_arg1) : Vec Ideal S3x1024x1408 .bf16) Cert.Reference12Ideal.Gen.bitsLt_bf16_f32)
    Cert.Reference12Ideal.Gen.reducesTo_S3x1024x1408_S1024x1408_d0 Cert.Reference12Ideal.Gen.h_S_ a b
  have u (i : S1024x1408.Idx) : ∃ (a : Fin 1024) (b : Fin 1408), i = ix2 a b := ⟨i 0, i 1, ValueIdx.eq_ix2 i⟩
  refine ⟨(h c).1.trans (Eq.trans ?_ (final5 m c).symm), (h c).2.1.trans (Eq.trans ?_ (final6 m c).symm), (h c).2.2.1.trans (Eq.trans ?_ (final7 m c).symm),
    (h c).2.2.2.1.trans (Eq.trans ?_ (final8 m c).symm), (h c).2.2.2.2⟩
  · rw [e.1, e.2.1]
    funext i
    obtain ⟨a, b, rfl⟩ := u i
    exact hs a b
  · rw [e.1, e.2.1, e.2.2.1, e.2.2.2.1, e.2.2.2.2]
    funext i
    obtain ⟨a, b, rfl⟩ := u i
    exact congrArg (fun q => step q (m ((c.tc : Thread nD τ).loc main_arg2) (ix2 a b)) (m ((c.tc : Thread nD τ).loc main_arg3) (ix2 a b))
      (m ((c.tc : Thread nD τ).loc main_arg4) (ix2 a b))) (hs a b)
  · rw [e.1, e.2.1, e.2.2.2.1]
    funext i
    obtain ⟨a, b, rfl⟩ := u i
    exact congrArg (fun q => mom q (m ((c.tc : Thread nD τ).loc main_arg3) (ix2 a b))) (hs a b)
  · rw [e.1, e.2.1, e.2.2.2.2]
    funext i
    obtain ⟨a, b, rfl⟩ := u i
    exact congrArg (fun q => vel q (m ((c.tc : Thread nD τ).loc main_arg4) (ix2 a b))) (hs a b)

end Gla.Prod12

end
-- ==== Proof.Prod13.lean ====
module

public import proofs.«01_k».proof.Defs
public import proofs.«01_k».proof.Proof.Adam
public import Idealize.ShloMosaic.Lib.Pipeline.ValueKit
public import proofs.«01_k».proof.Proof.Gen.Kernel13Ideal.Value
public import proofs.«01_k».proof.Proof.Gen.Reference13Ideal
public import proofs.«01_k».proof.Proof.Gen.Reference13Ideal.Run

/-!
The chips' sum and the optimiser's step on a shard of the down projection.
-/

@[expose] public section

set_option maxRecDepth 16384

noncomputable section

namespace Gla.Prod13

open Idealize.ShloMosaic Idealize.ShloMosaic.TcCoe Idealize.SL.Sem Cert.Kernel13Ideal Cert.Kernel13Ideal.Gen Adam

variable (m : (ℓ : Loc nD τ sig) → Buf (Elt Ideal) ℓ) (c : Dev nD)

theorem hz : (![0, 0] : Fin 2 → Nat) = fun _ => 0 := funext fun a => by fin_cases a <;> rfl

variable (x0 : Vec Ideal S64x1024 .bf16) (x1 : Vec Ideal S3x64x1024 .bf16) (x2 x3 x4 : Vec Ideal S64x1024 .f32) (i : Fin 64) (j : Fin 1024)

theorem ld0 : View.ld x1 r0_1 (ix3 0 i j) = x1 (ix3 0 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ld1 : View.ld x1 r0_2 (ix3 0 i j) = x1 (ix3 1 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ld2 : View.ld x1 r0_3 (ix3 0 i j) = x1 (ix3 2 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem pay_apply (y0 y1 y2 : Vec Ideal S1x64x1024 .bf16) :
    k0_pay2 x0 y0 y1 y2 (ix2 i j) = x0 (ix2 i j) + y0 (ix3 0 i j) + y1 (ix3 0 i j) + y2 (ix3 0 i j) := by
  unfold k0_pay2
  pointwise []

theorem sum_ok : k0_pay2 x0 (View.ld x1 r0_1) (View.ld x1 r0_2) (View.ld x1 r0_3) (ix2 i j) = gsum x0 x1 i j := by
  rw [pay_apply, ld0, ld1, ld2]
  rfl

theorem out5 : out0_5 x0 x1 x2 x3 x4 (ix2 i j) = gsum x0 x1 i j := by
  unfold out0_5
  rw [View.canon_unit_zero hz]
  simp only [View.ld_unit_zero (S := S64x1024) hz]
  exact sum_ok x0 x1 i j

theorem out6 : out0_6 x0 x1 x2 x3 x4 (ix2 i j) = step (gsum x0 x1 i j) (x2 (ix2 i j)) (x3 (ix2 i j)) (x4 (ix2 i j)) := by
  unfold out0_6
  rw [View.canon_unit_zero hz]
  simp only [View.ld_unit_zero (S := S64x1024) hz]
  rw [← sum_ok]
  rfl

theorem out7 : out0_7 x0 x1 x2 x3 x4 (ix2 i j) = mom (gsum x0 x1 i j) (x3 (ix2 i j)) := by
  unfold out0_7
  rw [View.canon_unit_zero hz]
  simp only [View.ld_unit_zero (S := S64x1024) hz]
  rw [← sum_ok]
  rfl

theorem out8 : out0_8 x0 x1 x2 x3 x4 (ix2 i j) = vel (gsum x0 x1 i j) (x4 (ix2 i j)) := by
  unfold out0_8
  rw [View.canon_unit_zero hz]
  simp only [View.ld_unit_zero (S := S64x1024) hz]
  rw [← sum_ok]
  rfl

theorem widx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] ∧ t.val < 11 :=
  (by decide +kernel : ∀ t : Fin grid0.N, _)

/-- The array's row that a block's row is. -/
def row (t : Fin cfg0.N) (i : Fin 64) : Fin 704 := ⟨64 * t.val + i, by have := (widx t).2.2.2.2.2.2.2.2.2; omega⟩

theorem e0 (t : Fin cfg0.N) : iblk m c 0 t (ix2 i j) = (m ((c.tc : Thread nD τ).loc main_arg0) : Vec Ideal S704x1024 .bf16) (ix2 (row t i) j) := by
  blk_ext [iblk, V, widx t, row]

theorem e1 (t : Fin cfg0.N) (q : Fin 3) : iblk m c 1 t (ix3 q i j) = (m ((c.tc : Thread nD τ).loc main_arg1) : Vec Ideal S3x704x1024 .bf16) (ix3 q (row t i) j) := by
  blk_ext [iblk, V, widx t, row]

theorem e2 (t : Fin cfg0.N) : iblk m c 2 t (ix2 i j) = (m ((c.tc : Thread nD τ).loc main_arg2) : Vec Ideal S704x1024 .f32) (ix2 (row t i) j) := by
  blk_ext [iblk, V, widx t, row]

theorem e3 (t : Fin cfg0.N) : iblk m c 3 t (ix2 i j) = (m ((c.tc : Thread nD τ).loc main_arg3) : Vec Ideal S704x1024 .f32) (ix2 (row t i) j) := by
  blk_ext [iblk, V, widx t, row]

theorem e4 (t : Fin cfg0.N) : iblk m c 4 t (ix2 i j) = (m ((c.tc : Thread nD τ).loc main_arg4) : Vec Ideal S704x1024 .f32) (ix2 (row t i) j) := by
  blk_ext [iblk, V, widx t, row]

theorem rd5 (W : Vec Ideal S704x1024 .f32) (t : Fin cfg0.N) : ((cfg0.win 5).blk t).view.read (Elt Ideal) W (ix2 i j) = W (ix2 (row t i) j) := by
  blk_ext [widx t, row]

theorem rd6 (W : Vec Ideal S704x1024 .f32) (t : Fin cfg0.N) : ((cfg0.win 6).blk t).view.read (Elt Ideal) W (ix2 i j) = W (ix2 (row t i) j) := by
  blk_ext [widx t, row]

theorem rd7 (W : Vec Ideal S704x1024 .f32) (t : Fin cfg0.N) : ((cfg0.win 7).blk t).view.read (Elt Ideal) W (ix2 i j) = W (ix2 (row t i) j) := by
  blk_ext [widx t, row]

theorem rd8 (W : Vec Ideal S704x1024 .f32) (t : Fin cfg0.N) : ((cfg0.win 8).blk t).view.read (Elt Ideal) W (ix2 i j) = W (ix2 (row t i) j) := by
  blk_ext [widx t, row]

theorem gs (t : Fin cfg0.N) : gsum (iblk m c 0 t) (iblk m c 1 t) i j
    = gsum (m ((c.tc : Thread nD τ).loc main_arg0) : Vec Ideal S704x1024 .bf16) (m ((c.tc : Thread nD τ).loc main_arg1) : Vec Ideal S3x704x1024 .bf16) (row t i) j := by
  unfold gsum
  exact congrArg₂ (· + ·) (congrArg₂ (· + ·) (congrArg₂ (· + ·) (e0 m c i j t) (e1 m c i j t 0)) (e1 m c i j t 1)) (e1 m c i j t 2)

theorem final5 : (dats m 0 c).arrAt 5 cfg0.N = sumR (m ((c.tc : Thread nD τ).loc main_arg0)) (m ((c.tc : Thread nD τ).loc main_arg1)) := by
  refine (dats m 0 c).arrAt_eq_of_covers 5 _ (by decide +kernel) fun t _ y => ?_
  obtain ⟨i, j, rfl⟩ : ∃ (i : Fin 64) (j : Fin 1024), y = ix2 i j := ⟨y 0, y 1, ValueIdx.eq_ix2 y⟩
  rw [after0_5]
  have p := (out5 (iblk m c 0 t) (iblk m c 1 t) (iblk m c 2 t) (iblk m c 3 t) (iblk m c 4 t) i j).trans (gs m c i j t)
  generalize out0_5 (iblk m c 0 t) (iblk m c 1 t) (iblk m c 2 t) (iblk m c 3 t) (iblk m c 4 t) = q at p ⊢
  exact p.trans (rd5 i j (sumR (m ((c.tc : Thread nD τ).loc main_arg0)) (m ((c.tc : Thread nD τ).loc main_arg1))) t).symm

theorem final6 : (dats m 0 c).arrAt 6 cfg0.N = stepR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  obtain ⟨i, j, rfl⟩ : ∃ (i : Fin 64) (j : Fin 1024), y = ix2 i j := ⟨y 0, y 1, ValueIdx.eq_ix2 y⟩
  rw [after0_6]
  have p := out6 (iblk m c 0 t) (iblk m c 1 t) (iblk m c 2 t) (iblk m c 3 t) (iblk m c 4 t) i j
  rw [gs, e2, e3, e4] at p
  generalize out0_6 (iblk m c 0 t) (iblk m c 1 t) (iblk m c 2 t) (iblk m c 3 t) (iblk m c 4 t) = q at p ⊢
  exact p.trans (rd6 i j (stepR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) t).symm

theorem final7 : (dats m 0 c).arrAt 7 cfg0.N = momR (m ((c.tc : Thread nD τ).loc main_arg0)) (m ((c.tc : Thread nD τ).loc main_arg1)) (m ((c.tc : Thread nD τ).loc main_arg3)) := by
  refine (dats m 0 c).arrAt_eq_of_covers 7 _ (by decide +kernel) fun t _ y => ?_
  obtain ⟨i, j, rfl⟩ : ∃ (i : Fin 64) (j : Fin 1024), y = ix2 i j := ⟨y 0, y 1, ValueIdx.eq_ix2 y⟩
  rw [after0_7]
  have p := out7 (iblk m c 0 t) (iblk m c 1 t) (iblk m c 2 t) (iblk m c 3 t) (iblk m c 4 t) i j
  rw [gs, e3] at p
  generalize out0_7 (iblk m c 0 t) (iblk m c 1 t) (iblk m c 2 t) (iblk m c 3 t) (iblk m c 4 t) = q at p ⊢
  exact p.trans (rd7 i j (momR (m ((c.tc : Thread nD τ).loc main_arg0)) (m ((c.tc : Thread nD τ).loc main_arg1)) (m ((c.tc : Thread nD τ).loc main_arg3))) t).symm

theorem final8 : (dats m 0 c).arrAt 8 cfg0.N = velR (m ((c.tc : Thread nD τ).loc main_arg0)) (m ((c.tc : Thread nD τ).loc main_arg1)) (m ((c.tc : Thread nD τ).loc main_arg4)) := by
  refine (dats m 0 c).arrAt_eq_of_covers 8 _ (by decide +kernel) fun t _ y => ?_
  obtain ⟨i, j, rfl⟩ : ∃ (i : Fin 64) (j : Fin 1024), y = ix2 i j := ⟨y 0, y 1, ValueIdx.eq_ix2 y⟩
  rw [after0_8]
  have p := out8 (iblk m c 0 t) (iblk m c 1 t) (iblk m c 2 t) (iblk m c 3 t) (iblk m c 4 t) i j
  rw [gs, e4] at p
  generalize out0_8 (iblk m c 0 t) (iblk m c 1 t) (iblk m c 2 t) (iblk m c 3 t) (iblk m c 4 t) = q at p ⊢
  exact p.trans (rd8 i j (velR (m ((c.tc : Thread nD τ).loc main_arg0)) (m ((c.tc : Thread nD τ).loc main_arg1)) (m ((c.tc : Thread nD τ).loc main_arg4))) t).symm

theorem value : Cert.algebraic_Kernel13Ideal_Reference13Ideal := by
  intro m g m' g' hp hagree
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel13Ideal.Value.run_blocks m g, ?_⟩
  refine (θ_run Cert.Reference13Ideal.defs _ _).mono (fun r h c => ?_) (Cert.Reference13Ideal.Value.run m' g')
  have e := hagree c
  have hs (a : Fin 704) (b : Fin 1024) := host_sum (extf .f32 (m ((c.tc : Thread nD τ).loc main_arg0) : Vec Ideal S704x1024 .bf16) Cert.Reference13Ideal.Gen.bitsLt_bf16_f32)
    (extf .f32 (m ((c.tc : Thread nD τ).loc main_arg1) : Vec Ideal S3x704x1024 .bf16) Cert.Reference13Ideal.Gen.bitsLt_bf16_f32)
    Cert.Reference13Ideal.Gen.reducesTo_S3x704x1024_S704x1024_d0 Cert.Reference13Ideal.Gen.h_S_ a b
  have u (i : S704x1024.Idx) : ∃ (a : Fin 704) (b : Fin 1024), i = ix2 a b := ⟨i 0, i 1, ValueIdx.eq_ix2 i⟩
  refine ⟨(h c).1.trans (Eq.trans ?_ (final5 m c).symm), (h c).2.1.trans (Eq.trans ?_ (final6 m c).symm), (h c).2.2.1.trans (Eq.trans ?_ (final7 m c).symm),
    (h c).2.2.2.1.trans (Eq.trans ?_ (final8 m c).symm), (h c).2.2.2.2⟩
  · rw [e.1, e.2.1]
    funext i
    obtain ⟨a, b, rfl⟩ := u i
    exact hs a b
  · rw [e.1, e.2.1, e.2.2.1, e.2.2.2.1, e.2.2.2.2]
    funext i
    obtain ⟨a, b, rfl⟩ := u i
    exact congrArg (fun q => step q (m ((c.tc : Thread nD τ).loc main_arg2) (ix2 a b)) (m ((c.tc : Thread nD τ).loc main_arg3) (ix2 a b))
      (m ((c.tc : Thread nD τ).loc main_arg4) (ix2 a b))) (hs a b)
  · rw [e.1, e.2.1, e.2.2.2.1]
    funext i
    obtain ⟨a, b, rfl⟩ := u i
    exact congrArg (fun q => mom q (m ((c.tc : Thread nD τ).loc main_arg3) (ix2 a b))) (hs a b)
  · rw [e.1, e.2.1, e.2.2.2.2]
    funext i
    obtain ⟨a, b, rfl⟩ := u i
    exact congrArg (fun q => vel q (m ((c.tc : Thread nD τ).loc main_arg4) (ix2 a b))) (hs a b)

end Gla.Prod13

end
-- ==== Proof.Prod14.lean ====
module

public import proofs.«01_k».proof.Defs
public import proofs.«01_k».proof.Proof.Adam
public import Idealize.ShloMosaic.Lib.Pipeline.ValueKit
public import proofs.«01_k».proof.Proof.Gen.Kernel14Ideal.Value
public import proofs.«01_k».proof.Proof.Gen.Reference14Ideal
public import proofs.«01_k».proof.Proof.Gen.Reference14Ideal.Run

/-!
The chips' sum and the optimiser's step on a shard of one of the three output projections.
-/

@[expose] public section

set_option maxRecDepth 16384

noncomputable section

namespace Gla.Prod14

open Idealize.ShloMosaic Idealize.ShloMosaic.TcCoe Idealize.SL.Sem Cert.Kernel14Ideal Cert.Kernel14Ideal.Gen Adam

variable (m : (ℓ : Loc nD τ sig) → Buf (Elt Ideal) ℓ) (c : Dev nD)

theorem hz : (![0, 0] : Fin 2 → Nat) = fun _ => 0 := funext fun a => by fin_cases a <;> rfl

variable (x0 : Vec Ideal S256x1024 .bf16) (x1 : Vec Ideal S3x256x1024 .bf16) (x2 x3 x4 : Vec Ideal S256x1024 .f32) (i : Fin 256) (j : Fin 1024)

theorem ld0 : View.ld x1 r0_1 (ix3 0 i j) = x1 (ix3 0 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ld1 : View.ld x1 r0_2 (ix3 0 i j) = x1 (ix3 1 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ld2 : View.ld x1 r0_3 (ix3 0 i j) = x1 (ix3 2 i j) := by
  show x1 _ = _
  refine congrArg x1 (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem pay_apply (y0 y1 y2 : Vec Ideal S1x256x1024 .bf16) :
    k0_pay2 x0 y0 y1 y2 (ix2 i j) = x0 (ix2 i j) + y0 (ix3 0 i j) + y1 (ix3 0 i j) + y2 (ix3 0 i j) := by
  unfold k0_pay2
  pointwise []

theorem sum_ok : k0_pay2 x0 (View.ld x1 r0_1) (View.ld x1 r0_2) (View.ld x1 r0_3) (ix2 i j) = gsum x0 x1 i j := by
  rw [pay_apply, ld0, ld1, ld2]
  rfl

theorem out5 : out0_5 x0 x1 x2 x3 x4 (ix2 i j) = gsum x0 x1 i j := by
  unfold out0_5
  rw [View.canon_unit_zero hz]
  simp only [View.ld_unit_zero (S := S256x1024) hz]
  exact sum_ok x0 x1 i j

theorem out6 : out0_6 x0 x1 x2 x3 x4 (ix2 i j) = step (gsum x0 x1 i j) (x2 (ix2 i j)) (x3 (ix2 i j)) (x4 (ix2 i j)) := by
  unfold out0_6
  rw [View.canon_unit_zero hz]
  simp only [View.ld_unit_zero (S := S256x1024) hz]
  rw [← sum_ok]
  rfl

theorem out7 : out0_7 x0 x1 x2 x3 x4 (ix2 i j) = mom (gsum x0 x1 i j) (x3 (ix2 i j)) := by
  unfold out0_7
  rw [View.canon_unit_zero hz]
  simp only [View.ld_unit_zero (S := S256x1024) hz]
  rw [← sum_ok]
  rfl

theorem out8 : out0_8 x0 x1 x2 x3 x4 (ix2 i j) = vel (gsum x0 x1 i j) (x4 (ix2 i j)) := by
  unfold out0_8
  rw [View.canon_unit_zero hz]
  simp only [View.ld_unit_zero (S := S256x1024) hz]
  rw [← sum_ok]
  rfl

theorem widx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] ∧ t.val < 1 :=
  (by decide +kernel : ∀ t : Fin grid0.N, _)

/-- The array's row that a block's row is. -/
def row (t : Fin cfg0.N) (i : Fin 256) : Fin 256 := ⟨256 * t.val + i, by have := (widx t).2.2.2.2.2.2.2.2.2; omega⟩

theorem e0 (t : Fin cfg0.N) : iblk m c 0 t (ix2 i j) = (m ((c.tc : Thread nD τ).loc main_arg0) : Vec Ideal S256x1024 .bf16) (ix2 (row t i) j) := by
  blk_ext [iblk, V, widx t, row]

theorem e1 (t : Fin cfg0.N) (q : Fin 3) : iblk m c 1 t (ix3 q i j) = (m ((c.tc : Thread nD τ).loc main_arg1) : Vec Ideal S3x256x1024 .bf16) (ix3 q (row t i) j) := by
  blk_ext [iblk, V, widx t, row]

theorem e2 (t : Fin cfg0.N) : iblk m c 2 t (ix2 i j) = (m ((c.tc : Thread nD τ).loc main_arg2) : Vec Ideal S256x1024 .f32) (ix2 (row t i) j) := by
  blk_ext [iblk, V, widx t, row]

theorem e3 (t : Fin cfg0.N) : iblk m c 3 t (ix2 i j) = (m ((c.tc : Thread nD τ).loc main_arg3) : Vec Ideal S256x1024 .f32) (ix2 (row t i) j) := by
  blk_ext [iblk, V, widx t, row]

theorem e4 (t : Fin cfg0.N) : iblk m c 4 t (ix2 i j) = (m ((c.tc : Thread nD τ).loc main_arg4) : Vec Ideal S256x1024 .f32) (ix2 (row t i) j) := by
  blk_ext [iblk, V, widx t, row]

theorem rd5 (W : Vec Ideal S256x1024 .f32) (t : Fin cfg0.N) : ((cfg0.win 5).blk t).view.read (Elt Ideal) W (ix2 i j) = W (ix2 (row t i) j) := by
  blk_ext [widx t, row]

theorem rd6 (W : Vec Ideal S256x1024 .f32) (t : Fin cfg0.N) : ((cfg0.win 6).blk t).view.read (Elt Ideal) W (ix2 i j) = W (ix2 (row t i) j) := by
  blk_ext [widx t, row]

theorem rd7 (W : Vec Ideal S256x1024 .f32) (t : Fin cfg0.N) : ((cfg0.win 7).blk t).view.read (Elt Ideal) W (ix2 i j) = W (ix2 (row t i) j) := by
  blk_ext [widx t, row]

theorem rd8 (W : Vec Ideal S256x1024 .f32) (t : Fin cfg0.N) : ((cfg0.win 8).blk t).view.read (Elt Ideal) W (ix2 i j) = W (ix2 (row t i) j) := by
  blk_ext [widx t, row]

theorem gs (t : Fin cfg0.N) : gsum (iblk m c 0 t) (iblk m c 1 t) i j
    = gsum (m ((c.tc : Thread nD τ).loc main_arg0) : Vec Ideal S256x1024 .bf16) (m ((c.tc : Thread nD τ).loc main_arg1) : Vec Ideal S3x256x1024 .bf16) (row t i) j := by
  unfold gsum
  exact congrArg₂ (· + ·) (congrArg₂ (· + ·) (congrArg₂ (· + ·) (e0 m c i j t) (e1 m c i j t 0)) (e1 m c i j t 1)) (e1 m c i j t 2)

theorem final5 : (dats m 0 c).arrAt 5 cfg0.N = sumR (m ((c.tc : Thread nD τ).loc main_arg0)) (m ((c.tc : Thread nD τ).loc main_arg1)) := by
  refine (dats m 0 c).arrAt_eq_of_covers 5 _ (by decide +kernel) fun t _ y => ?_
  obtain ⟨i, j, rfl⟩ : ∃ (i : Fin 256) (j : Fin 1024), y = ix2 i j := ⟨y 0, y 1, ValueIdx.eq_ix2 y⟩
  rw [after0_5]
  have p := (out5 (iblk m c 0 t) (iblk m c 1 t) (iblk m c 2 t) (iblk m c 3 t) (iblk m c 4 t) i j).trans (gs m c i j t)
  generalize out0_5 (iblk m c 0 t) (iblk m c 1 t) (iblk m c 2 t) (iblk m c 3 t) (iblk m c 4 t) = q at p ⊢
  exact p.trans (rd5 i j (sumR (m ((c.tc : Thread nD τ).loc main_arg0)) (m ((c.tc : Thread nD τ).loc main_arg1))) t).symm

theorem final6 : (dats m 0 c).arrAt 6 cfg0.N = stepR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  obtain ⟨i, j, rfl⟩ : ∃ (i : Fin 256) (j : Fin 1024), y = ix2 i j := ⟨y 0, y 1, ValueIdx.eq_ix2 y⟩
  rw [after0_6]
  have p := out6 (iblk m c 0 t) (iblk m c 1 t) (iblk m c 2 t) (iblk m c 3 t) (iblk m c 4 t) i j
  rw [gs, e2, e3, e4] at p
  generalize out0_6 (iblk m c 0 t) (iblk m c 1 t) (iblk m c 2 t) (iblk m c 3 t) (iblk m c 4 t) = q at p ⊢
  exact p.trans (rd6 i j (stepR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) t).symm

theorem final7 : (dats m 0 c).arrAt 7 cfg0.N = momR (m ((c.tc : Thread nD τ).loc main_arg0)) (m ((c.tc : Thread nD τ).loc main_arg1)) (m ((c.tc : Thread nD τ).loc main_arg3)) := by
  refine (dats m 0 c).arrAt_eq_of_covers 7 _ (by decide +kernel) fun t _ y => ?_
  obtain ⟨i, j, rfl⟩ : ∃ (i : Fin 256) (j : Fin 1024), y = ix2 i j := ⟨y 0, y 1, ValueIdx.eq_ix2 y⟩
  rw [after0_7]
  have p := out7 (iblk m c 0 t) (iblk m c 1 t) (iblk m c 2 t) (iblk m c 3 t) (iblk m c 4 t) i j
  rw [gs, e3] at p
  generalize out0_7 (iblk m c 0 t) (iblk m c 1 t) (iblk m c 2 t) (iblk m c 3 t) (iblk m c 4 t) = q at p ⊢
  exact p.trans (rd7 i j (momR (m ((c.tc : Thread nD τ).loc main_arg0)) (m ((c.tc : Thread nD τ).loc main_arg1)) (m ((c.tc : Thread nD τ).loc main_arg3))) t).symm

theorem final8 : (dats m 0 c).arrAt 8 cfg0.N = velR (m ((c.tc : Thread nD τ).loc main_arg0)) (m ((c.tc : Thread nD τ).loc main_arg1)) (m ((c.tc : Thread nD τ).loc main_arg4)) := by
  refine (dats m 0 c).arrAt_eq_of_covers 8 _ (by decide +kernel) fun t _ y => ?_
  obtain ⟨i, j, rfl⟩ : ∃ (i : Fin 256) (j : Fin 1024), y = ix2 i j := ⟨y 0, y 1, ValueIdx.eq_ix2 y⟩
  rw [after0_8]
  have p := out8 (iblk m c 0 t) (iblk m c 1 t) (iblk m c 2 t) (iblk m c 3 t) (iblk m c 4 t) i j
  rw [gs, e4] at p
  generalize out0_8 (iblk m c 0 t) (iblk m c 1 t) (iblk m c 2 t) (iblk m c 3 t) (iblk m c 4 t) = q at p ⊢
  exact p.trans (rd8 i j (velR (m ((c.tc : Thread nD τ).loc main_arg0)) (m ((c.tc : Thread nD τ).loc main_arg1)) (m ((c.tc : Thread nD τ).loc main_arg4))) t).symm

theorem value : Cert.algebraic_Kernel14Ideal_Reference14Ideal := by
  intro m g m' g' hp hagree
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel14Ideal.Value.run_blocks m g, ?_⟩
  refine (θ_run Cert.Reference14Ideal.defs _ _).mono (fun r h c => ?_) (Cert.Reference14Ideal.Value.run m' g')
  have e := hagree c
  have hs (a : Fin 256) (b : Fin 1024) := host_sum (extf .f32 (m ((c.tc : Thread nD τ).loc main_arg0) : Vec Ideal S256x1024 .bf16) Cert.Reference14Ideal.Gen.bitsLt_bf16_f32)
    (extf .f32 (m ((c.tc : Thread nD τ).loc main_arg1) : Vec Ideal S3x256x1024 .bf16) Cert.Reference14Ideal.Gen.bitsLt_bf16_f32)
    Cert.Reference14Ideal.Gen.reducesTo_S3x256x1024_S256x1024_d0 Cert.Reference14Ideal.Gen.h_S_ a b
  have u (i : S256x1024.Idx) : ∃ (a : Fin 256) (b : Fin 1024), i = ix2 a b := ⟨i 0, i 1, ValueIdx.eq_ix2 i⟩
  refine ⟨(h c).1.trans (Eq.trans ?_ (final5 m c).symm), (h c).2.1.trans (Eq.trans ?_ (final6 m c).symm), (h c).2.2.1.trans (Eq.trans ?_ (final7 m c).symm),
    (h c).2.2.2.1.trans (Eq.trans ?_ (final8 m c).symm), (h c).2.2.2.2⟩
  · rw [e.1, e.2.1]
    funext i
    obtain ⟨a, b, rfl⟩ := u i
    exact hs a b
  · rw [e.1, e.2.1, e.2.2.1, e.2.2.2.1, e.2.2.2.2]
    funext i
    obtain ⟨a, b, rfl⟩ := u i
    exact congrArg (fun q => step q (m ((c.tc : Thread nD τ).loc main_arg2) (ix2 a b)) (m ((c.tc : Thread nD τ).loc main_arg3) (ix2 a b))
      (m ((c.tc : Thread nD τ).loc main_arg4) (ix2 a b))) (hs a b)
  · rw [e.1, e.2.1, e.2.2.2.1]
    funext i
    obtain ⟨a, b, rfl⟩ := u i
    exact congrArg (fun q => mom q (m ((c.tc : Thread nD τ).loc main_arg3) (ix2 a b))) (hs a b)
  · rw [e.1, e.2.1, e.2.2.2.2]
    funext i
    obtain ⟨a, b, rfl⟩ := u i
    exact congrArg (fun q => vel q (m ((c.tc : Thread nD τ).loc main_arg4) (ix2 a b))) (hs a b)

end Gla.Prod14

end
-- ==== Proof.Rms.lean ====
module

public import proofs.«01_k».proof.Proof.Base

/-!
The norm of a row by its root mean square, and the gradient through it.
-/

@[expose] public section

noncomputable section

namespace Gla.Rms

open Idealize.ShloMosaic Finset

/-- The mean square of a row, with epsilon. -/
def msE (x : Fin 1024 → EReal) : EReal := Ideal.div (∑ k, x k * x k) (Ideal.ofBits .f32 0x44800000#32) + Ideal.ofBits .f32 0x358637BD#32

/-- The reciprocal of the norm of a row. -/
def inv (x : Fin 1024 → EReal) : EReal := Ideal.rsqrt (msE x)

/-- The row after the norm. -/
def nrm (x : Fin 1024 → EReal) (j : Fin 1024) : EReal := x j * inv x

/-- The row's gradient from the gradient `d` of the row after the norm. -/
def back (x d : Fin 1024 → EReal) (j : Fin 1024) : EReal :=
  inv x * (d j - nrm x j * Ideal.div (∑ w, d w * nrm x w) (Ideal.ofBits .f32 0x44800000#32))

/-- Half of what the mean square's gradient gives to each entry. -/
def half (x d : Fin 1024 → EReal) : EReal :=
  Ideal.div ((∑ w, x w * d w) * (Ideal.ofBits .f32 0xBF000000#32 * Ideal.div (inv x) (msE x))) (Ideal.ofBits .f32 0x44800000#32)

theorem ofBits_1024 : Ideal.ofBits .f32 0x44800000#32 = (((1024 : ℝ)) : EReal) := by
  rw [show (1024 : ℝ) = 8388608 * (1 / 8192) by norm_num, EReal.coe_mul]; simp [Ideal.ofBits, Ideal.ieee]; norm_num

section Real

variable (X : Fin 1024 → ℝ)

/-- The mean square of a row of reals, with epsilon. -/
def ms : ℝ := (∑ k, X k * X k) / 1024 + eps

theorem ms_pos : 0 < ms X := by
  unfold ms
  have h : 0 ≤ ∑ x, X x * X x := sum_nonneg fun x _ => mul_self_nonneg _
  have := eps_pos
  positivity

variable (x : Fin 1024 → EReal) (hx : ∀ k, x k = ((X k : ℝ) : EReal))
include hx

theorem msE_real : msE x = ((ms X : ℝ) : EReal) := by
  unfold msE ms
  simp only [hx, ← EReal.coe_mul, coe_sum, ofBits_1024, ofBits_eps]
  rw [div_coe' (by norm_num), ← EReal.coe_add]

theorem inv_real : inv x = (((Real.sqrt (ms X))⁻¹ : ℝ) : EReal) := by
  unfold inv
  rw [msE_real X x hx]
  exact rsqrt_pos (ms_pos X)

end Real

theorem mul_nonneg_sum {c : EReal} (h : 0 ≤ c) (h' : c ≠ ⊤) {ι : Type*} (s : Finset ι) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h h', ih]

theorem div_1024 (t : EReal) : Ideal.div t (Ideal.ofBits .f32 0x44800000#32) = t * (((1 / 1024 : ℝ)) : EReal) := by
  rw [ofBits_1024, Ideal.div_coe (by norm_num)]

/-- A row with an infinite entry has an infinite mean square. -/
theorem msE_top (x : Fin 1024 → EReal) (k : Fin 1024) (h : x k * x k = ⊤) : msE x = ⊤ := by
  have hn (w : Fin 1024) : 0 ≤ x w * x w := by
    induction x w using EReal.rec with
    | bot => simp
    | top => simp
    | coe r => rw [← EReal.coe_mul]; exact_mod_cast mul_self_nonneg r
  have e : ∑ w, x w * x w = ⊤ := top_le_iff.mp (h ▸ Finset.single_le_sum (f := fun w => x w * x w) (fun w _ => hn w) (mem_univ k))
  unfold msE
  rw [e, div_1024, EReal.top_mul_of_pos (by exact_mod_cast (by norm_num : (0 : ℝ) < 1 / 1024)), ofBits_eps, EReal.top_add_coe]

/-- The gradient as the chain rule has it, term by term, of any entries, infinite ones among them. -/
theorem back_eq (x d : Fin 1024 → EReal) (j : Fin 1024) : d j * inv x + x j * half x d + half x d * x j = back x d j := by
  by_cases hx : ∃ k, x k * x k = ⊤
  · obtain ⟨k, hk⟩ := hx
    have hi : inv x = 0 := by unfold inv; rw [msE_top x k hk]; rfl
    have hz : Ideal.div 0 (⊤ : EReal) = 0 := by unfold Ideal.div; simp
    have hh : half x d = 0 := by unfold half; rw [hi, msE_top x k hk, hz, div_1024]; simp
    unfold back
    rw [hh, hi]
    simp
  · have hr (k : Fin 1024) : x k = (((x k).toReal : ℝ) : EReal) := by
      refine (EReal.coe_toReal ?_ ?_).symm <;> intro e <;> exact hx ⟨k, by rw [e]; simp⟩
    have hm := ms_pos fun k => (x k).toReal
    have hM := msE_real (fun k => (x k).toReal) x hr
    have hI := inv_real (fun k => (x k).toReal) x hr
    generalize ms (fun k => (x k).toReal) = M at hm hM hI
    have hs : Real.sqrt M * Real.sqrt M = M := Real.mul_self_sqrt hm.le
    have hc : 0 < (Real.sqrt M)⁻¹ := inv_pos.mpr (Real.sqrt_pos.mpr hm)
    have e2 : (M)⁻¹ = (Real.sqrt M)⁻¹ * (Real.sqrt M)⁻¹ := by rw [← mul_inv, hs]
    generalize (Real.sqrt M)⁻¹ = c at hI hc e2
    have hc0 : (0 : EReal) ≤ ((c : ℝ) : EReal) := by exact_mod_cast hc.le
    have hS : ∑ w, d w * nrm x w = ((c : ℝ) : EReal) * ∑ w, x w * d w := by
      rw [mul_nonneg_sum hc0 (EReal.coe_ne_top c)]
      refine Finset.sum_congr rfl fun w _ => ?_
      unfold nrm
      rw [hI, mul_comm (d w), mul_comm (x w) ((c : ℝ) : EReal), mul_assoc]
    have hH : half x d = -(∑ w, x w * d w) * ((c * c * c / 2048 : ℝ) : EReal) := by
      unfold half
      rw [hI, hM, ofBits_neg_half, div_coe' hm.ne', ← EReal.coe_mul, div_1024, mul_assoc, ← EReal.coe_mul,
        show -(1 / 2) * (c / M) * (1 / 1024) = -(c * c * c / 2048) by rw [div_eq_mul_inv c, e2]; ring, EReal.coe_neg, mul_neg, neg_mul]
    unfold back
    rw [hS, hH, hI, div_1024]
    unfold nrm
    rw [hI]
    generalize ∑ w, x w * d w = S
    rw [sub_eq_add_neg, EReal.left_distrib_of_nonneg_of_ne_top hc0 (EReal.coe_ne_top c), add_assoc, mul_comm (d j)]
    refine congrArg (HAdd.hAdd (α := EReal) (β := EReal) (γ := EReal) (((c : ℝ) : EReal) * d j)) ?_
    have hq : (0 : EReal) ≤ ((c * c * c / 2048 : ℝ) : EReal) := by exact_mod_cast (by positivity : 0 ≤ c * c * c / 2048)
    have ht : -S * ((c * c * c / 2048 : ℝ) : EReal) * x j = ((c * c * c / 2048 : ℝ) : EReal) * -(x j * S) := by
      rw [mul_comm (-S), mul_assoc, neg_mul, mul_comm S]
    rw [mul_comm (x j) (_ * _), ht, ← EReal.right_distrib_of_nonneg hq hq, ← EReal.coe_add,
      show c * c * c / 2048 + c * c * c / 2048 = c * c * c * (1 / 1024) by ring, EReal.coe_mul, EReal.coe_mul, EReal.coe_mul, mul_neg, mul_neg]
    exact congrArg Neg.neg (by ac_rfl)

end Gla.Rms

end
-- ==== Proof.Prod15.lean ====
module

public import proofs.«01_k».proof.Defs
public import proofs.«01_k».proof.Proof.Prod
public import proofs.«01_k».proof.Proof.Prod7
public import proofs.«01_k».proof.Proof.Rms
public import Idealize.ShloMosaic.Lib.Pipeline.ValueKit
public import proofs.«01_k».proof.Proof.Gen.Kernel15Ideal.Value

/-!
The gradient through the product with the up projection and through the norm before it: the kernel's side.
-/

@[expose] public section

set_option maxRecDepth 16384

noncomputable section

namespace Gla.Prod15

open Idealize.ShloMosaic Idealize.ShloMosaic.TcCoe Idealize.SL.Sem Cert.Kernel15Ideal Cert.Kernel15Ideal.Gen Finset Gla.Rms

theorem hz3 : (![0, 0, 0] : Fin 3 → Nat) = fun _ => 0 := funext fun a => by fin_cases a <;> rfl

theorem hz : (![0, 0] : Fin 2 → Nat) = fun _ => 0 := funext fun a => by fin_cases a <;> rfl

theorem cast_apply (x1 : Vec Ideal S1x1024x1408 .bf16) (h) (k : Fin 1024) (j : Fin 1408) : shapeCast S1024x1408 x1 h (ix2 k j) = x1 (ix3 0 k j) := by
  pointwise []

/-- The product of two blocks, entry by entry. -/
theorem pay_apply (x0 : Vec Ideal S768x1408 .bf16) (x1 : Vec Ideal S1x1024x1408 .bf16) (i : Fin 768) (j : Fin 1024) :
    k0_pay2 (F := Ideal) x0 x1 (ix2 i j) = ∑ k : Fin 1408, x0 (ix2 i k) * x1 (ix3 0 j k) :=
  (nt_apply (φ₁ := .bf16) (φ₂ := .bf16) x0 (shapeCast S1024x1408 x1 _) _ i j).trans
    (Finset.sum_congr rfl fun k _ => congrArg (x0 (ix2 i k) * ·) (cast_apply x1 _ j k))

section Payloads

variable (v10 v22 v24 : FVec Ideal S768x1024 .f32)

theorem p6 (i : Fin 768) : k0_pay6 (F := Ideal) v24 (ix2 i 0) = inv fun k => v24 (ix2 i k) := by
  pointwise [Gen.k0_pay6]
  rfl

theorem p7 (i : Fin 768) (j : Fin 1024) : k0_pay7 (F := Ideal) v24 (ix2 i j) = nrm (fun k => v24 (ix2 i k)) j := by
  pointwise [Gen.k0_pay7]
  rw [p6]
  rfl

theorem p8 (v35 : Vec Ideal S1x1024 .f32) (j : Fin 1024) : k0_pay8 (F := Ideal) v10 v22 v24 v35 (ix2 0 j)
    = v35 (ix2 0 j) + ∑ i : Fin 768, (v22 (ix2 i j) + v10 (ix2 i j)) * nrm (fun k => v24 (ix2 i k)) j := by
  pointwise [Gen.k0_pay8, Gen.k0_pay5]
  simp only [p7]

theorem p9 (v42 : Vec Ideal S1x1024 .f32) (v45 : Vec Ideal S768x1024 .f32) (i : Fin 768) (j : Fin 1024) : k0_pay9 (F := Ideal) v10 v22 v24 v42 v45 (ix2 i j)
    = v45 (ix2 i j) + back (fun k => v24 (ix2 i k)) (fun k => (v22 (ix2 i k) + v10 (ix2 i k)) * v42 (ix2 0 k)) j := by
  pointwise [Gen.k0_pay9, Gen.k0_pay5]
  simp only [p7, p6]
  rfl

end Payloads

variable (m : (ℓ : Loc nD τ sig) → Buf (Elt Ideal) ℓ) (c : Dev nD)

section Runs

variable (g : grid0.Coords) (a0 : Memref sig .tc .vmem S768x1408 .bf16) (w0 : a0.IsWhole) (a1 : Memref sig .tc .vmem S1x1024x1408 .bf16) (w1 : a1.IsWhole)
  (a2 : Memref sig .tc .vmem S768x1024 .f32) (w2 : a2.IsWhole) (a3 : Memref sig .tc .vmem S768x1024 .f32) (w3 : a3.IsWhole)
  (a4 : Memref sig .tc .vmem S1x1024 .f32) (w4 : a4.IsWhole) (a5 : Memref sig .tc .vmem S768x1024 .f32) (w5 : a5.IsWhole)
  (a6 : Memref sig .tc .vmem S1x1024 .f32) (w6 : a6.IsWhole) (a7 : Memref sig .tc .vmem S768x1024 .bf16) (w7 : a7.IsWhole)
  (a8 : Memref sig .tc .vmem S768x1024 .f32) (w8 : a8.IsWhole)
  (x0 : Vec Ideal S768x1408 .bf16) (x1 : Vec Ideal S1x1024x1408 .bf16) (x2 x3 : Vec Ideal S768x1024 .f32) (x4 : Vec Ideal S1x1024 .f32)
  (xs : Vec Ideal S768x1024 .f32) (xo : Vec Ideal S1x1024 .f32)

theorem sA (h0 h1 h2 h3) : sout0_A_0 c g a0 w0 a1 w1 a2 w2 a3 w3 a4 w4 a5 w5 a6 w6 a7 w7 a8 w8 h0 h1 h2 h3 x0 x1 x2 x3 x4 = k0_pay2 x0 x1 := by
  unfold sout0_A_0
  rw [View.read_writes_eq_canon _ _ _ (scover0_A_0 c g a0 w0 a1 w1 a2 w2 a3 w3 a4 w4 a5 w5 a6 w6 a7 w7 a8 w8 h0 h1 h2 h3 x0 x1 x2 x3 x4)]
  unfold kernelRun0_A
  dsimp only
  rw [View.canon_unit_zero hz]
  unfold k0_pay3
  simp only [View.readAt_eq_ld, w0.read_unread, w1.read_unread, View.ld_unit_zero (S := S768x1408) hz, View.ld_unit_zero (S := S1x1024x1408) hz3, shapeCast_self]

theorem sD (h0 h1 h2 h3) : sout0_D_0 c g a0 w0 a1 w1 a2 w2 a3 w3 a4 w4 a5 w5 a6 w6 a7 w7 a8 w8 h0 h1 h2 h3 x0 x1 x2 x3 x4 = k0_pay2 x0 x1 := by
  unfold sout0_D_0
  rw [View.read_writes_eq_canon _ _ _ (scover0_D_0 c g a0 w0 a1 w1 a2 w2 a3 w3 a4 w4 a5 w5 a6 w6 a7 w7 a8 w8 h0 h1 h2 h3 x0 x1 x2 x3 x4)]
  unfold kernelRun0_D
  dsimp only
  rw [View.canon_unit_zero hz]
  unfold k0_pay3
  simp only [View.readAt_eq_ld, w0.read_unread, w1.read_unread, View.ld_unit_zero (S := S768x1408) hz, View.ld_unit_zero (S := S1x1024x1408) hz3, shapeCast_self]

theorem sB (h0 h1 h2 h3) : sout0_B_0 c g a0 w0 a1 w1 a2 w2 a3 w3 a4 w4 a5 w5 a6 w6 a7 w7 a8 w8 h0 h1 h2 h3 x0 x1 x2 x3 x4 xs = addf xs (k0_pay2 x0 x1) := by
  unfold sout0_B_0
  rw [View.read_writes_eq_canon _ _ _ (scover0_B_0 c g a0 w0 a1 w1 a2 w2 a3 w3 a4 w4 a5 w5 a6 w6 a7 w7 a8 w8 h0 h1 h2 h3 x0 x1 x2 x3 x4 xs)]
  unfold kernelRun0_B
  dsimp only
  rw [View.canon_unit_zero hz]
  unfold k0_pay4
  simp only [View.readAt_eq_ld, w0.read_unread, w1.read_unread, w8.read_unread, View.ld_unit_zero (S := S768x1408) hz, View.ld_unit_zero (S := S1x1024x1408) hz3,
    View.ld_unit_zero (S := S768x1024) hz, shapeCast_self]

theorem oA6 (h0 h1 h2 h3) (j : Fin 1024) : out0_A_6 c g a0 w0 a1 w1 a2 w2 a3 w3 a4 w4 a5 w5 a6 w6 a7 w7 a8 w8 h0 h1 h2 h3 x0 x1 x2 x3 x4 (ix2 0 j) = 0 := by
  unfold out0_A_6
  rw [View.read_writes_eq_canon _ _ _ (cover0_A_6 c g a0 w0 a1 w1 a2 w2 a3 w3 a4 w4 a5 w5 a6 w6 a7 w7 a8 w8 h0 h1 h2 h3 x0 x1 x2 x3 x4)]
  unfold kernelRun0_A
  dsimp only
  rw [View.canon_unit_zero hz]
  pointwise [Gen.k0_pay1]

theorem oC6 (h0 h1 h2 h3) : out0_C_6 c g a0 w0 a1 w1 a2 w2 a3 w3 a4 w4 a5 w5 a6 w6 a7 w7 a8 w8 h0 h1 h2 h3 x0 x1 x2 x3 x4 xo xs = k0_pay8 (k0_pay2 x0 x1) xs x2 xo := by
  unfold out0_C_6
  rw [View.read_writes_eq_canon _ _ _ (cover0_C_6 c g a0 w0 a1 w1 a2 w2 a3 w3 a4 w4 a5 w5 a6 w6 a7 w7 a8 w8 h0 h1 h2 h3 x0 x1 x2 x3 x4 xo xs)]
  unfold kernelRun0_C
  dsimp only
  rw [View.canon_unit_zero hz]
  simp only [View.readAt_eq_ld, w0.read_unread, w1.read_unread, w2.read_unread, w6.read_unread, w8.read_unread, View.ld_unit_zero (S := S768x1408) hz, View.ld_unit_zero (S := S1x1024x1408) hz3,
    View.ld_unit_zero (S := S768x1024) hz, View.ld_unit_zero (S := S1x1024) hz, shapeCast_self]

theorem oC5 (h0 h1 h2 h3) : out0_C_5 c g a0 w0 a1 w1 a2 w2 a3 w3 a4 w4 a5 w5 a6 w6 a7 w7 a8 w8 h0 h1 h2 h3 x0 x1 x2 x3 x4 xo xs = k0_pay9 (k0_pay2 x0 x1) xs x2 x4 x3 := by
  unfold out0_C_5
  rw [View.read_writes_eq_canon _ _ _ (cover0_C_5 c g a0 w0 a1 w1 a2 w2 a3 w3 a4 w4 a5 w5 a6 w6 a7 w7 a8 w8 h0 h1 h2 h3 x0 x1 x2 x3 x4 xo xs)]
  unfold kernelRun0_C
  dsimp only
  rw [View.canon_unit_zero hz]
  simp only [View.readAt_eq_ld, w0.read_unread, w1.read_unread, w2.read_unread, w3.read_unread, w4.read_unread, w8.read_unread, View.ld_unit_zero (S := S768x1408) hz, View.ld_unit_zero (S := S1x1024x1408) hz3,
    View.ld_unit_zero (S := S768x1024) hz, View.ld_unit_zero (S := S1x1024) hz, shapeCast_self]

theorem oC7 (h0 h1 h2 h3) : out0_C_7 c g a0 w0 a1 w1 a2 w2 a3 w3 a4 w4 a5 w5 a6 w6 a7 w7 a8 w8 h0 h1 h2 h3 x0 x1 x2 x3 x4 xo xs = k0_pay10 (k0_pay2 x0 x1) xs x2 x4 x3 := by
  unfold out0_C_7
  rw [View.read_writes_eq_canon _ _ _ (cover0_C_7 c g a0 w0 a1 w1 a2 w2 a3 w3 a4 w4 a5 w5 a6 w6 a7 w7 a8 w8 h0 h1 h2 h3 x0 x1 x2 x3 x4 xo xs)]
  unfold kernelRun0_C
  dsimp only
  rw [View.canon_unit_zero hz]
  unfold kernelRun0_C.sl.r
  simp only [View.readAt_eq_ld, w0.read_unread, w1.read_unread, w2.read_unread, w3.read_unread, w4.read_unread, w8.read_unread, View.ld_unit_zero (S := S768x1408) hz, View.ld_unit_zero (S := S1x1024x1408) hz3,
    View.ld_unit_zero (S := S768x1024) hz, View.ld_unit_zero (S := S1x1024) hz, shapeCast_self]

end Runs

theorem widx : ∀ t : Fin cfg0.N, win0_0.index t = ![t.val / 4, t.val % 4] ∧ win0_1.index t = ![t.val % 4, 0, 0] ∧ win0_2.index t = ![t.val / 4, 0]
    ∧ win0_3.index t = ![t.val / 4, 0] ∧ win0_4.index t = ![0, 0] ∧ win0_5.index t = ![t.val / 4, 0] ∧ win0_6.index t = ![0, 0] ∧ win0_7.index t = ![t.val / 4, 0] ∧ t.val < 44 :=
  (by decide +kernel : ∀ t : Fin grid0.N, _)

theorem rd5 (W : Vec Ideal S8448x1024 .f32) (t : Fin cfg0.N) (i : Fin 768) (j : Fin 1024) (ht : t.val < 44) :
    ((cfg0.win 5).blk t).view.read (Elt Ideal) W (ix2 i j) = W (ix2 ⟨768 * (t.val / 4) + i, by omega⟩ j) := by
  blk_ext [widx t]

theorem rd6 (W : Vec Ideal S1x1024 .f32) (t : Fin cfg0.N) (j : Fin 1024) :
    ((cfg0.win 6).blk t).view.read (Elt Ideal) W (ix2 0 j) = W (ix2 0 j) := by
  blk_ext [widx t]

theorem rd7 (W : Vec Ideal S8448x1024 .bf16) (t : Fin cfg0.N) (i : Fin 768) (j : Fin 1024) (ht : t.val < 44) :
    ((cfg0.win 7).blk t).view.read (Elt Ideal) W (ix2 i j) = W (ix2 ⟨768 * (t.val / 4) + i, by omega⟩ j) := by
  blk_ext [widx t]

/-- The column of the stacked blocks that a column of the up projection belongs to, zero outside. -/
def colN (y : S4x1024x1408.Idx → EReal) (j : Fin 1024) (n : ℕ) : EReal := if h : n < 5632 then Prod7.col y j ⟨n, h⟩ else 0

theorem colN_at (y : S4x1024x1408.Idx → EReal) (q : Fin 4) (j : Fin 1024) (k : Fin 1408) : y (ix3 q j k) = colN y j (1408 * q + k) := by
  unfold colN
  rw [dif_pos (show 1408 * (q : ℕ) + k < 5632 by omega)]
  exact (Prod7.col_at y q j k ⟨1408 * q + k, by omega⟩ rfl).symm

/-- What one block of columns adds to an entry of the product. -/
def term (x : S8448x5632.Idx → EReal) (y : S4x1024x1408.Idx → EReal) (i : ℕ) (j : Fin 1024) (s : ℕ) : EReal :=
  ∑ k : Fin 1408, nat2 x i (1408 * s + k) * colN y j (1408 * s + k)

/-- The product: the gradient of the row after norm and gain. -/
def du (x : S8448x5632.Idx → EReal) (y : S4x1024x1408.Idx → EReal) (i : ℕ) (j : Fin 1024) : EReal :=
  ∑ k : Fin 5632, nat2 x i k * colN y j k

theorem du_eq (x : S8448x5632.Idx → EReal) (y : S4x1024x1408.Idx → EReal) (i : ℕ) (j : Fin 1024) : ∑ s ∈ range 4, term x y i j s = du x y i j :=
  sum_blocks 1408 4 fun k => nat2 x i k * colN y j k

theorem pay_ok (t : Fin cfg0.N) (i : Fin 768) (j : Fin 1024) : k0_pay2 (F := Ideal) (iblk m c 0 t) (iblk m c 1 t) (ix2 i j)
    = term (m ((c.tc : Thread nD τ).loc main_arg0)) (m ((c.tc : Thread nD τ).loc main_arg1)) (768 * (t.val / 4) + i) j (t.val % 4) := by
  have ht := (widx t).2.2.2.2.2.2.2.2
  have e0 (i : Fin 768) (k : Fin 1408) : iblk m c 0 t (ix2 i k) = (m ((c.tc : Thread nD τ).loc main_arg0) : Vec Ideal S8448x5632 .bf16)
      (ix2 ⟨768 * (t.val / 4) + i, by omega⟩ ⟨1408 * (t.val % 4) + k, by omega⟩) := by
    blk_ext [iblk, V, widx t]
  have e1 (k : Fin 1024) (j : Fin 1408) : iblk m c 1 t (ix3 0 k j) = (m ((c.tc : Thread nD τ).loc main_arg1) : Vec Ideal S4x1024x1408 .bf16)
      (ix3 ⟨t.val % 4, by omega⟩ k j) := by
    blk_ext [iblk, V, widx t]
  refine (pay_apply _ _ i j).trans (Finset.sum_congr rfl fun k _ => ?_)
  exact congrArg₂ (· * ·) ((e0 i k).trans (nat2_eq _ _ _)) ((e1 j k).trans (colN_at _ _ _ _))

/-- What the carried block holds after a point that is not the last of its run. -/
theorem sc_ok (i : Fin 768) (j : Fin 1024) : ∀ n h, n % 4 ≤ 2 → (outsAt0 m c n h).2.2.2 (ix2 i j)
    = ∑ s ∈ range (n % 4 + 1), term (m ((c.tc : Thread nD τ).loc main_arg0)) (m ((c.tc : Thread nD τ).loc main_arg1)) (768 * (n / 4) + i) j s := by
  refine acc_run 4 (by omega) (fun n h => (outsAt0 m c n h).2.2.2 (ix2 i j)) (fun q s => term _ _ (768 * q + i) j s) (fun n h hn => ?_) fun n h l u => ?_
  · by_cases h44 : n % 44 = 0
    · rw [outsAt0_A m c ⟨n, h⟩ h44 hn (by dsimp only; omega) (by dsimp only; omega)]
      dsimp only
      rw [sA, pay_ok]
      dsimp only
      rw [hn]
    · rw [outsAt0_D m c ⟨n, h⟩ h44 hn (by dsimp only; omega) (by dsimp only; omega)]
      dsimp only
      rw [sD, pay_ok]
      dsimp only
      rw [hn]
  · rw [outsAt0_B m c ⟨n + 1, h⟩ (by dsimp only; omega) (by dsimp only; omega) (by dsimp only; omega) (by dsimp only; omega)]
    dsimp only
    rw [sB]
    exact congrArg (fun e => (outsAt0 m c n (Nat.lt_of_succ_lt h)).2.2.2 (ix2 i j) + e) (pay_ok m c ⟨n + 1, h⟩ i j)

/-- At a run's last point, the carried block and the point's product add up to the whole product. -/
theorem total (t : Fin cfg0.N) (h3 : t.val % 4 = 3) (i : Fin 768) (j : Fin 1024) :
    (outsAt0 m c (t.val - 1) (Nat.lt_of_le_of_lt (Nat.sub_le _ _) t.isLt)).2.2.2 (ix2 i j) + k0_pay2 (F := Ideal) (iblk m c 0 t) (iblk m c 1 t) (ix2 i j)
      = du (m ((c.tc : Thread nD τ).loc main_arg0)) (m ((c.tc : Thread nD τ).loc main_arg1)) (768 * (t.val / 4) + i) j := by
  rw [pay_ok, sc_ok m c i j (t.val - 1) _ (by omega), ← du_eq, Finset.sum_range_succ _ 3, h3, show (t.val - 1) % 4 + 1 = 3 by omega, show (t.val - 1) / 4 = t.val / 4 by omega]

/-- A row of the residual stream. -/
def row (h : S8448x1024.Idx → EReal) (i : ℕ) : Fin 1024 → EReal := fun k => nat2 h i k

theorem row_ok (t : Fin cfg0.N) (i : Fin 768) : (fun k : Fin 1024 => (iblk m c 2 t : Vec Ideal S768x1024 .f32) (ix2 i k)) = row (m ((c.tc : Thread nD τ).loc main_arg2)) (768 * (t.val / 4) + i) := by
  have ht := (widx t).2.2.2.2.2.2.2.2
  funext k
  have e : iblk m c 2 t (ix2 i k) = (m ((c.tc : Thread nD τ).loc main_arg2) : Vec Ideal S8448x1024 .f32) (ix2 ⟨768 * (t.val / 4) + i, by omega⟩ k) := by
    blk_ext [iblk, V, widx t]
  exact e.trans (nat2_eq _ _ _)

/-- What one row adds to the gain's gradient. -/
def gain (x : S8448x5632.Idx → EReal) (y : S4x1024x1408.Idx → EReal) (h : S8448x1024.Idx → EReal) (j : Fin 1024) (i : ℕ) : EReal :=
  du x y i j * nrm (row h i) j

theorem gain_ok (j : Fin 1024) : ∀ n h, (outsAt0 m c n h).2.1 (ix2 0 j) = ∑ s ∈ range ((n + 1) / 4), ∑ i : Fin 768,
    gain (m ((c.tc : Thread nD τ).loc main_arg0)) (m ((c.tc : Thread nD τ).loc main_arg1)) (m ((c.tc : Thread nD τ).loc main_arg2)) j (768 * s + i) := by
  intro n
  induction n with
  | zero =>
    intro h
    rw [outsAt0_A m c ⟨0, h⟩ rfl rfl (by dsimp only; omega) (by dsimp only; omega)]
    dsimp only
    rw [oA6]
    rfl
  | succ n ih =>
    intro h
    have hN : n + 1 < 44 := (widx ⟨n + 1, h⟩).2.2.2.2.2.2.2.2
    by_cases h3 : (n + 1) % 4 = 3
    · rw [outsAt0_C m c ⟨n + 1, h⟩ (by dsimp only; omega) (by dsimp only; omega) (by dsimp only; omega) h3]
      dsimp only
      rw [oC6]
      refine (p8 _ _ _ _ j).trans ?_
      rw [show (n + 1 + 1) / 4 = (n + 1) / 4 + 1 by omega, Finset.sum_range_succ]
      refine congrArg₂ (· + ·) (ih (Nat.lt_of_succ_lt h)) (Finset.sum_congr rfl fun i _ => ?_)
      exact congrArg₂ (· * ·) (total m c ⟨n + 1, h⟩ h3 i j) (congrArg (nrm · j) (row_ok m c ⟨n + 1, h⟩ i))
    · rw [show (n + 1 + 1) / 4 = (n + 1) / 4 by omega]
      refine Eq.trans ?_ (ih (Nat.lt_of_succ_lt h))
      by_cases h0 : (n + 1) % 4 = 0
      · rw [outsAt0_D m c ⟨n + 1, h⟩ (by dsimp only; omega) h0 (by dsimp only; omega) (by dsimp only; omega)]
        rfl
      · rw [outsAt0_B m c ⟨n + 1, h⟩ (by dsimp only; omega) (by dsimp only; omega) (by dsimp only; omega) (by dsimp only; omega)]
        rfl

/-- The gain's gradient. -/
def dg (x : S8448x5632.Idx → EReal) (y : S4x1024x1408.Idx → EReal) (h : S8448x1024.Idx → EReal) : S1x1024.Idx → EReal :=
  fun i => ∑ k : Fin 8448, gain x y h (i 1) k

/-- The gradient of the residual stream. -/
def dh (x : S8448x5632.Idx → EReal) (y : S4x1024x1408.Idx → EReal) (h : S8448x1024.Idx → EReal) (g : S1x1024.Idx → EReal) (r : S8448x1024.Idx → EReal) : S8448x1024.Idx → EReal :=
  fun i => r i + back (row h (i 0)) (fun k => du x y (i 0) k * g (ix2 0 k)) (i 1)

theorem dh_ok (t : Fin cfg0.N) (h3 : t.val % 4 = 3) (i : Fin 768) (j : Fin 1024) (hi : 768 * (t.val / 4) + (i : ℕ) < 8448) :
    k0_pay9 (F := Ideal) (k0_pay2 (iblk m c 0 t) (iblk m c 1 t)) (outsAt0 m c (t.val - 1) (Nat.lt_of_le_of_lt (Nat.sub_le _ _) t.isLt)).2.2.2
        (iblk m c 2 t) (iblk m c 4 t) (iblk m c 3 t) (ix2 i j)
      = dh (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ix2 ⟨768 * (t.val / 4) + i, hi⟩ j) := by
  have e3 : iblk m c 3 t (ix2 i j) = (m ((c.tc : Thread nD τ).loc main_arg4) : Vec Ideal S8448x1024 .f32) (ix2 ⟨768 * (t.val / 4) + i, hi⟩ j) := by
    blk_ext [iblk, V, widx t]
  have e4 (k : Fin 1024) : iblk m c 4 t (ix2 0 k) = (m ((c.tc : Thread nD τ).loc main_arg3) : Vec Ideal S1x1024 .f32) (ix2 0 k) := by
    blk_ext [iblk, V, widx t]
  refine (p9 _ _ _ _ _ i j).trans (congrArg₂ (· + ·) e3 (congrArg₂ (fun a b => back a b j) (row_ok m c t i) (funext fun k => ?_)))
  exact congrArg₂ (· * ·) (total m c t h3 i k) (e4 k)

theorem final5 : (dats m 0 c).arrAt 5 cfg0.N = dh (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have ht := (widx t).2.2.2.2.2.2.2.2
  have h3 := (flush0_5 t).mp hf
  obtain ⟨i, j, rfl⟩ : ∃ (i : Fin 768) (j : Fin 1024), y = ix2 i j := ⟨y 0, y 1, ValueIdx.eq_ix2 y⟩
  rw [after0_5, outsAt0_C m c t (by omega) (by omega) (by omega) h3]
  dsimp only
  rw [oC5]
  exact (dh_ok m c t h3 i j (by omega)).trans (rd5 (dh _ _ _ _ _) t i j ht).symm

theorem final7 : (dats m 0 c).arrAt 7 cfg0.N = dh (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  have ht := (widx t).2.2.2.2.2.2.2.2
  have h3 := (flush0_7 t).mp hf
  obtain ⟨i, j, rfl⟩ : ∃ (i : Fin 768) (j : Fin 1024), y = ix2 i j := ⟨y 0, y 1, ValueIdx.eq_ix2 y⟩
  rw [after0_7, outsAt0_C m c t (by omega) (by omega) (by omega) h3]
  dsimp only
  rw [oC7]
  exact (dh_ok m c t h3 i j (by omega)).trans (rd7 (dh _ _ _ _ _) t i j ht).symm

theorem final6 : (dats m 0 c).arrAt 6 cfg0.N = dg (m ((c.tc : Thread nD τ).loc main_arg0)) (m ((c.tc : Thread nD τ).loc main_arg1))
    (m ((c.tc : Thread nD τ).loc main_arg2)) := by
  refine (dats m 0 c).arrAt_eq_of_covers 6 _ (by decide +kernel) fun t hf y => ?_
  have ht := (widx t).2.2.2.2.2.2.2.2
  have h43 := (flush0_6 t).mp hf
  obtain ⟨z, j, rfl⟩ : ∃ (z : Fin 1) (j : Fin 1024), y = ix2 z j := ⟨y 0, y 1, ValueIdx.eq_ix2 y⟩
  obtain rfl : z = 0 := Subsingleton.elim _ _
  rw [after0_6]
  have p := gain_ok m c j t.val t.isLt
  rw [show (t.val + 1) / 4 = 11 by omega] at p
  generalize (outsAt0 m c t.val t.isLt).2.1 = q at p ⊢
  refine p.trans (Eq.trans ?_ (rd6 (dg (m ((c.tc : Thread nD τ).loc main_arg0)) (m ((c.tc : Thread nD τ).loc main_arg1)) (m ((c.tc : Thread nD τ).loc main_arg2))) t j).symm)
  exact sum_blocks 768 11 (gain (m ((c.tc : Thread nD τ).loc main_arg0)) (m ((c.tc : Thread nD τ).loc main_arg1)) (m ((c.tc : Thread nD τ).loc main_arg2)) j)

end Gla.Prod15

end
-- ==== Proof.Back15.lean ====
module

public import proofs.«01_k».proof.Defs
public import Idealize.ShloMosaic.Lib.Claim
public import Idealize.ShloMosaic.Lib.KernelVsHost
public import proofs.«01_k».proof.Proof.Prod15
public import proofs.«01_k».proof.Proof.Gen.Kernel15Ideal.Value
public import proofs.«01_k».proof.Proof.Gen.Reference15Ideal
public import proofs.«01_k».proof.Proof.Gen.Reference15Ideal.Run

/-!
The gradient through the product with the up projection and through the norm before it: the reference's side.
-/

@[expose] public section

set_option maxRecDepth 16384

noncomputable section

namespace Gla.Prod15

open Idealize.ShloMosaic Idealize.ShloMosaic.TcCoe Idealize.SL.Sem Finset Gla.Rms

open Cert.Reference15Ideal Cert.Reference15Ideal.Gen Cert.Reference15Ideal.Value in
theorem ref0 (m : (ℓ : Loc nD τ sig) → Buf (Elt Ideal) ℓ) (c : Dev nD)
    (i : Fin 8448) (j : Fin 1024) :
    (res_main_v47 m c : Vec Ideal S8448x1024 .f32) (ix2 i j)
      = dh (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (ix2 i j) := by
  unfold res_main_v47
  generalize m ((c.tc : Thread nD τ).loc main_arg0) = x
  generalize m ((c.tc : Thread nD τ).loc main_arg1) = y
  generalize m ((c.tc : Thread nD τ).loc main_arg2) = h
  generalize m ((c.tc : Thread nD τ).loc main_arg3) = g
  generalize m ((c.tc : Thread nD τ).loc main_arg4) = r
  generalize hq : Host.dotGeneral (F := Ideal) (φ₁ := .f32) (φ₂ := .f32) dot_S8448x5632_S5632x1024_S8448x1024_1_0_0_1_n_n none _ _ = q
  have hD (a : Fin 8448) (b : Fin 1024) : q (ix2 a b) = du x y a b := by
    rw [← hq]
    refine (nn_host (φ₁ := .f32) (φ₂ := .f32) x _ _ a b).trans (Finset.sum_congr rfl fun k _ => congrArg₂ (HMul.hMul (α := EReal) (β := EReal) (γ := EReal)) (nat2_eq x a k) ?_)
    pointwise []
    refine (Prod7.quarters y b k).trans ?_
    unfold colN
    rw [dif_pos k.isLt]
  clear hq
  pointwise []
  simp only [Fin.sum_univ_one]
  have hrow (k : Fin 1024) : h (ix2 i k) = row h i k := nat2_eq h i k
  have key := back_eq (row h i) (fun k => du x y i k * g (ix2 0 k)) j
  simp only [hrow, hD]
  exact congrArg (HAdd.hAdd (α := EReal) (β := EReal) (γ := EReal) (r (ix2 i j))) key

open Cert.Reference15Ideal Cert.Reference15Ideal.Gen Cert.Reference15Ideal.Value in
theorem ref2 (m : (ℓ : Loc nD τ sig) → Buf (Elt Ideal) ℓ) (c : Dev nD) (i : S8448x1024.Idx) :
    (res_main_v49 m c : Vec Ideal S8448x1024 .bf16) i = (res_main_v47 m c : Vec Ideal S8448x1024 .f32) i := by
  unfold res_main_v49 res_main_v47
  rfl

theorem value : Cert.algebraic_Kernel15Ideal_Reference15Ideal := by
  intro m g m' g' _ hagree
  refine ⟨fun c => (Cert.Kernel15Ideal.Gen.dats m 0 c).arrAt 5 Cert.Kernel15Ideal.cfg0.N, fun c => (Cert.Kernel15Ideal.Gen.dats m 0 c).arrAt 6 Cert.Kernel15Ideal.cfg0.N,
    fun c => (Cert.Kernel15Ideal.Gen.dats m 0 c).arrAt 7 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨e0, e1, e2, e3, e4⟩ := hagree c
  have R := ref0 m' c
  rw [e0, e1, e2, e3, e4] at R
  refine ⟨(h c).1.trans (Eq.trans ?_ (final5 m c).symm), (h c).2.1.trans (Eq.trans ?_ (final6 m c).symm), (h c).2.2.1.trans (Eq.trans ?_ (final7 m c).symm), (h c).2.2.2⟩
  · funext i
    obtain ⟨i, j, rfl⟩ : ∃ (a : Fin 8448) (b : Fin 1024), i = ix2 a b := ⟨i 0, i 1, ValueIdx.eq_ix2 i⟩
    exact R i j
  · rw [e0, e1, e2]
    generalize m ((c.tc : Thread Cert.Kernel15Ideal.nD Cert.Kernel15Ideal.τ).loc Cert.Kernel15Ideal.main_arg0) = x
    generalize m ((c.tc : Thread Cert.Kernel15Ideal.nD Cert.Kernel15Ideal.τ).loc Cert.Kernel15Ideal.main_arg1) = y
    generalize m ((c.tc : Thread Cert.Kernel15Ideal.nD Cert.Kernel15Ideal.τ).loc Cert.Kernel15Ideal.main_arg2) = h
    generalize hq : Host.dotGeneral (F := Ideal) (φ₁ := .f32) (φ₂ := .f32) Cert.Reference15Ideal.dot_S8448x5632_S5632x1024_S8448x1024_1_0_0_1_n_n none _ _ = q
    have hD (a : Fin 8448) (b : Fin 1024) : q (ix2 a b) = du x y a b := by
      rw [← hq]
      refine (nn_host (φ₁ := .f32) (φ₂ := .f32) x _ _ a b).trans (Finset.sum_congr rfl fun k _ => congrArg₂ (HMul.hMul (α := EReal) (β := EReal) (γ := EReal)) (nat2_eq x a k) ?_)
      pointwise []
      refine (Prod7.quarters y b k).trans ?_
      unfold colN
      rw [dif_pos k.isLt]
    clear hq
    funext i
    obtain ⟨z, j, rfl⟩ : ∃ (z : Fin 1) (j : Fin 1024), i = ix2 z j := ⟨i 0, i 1, ValueIdx.eq_ix2 i⟩
    obtain rfl : z = 0 := Subsingleton.elim _ _
    pointwise []
    refine Finset.sum_congr rfl fun k _ => ?_
    rw [hD, mul_comm]
    have hrow (w : Fin 1024) : h (ix2 k w) = row h k w := nat2_eq h k w
    simp only [hrow]
    rfl
  · funext i
    obtain ⟨i, j, rfl⟩ : ∃ (a : Fin 8448) (b : Fin 1024), i = ix2 a b := ⟨i 0, i 1, ValueIdx.eq_ix2 i⟩
    exact (ref2 m' c _).trans (R i j)

end Gla.Prod15

end
-- ==== Proof.Prod16.lean ====
module

public import proofs.«01_k».proof.Defs
public import proofs.«01_k».proof.Proof.Prod
public import proofs.«01_k».proof.Proof.Rms
public import Idealize.ShloMosaic.Lib.Pipeline.ValueKit
public import proofs.«01_k».proof.Proof.Gen.Kernel16Ideal.Value

/-!
The product with the down projection, the loss, and the loss's gradient through the last norm: the kernel's side.
-/

@[expose] public section

set_option maxRecDepth 16384

noncomputable section

namespace Gla.Prod16

open Idealize.ShloMosaic Idealize.ShloMosaic.TcCoe Idealize.SL.Sem Cert.Kernel16Ideal Cert.Kernel16Ideal.Gen Finset Gla.Rms

theorem hz : (![0, 0] : Fin 2 → Nat) = fun _ => 0 := funext fun a => by fin_cases a <;> rfl

/-- Half of the loss's scale over a row. -/
def sc : EReal := Ideal.ofBits .f32 0x3A800000#32

/-- What a row's entries miss the target by; `l` is zero at rows that carry no token. -/
def err (h g t : Fin 1024 → EReal) (l : EReal) (j : Fin 1024) : EReal := (nrm h j * g j - t j) * l

/-- The mean square of what a row misses the target by. -/
def miss (h g t : Fin 1024 → EReal) (l : EReal) : EReal := Ideal.div (∑ j, err h g t l j * err h g t l j) (Ideal.ofBits .f32 0x44800000#32)

/-- One where a block of rows carries tokens, zero at the first. -/
def live (n : ℕ) : EReal := if 0 < n then 1 else 0

theorem one_bits : Ideal.ofBits .f32 0x3F800000#32 = 1 := by
  simp [Ideal.ofBits, Ideal.ieee]
  norm_num
  rw [← EReal.coe_mul]
  norm_num

theorem zero_bits : Ideal.ofBits .f32 0x00000000#32 = 0 := by
  simp [Ideal.ofBits, Ideal.ieee]

section Payloads

variable (H : FVec Ideal S768x1024 .f32) (v12 : Vec Ideal S1x1024 .f32) (T : Vec Ideal S256x1024 .f32) (z : Ideal .f32)

theorem p17 (i : Fin 256) : k0_pay17 (F := Ideal) H (ix2 i 0) = inv fun k => H (ix2 ⟨256 + i, by omega⟩ k) := by
  pointwise [Gen.k0_pay17, Gen.k0_pay16]
  rfl

theorem p27 (i : Fin 256) : k0_pay27 (F := Ideal) H (ix2 i 0) = inv fun k => H (ix2 ⟨512 + i, by omega⟩ k) := by
  pointwise [Gen.k0_pay27, Gen.k0_pay26]
  rfl

theorem p18 (i : Fin 256) (j : Fin 1024) : k0_pay18 (F := Ideal) H (ix2 i j) = nrm (fun k => H (ix2 ⟨256 + i, by omega⟩ k)) j := by
  pointwise [Gen.k0_pay18, Gen.k0_pay16]
  rw [p17]
  rfl

theorem p28 (i : Fin 256) (j : Fin 1024) : k0_pay28 (F := Ideal) H (ix2 i j) = nrm (fun k => H (ix2 ⟨512 + i, by omega⟩ k)) j := by
  pointwise [Gen.k0_pay28, Gen.k0_pay26]
  rw [p27]
  rfl

theorem p30 (i : Fin 256) (j : Fin 1024) : k0_pay30 (F := Ideal) z (k0_pay29 H v12) T (ix2 i j)
    = err (fun k => H (ix2 ⟨512 + i, by omega⟩ k)) (fun k => v12 (ix2 0 k)) (fun k => T (ix2 i k)) z j := by
  pointwise [Gen.k0_pay30, Gen.k0_pay29]
  rw [p28]
  rfl

theorem p31 (v : Vec Ideal S1x1 .f32) : k0_pay31 (F := Ideal) z (k0_pay29 H v12) T v (ix2 0 0)
    = v (ix2 0 0) + Ideal.ofBits .f32 0x3F000000#32 * ∑ i : Fin 256, miss (fun k => H (ix2 ⟨512 + i, by omega⟩ k)) (fun k => v12 (ix2 0 k)) (fun k => T (ix2 i k)) z := by
  pointwise [Gen.k0_pay31]
  simp only [p30]
  rfl

theorem p33 (v : Vec Ideal S1x1024 .f32) (j : Fin 1024) : k0_pay33 (F := Ideal) z (k0_pay28 H) (k0_pay29 H v12) T v (ix2 0 j)
    = v (ix2 0 j) + ∑ i : Fin 256, err (fun k => H (ix2 ⟨512 + i, by omega⟩ k)) (fun k => v12 (ix2 0 k)) (fun k => T (ix2 i k)) z j * sc
        * nrm (fun k => H (ix2 ⟨512 + i, by omega⟩ k)) j := by
  pointwise [Gen.k0_pay33, Gen.k0_pay32]
  simp only [p30, p28]
  rfl

theorem p34 (i : Fin 256) (j : Fin 1024) : k0_pay34 (F := Ideal) v12 z (k0_pay27 H) (k0_pay28 H) (k0_pay29 H v12) T (ix2 i j)
    = back (fun k => H (ix2 ⟨512 + i, by omega⟩ k)) (fun w => err (fun k => H (ix2 ⟨512 + i, by omega⟩ k)) (fun k => v12 (ix2 0 k)) (fun k => T (ix2 i k)) z w * sc * v12 (ix2 0 w)) j := by
  pointwise [Gen.k0_pay34, Gen.k0_pay32]
  simp only [p30, p28, p27]
  rfl

theorem z0 (g : grid0.Coords) (h : (g 0).val < 11) (i : Fin 256) (j : Fin 1024) : k0_pay9 (F := Ideal) g (ix2 i j) = live (3 * (g 0).val) := by
  pointwise [Gen.k0_pay9]
  generalize (g 0).val = n at h
  have e : Scalar.cmpi .sgt (Scalar.addi (Scalar.muli (BitVec.ofNat 32 n) 3#32) 0#32) 0#32 = 1 ↔ 0 < 3 * n := by
    interval_cases n <;> decide
  exact if_congr e rfl rfl

theorem z2 (n : ℕ) (h : n < 11) : k0_pay25 (F := Ideal) (BitVec.ofNat 32 n) = live (3 * n + 2) := by
  unfold k0_pay25 live
  interval_cases n <;> exact one_bits

variable (x0 : Vec Ideal S768x2816 .bf16) (x1 : Vec Ideal S2816x1024 .bf16) (x2 : Vec Ideal S768x1024 .f32)

theorem p6 (i : Fin 256) : k0_pay6 (F := Ideal) x0 x1 x2 (ix2 i 0) = inv fun k => k0_pay4 (F := Ideal) x0 x1 x2 (ix2 ⟨i, by omega⟩ k) := by
  pointwise [Gen.k0_pay6, Gen.k0_pay5]
  rfl

theorem p7 (i : Fin 256) (j : Fin 1024) : k0_pay7 (F := Ideal) x0 x1 x2 (ix2 i j) = nrm (fun k => k0_pay4 (F := Ideal) x0 x1 x2 (ix2 ⟨i, by omega⟩ k)) j := by
  pointwise [Gen.k0_pay7, Gen.k0_pay5]
  rw [p6]
  rfl

section First

variable (g : grid0.Coords) (h : (g 0).val < 11)
include h

theorem p10 (i : Fin 256) (j : Fin 1024) : k0_pay10 (F := Ideal) (k0_pay8 x0 x1 x2 v12 T) (k0_pay9 g) (ix2 i j)
    = err (fun k => k0_pay4 (F := Ideal) x0 x1 x2 (ix2 ⟨i, by omega⟩ k)) (fun k => v12 (ix2 0 k)) (fun k => T (ix2 i k)) (live (3 * (g 0).val)) j := by
  pointwise [Gen.k0_pay10, Gen.k0_pay8]
  rw [p7, z0 g h]
  rfl

theorem p11 (v : Vec Ideal S1x1 .f32) : k0_pay11 (F := Ideal) (k0_pay8 x0 x1 x2 v12 T) (k0_pay9 g) v (ix2 0 0)
    = v (ix2 0 0) + Ideal.ofBits .f32 0x3F000000#32 * ∑ i : Fin 256, miss (fun k => k0_pay4 (F := Ideal) x0 x1 x2 (ix2 ⟨i, by omega⟩ k)) (fun k => v12 (ix2 0 k)) (fun k => T (ix2 i k)) (live (3 * (g 0).val)) := by
  pointwise [Gen.k0_pay11]
  simp only [p10 v12 T x0 x1 x2 g h]
  rfl

theorem p13 (v : Vec Ideal S1x1024 .f32) (j : Fin 1024) : k0_pay13 (F := Ideal) (k0_pay7 x0 x1 x2) (k0_pay8 x0 x1 x2 v12 T) (k0_pay9 g) v (ix2 0 j)
    = v (ix2 0 j) + ∑ i : Fin 256, err (fun k => k0_pay4 (F := Ideal) x0 x1 x2 (ix2 ⟨i, by omega⟩ k)) (fun k => v12 (ix2 0 k)) (fun k => T (ix2 i k)) (live (3 * (g 0).val)) j * sc
        * nrm (fun k => k0_pay4 (F := Ideal) x0 x1 x2 (ix2 ⟨i, by omega⟩ k)) j := by
  pointwise [Gen.k0_pay13, Gen.k0_pay12]
  simp only [p10 v12 T x0 x1 x2 g h, p7]
  rfl

theorem p14 (i : Fin 256) (j : Fin 1024) : k0_pay14 (F := Ideal) v12 (k0_pay6 x0 x1 x2) (k0_pay7 x0 x1 x2) (k0_pay8 x0 x1 x2 v12 T) (k0_pay9 g) (ix2 i j)
    = back (fun k => k0_pay4 (F := Ideal) x0 x1 x2 (ix2 ⟨i, by omega⟩ k)) (fun w => err (fun k => k0_pay4 (F := Ideal) x0 x1 x2 (ix2 ⟨i, by omega⟩ k)) (fun k => v12 (ix2 0 k)) (fun k => T (ix2 i k)) (live (3 * (g 0).val)) w * sc * v12 (ix2 0 w)) j := by
  pointwise [Gen.k0_pay14, Gen.k0_pay12]
  simp only [p10 v12 T x0 x1 x2 g h, p7, p6]
  rfl

end First

section Second

variable (n : ℕ) (h : n < 11)
include h

theorem p19 (i : Fin 256) (j : Fin 1024) : k0_pay19 (F := Ideal) (BitVec.ofNat 32 n) H v12 T (ix2 i j)
    = err (fun k => H (ix2 ⟨256 + i, by omega⟩ k)) (fun k => v12 (ix2 0 k)) (fun k => T (ix2 i k)) (live (3 * n + 1)) j := by
  have e : Scalar.cmpi .sgt (Scalar.addi (Scalar.muli (BitVec.ofNat 32 n) 3#32) 1#32) 0#32 = 1#1 := by
    interval_cases n <;> decide
  have l : live (3 * n + 1) = 1 := if_pos (Nat.succ_pos _)
  pointwise [Gen.k0_pay19]
  rw [p18, e, l]
  exact (mul_one _).symm

theorem p20 (v : Vec Ideal S1x1 .f32) : k0_pay20 (F := Ideal) (BitVec.ofNat 32 n) H v12 T v (ix2 0 0)
    = v (ix2 0 0) + Ideal.ofBits .f32 0x3F000000#32 * ∑ i : Fin 256, miss (fun k => H (ix2 ⟨256 + i, by omega⟩ k)) (fun k => v12 (ix2 0 k)) (fun k => T (ix2 i k)) (live (3 * n + 1)) := by
  pointwise [Gen.k0_pay20]
  simp only [p19 H v12 T n h]
  rfl

theorem p22 (v : Vec Ideal S1x1024 .f32) (j : Fin 1024) : k0_pay22 (F := Ideal) (k0_pay18 H) (k0_pay21 (BitVec.ofNat 32 n) H v12 T) v (ix2 0 j)
    = v (ix2 0 j) + ∑ i : Fin 256, err (fun k => H (ix2 ⟨256 + i, by omega⟩ k)) (fun k => v12 (ix2 0 k)) (fun k => T (ix2 i k)) (live (3 * n + 1)) j * sc
        * nrm (fun k => H (ix2 ⟨256 + i, by omega⟩ k)) j := by
  pointwise [Gen.k0_pay22, Gen.k0_pay21]
  simp only [p19 H v12 T n h, p18]
  rfl

theorem p23 (i : Fin 256) (j : Fin 1024) : k0_pay23 (F := Ideal) v12 (k0_pay17 H) (k0_pay18 H) (k0_pay21 (BitVec.ofNat 32 n) H v12 T) (ix2 i j)
    = back (fun k => H (ix2 ⟨256 + i, by omega⟩ k)) (fun w => err (fun k => H (ix2 ⟨256 + i, by omega⟩ k)) (fun k => v12 (ix2 0 k)) (fun k => T (ix2 i k)) (live (3 * n + 1)) w * sc * v12 (ix2 0 w)) j := by
  pointwise [Gen.k0_pay23, Gen.k0_pay21]
  simp only [p19 H v12 T n h, p18, p17]
  rfl

end Second

end Payloads

variable (m : (ℓ : Loc nD τ sig) → Buf (Elt Ideal) ℓ) (c : Dev nD)

section Runs

variable (g : grid0.Coords) (a0 : Memref sig .tc .vmem S768x2816 .bf16) (w0 : a0.IsWhole) (a1 : Memref sig .tc .vmem S2816x1024 .bf16) (w1 : a1.IsWhole) (a2 : Memref sig .tc .vmem S768x1024 .f32) (w2 : a2.IsWhole) (a3 : Memref sig .tc .vmem S256x1024 .f32) (w3 : a3.IsWhole) (a4 : Memref sig .tc .vmem S256x1024 .f32) (w4 : a4.IsWhole) (a5 : Memref sig .tc .vmem S256x1024 .f32) (w5 : a5.IsWhole) (a6 : Memref sig .tc .vmem S1x1024 .f32) (w6 : a6.IsWhole) (a7 : Memref sig .tc .vmem S768x1024 .f32) (w7 : a7.IsWhole) (a8 : Memref sig .tc .vmem S1x1 .f32) (w8 : a8.IsWhole) (a9 : Memref sig .tc .vmem S1x1024 .f32) (w9 : a9.IsWhole) (a10 : Memref sig .tc .vmem S768x1024 .bf16) (w10 : a10.IsWhole)
  (x0 : Vec Ideal S768x2816 .bf16) (x1 : Vec Ideal S2816x1024 .bf16) (x2 : Vec Ideal S768x1024 .f32) (x3 x4 x5 : Vec Ideal S256x1024 .f32) (x6 : Vec Ideal S1x1024 .f32) (xo : Vec Ideal S1x1 .f32) (xp : Vec Ideal S1x1024 .f32)

theorem oB8 (h0) : out0_B_8 c g a0 w0 a1 w1 a2 w2 a3 w3 a4 w4 a5 w5 a6 w6 a7 w7 a8 w8 a9 w9 a10 w10 h0 x0 x1 x2 x3 x4 x5 x6 xo xp = k0_pay31 (k0_pay25 (BitVec.ofNat 32 (g 0).val)) (k0_pay29 (k0_pay4 x0 x1 x2) x6) x5 (k0_pay20 (BitVec.ofNat 32 (g 0).val) (k0_pay4 x0 x1 x2) x6 x4 (k0_pay11 (k0_pay8 x0 x1 x2 x6 x3) (k0_pay9 g) xo)) := by
  unfold out0_B_8
  rw [View.read_writes_eq_canon _ _ _ (cover0_B_8 c g a0 w0 a1 w1 a2 w2 a3 w3 a4 w4 a5 w5 a6 w6 a7 w7 a8 w8 a9 w9 a10 w10 h0 x0 x1 x2 x3 x4 x5 x6 xo xp)]
  unfold kernelRun0_B
  dsimp only
  rw [View.canon_cons_unit_zero hz]
  try unfold kernelRun0_B.sl.v150
  try unfold kernelRun0_B.sl.H8_2
  try unfold kernelRun0_B.sl.v92
  try unfold kernelRun0_B.sl.H8_1
  try unfold kernelRun0_B.sl.v34
  try unfold kernelRun0_B.sl.r_13
  try unfold kernelRun0_B.sl.r_12
  try unfold kernelRun0_B.sl.r_11
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  simp only [View.readAt_eq_ld, w0.read_unread, w1.read_unread, w2.read_unread, w3.read_unread, w4.read_unread, w5.read_unread, w6.read_unread, w8.read_unread, w9.read_unread, View.readCov_cons_toLoadRect, View.ld_unit_zero (S := S768x2816) hz, View.ld_unit_zero (S := S2816x1024) hz,
    View.ld_unit_zero (S := S768x1024) hz, View.ld_unit_zero (S := S256x1024) hz, View.ld_unit_zero (S := S1x1024) hz, View.ld_unit_zero (S := S1x1) hz, shapeCast_self]

theorem oA8 (h0) : out0_A_8 c g a0 w0 a1 w1 a2 w2 a3 w3 a4 w4 a5 w5 a6 w6 a7 w7 a8 w8 a9 w9 a10 w10 h0 x0 x1 x2 x3 x4 x5 x6 = k0_pay31 (k0_pay25 (BitVec.ofNat 32 (g 0).val)) (k0_pay29 (k0_pay4 x0 x1 x2) x6) x5 (k0_pay20 (BitVec.ofNat 32 (g 0).val) (k0_pay4 x0 x1 x2) x6 x4 (k0_pay11 (k0_pay8 x0 x1 x2 x6 x3) (k0_pay9 g) (k0_pay2 (F := Ideal)))) := by
  unfold out0_A_8
  rw [View.read_writes_eq_canon _ _ _ (cover0_A_8 c g a0 w0 a1 w1 a2 w2 a3 w3 a4 w4 a5 w5 a6 w6 a7 w7 a8 w8 a9 w9 a10 w10 h0 x0 x1 x2 x3 x4 x5 x6)]
  unfold kernelRun0_A
  dsimp only
  rw [View.canon_cons_unit_zero hz]
  try unfold kernelRun0_A.sl.v150
  try unfold kernelRun0_A.sl.H8_3
  try unfold kernelRun0_A.sl.v92
  try unfold kernelRun0_A.sl.H8_2
  try unfold kernelRun0_A.sl.v34
  try unfold kernelRun0_A.sl.H8_1
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [View.readAt_eq_ld, w0.read_unread, w1.read_unread, w2.read_unread, w3.read_unread, w4.read_unread, w5.read_unread, w6.read_unread, w8.read_unread, w9.read_unread, View.readCov_cons_toLoadRect, View.ld_unit_zero (S := S768x2816) hz, View.ld_unit_zero (S := S2816x1024) hz,
    View.ld_unit_zero (S := S768x1024) hz, View.ld_unit_zero (S := S256x1024) hz, View.ld_unit_zero (S := S1x1024) hz, View.ld_unit_zero (S := S1x1) hz, shapeCast_self]

theorem oB9 (h0) : out0_B_9 c g a0 w0 a1 w1 a2 w2 a3 w3 a4 w4 a5 w5 a6 w6 a7 w7 a8 w8 a9 w9 a10 w10 h0 x0 x1 x2 x3 x4 x5 x6 xo xp = k0_pay33 (k0_pay25 (BitVec.ofNat 32 (g 0).val)) (k0_pay28 (k0_pay4 x0 x1 x2)) (k0_pay29 (k0_pay4 x0 x1 x2) x6) x5 (k0_pay22 (k0_pay18 (k0_pay4 x0 x1 x2)) (k0_pay21 (BitVec.ofNat 32 (g 0).val) (k0_pay4 x0 x1 x2) x6 x4) (k0_pay13 (k0_pay7 x0 x1 x2) (k0_pay8 x0 x1 x2 x6 x3) (k0_pay9 g) xp)) := by
  unfold out0_B_9
  rw [View.read_writes_eq_canon _ _ _ (cover0_B_9 c g a0 w0 a1 w1 a2 w2 a3 w3 a4 w4 a5 w5 a6 w6 a7 w7 a8 w8 a9 w9 a10 w10 h0 x0 x1 x2 x3 x4 x5 x6 xo xp)]
  unfold kernelRun0_B
  dsimp only
  rw [View.canon_cons_unit_zero hz]
  try unfold kernelRun0_B.sl.v165
  try unfold kernelRun0_B.sl.H9_2
  try unfold kernelRun0_B.sl.v107
  try unfold kernelRun0_B.sl.H9_1
  try unfold kernelRun0_B.sl.v49
  try unfold kernelRun0_B.sl.r_13
  try unfold kernelRun0_B.sl.r_12
  try unfold kernelRun0_B.sl.r_11
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  simp only [View.readAt_eq_ld, w0.read_unread, w1.read_unread, w2.read_unread, w3.read_unread, w4.read_unread, w5.read_unread, w6.read_unread, w8.read_unread, w9.read_unread, View.readCov_cons_toLoadRect, View.ld_unit_zero (S := S768x2816) hz, View.ld_unit_zero (S := S2816x1024) hz,
    View.ld_unit_zero (S := S768x1024) hz, View.ld_unit_zero (S := S256x1024) hz, View.ld_unit_zero (S := S1x1024) hz, View.ld_unit_zero (S := S1x1) hz, shapeCast_self]

theorem oA9 (h0) : out0_A_9 c g a0 w0 a1 w1 a2 w2 a3 w3 a4 w4 a5 w5 a6 w6 a7 w7 a8 w8 a9 w9 a10 w10 h0 x0 x1 x2 x3 x4 x5 x6 = k0_pay33 (k0_pay25 (BitVec.ofNat 32 (g 0).val)) (k0_pay28 (k0_pay4 x0 x1 x2)) (k0_pay29 (k0_pay4 x0 x1 x2) x6) x5 (k0_pay22 (k0_pay18 (k0_pay4 x0 x1 x2)) (k0_pay21 (BitVec.ofNat 32 (g 0).val) (k0_pay4 x0 x1 x2) x6 x4) (k0_pay13 (k0_pay7 x0 x1 x2) (k0_pay8 x0 x1 x2 x6 x3) (k0_pay9 g) (k0_pay3 (F := Ideal)))) := by
  unfold out0_A_9
  rw [View.read_writes_eq_canon _ _ _ (cover0_A_9 c g a0 w0 a1 w1 a2 w2 a3 w3 a4 w4 a5 w5 a6 w6 a7 w7 a8 w8 a9 w9 a10 w10 h0 x0 x1 x2 x3 x4 x5 x6)]
  unfold kernelRun0_A
  dsimp only
  rw [View.canon_cons_unit_zero hz]
  try unfold kernelRun0_A.sl.v165
  try unfold kernelRun0_A.sl.H9_3
  try unfold kernelRun0_A.sl.v107
  try unfold kernelRun0_A.sl.H9_2
  try unfold kernelRun0_A.sl.v49
  try unfold kernelRun0_A.sl.H9_1
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [View.readAt_eq_ld, w0.read_unread, w1.read_unread, w2.read_unread, w3.read_unread, w4.read_unread, w5.read_unread, w6.read_unread, w8.read_unread, w9.read_unread, View.readCov_cons_toLoadRect, View.ld_unit_zero (S := S768x2816) hz, View.ld_unit_zero (S := S2816x1024) hz,
    View.ld_unit_zero (S := S768x1024) hz, View.ld_unit_zero (S := S256x1024) hz, View.ld_unit_zero (S := S1x1024) hz, View.ld_unit_zero (S := S1x1) hz, shapeCast_self]

/-- The three slices of a block of the gradient are the rows of `U`. -/
def Slices (U : S768x1024.Idx → EReal) : Prop := ∀ (i : Fin 256) (j : Fin 1024),
  k0_pay14 (F := Ideal) x6 (k0_pay6 x0 x1 x2) (k0_pay7 x0 x1 x2) (k0_pay8 x0 x1 x2 x6 x3) (k0_pay9 g) (ix2 i j) = U (ix2 ⟨i, by omega⟩ j)
  ∧ k0_pay23 (F := Ideal) x6 (k0_pay17 (k0_pay4 x0 x1 x2)) (k0_pay18 (k0_pay4 x0 x1 x2)) (k0_pay21 (BitVec.ofNat 32 (g 0).val) (k0_pay4 x0 x1 x2) x6 x4) (ix2 i j) = U (ix2 ⟨256 + i, by omega⟩ j)
  ∧ k0_pay34 (F := Ideal) x6 (k0_pay25 (BitVec.ofNat 32 (g 0).val)) (k0_pay27 (k0_pay4 x0 x1 x2)) (k0_pay28 (k0_pay4 x0 x1 x2)) (k0_pay29 (k0_pay4 x0 x1 x2) x6) x5 (ix2 i j) = U (ix2 ⟨512 + i, by omega⟩ j)

theorem oB7 (h0) (U : S768x1024.Idx → EReal) (hU : Slices g x0 x1 x2 x3 x4 x5 x6 U) (y : S768x1024.Idx) : out0_B_7 c g a0 w0 a1 w1 a2 w2 a3 w3 a4 w4 a5 w5 a6 w6 a7 w7 a8 w8 a9 w9 a10 w10 h0 x0 x1 x2 x3 x4 x5 x6 xo xp y = U y := by
  unfold out0_B_7
  rw [View.read_writes_eq_canon _ _ _ (cover0_B_7 c g a0 w0 a1 w1 a2 w2 a3 w3 a4 w4 a5 w5 a6 w6 a7 w7 a8 w8 a9 w9 a10 w10 h0 x0 x1 x2 x3 x4 x5 x6 xo xp)]
  unfold kernelRun0_B
  dsimp only
  try unfold kernelRun0_B.sl.r_13
  try unfold kernelRun0_B.sl.r_12
  try unfold kernelRun0_B.sl.r_11
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  simp only [View.readAt_eq_ld, w0.read_unread, w1.read_unread, w2.read_unread, w3.read_unread, w4.read_unread, w5.read_unread, w6.read_unread, View.ld_unit_zero (S := S768x2816) hz, View.ld_unit_zero (S := S2816x1024) hz,
    View.ld_unit_zero (S := S768x1024) hz, View.ld_unit_zero (S := S256x1024) hz, View.ld_unit_zero (S := S1x1024) hz]
  refine View.canon_eq_of_allAt _ y _ (View.cover_of_tiled_head _ _ _ rfl y) (View.allAt_cons_unit _ _ _ _ _ (fun x hx => ?_)
    (View.allAt_cons_unit _ _ _ _ _ (fun x hx => ?_) (View.allAt_cons_unit _ _ _ _ _ (fun x hx => ?_) (View.allAt_nil _ _))))
  · obtain ⟨i, j, rfl⟩ : ∃ (i : Fin 256) (j : Fin 1024), x = ix2 i j := ⟨x 0, x 1, ValueIdx.eq_ix2 x⟩
    refine ((hU i j).2.2).trans (congrArg U ?_)
    funext a
    fin_cases a
    · exact Fin.ext ((hx 0).trans rfl).symm
    · exact Fin.ext ((hx 1).trans (Nat.zero_add _)).symm
  · obtain ⟨i, j, rfl⟩ : ∃ (i : Fin 256) (j : Fin 1024), x = ix2 i j := ⟨x 0, x 1, ValueIdx.eq_ix2 x⟩
    refine ((hU i j).2.1).trans (congrArg U ?_)
    funext a
    fin_cases a
    · exact Fin.ext ((hx 0).trans rfl).symm
    · exact Fin.ext ((hx 1).trans (Nat.zero_add _)).symm
  · obtain ⟨i, j, rfl⟩ : ∃ (i : Fin 256) (j : Fin 1024), x = ix2 i j := ⟨x 0, x 1, ValueIdx.eq_ix2 x⟩
    refine ((hU i j).1).trans (congrArg U ?_)
    funext a
    fin_cases a
    · exact Fin.ext ((hx 0).trans (Nat.zero_add _)).symm
    · exact Fin.ext ((hx 1).trans (Nat.zero_add _)).symm

theorem oB10 (h0) (U : S768x1024.Idx → EReal) (hU : Slices g x0 x1 x2 x3 x4 x5 x6 U) (y : S768x1024.Idx) : out0_B_10 c g a0 w0 a1 w1 a2 w2 a3 w3 a4 w4 a5 w5 a6 w6 a7 w7 a8 w8 a9 w9 a10 w10 h0 x0 x1 x2 x3 x4 x5 x6 xo xp y = U y := by
  unfold out0_B_10
  rw [View.read_writes_eq_canon _ _ _ (cover0_B_10 c g a0 w0 a1 w1 a2 w2 a3 w3 a4 w4 a5 w5 a6 w6 a7 w7 a8 w8 a9 w9 a10 w10 h0 x0 x1 x2 x3 x4 x5 x6 xo xp)]
  unfold kernelRun0_B
  dsimp only
  try unfold kernelRun0_B.sl.r_13
  try unfold kernelRun0_B.sl.r_12
  try unfold kernelRun0_B.sl.r_11
  try unfold kernelRun0_B.sl.r_10
  try unfold kernelRun0_B.sl.r_9
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  simp only [View.readAt_eq_ld, w0.read_unread, w1.read_unread, w2.read_unread, w3.read_unread, w4.read_unread, w5.read_unread, w6.read_unread, View.ld_unit_zero (S := S768x2816) hz, View.ld_unit_zero (S := S2816x1024) hz,
    View.ld_unit_zero (S := S768x1024) hz, View.ld_unit_zero (S := S256x1024) hz, View.ld_unit_zero (S := S1x1024) hz]
  refine View.canon_eq_of_allAt _ y _ (View.cover_of_tiled_head _ _ _ rfl y) (View.allAt_cons_unit _ _ _ _ _ (fun x hx => ?_)
    (View.allAt_cons_unit _ _ _ _ _ (fun x hx => ?_) (View.allAt_cons_unit _ _ _ _ _ (fun x hx => ?_) (View.allAt_nil _ _))))
  · obtain ⟨i, j, rfl⟩ : ∃ (i : Fin 256) (j : Fin 1024), x = ix2 i j := ⟨x 0, x 1, ValueIdx.eq_ix2 x⟩
    refine ((hU i j).2.2).trans (congrArg U ?_)
    funext a
    fin_cases a
    · exact Fin.ext ((hx 0).trans rfl).symm
    · exact Fin.ext ((hx 1).trans (Nat.zero_add _)).symm
  · obtain ⟨i, j, rfl⟩ : ∃ (i : Fin 256) (j : Fin 1024), x = ix2 i j := ⟨x 0, x 1, ValueIdx.eq_ix2 x⟩
    refine ((hU i j).2.1).trans (congrArg U ?_)
    funext a
    fin_cases a
    · exact Fin.ext ((hx 0).trans rfl).symm
    · exact Fin.ext ((hx 1).trans (Nat.zero_add _)).symm
  · obtain ⟨i, j, rfl⟩ : ∃ (i : Fin 256) (j : Fin 1024), x = ix2 i j := ⟨x 0, x 1, ValueIdx.eq_ix2 x⟩
    refine ((hU i j).1).trans (congrArg U ?_)
    funext a
    fin_cases a
    · exact Fin.ext ((hx 0).trans (Nat.zero_add _)).symm
    · exact Fin.ext ((hx 1).trans (Nat.zero_add _)).symm

theorem oA7 (h0) (U : S768x1024.Idx → EReal) (hU : Slices g x0 x1 x2 x3 x4 x5 x6 U) (y : S768x1024.Idx) : out0_A_7 c g a0 w0 a1 w1 a2 w2 a3 w3 a4 w4 a5 w5 a6 w6 a7 w7 a8 w8 a9 w9 a10 w10 h0 x0 x1 x2 x3 x4 x5 x6 y = U y := by
  unfold out0_A_7
  rw [View.read_writes_eq_canon _ _ _ (cover0_A_7 c g a0 w0 a1 w1 a2 w2 a3 w3 a4 w4 a5 w5 a6 w6 a7 w7 a8 w8 a9 w9 a10 w10 h0 x0 x1 x2 x3 x4 x5 x6)]
  unfold kernelRun0_A
  dsimp only
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [View.readAt_eq_ld, w0.read_unread, w1.read_unread, w2.read_unread, w3.read_unread, w4.read_unread, w5.read_unread, w6.read_unread, View.ld_unit_zero (S := S768x2816) hz, View.ld_unit_zero (S := S2816x1024) hz,
    View.ld_unit_zero (S := S768x1024) hz, View.ld_unit_zero (S := S256x1024) hz, View.ld_unit_zero (S := S1x1024) hz]
  refine View.canon_eq_of_allAt _ y _ (View.cover_of_tiled_head _ _ _ rfl y) (View.allAt_cons_unit _ _ _ _ _ (fun x hx => ?_)
    (View.allAt_cons_unit _ _ _ _ _ (fun x hx => ?_) (View.allAt_cons_unit _ _ _ _ _ (fun x hx => ?_) (View.allAt_nil _ _))))
  · obtain ⟨i, j, rfl⟩ : ∃ (i : Fin 256) (j : Fin 1024), x = ix2 i j := ⟨x 0, x 1, ValueIdx.eq_ix2 x⟩
    refine ((hU i j).2.2).trans (congrArg U ?_)
    funext a
    fin_cases a
    · exact Fin.ext ((hx 0).trans rfl).symm
    · exact Fin.ext ((hx 1).trans (Nat.zero_add _)).symm
  · obtain ⟨i, j, rfl⟩ : ∃ (i : Fin 256) (j : Fin 1024), x = ix2 i j := ⟨x 0, x 1, ValueIdx.eq_ix2 x⟩
    refine ((hU i j).2.1).trans (congrArg U ?_)
    funext a
    fin_cases a
    · exact Fin.ext ((hx 0).trans rfl).symm
    · exact Fin.ext ((hx 1).trans (Nat.zero_add _)).symm
  · obtain ⟨i, j, rfl⟩ : ∃ (i : Fin 256) (j : Fin 1024), x = ix2 i j := ⟨x 0, x 1, ValueIdx.eq_ix2 x⟩
    refine ((hU i j).1).trans (congrArg U ?_)
    funext a
    fin_cases a
    · exact Fin.ext ((hx 0).trans (Nat.zero_add _)).symm
    · exact Fin.ext ((hx 1).trans (Nat.zero_add _)).symm

theorem oA10 (h0) (U : S768x1024.Idx → EReal) (hU : Slices g x0 x1 x2 x3 x4 x5 x6 U) (y : S768x1024.Idx) : out0_A_10 c g a0 w0 a1 w1 a2 w2 a3 w3 a4 w4 a5 w5 a6 w6 a7 w7 a8 w8 a9 w9 a10 w10 h0 x0 x1 x2 x3 x4 x5 x6 y = U y := by
  unfold out0_A_10
  rw [View.read_writes_eq_canon _ _ _ (cover0_A_10 c g a0 w0 a1 w1 a2 w2 a3 w3 a4 w4 a5 w5 a6 w6 a7 w7 a8 w8 a9 w9 a10 w10 h0 x0 x1 x2 x3 x4 x5 x6)]
  unfold kernelRun0_A
  dsimp only
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [View.readAt_eq_ld, w0.read_unread, w1.read_unread, w2.read_unread, w3.read_unread, w4.read_unread, w5.read_unread, w6.read_unread, View.ld_unit_zero (S := S768x2816) hz, View.ld_unit_zero (S := S2816x1024) hz,
    View.ld_unit_zero (S := S768x1024) hz, View.ld_unit_zero (S := S256x1024) hz, View.ld_unit_zero (S := S1x1024) hz]
  refine View.canon_eq_of_allAt _ y _ (View.cover_of_tiled_head _ _ _ rfl y) (View.allAt_cons_unit _ _ _ _ _ (fun x hx => ?_)
    (View.allAt_cons_unit _ _ _ _ _ (fun x hx => ?_) (View.allAt_cons_unit _ _ _ _ _ (fun x hx => ?_) (View.allAt_nil _ _))))
  · obtain ⟨i, j, rfl⟩ : ∃ (i : Fin 256) (j : Fin 1024), x = ix2 i j := ⟨x 0, x 1, ValueIdx.eq_ix2 x⟩
    refine ((hU i j).2.2).trans (congrArg U ?_)
    funext a
    fin_cases a
    · exact Fin.ext ((hx 0).trans rfl).symm
    · exact Fin.ext ((hx 1).trans (Nat.zero_add _)).symm
  · obtain ⟨i, j, rfl⟩ : ∃ (i : Fin 256) (j : Fin 1024), x = ix2 i j := ⟨x 0, x 1, ValueIdx.eq_ix2 x⟩
    refine ((hU i j).2.1).trans (congrArg U ?_)
    funext a
    fin_cases a
    · exact Fin.ext ((hx 0).trans rfl).symm
    · exact Fin.ext ((hx 1).trans (Nat.zero_add _)).symm
  · obtain ⟨i, j, rfl⟩ : ∃ (i : Fin 256) (j : Fin 1024), x = ix2 i j := ⟨x 0, x 1, ValueIdx.eq_ix2 x⟩
    refine ((hU i j).1).trans (congrArg U ?_)
    funext a
    fin_cases a
    · exact Fin.ext ((hx 0).trans (Nat.zero_add _)).symm
    · exact Fin.ext ((hx 1).trans (Nat.zero_add _)).symm

end Runs

theorem widx : ∀ t : Fin cfg0.N, win0_0.index t = ![t.val, 0] ∧ win0_1.index t = ![0, 0] ∧ win0_2.index t = ![t.val, 0] ∧ win0_3.index t = ![3 * t.val - 1, 0]
    ∧ win0_4.index t = ![3 * t.val, 0] ∧ win0_5.index t = ![3 * t.val + 1, 0] ∧ win0_6.index t = ![0, 0] ∧ win0_7.index t = ![t.val, 0] ∧ win0_8.index t = ![0, 0]
    ∧ win0_9.index t = ![0, 0] ∧ win0_10.index t = ![t.val, 0] ∧ t.val < 11 ∧ (grid0.coords t 0).val = t.val :=
  (by decide +kernel : ∀ t : Fin grid0.N, _)

theorem lt11 (t : Fin cfg0.N) : t.val < 11 := (widx t).2.2.2.2.2.2.2.2.2.2.2.1

theorem coord (t : Fin cfg0.N) : (grid0.coords t 0).val = t.val := (widx t).2.2.2.2.2.2.2.2.2.2.2.2

theorem rd7 (W : Vec Ideal S8448x1024 .f32) (t : Fin cfg0.N) (i : Fin 768) (j : Fin 1024) (ht : t.val < 11) :
    ((cfg0.win 7).blk t).view.read (Elt Ideal) W (ix2 i j) = W (ix2 ⟨768 * t.val + i, by omega⟩ j) := by
  blk_ext [widx t]

theorem rd8 (W : Vec Ideal S1x1 .f32) (t : Fin cfg0.N) : ((cfg0.win 8).blk t).view.read (Elt Ideal) W (ix2 0 0) = W (ix2 0 0) := by
  blk_ext [widx t]

theorem rd9 (W : Vec Ideal S1x1024 .f32) (t : Fin cfg0.N) (j : Fin 1024) :
    ((cfg0.win 9).blk t).view.read (Elt Ideal) W (ix2 0 j) = W (ix2 0 j) := by
  blk_ext [widx t]

theorem rd10 (W : Vec Ideal S8448x1024 .bf16) (t : Fin cfg0.N) (i : Fin 768) (j : Fin 1024) (ht : t.val < 11) :
    ((cfg0.win 10).blk t).view.read (Elt Ideal) W (ix2 i j) = W (ix2 ⟨768 * t.val + i, by omega⟩ j) := by
  blk_ext [widx t]

/-- The arguments of the call: the input of the product, its weight, the stream before it, the target, the gain. -/
structure Given where
  x : S8448x2816.Idx → EReal
  y : S2816x1024.Idx → EReal
  h : S8448x1024.Idx → EReal
  T : S8192x1024.Idx → EReal
  g : S1x1024.Idx → EReal

/-- The product's row. -/
def prod (A : Given) (r : ℕ) (j : Fin 1024) : EReal := ∑ k : Fin 2816, nat2 A.x r k * nat2 A.y k j

/-- The stream's row after the product is added. -/
def row (A : Given) (r : ℕ) : Fin 1024 → EReal := fun j => prod A r j + nat2 A.h r j

/-- The target of a row: 256 rows of the stream come before the first one that has a target. -/
def aim (A : Given) (r : ℕ) : Fin 1024 → EReal := fun j => nat2 A.T (256 * (r / 256 - 1) + r % 256) j

/-- The gain as a row. -/
def gv (A : Given) : Fin 1024 → EReal := fun k => A.g (ix2 0 k)

/-- What a row misses its target by. -/
def E (A : Given) (r : ℕ) : Fin 1024 → EReal := err (row A r) (gv A) (aim A r) (live (r / 256))

/-- A row's share of the loss. -/
def share (A : Given) (r : ℕ) : EReal := miss (row A r) (gv A) (aim A r) (live (r / 256))

/-- What a row adds to the gain's gradient. -/
def gain (A : Given) (j : Fin 1024) (r : ℕ) : EReal := E A r j * sc * nrm (row A r) j

/-- The gradient of the stream, a row of it. -/
def drow (A : Given) (r : ℕ) (j : Fin 1024) : EReal := back (row A r) (fun w => E A r w * sc * gv A w) j

/-- A block's part of the loss. -/
def part (A : Given) (s : ℕ) : EReal := Ideal.ofBits .f32 0x3F000000#32 * ∑ i : Fin 256, share A (256 * s + i)

def dh (A : Given) : S8448x1024.Idx → EReal := fun i => drow A (i 0) (i 1)

def loss (A : Given) : S1x1.Idx → EReal := fun _ => ∑ s ∈ range 33, part A s

def dg (A : Given) : S1x1024.Idx → EReal := fun i => ∑ k : Fin 8448, gain A (i 1) k

/-- The arguments as they lie in memory. -/
def given (m : (ℓ : Loc nD τ sig) → Buf (Elt Ideal) ℓ) (c : Dev nD) : Given :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩

theorem pay4_ok (t : Fin cfg0.N) (i : Fin 768) (q : ℕ) (hq : q = 768 * t.val + i) :
    (fun k : Fin 1024 => k0_pay4 (F := Ideal) (iblk m c 0 t) (iblk m c 1 t) (iblk m c 2 t) (ix2 i k)) = row (given m c) q := by
  subst hq
  have ht := lt11 t
  funext j
  have e0 (k : Fin 2816) : iblk m c 0 t (ix2 i k) = (m ((c.tc : Thread nD τ).loc main_arg0) : Vec Ideal S8448x2816 .bf16) (ix2 ⟨768 * t.val + i, by omega⟩ k) := by
    blk_ext [iblk, V, widx t]
  have e1 (k : Fin 2816) (j : Fin 1024) : iblk m c 1 t (ix2 k j) = (m ((c.tc : Thread nD τ).loc main_arg1) : Vec Ideal S2816x1024 .bf16) (ix2 k j) := by
    blk_ext [iblk, V, widx t]
  have e2 : iblk m c 2 t (ix2 i j) = (m ((c.tc : Thread nD τ).loc main_arg2) : Vec Ideal S8448x1024 .f32) (ix2 ⟨768 * t.val + i, by omega⟩ j) := by
    blk_ext [iblk, V, widx t]
  unfold k0_pay4
  refine congrArg₂ (HAdd.hAdd (α := EReal) (β := EReal) (γ := EReal)) ((nn_apply (φ₁ := .bf16) (φ₂ := .bf16) _ _ _ i j).trans (Finset.sum_congr rfl fun k _ => ?_)) (e2.trans (nat2_eq _ _ _))
  exact congrArg₂ (HMul.hMul (α := EReal) (β := EReal) (γ := EReal)) ((e0 k).trans (nat2_eq _ _ _)) ((e1 k j).trans (nat2_eq _ _ _))

theorem gv_ok (t : Fin cfg0.N) : (fun k : Fin 1024 => (iblk m c 6 t : Vec Ideal S1x1024 .f32) (ix2 0 k)) = gv (given m c) := by
  funext k
  have e : iblk m c 6 t (ix2 0 k) = (m ((c.tc : Thread nD τ).loc main_arg4) : Vec Ideal S1x1024 .f32) (ix2 0 k) := by
    blk_ext [iblk, V, widx t]
  exact e

theorem aim_first (t : Fin cfg0.N) (i : Fin 256) :
    (fun k : Fin 1024 => (iblk m c 3 t : Vec Ideal S256x1024 .f32) (ix2 i k)) = aim (given m c) (256 * (3 * t.val) + i) := by
  have ht := lt11 t
  funext k
  have e : iblk m c 3 t (ix2 i k) = (m ((c.tc : Thread nD τ).loc main_arg3) : Vec Ideal S8192x1024 .f32) (ix2 ⟨256 * (3 * t.val - 1) + i, by omega⟩ k) := by
    blk_ext [iblk, V, widx t]
  refine (e.trans (nat2_eq _ _ _)).trans ?_
  unfold aim
  exact congrArg (nat2 _ · k) (show 256 * (3 * t.val - 1) + (i : ℕ) = 256 * ((256 * (3 * t.val) + (i : ℕ)) / 256 - 1) + (256 * (3 * t.val) + (i : ℕ)) % 256 by omega)

theorem aim_second (t : Fin cfg0.N) (i : Fin 256) :
    (fun k : Fin 1024 => (iblk m c 4 t : Vec Ideal S256x1024 .f32) (ix2 i k)) = aim (given m c) (256 * (3 * t.val + 1) + i) := by
  have ht := lt11 t
  funext k
  have e : iblk m c 4 t (ix2 i k) = (m ((c.tc : Thread nD τ).loc main_arg3) : Vec Ideal S8192x1024 .f32) (ix2 ⟨256 * (3 * t.val) + i, by omega⟩ k) := by
    blk_ext [iblk, V, widx t]
  refine (e.trans (nat2_eq _ _ _)).trans ?_
  unfold aim
  exact congrArg (nat2 _ · k) (show 256 * (3 * t.val) + (i : ℕ) = 256 * ((256 * (3 * t.val + 1) + (i : ℕ)) / 256 - 1) + (256 * (3 * t.val + 1) + (i : ℕ)) % 256 by omega)

theorem aim_third (t : Fin cfg0.N) (i : Fin 256) :
    (fun k : Fin 1024 => (iblk m c 5 t : Vec Ideal S256x1024 .f32) (ix2 i k)) = aim (given m c) (256 * (3 * t.val + 2) + i) := by
  have ht := lt11 t
  funext k
  have e : iblk m c 5 t (ix2 i k) = (m ((c.tc : Thread nD τ).loc main_arg3) : Vec Ideal S8192x1024 .f32) (ix2 ⟨256 * (3 * t.val + 1) + i, by omega⟩ k) := by
    blk_ext [iblk, V, widx t]
  refine (e.trans (nat2_eq _ _ _)).trans ?_
  unfold aim
  exact congrArg (nat2 _ · k) (show 256 * (3 * t.val + 1) + (i : ℕ) = 256 * ((256 * (3 * t.val + 2) + (i : ℕ)) / 256 - 1) + (256 * (3 * t.val + 2) + (i : ℕ)) % 256 by omega)

/-- The rows, targets and marks of the three slices at a grid point. -/
theorem slice (t : Fin cfg0.N) (i : Fin 256) :
    ((fun k : Fin 1024 => k0_pay4 (F := Ideal) (iblk m c 0 t) (iblk m c 1 t) (iblk m c 2 t) (ix2 ⟨i, by omega⟩ k)) = row (given m c) (256 * (3 * t.val) + i)
      ∧ (fun k : Fin 1024 => k0_pay4 (F := Ideal) (iblk m c 0 t) (iblk m c 1 t) (iblk m c 2 t) (ix2 ⟨256 + i, by omega⟩ k)) = row (given m c) (256 * (3 * t.val + 1) + i)
      ∧ (fun k : Fin 1024 => k0_pay4 (F := Ideal) (iblk m c 0 t) (iblk m c 1 t) (iblk m c 2 t) (ix2 ⟨512 + i, by omega⟩ k)) = row (given m c) (256 * (3 * t.val + 2) + i))
    ∧ live (3 * (grid0.coords t 0).val) = live ((256 * (3 * t.val) + i) / 256)
    ∧ live (3 * (grid0.coords t 0).val + 1) = live ((256 * (3 * t.val + 1) + i) / 256)
    ∧ k0_pay25 (F := Ideal) (BitVec.ofNat 32 (grid0.coords t 0).val) = live ((256 * (3 * t.val + 2) + i) / 256) := by
  refine ⟨⟨pay4_ok m c t _ _ (by dsimp only; omega), pay4_ok m c t _ _ (by dsimp only; omega), pay4_ok m c t _ _ (by dsimp only; omega)⟩, ?_, ?_, ?_⟩
  · rw [coord]
    exact congrArg live (by omega)
  · rw [coord]
    exact congrArg live (by omega)
  · rw [coord, z2 t.val (lt11 t)]
    exact congrArg live (by omega)

theorem lt11' (t : Fin cfg0.N) : (grid0.coords t 0).val < 11 := by
  rw [coord]
  exact lt11 t

theorem loss_step (t : Fin cfg0.N) (v : Vec Ideal S1x1 .f32) :
    k0_pay31 (F := Ideal) (k0_pay25 (BitVec.ofNat 32 (grid0.coords t 0).val)) (k0_pay29 (k0_pay4 (iblk m c 0 t) (iblk m c 1 t) (iblk m c 2 t)) (iblk m c 6 t)) (iblk m c 5 t) (k0_pay20 (BitVec.ofNat 32 (grid0.coords t 0).val) (k0_pay4 (iblk m c 0 t) (iblk m c 1 t) (iblk m c 2 t)) (iblk m c 6 t) (iblk m c 4 t) (k0_pay11 (k0_pay8 (iblk m c 0 t) (iblk m c 1 t) (iblk m c 2 t) (iblk m c 6 t) (iblk m c 3 t)) (k0_pay9 (grid0.coords t)) v)) (ix2 0 0)
      = v (ix2 0 0) + part (given m c) (3 * t.val) + part (given m c) (3 * t.val + 1) + part (given m c) (3 * t.val + 2) := by
  rw [p31, p20 _ _ _ _ (lt11' t), p11 _ _ _ _ _ _ (lt11' t)]
  refine congrArg₂ (· + ·) (congrArg₂ (· + ·) (congrArg (v (ix2 0 0) + ·) ?_) ?_) ?_
  all_goals refine congrArg (_ * ·) (Finset.sum_congr rfl fun i _ => ?_)
  · rw [(slice m c t i).1.1, gv_ok, aim_first, (slice m c t i).2.1]
    rfl
  · rw [(slice m c t i).1.2.1, gv_ok, aim_second, (slice m c t i).2.2.1]
    rfl
  · rw [(slice m c t i).1.2.2, gv_ok, aim_third, (slice m c t i).2.2.2]
    rfl

theorem gain_step (t : Fin cfg0.N) (v : Vec Ideal S1x1024 .f32) (j : Fin 1024) :
    k0_pay33 (F := Ideal) (k0_pay25 (BitVec.ofNat 32 (grid0.coords t 0).val)) (k0_pay28 (k0_pay4 (iblk m c 0 t) (iblk m c 1 t) (iblk m c 2 t))) (k0_pay29 (k0_pay4 (iblk m c 0 t) (iblk m c 1 t) (iblk m c 2 t)) (iblk m c 6 t)) (iblk m c 5 t) (k0_pay22 (k0_pay18 (k0_pay4 (iblk m c 0 t) (iblk m c 1 t) (iblk m c 2 t))) (k0_pay21 (BitVec.ofNat 32 (grid0.coords t 0).val) (k0_pay4 (iblk m c 0 t) (iblk m c 1 t) (iblk m c 2 t)) (iblk m c 6 t) (iblk m c 4 t))
        (k0_pay13 (k0_pay7 (iblk m c 0 t) (iblk m c 1 t) (iblk m c 2 t)) (k0_pay8 (iblk m c 0 t) (iblk m c 1 t) (iblk m c 2 t) (iblk m c 6 t) (iblk m c 3 t)) (k0_pay9 (grid0.coords t)) v)) (ix2 0 j)
      = v (ix2 0 j) + (∑ i : Fin 256, gain (given m c) j (256 * (3 * t.val) + i)) + (∑ i : Fin 256, gain (given m c) j (256 * (3 * t.val + 1) + i))
          + ∑ i : Fin 256, gain (given m c) j (256 * (3 * t.val + 2) + i) := by
  rw [p33, p22 _ _ _ _ (lt11' t), p13 _ _ _ _ _ _ (lt11' t)]
  refine congrArg₂ (· + ·) (congrArg₂ (· + ·) (congrArg (v (ix2 0 j) + ·) ?_) ?_) ?_
  all_goals refine Finset.sum_congr rfl fun i _ => ?_
  · rw [(slice m c t i).1.1, gv_ok, aim_first, (slice m c t i).2.1]
    rfl
  · rw [(slice m c t i).1.2.1, gv_ok, aim_second, (slice m c t i).2.2.1]
    rfl
  · rw [(slice m c t i).1.2.2, gv_ok, aim_third, (slice m c t i).2.2.2]
    rfl

theorem slices_ok (t : Fin cfg0.N) : Slices (grid0.coords t) (iblk m c 0 t) (iblk m c 1 t) (iblk m c 2 t) (iblk m c 3 t) (iblk m c 4 t) (iblk m c 5 t) (iblk m c 6 t)
    fun y => drow (given m c) (768 * t.val + (y 0).val) (y 1) := by
  intro i j
  have g (k : Fin 1024) : (iblk m c 6 t : Vec Ideal S1x1024 .f32) (ix2 0 k) = gv (given m c) k := congrFun (gv_ok m c t) k
  refine ⟨(p14 _ _ _ _ _ _ (lt11' t) i j).trans ?_, (p23 _ _ _ _ (lt11' t) i j).trans ?_, (p34 _ _ _ _ i j).trans ?_⟩
  · rw [(slice m c t i).1.1, gv_ok, aim_first, (slice m c t i).2.1]
    simp only [g]
    exact congrArg (drow (given m c) · j) (show 256 * (3 * t.val) + (i : ℕ) = 768 * t.val + i by omega)
  · rw [(slice m c t i).1.2.1, gv_ok, aim_second, (slice m c t i).2.2.1]
    simp only [g]
    exact congrArg (drow (given m c) · j) (show 256 * (3 * t.val + 1) + (i : ℕ) = 768 * t.val + (256 + i) by omega)
  · rw [(slice m c t i).1.2.2, gv_ok, aim_third, (slice m c t i).2.2.2]
    simp only [g]
    exact congrArg (drow (given m c) · j) (show 256 * (3 * t.val + 2) + (i : ℕ) = 768 * t.val + (512 + i) by omega)

theorem loss_ok : ∀ n h, (outsAt0 m c n h).2.1 (ix2 0 0) = ∑ s ∈ range (3 * n + 3), part (given m c) s := by
  intro n
  induction n with
  | zero =>
    intro h
    rw [outsAt0_A m c ⟨0, h⟩ rfl]
    dsimp only
    rw [oA8]
    refine (loss_step m c ⟨0, h⟩ _).trans ?_
    rw [Finset.sum_range_succ, Finset.sum_range_succ, Finset.sum_range_succ, Finset.sum_range_zero]
    refine congrArg (· + part (given m c) 0 + part (given m c) 1 + part (given m c) 2) ?_
    pointwise [Gen.k0_pay2]
  | succ n ih =>
    intro h
    have hN : n + 1 < 11 := lt11 ⟨n + 1, h⟩
    rw [outsAt0_B m c ⟨n + 1, h⟩ (by dsimp only; omega)]
    dsimp only
    rw [oB8]
    refine (loss_step m c ⟨n + 1, h⟩ _).trans ?_
    rw [Finset.sum_range_succ, Finset.sum_range_succ, Finset.sum_range_succ, show 3 * (n + 1) = 3 * n + 3 by omega, ← ih (Nat.lt_of_succ_lt h)]
    rfl

theorem gain_ok (j : Fin 1024) : ∀ n h, (outsAt0 m c n h).2.2.1 (ix2 0 j) = ∑ s ∈ range (3 * n + 3), ∑ i : Fin 256, gain (given m c) j (256 * s + i) := by
  intro n
  induction n with
  | zero =>
    intro h
    rw [outsAt0_A m c ⟨0, h⟩ rfl]
    dsimp only
    rw [oA9]
    refine (gain_step m c ⟨0, h⟩ _ j).trans ?_
    rw [Finset.sum_range_succ, Finset.sum_range_succ, Finset.sum_range_succ, Finset.sum_range_zero]
    refine congrArg (· + (∑ i : Fin 256, gain (given m c) j (256 * 0 + i)) + (∑ i : Fin 256, gain (given m c) j (256 * 1 + i)) + ∑ i : Fin 256, gain (given m c) j (256 * 2 + i)) ?_
    pointwise [Gen.k0_pay3]
  | succ n ih =>
    intro h
    have hN : n + 1 < 11 := lt11 ⟨n + 1, h⟩
    rw [outsAt0_B m c ⟨n + 1, h⟩ (by dsimp only; omega)]
    dsimp only
    rw [oB9]
    refine (gain_step m c ⟨n + 1, h⟩ _ j).trans ?_
    rw [Finset.sum_range_succ, Finset.sum_range_succ, Finset.sum_range_succ, show 3 * (n + 1) = 3 * n + 3 by omega, ← ih (Nat.lt_of_succ_lt h)]
    rfl

theorem final7 : (dats m 0 c).arrAt 7 cfg0.N = dh (given m c) := by
  refine (dats m 0 c).arrAt_eq_of_covers 7 _ (by decide +kernel) fun t hf y => ?_
  obtain ⟨i, j, rfl⟩ : ∃ (i : Fin 768) (j : Fin 1024), y = ix2 i j := ⟨y 0, y 1, ValueIdx.eq_ix2 y⟩
  refine Eq.trans ?_ (rd7 (dh (given m c)) t i j (lt11 t)).symm
  rw [after0_7]
  by_cases h0 : t.val % 11 = 0
  · rw [outsAt0_A m c t h0]
    dsimp only
    rw [oA7 (hU := slices_ok m c t)]
    rfl
  · rw [outsAt0_B m c t h0]
    dsimp only
    rw [oB7 (hU := slices_ok m c t)]
    rfl

theorem final10 : (dats m 0 c).arrAt 10 cfg0.N = dh (given m c) := by
  refine (dats m 0 c).arrAt_eq_of_covers 10 _ (by decide +kernel) fun t hf y => ?_
  obtain ⟨i, j, rfl⟩ : ∃ (i : Fin 768) (j : Fin 1024), y = ix2 i j := ⟨y 0, y 1, ValueIdx.eq_ix2 y⟩
  refine Eq.trans ?_ (rd10 (dh (given m c)) t i j (lt11 t)).symm
  rw [after0_10]
  by_cases h0 : t.val % 11 = 0
  · rw [outsAt0_A m c t h0]
    dsimp only
    rw [oA10 (hU := slices_ok m c t)]
    rfl
  · rw [outsAt0_B m c t h0]
    dsimp only
    rw [oB10 (hU := slices_ok m c t)]
    rfl

theorem final8 : (dats m 0 c).arrAt 8 cfg0.N = loss (given m c) := by
  refine (dats m 0 c).arrAt_eq_of_covers 8 _ (by decide +kernel) fun t hf y => ?_
  have ht := lt11 t
  have h10 := (flush0_8 t).mp hf
  obtain ⟨z, w, rfl⟩ : ∃ (z : Fin 1) (w : Fin 1), y = ix2 z w := ⟨y 0, y 1, ValueIdx.eq_ix2 y⟩
  obtain rfl : z = 0 := Subsingleton.elim _ _
  obtain rfl : w = 0 := Subsingleton.elim _ _
  rw [after0_8]
  have p := loss_ok m c t.val t.isLt
  rw [show 3 * t.val + 3 = 33 by omega] at p
  generalize (outsAt0 m c t.val t.isLt).2.1 = q at p ⊢
  exact p.trans (rd8 (loss (given m c)) t).symm

theorem final9 : (dats m 0 c).arrAt 9 cfg0.N = dg (given m c) := by
  refine (dats m 0 c).arrAt_eq_of_covers 9 _ (by decide +kernel) fun t hf y => ?_
  have ht := lt11 t
  have h10 := (flush0_9 t).mp hf
  obtain ⟨z, j, rfl⟩ : ∃ (z : Fin 1) (j : Fin 1024), y = ix2 z j := ⟨y 0, y 1, ValueIdx.eq_ix2 y⟩
  obtain rfl : z = 0 := Subsingleton.elim _ _
  rw [after0_9]
  have p := gain_ok m c j t.val t.isLt
  rw [show 3 * t.val + 3 = 33 by omega] at p
  generalize (outsAt0 m c t.val t.isLt).2.2.1 = q at p ⊢
  refine p.trans (Eq.trans ?_ (rd9 (dg (given m c)) t j).symm)
  exact sum_blocks 256 33 (gain (given m c) j)

end Gla.Prod16

end
-- ==== Proof.Loss16.lean ====
module

public import proofs.«01_k».proof.Defs
public import Idealize.ShloMosaic.Lib.Claim
public import Idealize.ShloMosaic.Lib.KernelVsHost
public import proofs.«01_k».proof.Proof.Prod16
public import proofs.«01_k».proof.Proof.Gen.Kernel16Ideal.Value
public import proofs.«01_k».proof.Proof.Gen.Reference16Ideal
public import proofs.«01_k».proof.Proof.Gen.Reference16Ideal.Run

/-!
The product with the down projection, the loss, and the loss's gradient through the last norm: the reference's side.
-/

@[expose] public section

set_option maxRecDepth 16384

noncomputable section

namespace Gla.Prod16

open Idealize.ShloMosaic Idealize.ShloMosaic.TcCoe Idealize.SL.Sem Finset Gla.Rms

theorem half_bits : Ideal.ofBits .f32 0x3F000000#32 = (((1 / 2 : ℝ)) : EReal) := by
  rw [show (1 / 2 : ℝ) = 8388608 * (1 / 16777216) by norm_num, EReal.coe_mul]; simp [Ideal.ofBits, Ideal.ieee]; norm_num

theorem sc_eq : sc = (((1 / 1024 : ℝ)) : EReal) := by
  unfold sc
  rw [show (1 / 1024 : ℝ) = 8388608 * (1 / 8589934592) by norm_num, EReal.coe_mul]; simp [Ideal.ofBits, Ideal.ieee]; norm_num

/-- The square's gradient as the product rule has it, two equal terms, is one term of twice the scale. -/
theorem twice (d : EReal) : d * Ideal.div (Ideal.ofBits .f32 0x3F000000#32 * Ideal.ofBits .f32 0x3F800000#32) (Ideal.ofBits .f32 0x44800000#32)
    + Ideal.div (Ideal.ofBits .f32 0x3F000000#32 * Ideal.ofBits .f32 0x3F800000#32) (Ideal.ofBits .f32 0x44800000#32) * d = d * sc := by
  rw [one_bits, mul_one, half_bits, div_1024, ← EReal.coe_mul, mul_comm d, sc_eq, mul_comm d]
  have hq : (0 : EReal) ≤ ((1 / 2 * (1 / 1024) : ℝ) : EReal) := by exact_mod_cast (by norm_num : (0 : ℝ) ≤ 1 / 2 * (1 / 1024))
  rw [← EReal.right_distrib_of_nonneg hq hq, ← EReal.coe_add]
  norm_num

/-- The first block of rows has no target. -/
theorem E_zero (A : Given) (r : ℕ) (h : r < 256) (j : Fin 1024) : E A r j = 0 := by
  have l : live (r / 256) = 0 := by
    rw [Nat.div_eq_of_lt h]
    exact if_neg (Nat.lt_irrefl 0)
  unfold E err
  rw [l, mul_zero]

theorem share_zero (A : Given) (r : ℕ) (h : r < 256) : share A r = 0 := by
  have e : share A r = Ideal.div (∑ j, E A r j * E A r j) (Ideal.ofBits .f32 0x44800000#32) := rfl
  rw [e, div_1024]
  simp [E_zero A r h]

theorem E_live (A : Given) (a : ℕ) (j : Fin 1024) : E A (256 + a) j = nrm (row A (256 + a)) j * gv A j - nat2 A.T a j := by
  have l : live ((256 + a) / 256) = 1 := if_pos (by omega)
  unfold E err
  rw [l, mul_one]
  exact congrArg (_ - nat2 A.T · (j : ℕ)) (show 256 * ((256 + a) / 256 - 1) + (256 + a) % 256 = a by omega)

/-- The loss as one sum over the rows that have a target. -/
theorem loss_sum (A : Given) : ∑ s ∈ range 33, part A s = Ideal.ofBits .f32 0x3F000000#32 * ∑ k : Fin 8192, share A (256 + k) := by
  have h0 : (0 : EReal) ≤ Ideal.ofBits .f32 0x3F000000#32 := by
    rw [half_bits]
    exact_mod_cast (by norm_num : (0 : ℝ) ≤ 1 / 2)
  have h1 : Ideal.ofBits .f32 0x3F000000#32 ≠ (⊤ : EReal) := by
    rw [half_bits]
    exact EReal.coe_ne_top _
  unfold part
  rw [← mul_nonneg_sum h0 h1, sum_blocks 256 33 (share A), Fin.sum_univ_eq_sum_range (share A) (33 * 256), show 33 * 256 = 256 + 8192 by norm_num, Finset.sum_range_add,
    Finset.sum_eq_zero (fun r hr => share_zero A r (Finset.mem_range.mp hr)), zero_add, Fin.sum_univ_eq_sum_range (fun r => share A (256 + r)) 8192]

section Reference

open Cert.Reference16Ideal Cert.Reference16Ideal.Gen Cert.Reference16Ideal.Value

variable (A : Given)

/-- The stream after the product is added. -/
def stream : FVec Ideal S8448x1024 .f32 :=
  addf (A.h : FVec Ideal S8448x1024 .f32) (Host.dotGeneral (F := Ideal) (φ₁ := .f32) (φ₂ := .f32) dot_S8448x2816_S2816x1024_S8448x1024_1_0_0_1_n_n none
    (extf .f32 (A.x : FVec Ideal S8448x2816 .bf16) bitsLt_bf16_f32) (extf .f32 (A.y : FVec Ideal S2816x1024 .bf16) bitsLt_bf16_f32))

/-- The stream after the norm. -/
def normed : FVec Ideal S8448x1024 .f32 :=
  mulf (stream A) (broadcastInDim S8448x1024 ![0, 1] bcast_S8448x1_S8448x1024_0_1 (Host.rsqrt (addf (Host.divf (broadcastInDim S8448x1 ![0] bcast_S8448_S8448x1_0
    (Host.reduceAdd (mulf (stream A) (stream A)) (constant S_ .f32 0x00000000#32) reducesTo_S8448x1024_S8448_d1 h_S_)) (broadcastInDim S8448x1 ![] bcast_S_S8448x1
    (constant S_ .f32 0x44800000#32))) (broadcastInDim S8448x1 ![] bcast_S_S8448x1 (constant S_ .f32 0x358637BD#32)))))

/-- What the rows that have a target miss it by. -/
def missed : FVec Ideal S8192x1024 .f32 :=
  subf (extractStridedSlice S8192x1024 ![256, 0] (mulf (normed A) (broadcastInDim S8448x1024 ![0, 1] bcast_S1x1024_S8448x1024_0_1 (A.g : FVec Ideal S1x1024 .f32)))
    slices_S8448x1024_S8192x1024_256_0) (A.T : FVec Ideal S8192x1024 .f32)

/-- The scale of the loss in every entry. -/
def scales : FVec Ideal S8192x1024 .f32 :=
  broadcastInDim S8192x1024 ![0] bcast_S8192_S8192x1024_0 (Host.divf (broadcastInDim S8192 ![] bcast_S_S8192 (mulf (constant S_ .f32 0x3F000000#32) (constant S_ .f32 0x3F800000#32)))
    (broadcastInDim S8192 ![] bcast_S_S8192 (constant S_ .f32 0x44800000#32)))

/-- The gradient of the rows after norm and gain, zero where there is no target. -/
def padded : FVec Ideal S8448x1024 .f32 :=
  pad S8448x1024 ![256, 0] ![0, 0] ![0, 0] (addf (mulf (missed A) scales) (mulf scales (missed A))) (constant S_ .f32 0x00000000#32) pads_S8192x1024_S8448x1024_25600_000 h_S_

theorem stream_ok (a : Fin 8448) (b : Fin 1024) : stream A (ix2 a b) = row A a b := by
  have e : Host.dotGeneral (F := Ideal) (φ₁ := .f32) (φ₂ := .f32) dot_S8448x2816_S2816x1024_S8448x1024_1_0_0_1_n_n none
      (extf .f32 (A.x : FVec Ideal S8448x2816 .bf16) bitsLt_bf16_f32) (extf .f32 (A.y : FVec Ideal S2816x1024 .bf16) bitsLt_bf16_f32) (ix2 a b) = prod A a b :=
    (nn_host (φ₁ := .f32) (φ₂ := .f32) A.x A.y _ a b).trans (Finset.sum_congr rfl fun k _ =>
      congrArg₂ (HMul.hMul (α := EReal) (β := EReal) (γ := EReal)) (nat2_eq A.x a k) (nat2_eq A.y k b))
  exact (congrArg₂ (HAdd.hAdd (α := EReal) (β := EReal) (γ := EReal)) (nat2_eq A.h a b) e).trans (add_comm _ _)

theorem normed_ok (a : Fin 8448) (b : Fin 1024) : normed A (ix2 a b) = nrm (row A a) b := by
  unfold normed
  pointwise []
  simp only [stream_ok]
  rfl

theorem missed_ok (a : Fin 8192) (b : Fin 1024) : missed A (ix2 a b) = E A (256 + a) b := by
  unfold missed
  pointwise []
  rw [normed_ok, E_live]
  exact congrArg (_ - ·) (nat2_eq A.T a b)

theorem padded_ok (a : Fin 8448) (b : Fin 1024) : padded A (ix2 a b) = E A a b * sc := by
  unfold padded
  by_cases h : 256 ≤ (a : ℕ)
  · refine (pad_apply_of_inside _ _ _ _ _ _ _ (ix2 a b) (ix2 (⟨a - 256, by omega⟩ : Fin 8192) b) fun q => ?_).trans ?_
    · fin_cases q
      · show (a : ℕ) = 256 + (a - 256) * 1
        omega
      · show (b : ℕ) = 0 + b * 1
        omega
    · have p := missed_ok A ⟨a - 256, by omega⟩ b
      rw [show 256 + ((⟨a - 256, by omega⟩ : Fin 8192) : ℕ) = a by dsimp only; omega] at p
      rw [← p]
      exact twice _
  · refine (pad_apply_of_not_inside _ _ _ _ _ _ _ (ix2 a b) 0 fun q => h q.1).trans ?_
    rw [E_zero A a (by omega), zero_mul]
    exact zero_bits

/-- The arguments as they lie in the reference's memory. -/
def given' (m : (ℓ : Loc nD τ sig) → Buf (Elt Ideal) ℓ) (c : Dev nD) : Given :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩

variable (m : (ℓ : Loc nD τ sig) → Buf (Elt Ideal) ℓ) (c : Dev nD)

theorem ref0 (i : Fin 8448) (j : Fin 1024) : (res_main_v54 m c : Vec Ideal S8448x1024 .f32) (ix2 i j) = dh (given' m c) (ix2 i j) := by
  unfold res_main_v54
  generalize hp : pad S8448x1024 _ _ _ _ _ _ _ = w
  have hp' : padded (given' m c) = w := hp
  clear hp
  subst hp'
  generalize hs : addf (m ((c.tc : Thread nD τ).loc main_arg2)) (Host.dotGeneral (F := Ideal) (φ₁ := .f32) (φ₂ := .f32) _ none _ _) = h1
  have hs' : stream (given' m c) = h1 := hs
  clear hs
  subst hs'
  pointwise []
  simp only [Fin.sum_univ_one, stream_ok, padded_ok]
  exact back_eq (row (given' m c) i) (fun w => E (given' m c) i w * sc * gv (given' m c) w) j

/-- The gain's gradient as one sum over the rows. -/
def gained : FVec Ideal S1x1024 .f32 :=
  shapeCast S1x1024 (Host.reduceAdd (mulf (normed A) (padded A)) (constant S_ .f32 0x00000000#32) reducesTo_S8448x1024_S1024_d0 h_S_) shapeCasts_S1024_S1x1024

theorem gained_ok (j : Fin 1024) : gained A (ix2 0 j) = dg A (ix2 0 j) := by
  unfold gained
  pointwise []
  simp only [normed_ok, padded_ok]
  exact Finset.sum_congr rfl fun k _ => mul_comm _ _

theorem ref2 : (res_main_v38 m c : Vec Ideal S1x1024 .f32) = gained (given' m c) := by
  unfold res_main_v38
  rfl

theorem ref3 (i : S8448x1024.Idx) : (res_main_v56 m c : Vec Ideal S8448x1024 .bf16) i = (res_main_v54 m c : Vec Ideal S8448x1024 .f32) i := by
  unfold res_main_v56 res_main_v54
  rfl

/-- The loss of what the rows miss. -/
def lost : FVec Ideal S1x1 .f32 :=
  shapeCast S1x1 (mulf (constant S_ .f32 0x3F000000#32) (Host.reduceAdd (Host.divf (Host.reduceAdd (mulf (missed A) (missed A)) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_)) shapeCasts_S_S1x1

theorem ref1 : lost A (ix2 0 0) = loss A (ix2 0 0) := by
  unfold lost
  pointwise []
  simp only [missed_ok]
  exact (loss_sum A).symm

end Reference

theorem value : Cert.algebraic_Kernel16Ideal_Reference16Ideal := by
  intro m g m' g' _ hagree
  refine ⟨fun c => (Cert.Kernel16Ideal.Gen.dats m 0 c).arrAt 7 Cert.Kernel16Ideal.cfg0.N, fun c => (Cert.Kernel16Ideal.Gen.dats m 0 c).arrAt 8 Cert.Kernel16Ideal.cfg0.N,
    fun c => (Cert.Kernel16Ideal.Gen.dats m 0 c).arrAt 9 Cert.Kernel16Ideal.cfg0.N, fun c => (Cert.Kernel16Ideal.Gen.dats m 0 c).arrAt 10 Cert.Kernel16Ideal.cfg0.N,
    Cert.Kernel16Ideal.Value.run_blocks m g, ?_⟩
  refine (θ_run Cert.Reference16Ideal.defs _ _).mono (fun r h c => ?_) (Cert.Reference16Ideal.Value.run m' g')
  obtain ⟨e0, e1, e2, e3, e4⟩ := hagree c
  have e : given' m' c = given m c := by
    unfold given' given
    rw [e0, e1, e2, e3, e4]
  refine ⟨(h c).1.trans (Eq.trans ?_ (final7 m c).symm), (h c).2.1.trans (Eq.trans ?_ (final8 m c).symm), (h c).2.2.1.trans (Eq.trans ?_ (final9 m c).symm),
    (h c).2.2.2.1.trans (Eq.trans ?_ (final10 m c).symm), (h c).2.2.2.2⟩
  · funext i
    obtain ⟨i, j, rfl⟩ : ∃ (a : Fin 8448) (b : Fin 1024), i = ix2 a b := ⟨i 0, i 1, ValueIdx.eq_ix2 i⟩
    rw [← e]
    exact ref0 m' c i j
  · funext i
    obtain ⟨z, w, rfl⟩ : ∃ (z : Fin 1) (w : Fin 1), i = ix2 z w := ⟨i 0, i 1, ValueIdx.eq_ix2 i⟩
    obtain rfl : z = 0 := Subsingleton.elim _ _
    obtain rfl : w = 0 := Subsingleton.elim _ _
    rw [← e]
    exact ref1 (given' m' c)
  · funext i
    obtain ⟨z, j, rfl⟩ : ∃ (z : Fin 1) (j : Fin 1024), i = ix2 z j := ⟨i 0, i 1, ValueIdx.eq_ix2 i⟩
    obtain rfl : z = 0 := Subsingleton.elim _ _
    rw [← e]
    exact (congrFun (ref2 m' c) _).trans (gained_ok _ j)
  · funext i
    obtain ⟨i, j, rfl⟩ : ∃ (a : Fin 8448) (b : Fin 1024), i = ix2 a b := ⟨i 0, i 1, ValueIdx.eq_ix2 i⟩
    rw [← e]
    exact (ref3 m' c _).trans (ref0 m' c i j)

end Gla.Prod16

end
-- ==== Proof.lean ====
/- The claims of this directory: the frames of the kernel, of the idealized kernel and of the idealized reference,
   and the value of the idealized kernel, which is the idealized reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Value
public import proofs.«01_k».proof.Proof.Gen.Kernel7
public import proofs.«01_k».proof.Proof.Gen.Kernel7Ideal
public import proofs.«01_k».proof.Proof.Gen.Kernel7Ideal.Frame
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Frame
public import proofs.«01_k».proof.Proof.Gen.Kernel9.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Frame
public import proofs.«01_k».proof.Proof.Gen.Kernel10.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Frame
public import proofs.«01_k».proof.Proof.Gen.Kernel11.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Frame
public import proofs.«01_k».proof.Proof.Gen.Kernel12.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Frame
public import proofs.«01_k».proof.Proof.Gen.Kernel13.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Frame
public import proofs.«01_k».proof.Proof.Gen.Kernel14.Frame
public import proofs.«01_k».proof.Proof.Gen.Kernel14Ideal.Value
public import proofs.«01_k».proof.Proof.Gen.Reference14Ideal
public import proofs.«01_k».proof.Proof.Gen.Reference14Ideal.Run
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import Idealize.ShloMosaic.Adequacy
public import Idealize.ShloMosaic.Init
public import proofs.«01_k».proof.Proof.Gen.Kernel15
public import proofs.«01_k».proof.Proof.Gen.Kernel15Ideal
public import proofs.«01_k».proof.Proof.Gen.Kernel15Ideal.Frame
public import proofs.«01_k».proof.Proof.Gen.Kernel15.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16Ideal.Frame
public import proofs.«01_k».proof.Proof.Gen.Kernel16.Frame
public import proofs.«01_k».proof.Proof.Gen.Kernel16Ideal.Value
public import proofs.«01_k».proof.Proof.Gen.Reference16Ideal
public import proofs.«01_k».proof.Proof.Gen.Reference16Ideal.Run
public import proofs.«01_k».proof.Proof.Rms
public import proofs.«01_k».proof.Proof.Prod15
public import proofs.«01_k».proof.Proof.Back15
public import proofs.«01_k».proof.Proof.Prod16
public import proofs.«01_k».proof.Proof.Loss16

@[expose] public section

noncomputable section

namespace Cert.Proof

open Idealize.ShloMosaic Idealize.SL.Sem

theorem frame_k : Cert.quiescent_Kernel := fun m ρ _ => Cert.Kernel.Gen.frame m ρ

theorem frame_ki : Cert.quiescent_KernelIdeal := fun m ρ _ => Cert.KernelIdeal.Gen.frame m ρ

theorem frame_kif : Cert.quiescent_KernelIdeal_pre_finite := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

theorem frame_rif : Cert.quiescent_ReferenceIdeal_pre_finite := fun m ρ _ => frame_ri m ρ trivial

theorem frame_k2 : Cert.quiescent_Kernel2 := fun m ρ _ => Cert.Kernel2.Gen.frame m ρ

theorem frame_ki2 : Cert.quiescent_Kernel2Ideal := fun m ρ _ => Cert.Kernel2Ideal.Gen.frame m ρ

theorem frame_ri2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem frame_k3 : Cert.quiescent_Kernel3 := fun m ρ _ => Cert.Kernel3.Gen.frame m ρ

theorem frame_ki3 : Cert.quiescent_Kernel3Ideal := fun m ρ _ => Cert.Kernel3Ideal.Gen.frame m ρ

theorem frame_ri3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem frame_k4 : Cert.quiescent_Kernel4 := fun m ρ _ => Cert.Kernel4.Gen.frame m ρ

theorem frame_ki4 : Cert.quiescent_Kernel4Ideal := fun m ρ _ => Cert.Kernel4Ideal.Gen.frame m ρ

theorem frame_ri4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem frame_k5 : Cert.quiescent_Kernel5 := fun m ρ _ => Cert.Kernel5.Gen.frame m ρ

theorem frame_ki5 : Cert.quiescent_Kernel5Ideal := fun m ρ _ => Cert.Kernel5Ideal.Gen.frame m ρ

theorem frame_ri5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

theorem frame_k6 : Cert.quiescent_Kernel6 := fun m ρ _ => Cert.Kernel6.Gen.frame m ρ

theorem frame_ki6 : Cert.quiescent_Kernel6Ideal := fun m ρ _ => Cert.Kernel6Ideal.Gen.frame m ρ

theorem frame_ri6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

theorem frame_k7 : Cert.quiescent_Kernel7 := fun m ρ _ => Cert.Kernel7.Gen.frame m ρ

theorem frame_ki7 : Cert.quiescent_Kernel7Ideal := fun m ρ _ => Cert.Kernel7Ideal.Gen.frame m ρ

theorem frame_ri7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

theorem frame_k8 : Cert.quiescent_Kernel8 := fun m ρ _ => Cert.Kernel8.Gen.frame m ρ

theorem frame_ki8 : Cert.quiescent_Kernel8Ideal := fun m ρ _ => Cert.Kernel8Ideal.Gen.frame m ρ

theorem frame_ri8 : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

theorem frame_k9 : Cert.quiescent_Kernel9 := fun m ρ _ => Cert.Kernel9.Gen.frame m ρ

theorem frame_ki9 : Cert.quiescent_Kernel9Ideal := fun m ρ _ => Cert.Kernel9Ideal.Gen.frame m ρ

theorem frame_ri9 : Cert.quiescent_Reference9Ideal := fun m ρ _ =>
  (θ_run Cert.Reference9Ideal.defs _ _).mono
    (fun r h => ⟨fun c => (h c).2, sem_eq_zero_of_no_sems (by decide) r.2⟩) (Cert.Reference9Ideal.Value.run m ρ)

theorem frame_k10 : Cert.quiescent_Kernel10 := fun m ρ _ => Cert.Kernel10.Gen.frame m ρ

theorem frame_ki10 : Cert.quiescent_Kernel10Ideal := fun m ρ _ => Cert.Kernel10Ideal.Gen.frame m ρ

theorem frame_ri10 : Cert.quiescent_Reference10Ideal := fun m ρ _ =>
  (θ_run Cert.Reference10Ideal.defs _ _).mono
    (fun r h => ⟨fun c => (h c).2.2.2, sem_eq_zero_of_no_sems (by decide) r.2⟩) (Cert.Reference10Ideal.Value.run m ρ)

theorem frame_k11 : Cert.quiescent_Kernel11 := fun m ρ _ => Cert.Kernel11.Gen.frame m ρ

theorem frame_ki11 : Cert.quiescent_Kernel11Ideal := fun m ρ _ => Cert.Kernel11Ideal.Gen.frame m ρ

theorem frame_ri11 : Cert.quiescent_Reference11Ideal := fun m ρ _ =>
  (θ_run Cert.Reference11Ideal.defs _ _).mono
    (fun r h => ⟨fun c => (h c).2.2.2.2, sem_eq_zero_of_no_sems (by decide) r.2⟩) (Cert.Reference11Ideal.Value.run m ρ)

theorem frame_k12 : Cert.quiescent_Kernel12 := fun m ρ _ => Cert.Kernel12.Gen.frame m ρ

theorem frame_ki12 : Cert.quiescent_Kernel12Ideal := fun m ρ _ => Cert.Kernel12Ideal.Gen.frame m ρ

theorem frame_ri12 : Cert.quiescent_Reference12Ideal := fun m ρ _ =>
  (θ_run Cert.Reference12Ideal.defs _ _).mono
    (fun r h => ⟨fun c => (h c).2.2.2.2, sem_eq_zero_of_no_sems (by decide) r.2⟩) (Cert.Reference12Ideal.Value.run m ρ)

theorem frame_k13 : Cert.quiescent_Kernel13 := fun m ρ _ => Cert.Kernel13.Gen.frame m ρ

theorem frame_ki13 : Cert.quiescent_Kernel13Ideal := fun m ρ _ => Cert.Kernel13Ideal.Gen.frame m ρ

theorem frame_ri13 : Cert.quiescent_Reference13Ideal := fun m ρ _ =>
  (θ_run Cert.Reference13Ideal.defs _ _).mono
    (fun r h => ⟨fun c => (h c).2.2.2.2, sem_eq_zero_of_no_sems (by decide) r.2⟩) (Cert.Reference13Ideal.Value.run m ρ)

theorem frame_k14 : Cert.quiescent_Kernel14 := fun m ρ _ => Cert.Kernel14.Gen.frame m ρ

theorem frame_ki14 : Cert.quiescent_Kernel14Ideal := fun m ρ _ => Cert.Kernel14Ideal.Gen.frame m ρ

theorem frame_ri14 : Cert.quiescent_Reference14Ideal := fun m ρ _ =>
  (θ_run Cert.Reference14Ideal.defs _ _).mono
    (fun r h => ⟨fun c => (h c).2.2.2.2, sem_eq_zero_of_no_sems (by decide) r.2⟩) (Cert.Reference14Ideal.Value.run m ρ)

theorem frame_k15 : Cert.quiescent_Kernel15 := fun m ρ _ => Cert.Kernel15.Gen.frame m ρ

theorem frame_ki15 : Cert.quiescent_Kernel15Ideal := fun m ρ _ => Cert.Kernel15Ideal.Gen.frame m ρ

theorem frame_ri15 : Cert.quiescent_Reference15Ideal := fun m ρ _ =>
  (θ_run Cert.Reference15Ideal.defs _ _).mono
    (fun r h => ⟨fun c => (h c).2.2.2, sem_eq_zero_of_no_sems (by decide) r.2⟩) (Cert.Reference15Ideal.Value.run m ρ)

theorem frame_k16 : Cert.quiescent_Kernel16 := fun m ρ _ => Cert.Kernel16.Gen.frame m ρ

theorem frame_ki16 : Cert.quiescent_Kernel16Ideal := fun m ρ _ => Cert.Kernel16Ideal.Gen.frame m ρ

theorem frame_ri16 : Cert.quiescent_Reference16Ideal := fun m ρ _ =>
  (θ_run Cert.Reference16Ideal.defs _ _).mono
    (fun r h => ⟨fun c => (h c).2.2.2.2, sem_eq_zero_of_no_sems (by decide) r.2⟩) (Cert.Reference16Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite.Gen.facts, frame_k, frame_ki, frame_kif, frame_ri, frame_rif,
  frame_k2, frame_ki2, frame_ri2,
  frame_k3, frame_ki3, frame_ri3,
  frame_k4, frame_ki4, frame_ri4,
  frame_k5, frame_ki5, frame_ri5,
  frame_k6, frame_ki6, frame_ri6,
  frame_k7, frame_ki7, frame_ri7,
  frame_k8, frame_ki8, frame_ri8,
  frame_k9, frame_ki9, frame_ri9,
  frame_k10, frame_ki10, frame_ri10,
  frame_k11, frame_ki11, frame_ri11,
  frame_k12, frame_ki12, frame_ri12,
  frame_k13, frame_ki13, frame_ri13,
  frame_k14, frame_ki14, frame_ri14,
  frame_k15, frame_ki15, frame_ri15,
  frame_k16, frame_ki16, frame_ri16,
  trivial, Gla.value, trivial, Gla.Prod2.value, trivial, Gla.Prod3.value, trivial, Gla.Prod4.value, trivial, Gla.Prod5.value, trivial, Gla.Prod6.value,
  trivial, Gla.Prod7.value,
  trivial, Gla.Prod8.value,
  trivial, Gla.Prod9.value,
  trivial, Gla.Prod10.value,
  trivial, Gla.Prod11.value,
  trivial, Gla.Prod12.value,
  trivial, Gla.Prod13.value,
  trivial, Gla.Prod14.value,
  trivial, Gla.Prod15.value,
  trivial, Gla.Prod16.value⟩

end Cert.Proof

end
